-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInReferenceIdeal (m : (ℓ : Loc Cert.GlaInReferenceIdeal.nD Cert.GlaInReferenceIdeal.τ Cert.GlaInReferenceIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutReferenceIdeal (m : (ℓ : Loc Cert.GlaOutReferenceIdeal.nD Cert.GlaOutReferenceIdeal.τ Cert.GlaOutReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_DsaOut (m : (ℓ : Loc Cert.DsaOut.nD Cert.DsaOut.τ Cert.DsaOut.sig) → Buf (Elt Bits) ℓ) : Prop :=
  True

def Pre_DsaOutIdeal (m : (ℓ : Loc Cert.DsaOutIdeal.nD Cert.DsaOutIdeal.τ Cert.DsaOutIdeal.sig) → Buf (Elt Ideal) ℓ) : Prop :=
  True

def Pre_DsaOutReferenceIdeal (m : (ℓ : Loc Cert.DsaOutReferenceIdeal.nD Cert.DsaOutReferenceIdeal.τ Cert.DsaOutReferenceIdeal.sig) → Buf (Elt Ideal) ℓ) : Prop :=
  True

def Pre_GlaInDw (m : (ℓ : Loc Cert.GlaInDw.nD Cert.GlaInDw.τ Cert.GlaInDw.sig) → Buf (Elt Bits) ℓ) : Prop :=
  True

def Pre_GlaInDwIdeal (m : (ℓ : Loc Cert.GlaInDwIdeal.nD Cert.GlaInDwIdeal.τ Cert.GlaInDwIdeal.sig) → Buf (Elt Ideal) ℓ) : Prop :=
  True

def Pre_GlaInDwReferenceIdeal (m : (ℓ : Loc Cert.GlaInDwReferenceIdeal.nD Cert.GlaInDwReferenceIdeal.τ Cert.GlaInDwReferenceIdeal.sig) → Buf (Elt Ideal) ℓ) : Prop :=
  True

def Pre_GlaOutDw (m : (ℓ : Loc Cert.GlaOutDw.nD Cert.GlaOutDw.τ Cert.GlaOutDw.sig) → Buf (Elt Bits) ℓ) : Prop :=
  True

def Pre_GlaOutDwIdeal (m : (ℓ : Loc Cert.GlaOutDwIdeal.nD Cert.GlaOutDwIdeal.τ Cert.GlaOutDwIdeal.sig) → Buf (Elt Ideal) ℓ) : Prop :=
  True

def Pre_GlaOutDwReferenceIdeal (m : (ℓ : Loc Cert.GlaOutDwReferenceIdeal.nD Cert.GlaOutDwReferenceIdeal.τ Cert.GlaOutDwReferenceIdeal.sig) → Buf (Elt Ideal) ℓ) : Prop :=
  True

def Pre_DsaOutDw (m : (ℓ : Loc Cert.DsaOutDw.nD Cert.DsaOutDw.τ Cert.DsaOutDw.sig) → Buf (Elt Bits) ℓ) : Prop :=
  True

def Pre_DsaOutDwIdeal (m : (ℓ : Loc Cert.DsaOutDwIdeal.nD Cert.DsaOutDwIdeal.τ Cert.DsaOutDwIdeal.sig) → Buf (Elt Ideal) ℓ) : Prop :=
  True

def Pre_DsaOutDwReferenceIdeal (m : (ℓ : Loc Cert.DsaOutDwReferenceIdeal.nD Cert.DsaOutDwReferenceIdeal.τ Cert.DsaOutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_QProjDw (m : (ℓ : Loc Cert.QProjDw.nD Cert.QProjDw.τ Cert.QProjDw.sig) → Buf (Elt Bits) ℓ) : Prop :=
  True

def Pre_QProjDwIdeal (m : (ℓ : Loc Cert.QProjDwIdeal.nD Cert.QProjDwIdeal.τ Cert.QProjDwIdeal.sig) → Buf (Elt Ideal) ℓ) : Prop :=
  True

def Pre_QProjDwReferenceIdeal (m : (ℓ : Loc Cert.QProjDwReferenceIdeal.nD Cert.QProjDwReferenceIdeal.τ Cert.QProjDwReferenceIdeal.sig) → Buf (Elt Ideal) ℓ) : Prop :=
  True

def Pre_KvProjDw (m : (ℓ : Loc Cert.KvProjDw.nD Cert.KvProjDw.τ Cert.KvProjDw.sig) → Buf (Elt Bits) ℓ) : Prop :=
  True

def Pre_KvProjDwIdeal (m : (ℓ : Loc Cert.KvProjDwIdeal.nD Cert.KvProjDwIdeal.τ Cert.KvProjDwIdeal.sig) → Buf (Elt Ideal) ℓ) : Prop :=
  True

def Pre_KvProjDwReferenceIdeal (m : (ℓ : Loc Cert.KvProjDwReferenceIdeal.nD Cert.KvProjDwReferenceIdeal.τ Cert.KvProjDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInReferenceIdeal [hGlaInReferenceIdeal : Cert.GlaInReferenceIdeal.Facts] : Prop :=
  ∀ (m : (ℓ : Loc Cert.GlaInReferenceIdeal.nD Cert.GlaInReferenceIdeal.τ Cert.GlaInReferenceIdeal.sig) → Buf (Elt Ideal) ℓ) (g : Dev Cert.GlaInReferenceIdeal.nD → PrngReg), Pre_GlaInReferenceIdeal m →
    θ_run (Cert.GlaInReferenceIdeal.defs (F := Ideal)) (onTc (τ := Cert.GlaInReferenceIdeal.τ) (Cert.GlaInReferenceIdeal.main (F := Ideal))) ⟨m, fun _ => 0, g⟩ (fun r => (∀ c : Dev Cert.GlaInReferenceIdeal.nD,
      r.2.mem ((c.tc : Thread Cert.GlaInReferenceIdeal.nD Cert.GlaInReferenceIdeal.τ).loc Cert.GlaInReferenceIdeal.main_arg0) = m ((c.tc : Thread Cert.GlaInReferenceIdeal.nD Cert.GlaInReferenceIdeal.τ).loc Cert.GlaInReferenceIdeal.main_arg0)
      ∧ r.2.mem ((c.tc : Thread Cert.GlaInReferenceIdeal.nD Cert.GlaInReferenceIdeal.τ).loc Cert.GlaInReferenceIdeal.main_arg1) = m ((c.tc : Thread Cert.GlaInReferenceIdeal.nD Cert.GlaInReferenceIdeal.τ).loc Cert.GlaInReferenceIdeal.main_arg1))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ r.2.sem = fun _ => 0)

def quiescent_GlaOutReferenceIdeal [hGlaOutReferenceIdeal : Cert.GlaOutReferenceIdeal.Facts] : Prop :=
  ∀ (m : (ℓ : Loc Cert.GlaOutReferenceIdeal.nD Cert.GlaOutReferenceIdeal.τ Cert.GlaOutReferenceIdeal.sig) → Buf (Elt Ideal) ℓ) (g : Dev Cert.GlaOutReferenceIdeal.nD → PrngReg), Pre_GlaOutReferenceIdeal m →
    θ_run (Cert.GlaOutReferenceIdeal.defs (F := Ideal)) (onTc (τ := Cert.GlaOutReferenceIdeal.τ) (Cert.GlaOutReferenceIdeal.main (F := Ideal))) ⟨m, fun _ => 0, g⟩ (fun r => (∀ c : Dev Cert.GlaOutReferenceIdeal.nD,
      r.2.mem ((c.tc : Thread Cert.GlaOutReferenceIdeal.nD Cert.GlaOutReferenceIdeal.τ).loc Cert.GlaOutReferenceIdeal.main_arg0) = m ((c.tc : Thread Cert.GlaOutReferenceIdeal.nD Cert.GlaOutReferenceIdeal.τ).loc Cert.GlaOutReferenceIdeal.main_arg0)
      ∧ r.2.mem ((c.tc : Thread Cert.GlaOutReferenceIdeal.nD Cert.GlaOutReferenceIdeal.τ).loc Cert.GlaOutReferenceIdeal.main_arg1) = m ((c.tc : Thread Cert.GlaOutReferenceIdeal.nD Cert.GlaOutReferenceIdeal.τ).loc Cert.GlaOutReferenceIdeal.main_arg1)
      ∧ r.2.mem ((c.tc : Thread Cert.GlaOutReferenceIdeal.nD Cert.GlaOutReferenceIdeal.τ).loc Cert.GlaOutReferenceIdeal.main_arg2) = m ((c.tc : Thread Cert.GlaOutReferenceIdeal.nD Cert.GlaOutReferenceIdeal.τ).loc Cert.GlaOutReferenceIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1))
      ∧ r.2.sem = fun _ => 0)

def quiescent_DsaOut [hDsaOut : Cert.DsaOut.Facts] : Prop :=
  ∀ (m : (ℓ : Loc Cert.DsaOut.nD Cert.DsaOut.τ Cert.DsaOut.sig) → Buf (Elt Bits) ℓ) (g : Dev Cert.DsaOut.nD → PrngReg), Pre_DsaOut m →
    θ_run (Cert.DsaOut.defs (F := Bits)) (onTc (τ := Cert.DsaOut.τ) (Cert.DsaOut.main (F := Bits))) ⟨m, fun _ => 0, g⟩ (fun r => (∀ c : Dev Cert.DsaOut.nD,
      r.2.mem ((c.tc : Thread Cert.DsaOut.nD Cert.DsaOut.τ).loc Cert.DsaOut.main_arg0) = m ((c.tc : Thread Cert.DsaOut.nD Cert.DsaOut.τ).loc Cert.DsaOut.main_arg0)
      ∧ r.2.mem ((c.tc : Thread Cert.DsaOut.nD Cert.DsaOut.τ).loc Cert.DsaOut.main_arg1) = m ((c.tc : Thread Cert.DsaOut.nD Cert.DsaOut.τ).loc Cert.DsaOut.main_arg1)
      ∧ r.2.mem ((c.tc : Thread Cert.DsaOut.nD Cert.DsaOut.τ).loc Cert.DsaOut.main_arg2) = m ((c.tc : Thread Cert.DsaOut.nD Cert.DsaOut.τ).loc Cert.DsaOut.main_arg2))
      ∧ r.2.sem = fun _ => 0)

def quiescent_DsaOutIdeal [hDsaOutIdeal : Cert.DsaOutIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg), Pre_DsaOutIdeal m →
    θ_run (Cert.DsaOutIdeal.defs (F := Ideal)) (onTc (τ := Cert.DsaOutIdeal.τ) (Cert.DsaOutIdeal.main (F := Ideal))) ⟨m, fun _ => 0, g⟩ (fun r => (∀ c : Dev Cert.DsaOutIdeal.nD,
      r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
      ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
      ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2))
      ∧ r.2.sem = fun _ => 0)

def quiescent_DsaOutReferenceIdeal [hDsaOutReferenceIdeal : Cert.DsaOutReferenceIdeal.Facts] : Prop :=
  ∀ (m : (ℓ : Loc Cert.DsaOutReferenceIdeal.nD Cert.DsaOutReferenceIdeal.τ Cert.DsaOutReferenceIdeal.sig) → Buf (Elt Ideal) ℓ) (g : Dev Cert.DsaOutReferenceIdeal.nD → PrngReg), Pre_DsaOutReferenceIdeal m →
    θ_run (Cert.DsaOutReferenceIdeal.defs (F := Ideal)) (onTc (τ := Cert.DsaOutReferenceIdeal.τ) (Cert.DsaOutReferenceIdeal.main (F := Ideal))) ⟨m, fun _ => 0, g⟩ (fun r => (∀ c : Dev Cert.DsaOutReferenceIdeal.nD,
      r.2.mem ((c.tc : Thread Cert.DsaOutReferenceIdeal.nD Cert.DsaOutReferenceIdeal.τ).loc Cert.DsaOutReferenceIdeal.main_arg0) = m ((c.tc : Thread Cert.DsaOutReferenceIdeal.nD Cert.DsaOutReferenceIdeal.τ).loc Cert.DsaOutReferenceIdeal.main_arg0)
      ∧ r.2.mem ((c.tc : Thread Cert.DsaOutReferenceIdeal.nD Cert.DsaOutReferenceIdeal.τ).loc Cert.DsaOutReferenceIdeal.main_arg1) = m ((c.tc : Thread Cert.DsaOutReferenceIdeal.nD Cert.DsaOutReferenceIdeal.τ).loc Cert.DsaOutReferenceIdeal.main_arg1)
      ∧ r.2.mem ((c.tc : Thread Cert.DsaOutReferenceIdeal.nD Cert.DsaOutReferenceIdeal.τ).loc Cert.DsaOutReferenceIdeal.main_arg2) = m ((c.tc : Thread Cert.DsaOutReferenceIdeal.nD Cert.DsaOutReferenceIdeal.τ).loc Cert.DsaOutReferenceIdeal.main_arg2))
      ∧ r.2.sem = fun _ => 0)

def quiescent_GlaInDw [hGlaInDw : Cert.GlaInDw.Facts] : Prop :=
  ∀ (m : (ℓ : Loc Cert.GlaInDw.nD Cert.GlaInDw.τ Cert.GlaInDw.sig) → Buf (Elt Bits) ℓ) (g : Dev Cert.GlaInDw.nD → PrngReg), Pre_GlaInDw m →
    θ_run (Cert.GlaInDw.defs (F := Bits)) (onTc (τ := Cert.GlaInDw.τ) (Cert.GlaInDw.main (F := Bits))) ⟨m, fun _ => 0, g⟩ (fun r => (∀ c : Dev Cert.GlaInDw.nD,
      r.2.mem ((c.tc : Thread Cert.GlaInDw.nD Cert.GlaInDw.τ).loc Cert.GlaInDw.main_arg0) = m ((c.tc : Thread Cert.GlaInDw.nD Cert.GlaInDw.τ).loc Cert.GlaInDw.main_arg0)
      ∧ r.2.mem ((c.tc : Thread Cert.GlaInDw.nD Cert.GlaInDw.τ).loc Cert.GlaInDw.main_arg1) = m ((c.tc : Thread Cert.GlaInDw.nD Cert.GlaInDw.τ).loc Cert.GlaInDw.main_arg1))
      ∧ r.2.sem = fun _ => 0)

def quiescent_GlaInDwIdeal [hGlaInDwIdeal : Cert.GlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg), Pre_GlaInDwIdeal m →
    θ_run (Cert.GlaInDwIdeal.defs (F := Ideal)) (onTc (τ := Cert.GlaInDwIdeal.τ) (Cert.GlaInDwIdeal.main (F := Ideal))) ⟨m, fun _ => 0, g⟩ (fun r => (∀ c : Dev Cert.GlaInDwIdeal.nD,
      r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
      ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ r.2.sem = fun _ => 0)

def quiescent_GlaInDwReferenceIdeal [hGlaInDwReferenceIdeal : Cert.GlaInDwReferenceIdeal.Facts] : Prop :=
  ∀ (m : (ℓ : Loc Cert.GlaInDwReferenceIdeal.nD Cert.GlaInDwReferenceIdeal.τ Cert.GlaInDwReferenceIdeal.sig) → Buf (Elt Ideal) ℓ) (g : Dev Cert.GlaInDwReferenceIdeal.nD → PrngReg), Pre_GlaInDwReferenceIdeal m →
    θ_run (Cert.GlaInDwReferenceIdeal.defs (F := Ideal)) (onTc (τ := Cert.GlaInDwReferenceIdeal.τ) (Cert.GlaInDwReferenceIdeal.main (F := Ideal))) ⟨m, fun _ => 0, g⟩ (fun r => (∀ c : Dev Cert.GlaInDwReferenceIdeal.nD,
      r.2.mem ((c.tc : Thread Cert.GlaInDwReferenceIdeal.nD Cert.GlaInDwReferenceIdeal.τ).loc Cert.GlaInDwReferenceIdeal.main_arg0) = m ((c.tc : Thread Cert.GlaInDwReferenceIdeal.nD Cert.GlaInDwReferenceIdeal.τ).loc Cert.GlaInDwReferenceIdeal.main_arg0)
      ∧ r.2.mem ((c.tc : Thread Cert.GlaInDwReferenceIdeal.nD Cert.GlaInDwReferenceIdeal.τ).loc Cert.GlaInDwReferenceIdeal.main_arg1) = m ((c.tc : Thread Cert.GlaInDwReferenceIdeal.nD Cert.GlaInDwReferenceIdeal.τ).loc Cert.GlaInDwReferenceIdeal.main_arg1))
      ∧ r.2.sem = fun _ => 0)

def quiescent_GlaOutDw [hGlaOutDw : Cert.GlaOutDw.Facts] : Prop :=
  ∀ (m : (ℓ : Loc Cert.GlaOutDw.nD Cert.GlaOutDw.τ Cert.GlaOutDw.sig) → Buf (Elt Bits) ℓ) (g : Dev Cert.GlaOutDw.nD → PrngReg), Pre_GlaOutDw m →
    θ_run (Cert.GlaOutDw.defs (F := Bits)) (onTc (τ := Cert.GlaOutDw.τ) (Cert.GlaOutDw.main (F := Bits))) ⟨m, fun _ => 0, g⟩ (fun r => (∀ c : Dev Cert.GlaOutDw.nD,
      r.2.mem ((c.tc : Thread Cert.GlaOutDw.nD Cert.GlaOutDw.τ).loc Cert.GlaOutDw.main_arg0) = m ((c.tc : Thread Cert.GlaOutDw.nD Cert.GlaOutDw.τ).loc Cert.GlaOutDw.main_arg0)
      ∧ r.2.mem ((c.tc : Thread Cert.GlaOutDw.nD Cert.GlaOutDw.τ).loc Cert.GlaOutDw.main_arg1) = m ((c.tc : Thread Cert.GlaOutDw.nD Cert.GlaOutDw.τ).loc Cert.GlaOutDw.main_arg1))
      ∧ r.2.sem = fun _ => 0)

def quiescent_GlaOutDwIdeal [hGlaOutDwIdeal : Cert.GlaOutDwIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg), Pre_GlaOutDwIdeal m →
    θ_run (Cert.GlaOutDwIdeal.defs (F := Ideal)) (onTc (τ := Cert.GlaOutDwIdeal.τ) (Cert.GlaOutDwIdeal.main (F := Ideal))) ⟨m, fun _ => 0, g⟩ (fun r => (∀ c : Dev Cert.GlaOutDwIdeal.nD,
      r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
      ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1))
      ∧ r.2.sem = fun _ => 0)

def quiescent_GlaOutDwReferenceIdeal [hGlaOutDwReferenceIdeal : Cert.GlaOutDwReferenceIdeal.Facts] : Prop :=
  ∀ (m : (ℓ : Loc Cert.GlaOutDwReferenceIdeal.nD Cert.GlaOutDwReferenceIdeal.τ Cert.GlaOutDwReferenceIdeal.sig) → Buf (Elt Ideal) ℓ) (g : Dev Cert.GlaOutDwReferenceIdeal.nD → PrngReg), Pre_GlaOutDwReferenceIdeal m →
    θ_run (Cert.GlaOutDwReferenceIdeal.defs (F := Ideal)) (onTc (τ := Cert.GlaOutDwReferenceIdeal.τ) (Cert.GlaOutDwReferenceIdeal.main (F := Ideal))) ⟨m, fun _ => 0, g⟩ (fun r => (∀ c : Dev Cert.GlaOutDwReferenceIdeal.nD,
      r.2.mem ((c.tc : Thread Cert.GlaOutDwReferenceIdeal.nD Cert.GlaOutDwReferenceIdeal.τ).loc Cert.GlaOutDwReferenceIdeal.main_arg0) = m ((c.tc : Thread Cert.GlaOutDwReferenceIdeal.nD Cert.GlaOutDwReferenceIdeal.τ).loc Cert.GlaOutDwReferenceIdeal.main_arg0)
      ∧ r.2.mem ((c.tc : Thread Cert.GlaOutDwReferenceIdeal.nD Cert.GlaOutDwReferenceIdeal.τ).loc Cert.GlaOutDwReferenceIdeal.main_arg1) = m ((c.tc : Thread Cert.GlaOutDwReferenceIdeal.nD Cert.GlaOutDwReferenceIdeal.τ).loc Cert.GlaOutDwReferenceIdeal.main_arg1))
      ∧ r.2.sem = fun _ => 0)

def quiescent_DsaOutDw [hDsaOutDw : Cert.DsaOutDw.Facts] : Prop :=
  ∀ (m : (ℓ : Loc Cert.DsaOutDw.nD Cert.DsaOutDw.τ Cert.DsaOutDw.sig) → Buf (Elt Bits) ℓ) (g : Dev Cert.DsaOutDw.nD → PrngReg), Pre_DsaOutDw m →
    θ_run (Cert.DsaOutDw.defs (F := Bits)) (onTc (τ := Cert.DsaOutDw.τ) (Cert.DsaOutDw.main (F := Bits))) ⟨m, fun _ => 0, g⟩ (fun r => (∀ c : Dev Cert.DsaOutDw.nD,
      r.2.mem ((c.tc : Thread Cert.DsaOutDw.nD Cert.DsaOutDw.τ).loc Cert.DsaOutDw.main_arg0) = m ((c.tc : Thread Cert.DsaOutDw.nD Cert.DsaOutDw.τ).loc Cert.DsaOutDw.main_arg0)
      ∧ r.2.mem ((c.tc : Thread Cert.DsaOutDw.nD Cert.DsaOutDw.τ).loc Cert.DsaOutDw.main_arg1) = m ((c.tc : Thread Cert.DsaOutDw.nD Cert.DsaOutDw.τ).loc Cert.DsaOutDw.main_arg1))
      ∧ r.2.sem = fun _ => 0)

def quiescent_DsaOutDwIdeal [hDsaOutDwIdeal : Cert.DsaOutDwIdeal.Facts] : Prop :=
  ∀ (m : (ℓ : Loc Cert.DsaOutDwIdeal.nD Cert.DsaOutDwIdeal.τ Cert.DsaOutDwIdeal.sig) → Buf (Elt Ideal) ℓ) (g : Dev Cert.DsaOutDwIdeal.nD → PrngReg), Pre_DsaOutDwIdeal m →
    θ_run (Cert.DsaOutDwIdeal.defs (F := Ideal)) (onTc (τ := Cert.DsaOutDwIdeal.τ) (Cert.DsaOutDwIdeal.main (F := Ideal))) ⟨m, fun _ => 0, g⟩ (fun r => (∀ c : Dev Cert.DsaOutDwIdeal.nD,
      r.2.mem ((c.tc : Thread Cert.DsaOutDwIdeal.nD Cert.DsaOutDwIdeal.τ).loc Cert.DsaOutDwIdeal.main_arg0) = m ((c.tc : Thread Cert.DsaOutDwIdeal.nD Cert.DsaOutDwIdeal.τ).loc Cert.DsaOutDwIdeal.main_arg0)
      ∧ r.2.mem ((c.tc : Thread Cert.DsaOutDwIdeal.nD Cert.DsaOutDwIdeal.τ).loc Cert.DsaOutDwIdeal.main_arg1) = m ((c.tc : Thread Cert.DsaOutDwIdeal.nD Cert.DsaOutDwIdeal.τ).loc Cert.DsaOutDwIdeal.main_arg1))
      ∧ r.2.sem = fun _ => 0)

def quiescent_DsaOutDwReferenceIdeal [hDsaOutDwReferenceIdeal : Cert.DsaOutDwReferenceIdeal.Facts] : Prop :=
  ∀ (m : (ℓ : Loc Cert.DsaOutDwReferenceIdeal.nD Cert.DsaOutDwReferenceIdeal.τ Cert.DsaOutDwReferenceIdeal.sig) → Buf (Elt Ideal) ℓ) (g : Dev Cert.DsaOutDwReferenceIdeal.nD → PrngReg), Pre_DsaOutDwReferenceIdeal m →
    θ_run (Cert.DsaOutDwReferenceIdeal.defs (F := Ideal)) (onTc (τ := Cert.DsaOutDwReferenceIdeal.τ) (Cert.DsaOutDwReferenceIdeal.main (F := Ideal))) ⟨m, fun _ => 0, g⟩ (fun r => (∀ c : Dev Cert.DsaOutDwReferenceIdeal.nD,
      r.2.mem ((c.tc : Thread Cert.DsaOutDwReferenceIdeal.nD Cert.DsaOutDwReferenceIdeal.τ).loc Cert.DsaOutDwReferenceIdeal.main_arg0) = m ((c.tc : Thread Cert.DsaOutDwReferenceIdeal.nD Cert.DsaOutDwReferenceIdeal.τ).loc Cert.DsaOutDwReferenceIdeal.main_arg0)
      ∧ r.2.mem ((c.tc : Thread Cert.DsaOutDwReferenceIdeal.nD Cert.DsaOutDwReferenceIdeal.τ).loc Cert.DsaOutDwReferenceIdeal.main_arg1) = m ((c.tc : Thread Cert.DsaOutDwReferenceIdeal.nD Cert.DsaOutDwReferenceIdeal.τ).loc Cert.DsaOutDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_QProjDw [hQProjDw : Cert.QProjDw.Facts] : Prop :=
  ∀ (m : (ℓ : Loc Cert.QProjDw.nD Cert.QProjDw.τ Cert.QProjDw.sig) → Buf (Elt Bits) ℓ) (g : Dev Cert.QProjDw.nD → PrngReg), Pre_QProjDw m →
    θ_run (Cert.QProjDw.defs (F := Bits)) (onTc (τ := Cert.QProjDw.τ) (Cert.QProjDw.main (F := Bits))) ⟨m, fun _ => 0, g⟩ (fun r => (∀ c : Dev Cert.QProjDw.nD,
      r.2.mem ((c.tc : Thread Cert.QProjDw.nD Cert.QProjDw.τ).loc Cert.QProjDw.main_arg0) = m ((c.tc : Thread Cert.QProjDw.nD Cert.QProjDw.τ).loc Cert.QProjDw.main_arg0)
      ∧ r.2.mem ((c.tc : Thread Cert.QProjDw.nD Cert.QProjDw.τ).loc Cert.QProjDw.main_arg1) = m ((c.tc : Thread Cert.QProjDw.nD Cert.QProjDw.τ).loc Cert.QProjDw.main_arg1))
      ∧ r.2.sem = fun _ => 0)

def quiescent_QProjDwIdeal [hQProjDwIdeal : Cert.QProjDwIdeal.Facts] : Prop :=
  ∀ (m : (ℓ : Loc Cert.QProjDwIdeal.nD Cert.QProjDwIdeal.τ Cert.QProjDwIdeal.sig) → Buf (Elt Ideal) ℓ) (g : Dev Cert.QProjDwIdeal.nD → PrngReg), Pre_QProjDwIdeal m →
    θ_run (Cert.QProjDwIdeal.defs (F := Ideal)) (onTc (τ := Cert.QProjDwIdeal.τ) (Cert.QProjDwIdeal.main (F := Ideal))) ⟨m, fun _ => 0, g⟩ (fun r => (∀ c : Dev Cert.QProjDwIdeal.nD,
      r.2.mem ((c.tc : Thread Cert.QProjDwIdeal.nD Cert.QProjDwIdeal.τ).loc Cert.QProjDwIdeal.main_arg0) = m ((c.tc : Thread Cert.QProjDwIdeal.nD Cert.QProjDwIdeal.τ).loc Cert.QProjDwIdeal.main_arg0)
      ∧ r.2.mem ((c.tc : Thread Cert.QProjDwIdeal.nD Cert.QProjDwIdeal.τ).loc Cert.QProjDwIdeal.main_arg1) = m ((c.tc : Thread Cert.QProjDwIdeal.nD Cert.QProjDwIdeal.τ).loc Cert.QProjDwIdeal.main_arg1))
      ∧ r.2.sem = fun _ => 0)

def quiescent_QProjDwReferenceIdeal [hQProjDwReferenceIdeal : Cert.QProjDwReferenceIdeal.Facts] : Prop :=
  ∀ (m : (ℓ : Loc Cert.QProjDwReferenceIdeal.nD Cert.QProjDwReferenceIdeal.τ Cert.QProjDwReferenceIdeal.sig) → Buf (Elt Ideal) ℓ) (g : Dev Cert.QProjDwReferenceIdeal.nD → PrngReg), Pre_QProjDwReferenceIdeal m →
    θ_run (Cert.QProjDwReferenceIdeal.defs (F := Ideal)) (onTc (τ := Cert.QProjDwReferenceIdeal.τ) (Cert.QProjDwReferenceIdeal.main (F := Ideal))) ⟨m, fun _ => 0, g⟩ (fun r => (∀ c : Dev Cert.QProjDwReferenceIdeal.nD,
      r.2.mem ((c.tc : Thread Cert.QProjDwReferenceIdeal.nD Cert.QProjDwReferenceIdeal.τ).loc Cert.QProjDwReferenceIdeal.main_arg0) = m ((c.tc : Thread Cert.QProjDwReferenceIdeal.nD Cert.QProjDwReferenceIdeal.τ).loc Cert.QProjDwReferenceIdeal.main_arg0)
      ∧ r.2.mem ((c.tc : Thread Cert.QProjDwReferenceIdeal.nD Cert.QProjDwReferenceIdeal.τ).loc Cert.QProjDwReferenceIdeal.main_arg1) = m ((c.tc : Thread Cert.QProjDwReferenceIdeal.nD Cert.QProjDwReferenceIdeal.τ).loc Cert.QProjDwReferenceIdeal.main_arg1))
      ∧ r.2.sem = fun _ => 0)

def quiescent_KvProjDw [hKvProjDw : Cert.KvProjDw.Facts] : Prop :=
  ∀ (m : (ℓ : Loc Cert.KvProjDw.nD Cert.KvProjDw.τ Cert.KvProjDw.sig) → Buf (Elt Bits) ℓ) (g : Dev Cert.KvProjDw.nD → PrngReg), Pre_KvProjDw m →
    θ_run (Cert.KvProjDw.defs (F := Bits)) (onTc (τ := Cert.KvProjDw.τ) (Cert.KvProjDw.main (F := Bits))) ⟨m, fun _ => 0, g⟩ (fun r => (∀ c : Dev Cert.KvProjDw.nD,
      r.2.mem ((c.tc : Thread Cert.KvProjDw.nD Cert.KvProjDw.τ).loc Cert.KvProjDw.main_arg0) = m ((c.tc : Thread Cert.KvProjDw.nD Cert.KvProjDw.τ).loc Cert.KvProjDw.main_arg0)
      ∧ r.2.mem ((c.tc : Thread Cert.KvProjDw.nD Cert.KvProjDw.τ).loc Cert.KvProjDw.main_arg1) = m ((c.tc : Thread Cert.KvProjDw.nD Cert.KvProjDw.τ).loc Cert.KvProjDw.main_arg1))
      ∧ r.2.sem = fun _ => 0)

def quiescent_KvProjDwIdeal [hKvProjDwIdeal : Cert.KvProjDwIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg), Pre_KvProjDwIdeal m →
    θ_run (Cert.KvProjDwIdeal.defs (F := Ideal)) (onTc (τ := Cert.KvProjDwIdeal.τ) (Cert.KvProjDwIdeal.main (F := Ideal))) ⟨m, fun _ => 0, g⟩ (fun r => (∀ c : Dev Cert.KvProjDwIdeal.nD,
      r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
      ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ r.2.sem = fun _ => 0)

def quiescent_KvProjDwReferenceIdeal [hKvProjDwReferenceIdeal : Cert.KvProjDwReferenceIdeal.Facts] : Prop :=
  ∀ (m : (ℓ : Loc Cert.KvProjDwReferenceIdeal.nD Cert.KvProjDwReferenceIdeal.τ Cert.KvProjDwReferenceIdeal.sig) → Buf (Elt Ideal) ℓ) (g : Dev Cert.KvProjDwReferenceIdeal.nD → PrngReg), Pre_KvProjDwReferenceIdeal m →
    θ_run (Cert.KvProjDwReferenceIdeal.defs (F := Ideal)) (onTc (τ := Cert.KvProjDwReferenceIdeal.τ) (Cert.KvProjDwReferenceIdeal.main (F := Ideal))) ⟨m, fun _ => 0, g⟩ (fun r => (∀ c : Dev Cert.KvProjDwReferenceIdeal.nD,
      r.2.mem ((c.tc : Thread Cert.KvProjDwReferenceIdeal.nD Cert.KvProjDwReferenceIdeal.τ).loc Cert.KvProjDwReferenceIdeal.main_arg0) = m ((c.tc : Thread Cert.KvProjDwReferenceIdeal.nD Cert.KvProjDwReferenceIdeal.τ).loc Cert.KvProjDwReferenceIdeal.main_arg0)
      ∧ r.2.mem ((c.tc : Thread Cert.KvProjDwReferenceIdeal.nD Cert.KvProjDwReferenceIdeal.τ).loc Cert.KvProjDwReferenceIdeal.main_arg1) = m ((c.tc : Thread Cert.KvProjDwReferenceIdeal.nD Cert.KvProjDwReferenceIdeal.τ).loc Cert.KvProjDwReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_v135) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v16) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v5) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_GlaIn_GlaInIdeal : Prop :=
  True

def algebraic_GlaInIdeal_GlaInReferenceIdeal [hGlaInIdeal : Cert.GlaInIdeal.Facts] [hGlaInReferenceIdeal : Cert.GlaInReferenceIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInReferenceIdeal.nD Cert.GlaInReferenceIdeal.τ Cert.GlaInReferenceIdeal.sig) → Buf (Elt Ideal) ℓ) (g' : Dev Cert.GlaInReferenceIdeal.nD → PrngReg), Pre_GlaInIdeal m →
    (∀ c : Dev Cert.GlaInIdeal.nD,
      m' ((c.tc : Thread Cert.GlaInReferenceIdeal.nD Cert.GlaInReferenceIdeal.τ).loc Cert.GlaInReferenceIdeal.main_arg0) = m ((c.tc : Thread Cert.GlaInIdeal.nD Cert.GlaInIdeal.τ).loc Cert.GlaInIdeal.main_arg0)
      ∧ m' ((c.tc : Thread Cert.GlaInReferenceIdeal.nD Cert.GlaInReferenceIdeal.τ).loc Cert.GlaInReferenceIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInReferenceIdeal.defs (F := Ideal)) (onTc (τ := Cert.GlaInReferenceIdeal.τ) (Cert.GlaInReferenceIdeal.main (F := Ideal))) ⟨m', fun _ => 0, g'⟩ (fun r => ∀ c : Dev Cert.GlaInReferenceIdeal.nD,
          r.2.mem ((c.tc : Thread Cert.GlaInReferenceIdeal.nD Cert.GlaInReferenceIdeal.τ).loc Cert.GlaInReferenceIdeal.main_v3) = v0 c
          ∧ r.2.mem ((c.tc : Thread Cert.GlaInReferenceIdeal.nD Cert.GlaInReferenceIdeal.τ).loc Cert.GlaInReferenceIdeal.main_arg0) = m' ((c.tc : Thread Cert.GlaInReferenceIdeal.nD Cert.GlaInReferenceIdeal.τ).loc Cert.GlaInReferenceIdeal.main_arg0)
          ∧ r.2.mem ((c.tc : Thread Cert.GlaInReferenceIdeal.nD Cert.GlaInReferenceIdeal.τ).loc Cert.GlaInReferenceIdeal.main_arg1) = m' ((c.tc : Thread Cert.GlaInReferenceIdeal.nD Cert.GlaInReferenceIdeal.τ).loc Cert.GlaInReferenceIdeal.main_arg1))

def preserves_GlaOut_GlaOutIdeal : Prop :=
  True

def algebraic_GlaOutIdeal_GlaOutReferenceIdeal [hGlaOutIdeal : Cert.GlaOutIdeal.Facts] [hGlaOutReferenceIdeal : Cert.GlaOutReferenceIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutReferenceIdeal.nD Cert.GlaOutReferenceIdeal.τ Cert.GlaOutReferenceIdeal.sig) → Buf (Elt Ideal) ℓ) (g' : Dev Cert.GlaOutReferenceIdeal.nD → PrngReg), Pre_GlaOutIdeal m →
    (∀ c : Dev Cert.GlaOutIdeal.nD,
      m' ((c.tc : Thread Cert.GlaOutReferenceIdeal.nD Cert.GlaOutReferenceIdeal.τ).loc Cert.GlaOutReferenceIdeal.main_arg0) = m ((c.tc : Thread Cert.GlaOutIdeal.nD Cert.GlaOutIdeal.τ).loc Cert.GlaOutIdeal.main_arg0)
      ∧ m' ((c.tc : Thread Cert.GlaOutReferenceIdeal.nD Cert.GlaOutReferenceIdeal.τ).loc Cert.GlaOutReferenceIdeal.main_arg1) = m ((c.tc : Thread Cert.GlaOutIdeal.nD Cert.GlaOutIdeal.τ).loc Cert.GlaOutIdeal.main_arg1)
      ∧ m' ((c.tc : Thread Cert.GlaOutReferenceIdeal.nD Cert.GlaOutReferenceIdeal.τ).loc Cert.GlaOutReferenceIdeal.main_arg2) = m ((c.tc : Thread Cert.GlaOutIdeal.nD Cert.GlaOutIdeal.τ).loc Cert.GlaOutIdeal.main_arg2)) →
    ∃ (v0 : (c : Dev Cert.GlaOutIdeal.nD) → Buf (Elt Ideal) ((c.tc : Thread Cert.GlaOutIdeal.nD Cert.GlaOutIdeal.τ).loc Cert.GlaOutIdeal.main_v0)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v0) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ θ_run (Cert.GlaOutReferenceIdeal.defs (F := Ideal)) (onTc (τ := Cert.GlaOutReferenceIdeal.τ) (Cert.GlaOutReferenceIdeal.main (F := Ideal))) ⟨m', fun _ => 0, g'⟩ (fun r => ∀ c : Dev Cert.GlaOutReferenceIdeal.nD,
          r.2.mem ((c.tc : Thread Cert.GlaOutReferenceIdeal.nD Cert.GlaOutReferenceIdeal.τ).loc Cert.GlaOutReferenceIdeal.main_v4) = v0 c
          ∧ r.2.mem ((c.tc : Thread Cert.GlaOutReferenceIdeal.nD Cert.GlaOutReferenceIdeal.τ).loc Cert.GlaOutReferenceIdeal.main_arg0) = m' ((c.tc : Thread Cert.GlaOutReferenceIdeal.nD Cert.GlaOutReferenceIdeal.τ).loc Cert.GlaOutReferenceIdeal.main_arg0)
          ∧ r.2.mem ((c.tc : Thread Cert.GlaOutReferenceIdeal.nD Cert.GlaOutReferenceIdeal.τ).loc Cert.GlaOutReferenceIdeal.main_arg1) = m' ((c.tc : Thread Cert.GlaOutReferenceIdeal.nD Cert.GlaOutReferenceIdeal.τ).loc Cert.GlaOutReferenceIdeal.main_arg1)
          ∧ r.2.mem ((c.tc : Thread Cert.GlaOutReferenceIdeal.nD Cert.GlaOutReferenceIdeal.τ).loc Cert.GlaOutReferenceIdeal.main_arg2) = m' ((c.tc : Thread Cert.GlaOutReferenceIdeal.nD Cert.GlaOutReferenceIdeal.τ).loc Cert.GlaOutReferenceIdeal.main_arg2))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v5) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v5) = v0 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1))

def preserves_DsaOut_DsaOutIdeal : Prop :=
  True

def algebraic_DsaOutIdeal_DsaOutReferenceIdeal [hDsaOutIdeal : Cert.DsaOutIdeal.Facts] [hDsaOutReferenceIdeal : Cert.DsaOutReferenceIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg)
    (m' : (ℓ : Loc Cert.DsaOutReferenceIdeal.nD Cert.DsaOutReferenceIdeal.τ Cert.DsaOutReferenceIdeal.sig) → Buf (Elt Ideal) ℓ) (g' : Dev Cert.DsaOutReferenceIdeal.nD → PrngReg), Pre_DsaOutIdeal m →
    (∀ c : Dev Cert.DsaOutIdeal.nD,
      m' ((c.tc : Thread Cert.DsaOutReferenceIdeal.nD Cert.DsaOutReferenceIdeal.τ).loc Cert.DsaOutReferenceIdeal.main_arg0) = m ((c.tc : Thread Cert.DsaOutIdeal.nD Cert.DsaOutIdeal.τ).loc Cert.DsaOutIdeal.main_arg0)
      ∧ m' ((c.tc : Thread Cert.DsaOutReferenceIdeal.nD Cert.DsaOutReferenceIdeal.τ).loc Cert.DsaOutReferenceIdeal.main_arg1) = m ((c.tc : Thread Cert.DsaOutIdeal.nD Cert.DsaOutIdeal.τ).loc Cert.DsaOutIdeal.main_arg1)
      ∧ m' ((c.tc : Thread Cert.DsaOutReferenceIdeal.nD Cert.DsaOutReferenceIdeal.τ).loc Cert.DsaOutReferenceIdeal.main_arg2) = m ((c.tc : Thread Cert.DsaOutIdeal.nD Cert.DsaOutIdeal.τ).loc Cert.DsaOutIdeal.main_arg2)) →
    ∃ (v0 : (c : Dev Cert.DsaOutIdeal.nD) → Buf (Elt Ideal) ((c.tc : Thread Cert.DsaOutIdeal.nD Cert.DsaOutIdeal.τ).loc Cert.DsaOutIdeal.main_v0)),
      θ_run (Cert.DsaOutIdeal.defs (F := Ideal)) (onTc (τ := Cert.DsaOutIdeal.τ) (Cert.DsaOutIdeal.main (F := Ideal))) ⟨m, fun _ => 0, g⟩ (fun r => ∀ c : Dev Cert.DsaOutIdeal.nD,
          r.2.mem ((c.tc : Thread Cert.DsaOutIdeal.nD Cert.DsaOutIdeal.τ).loc Cert.DsaOutIdeal.main_v0) = v0 c
          ∧ r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
          ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
          ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2))
      ∧ θ_run (Cert.DsaOutReferenceIdeal.defs (F := Ideal)) (onTc (τ := Cert.DsaOutReferenceIdeal.τ) (Cert.DsaOutReferenceIdeal.main (F := Ideal))) ⟨m', fun _ => 0, g'⟩ (fun r => ∀ c : Dev Cert.DsaOutReferenceIdeal.nD,
          r.2.mem ((c.tc : Thread Cert.DsaOutReferenceIdeal.nD Cert.DsaOutReferenceIdeal.τ).loc Cert.DsaOutReferenceIdeal.main_v3) = v0 c
          ∧ r.2.mem ((c.tc : Thread Cert.DsaOutReferenceIdeal.nD Cert.DsaOutReferenceIdeal.τ).loc Cert.DsaOutReferenceIdeal.main_arg0) = m' ((c.tc : Thread Cert.DsaOutReferenceIdeal.nD Cert.DsaOutReferenceIdeal.τ).loc Cert.DsaOutReferenceIdeal.main_arg0)
          ∧ r.2.mem ((c.tc : Thread Cert.DsaOutReferenceIdeal.nD Cert.DsaOutReferenceIdeal.τ).loc Cert.DsaOutReferenceIdeal.main_arg1) = m' ((c.tc : Thread Cert.DsaOutReferenceIdeal.nD Cert.DsaOutReferenceIdeal.τ).loc Cert.DsaOutReferenceIdeal.main_arg1)
          ∧ r.2.mem ((c.tc : Thread Cert.DsaOutReferenceIdeal.nD Cert.DsaOutReferenceIdeal.τ).loc Cert.DsaOutReferenceIdeal.main_arg2) = m' ((c.tc : Thread Cert.DsaOutReferenceIdeal.nD Cert.DsaOutReferenceIdeal.τ).loc Cert.DsaOutReferenceIdeal.main_arg2))

def preserves_GlaInDw_GlaInDwIdeal : Prop :=
  True

def algebraic_GlaInDwIdeal_GlaInDwReferenceIdeal [hGlaInDwIdeal : Cert.GlaInDwIdeal.Facts] [hGlaInDwReferenceIdeal : Cert.GlaInDwReferenceIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg)
    (m' : (ℓ : Loc Cert.GlaInDwReferenceIdeal.nD Cert.GlaInDwReferenceIdeal.τ Cert.GlaInDwReferenceIdeal.sig) → Buf (Elt Ideal) ℓ) (g' : Dev Cert.GlaInDwReferenceIdeal.nD → PrngReg), Pre_GlaInDwIdeal m →
    (∀ c : Dev Cert.GlaInDwIdeal.nD,
      m' ((c.tc : Thread Cert.GlaInDwReferenceIdeal.nD Cert.GlaInDwReferenceIdeal.τ).loc Cert.GlaInDwReferenceIdeal.main_arg0) = m ((c.tc : Thread Cert.GlaInDwIdeal.nD Cert.GlaInDwIdeal.τ).loc Cert.GlaInDwIdeal.main_arg0)
      ∧ m' ((c.tc : Thread Cert.GlaInDwReferenceIdeal.nD Cert.GlaInDwReferenceIdeal.τ).loc Cert.GlaInDwReferenceIdeal.main_arg1) = m ((c.tc : Thread Cert.GlaInDwIdeal.nD Cert.GlaInDwIdeal.τ).loc Cert.GlaInDwIdeal.main_arg1)) →
    ∃ (v0 : (c : Dev Cert.GlaInDwIdeal.nD) → Buf (Elt Ideal) ((c.tc : Thread Cert.GlaInDwIdeal.nD Cert.GlaInDwIdeal.τ).loc Cert.GlaInDwIdeal.main_v0)),
      θ_run (Cert.GlaInDwIdeal.defs (F := Ideal)) (onTc (τ := Cert.GlaInDwIdeal.τ) (Cert.GlaInDwIdeal.main (F := Ideal))) ⟨m, fun _ => 0, g⟩ (fun r => ∀ c : Dev Cert.GlaInDwIdeal.nD,
          r.2.mem ((c.tc : Thread Cert.GlaInDwIdeal.nD Cert.GlaInDwIdeal.τ).loc Cert.GlaInDwIdeal.main_v0) = v0 c
          ∧ r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
          ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ θ_run (Cert.GlaInDwReferenceIdeal.defs (F := Ideal)) (onTc (τ := Cert.GlaInDwReferenceIdeal.τ) (Cert.GlaInDwReferenceIdeal.main (F := Ideal))) ⟨m', fun _ => 0, g'⟩ (fun r => ∀ c : Dev Cert.GlaInDwReferenceIdeal.nD,
          r.2.mem ((c.tc : Thread Cert.GlaInDwReferenceIdeal.nD Cert.GlaInDwReferenceIdeal.τ).loc Cert.GlaInDwReferenceIdeal.main_v7) = v0 c
          ∧ r.2.mem ((c.tc : Thread Cert.GlaInDwReferenceIdeal.nD Cert.GlaInDwReferenceIdeal.τ).loc Cert.GlaInDwReferenceIdeal.main_arg0) = m' ((c.tc : Thread Cert.GlaInDwReferenceIdeal.nD Cert.GlaInDwReferenceIdeal.τ).loc Cert.GlaInDwReferenceIdeal.main_arg0)
          ∧ r.2.mem ((c.tc : Thread Cert.GlaInDwReferenceIdeal.nD Cert.GlaInDwReferenceIdeal.τ).loc Cert.GlaInDwReferenceIdeal.main_arg1) = m' ((c.tc : Thread Cert.GlaInDwReferenceIdeal.nD Cert.GlaInDwReferenceIdeal.τ).loc Cert.GlaInDwReferenceIdeal.main_arg1))

def preserves_GlaOutDw_GlaOutDwIdeal : Prop :=
  True

def algebraic_GlaOutDwIdeal_GlaOutDwReferenceIdeal [hGlaOutDwIdeal : Cert.GlaOutDwIdeal.Facts] [hGlaOutDwReferenceIdeal : Cert.GlaOutDwReferenceIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg)
    (m' : (ℓ : Loc Cert.GlaOutDwReferenceIdeal.nD Cert.GlaOutDwReferenceIdeal.τ Cert.GlaOutDwReferenceIdeal.sig) → Buf (Elt Ideal) ℓ) (g' : Dev Cert.GlaOutDwReferenceIdeal.nD → PrngReg), Pre_GlaOutDwIdeal m →
    (∀ c : Dev Cert.GlaOutDwIdeal.nD,
      m' ((c.tc : Thread Cert.GlaOutDwReferenceIdeal.nD Cert.GlaOutDwReferenceIdeal.τ).loc Cert.GlaOutDwReferenceIdeal.main_arg0) = m ((c.tc : Thread Cert.GlaOutDwIdeal.nD Cert.GlaOutDwIdeal.τ).loc Cert.GlaOutDwIdeal.main_arg0)
      ∧ m' ((c.tc : Thread Cert.GlaOutDwReferenceIdeal.nD Cert.GlaOutDwReferenceIdeal.τ).loc Cert.GlaOutDwReferenceIdeal.main_arg1) = m ((c.tc : Thread Cert.GlaOutDwIdeal.nD Cert.GlaOutDwIdeal.τ).loc Cert.GlaOutDwIdeal.main_arg1)) →
    ∃ (v0 : (c : Dev Cert.GlaOutDwIdeal.nD) → Buf (Elt Ideal) ((c.tc : Thread Cert.GlaOutDwIdeal.nD Cert.GlaOutDwIdeal.τ).loc Cert.GlaOutDwIdeal.main_v0)),
      θ_run (Cert.GlaOutDwIdeal.defs (F := Ideal)) (onTc (τ := Cert.GlaOutDwIdeal.τ) (Cert.GlaOutDwIdeal.main (F := Ideal))) ⟨m, fun _ => 0, g⟩ (fun r => ∀ c : Dev Cert.GlaOutDwIdeal.nD,
          r.2.mem ((c.tc : Thread Cert.GlaOutDwIdeal.nD Cert.GlaOutDwIdeal.τ).loc Cert.GlaOutDwIdeal.main_v0) = v0 c
          ∧ r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
          ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1))
      ∧ θ_run (Cert.GlaOutDwReferenceIdeal.defs (F := Ideal)) (onTc (τ := Cert.GlaOutDwReferenceIdeal.τ) (Cert.GlaOutDwReferenceIdeal.main (F := Ideal))) ⟨m', fun _ => 0, g'⟩ (fun r => ∀ c : Dev Cert.GlaOutDwReferenceIdeal.nD,
          r.2.mem ((c.tc : Thread Cert.GlaOutDwReferenceIdeal.nD Cert.GlaOutDwReferenceIdeal.τ).loc Cert.GlaOutDwReferenceIdeal.main_v6) = v0 c
          ∧ r.2.mem ((c.tc : Thread Cert.GlaOutDwReferenceIdeal.nD Cert.GlaOutDwReferenceIdeal.τ).loc Cert.GlaOutDwReferenceIdeal.main_arg0) = m' ((c.tc : Thread Cert.GlaOutDwReferenceIdeal.nD Cert.GlaOutDwReferenceIdeal.τ).loc Cert.GlaOutDwReferenceIdeal.main_arg0)
          ∧ r.2.mem ((c.tc : Thread Cert.GlaOutDwReferenceIdeal.nD Cert.GlaOutDwReferenceIdeal.τ).loc Cert.GlaOutDwReferenceIdeal.main_arg1) = m' ((c.tc : Thread Cert.GlaOutDwReferenceIdeal.nD Cert.GlaOutDwReferenceIdeal.τ).loc Cert.GlaOutDwReferenceIdeal.main_arg1))

def preserves_DsaOutDw_DsaOutDwIdeal : Prop :=
  True

def algebraic_DsaOutDwIdeal_DsaOutDwReferenceIdeal [hDsaOutDwIdeal : Cert.DsaOutDwIdeal.Facts] [hDsaOutDwReferenceIdeal : Cert.DsaOutDwReferenceIdeal.Facts] : Prop :=
  ∀ (m : (ℓ : Loc Cert.DsaOutDwIdeal.nD Cert.DsaOutDwIdeal.τ Cert.DsaOutDwIdeal.sig) → Buf (Elt Ideal) ℓ) (g : Dev Cert.DsaOutDwIdeal.nD → PrngReg)
    (m' : (ℓ : Loc Cert.DsaOutDwReferenceIdeal.nD Cert.DsaOutDwReferenceIdeal.τ Cert.DsaOutDwReferenceIdeal.sig) → Buf (Elt Ideal) ℓ) (g' : Dev Cert.DsaOutDwReferenceIdeal.nD → PrngReg), Pre_DsaOutDwIdeal m →
    (∀ c : Dev Cert.DsaOutDwIdeal.nD,
      m' ((c.tc : Thread Cert.DsaOutDwReferenceIdeal.nD Cert.DsaOutDwReferenceIdeal.τ).loc Cert.DsaOutDwReferenceIdeal.main_arg0) = m ((c.tc : Thread Cert.DsaOutDwIdeal.nD Cert.DsaOutDwIdeal.τ).loc Cert.DsaOutDwIdeal.main_arg0)
      ∧ m' ((c.tc : Thread Cert.DsaOutDwReferenceIdeal.nD Cert.DsaOutDwReferenceIdeal.τ).loc Cert.DsaOutDwReferenceIdeal.main_arg1) = m ((c.tc : Thread Cert.DsaOutDwIdeal.nD Cert.DsaOutDwIdeal.τ).loc Cert.DsaOutDwIdeal.main_arg1)) →
    ∃ (v0 : (c : Dev Cert.DsaOutDwIdeal.nD) → Buf (Elt Ideal) ((c.tc : Thread Cert.DsaOutDwIdeal.nD Cert.DsaOutDwIdeal.τ).loc Cert.DsaOutDwIdeal.main_v0)),
      θ_run (Cert.DsaOutDwIdeal.defs (F := Ideal)) (onTc (τ := Cert.DsaOutDwIdeal.τ) (Cert.DsaOutDwIdeal.main (F := Ideal))) ⟨m, fun _ => 0, g⟩ (fun r => ∀ c : Dev Cert.DsaOutDwIdeal.nD,
          r.2.mem ((c.tc : Thread Cert.DsaOutDwIdeal.nD Cert.DsaOutDwIdeal.τ).loc Cert.DsaOutDwIdeal.main_v0) = v0 c
          ∧ r.2.mem ((c.tc : Thread Cert.DsaOutDwIdeal.nD Cert.DsaOutDwIdeal.τ).loc Cert.DsaOutDwIdeal.main_arg0) = m ((c.tc : Thread Cert.DsaOutDwIdeal.nD Cert.DsaOutDwIdeal.τ).loc Cert.DsaOutDwIdeal.main_arg0)
          ∧ r.2.mem ((c.tc : Thread Cert.DsaOutDwIdeal.nD Cert.DsaOutDwIdeal.τ).loc Cert.DsaOutDwIdeal.main_arg1) = m ((c.tc : Thread Cert.DsaOutDwIdeal.nD Cert.DsaOutDwIdeal.τ).loc Cert.DsaOutDwIdeal.main_arg1))
      ∧ θ_run (Cert.DsaOutDwReferenceIdeal.defs (F := Ideal)) (onTc (τ := Cert.DsaOutDwReferenceIdeal.τ) (Cert.DsaOutDwReferenceIdeal.main (F := Ideal))) ⟨m', fun _ => 0, g'⟩ (fun r => ∀ c : Dev Cert.DsaOutDwReferenceIdeal.nD,
          r.2.mem ((c.tc : Thread Cert.DsaOutDwReferenceIdeal.nD Cert.DsaOutDwReferenceIdeal.τ).loc Cert.DsaOutDwReferenceIdeal.main_v5) = v0 c
          ∧ r.2.mem ((c.tc : Thread Cert.DsaOutDwReferenceIdeal.nD Cert.DsaOutDwReferenceIdeal.τ).loc Cert.DsaOutDwReferenceIdeal.main_arg0) = m' ((c.tc : Thread Cert.DsaOutDwReferenceIdeal.nD Cert.DsaOutDwReferenceIdeal.τ).loc Cert.DsaOutDwReferenceIdeal.main_arg0)
          ∧ r.2.mem ((c.tc : Thread Cert.DsaOutDwReferenceIdeal.nD Cert.DsaOutDwReferenceIdeal.τ).loc Cert.DsaOutDwReferenceIdeal.main_arg1) = m' ((c.tc : Thread Cert.DsaOutDwReferenceIdeal.nD Cert.DsaOutDwReferenceIdeal.τ).loc Cert.DsaOutDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_QProjDw_QProjDwIdeal : Prop :=
  True

def algebraic_QProjDwIdeal_QProjDwReferenceIdeal [hQProjDwIdeal : Cert.QProjDwIdeal.Facts] [hQProjDwReferenceIdeal : Cert.QProjDwReferenceIdeal.Facts] : Prop :=
  ∀ (m : (ℓ : Loc Cert.QProjDwIdeal.nD Cert.QProjDwIdeal.τ Cert.QProjDwIdeal.sig) → Buf (Elt Ideal) ℓ) (g : Dev Cert.QProjDwIdeal.nD → PrngReg)
    (m' : (ℓ : Loc Cert.QProjDwReferenceIdeal.nD Cert.QProjDwReferenceIdeal.τ Cert.QProjDwReferenceIdeal.sig) → Buf (Elt Ideal) ℓ) (g' : Dev Cert.QProjDwReferenceIdeal.nD → PrngReg), Pre_QProjDwIdeal m →
    (∀ c : Dev Cert.QProjDwIdeal.nD,
      m' ((c.tc : Thread Cert.QProjDwReferenceIdeal.nD Cert.QProjDwReferenceIdeal.τ).loc Cert.QProjDwReferenceIdeal.main_arg0) = m ((c.tc : Thread Cert.QProjDwIdeal.nD Cert.QProjDwIdeal.τ).loc Cert.QProjDwIdeal.main_arg0)
      ∧ m' ((c.tc : Thread Cert.QProjDwReferenceIdeal.nD Cert.QProjDwReferenceIdeal.τ).loc Cert.QProjDwReferenceIdeal.main_arg1) = m ((c.tc : Thread Cert.QProjDwIdeal.nD Cert.QProjDwIdeal.τ).loc Cert.QProjDwIdeal.main_arg1)) →
    ∃ (v0 : (c : Dev Cert.QProjDwIdeal.nD) → Buf (Elt Ideal) ((c.tc : Thread Cert.QProjDwIdeal.nD Cert.QProjDwIdeal.τ).loc Cert.QProjDwIdeal.main_v0)),
      θ_run (Cert.QProjDwIdeal.defs (F := Ideal)) (onTc (τ := Cert.QProjDwIdeal.τ) (Cert.QProjDwIdeal.main (F := Ideal))) ⟨m, fun _ => 0, g⟩ (fun r => ∀ c : Dev Cert.QProjDwIdeal.nD,
          r.2.mem ((c.tc : Thread Cert.QProjDwIdeal.nD Cert.QProjDwIdeal.τ).loc Cert.QProjDwIdeal.main_v0) = v0 c
          ∧ r.2.mem ((c.tc : Thread Cert.QProjDwIdeal.nD Cert.QProjDwIdeal.τ).loc Cert.QProjDwIdeal.main_arg0) = m ((c.tc : Thread Cert.QProjDwIdeal.nD Cert.QProjDwIdeal.τ).loc Cert.QProjDwIdeal.main_arg0)
          ∧ r.2.mem ((c.tc : Thread Cert.QProjDwIdeal.nD Cert.QProjDwIdeal.τ).loc Cert.QProjDwIdeal.main_arg1) = m ((c.tc : Thread Cert.QProjDwIdeal.nD Cert.QProjDwIdeal.τ).loc Cert.QProjDwIdeal.main_arg1))
      ∧ θ_run (Cert.QProjDwReferenceIdeal.defs (F := Ideal)) (onTc (τ := Cert.QProjDwReferenceIdeal.τ) (Cert.QProjDwReferenceIdeal.main (F := Ideal))) ⟨m', fun _ => 0, g'⟩ (fun r => ∀ c : Dev Cert.QProjDwReferenceIdeal.nD,
          r.2.mem ((c.tc : Thread Cert.QProjDwReferenceIdeal.nD Cert.QProjDwReferenceIdeal.τ).loc Cert.QProjDwReferenceIdeal.main_v7) = v0 c
          ∧ r.2.mem ((c.tc : Thread Cert.QProjDwReferenceIdeal.nD Cert.QProjDwReferenceIdeal.τ).loc Cert.QProjDwReferenceIdeal.main_arg0) = m' ((c.tc : Thread Cert.QProjDwReferenceIdeal.nD Cert.QProjDwReferenceIdeal.τ).loc Cert.QProjDwReferenceIdeal.main_arg0)
          ∧ r.2.mem ((c.tc : Thread Cert.QProjDwReferenceIdeal.nD Cert.QProjDwReferenceIdeal.τ).loc Cert.QProjDwReferenceIdeal.main_arg1) = m' ((c.tc : Thread Cert.QProjDwReferenceIdeal.nD Cert.QProjDwReferenceIdeal.τ).loc Cert.QProjDwReferenceIdeal.main_arg1))

def preserves_KvProjDw_KvProjDwIdeal : Prop :=
  True

def algebraic_KvProjDwIdeal_KvProjDwReferenceIdeal [hKvProjDwIdeal : Cert.KvProjDwIdeal.Facts] [hKvProjDwReferenceIdeal : Cert.KvProjDwReferenceIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg)
    (m' : (ℓ : Loc Cert.KvProjDwReferenceIdeal.nD Cert.KvProjDwReferenceIdeal.τ Cert.KvProjDwReferenceIdeal.sig) → Buf (Elt Ideal) ℓ) (g' : Dev Cert.KvProjDwReferenceIdeal.nD → PrngReg), Pre_KvProjDwIdeal m →
    (∀ c : Dev Cert.KvProjDwIdeal.nD,
      m' ((c.tc : Thread Cert.KvProjDwReferenceIdeal.nD Cert.KvProjDwReferenceIdeal.τ).loc Cert.KvProjDwReferenceIdeal.main_arg0) = m ((c.tc : Thread Cert.KvProjDwIdeal.nD Cert.KvProjDwIdeal.τ).loc Cert.KvProjDwIdeal.main_arg0)
      ∧ m' ((c.tc : Thread Cert.KvProjDwReferenceIdeal.nD Cert.KvProjDwReferenceIdeal.τ).loc Cert.KvProjDwReferenceIdeal.main_arg1) = m ((c.tc : Thread Cert.KvProjDwIdeal.nD Cert.KvProjDwIdeal.τ).loc Cert.KvProjDwIdeal.main_arg1)) →
    ∃ (v0 : (c : Dev Cert.KvProjDwIdeal.nD) → Buf (Elt Ideal) ((c.tc : Thread Cert.KvProjDwIdeal.nD Cert.KvProjDwIdeal.τ).loc Cert.KvProjDwIdeal.main_v0)),
      θ_run (Cert.KvProjDwIdeal.defs (F := Ideal)) (onTc (τ := Cert.KvProjDwIdeal.τ) (Cert.KvProjDwIdeal.main (F := Ideal))) ⟨m, fun _ => 0, g⟩ (fun r => ∀ c : Dev Cert.KvProjDwIdeal.nD,
          r.2.mem ((c.tc : Thread Cert.KvProjDwIdeal.nD Cert.KvProjDwIdeal.τ).loc Cert.KvProjDwIdeal.main_v0) = v0 c
          ∧ r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
          ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ θ_run (Cert.KvProjDwReferenceIdeal.defs (F := Ideal)) (onTc (τ := Cert.KvProjDwReferenceIdeal.τ) (Cert.KvProjDwReferenceIdeal.main (F := Ideal))) ⟨m', fun _ => 0, g'⟩ (fun r => ∀ c : Dev Cert.KvProjDwReferenceIdeal.nD,
          r.2.mem ((c.tc : Thread Cert.KvProjDwReferenceIdeal.nD Cert.KvProjDwReferenceIdeal.τ).loc Cert.KvProjDwReferenceIdeal.main_v14) = v0 c
          ∧ r.2.mem ((c.tc : Thread Cert.KvProjDwReferenceIdeal.nD Cert.KvProjDwReferenceIdeal.τ).loc Cert.KvProjDwReferenceIdeal.main_arg0) = m' ((c.tc : Thread Cert.KvProjDwReferenceIdeal.nD Cert.KvProjDwReferenceIdeal.τ).loc Cert.KvProjDwReferenceIdeal.main_arg0)
          ∧ r.2.mem ((c.tc : Thread Cert.KvProjDwReferenceIdeal.nD Cert.KvProjDwReferenceIdeal.τ).loc Cert.KvProjDwReferenceIdeal.main_arg1) = m' ((c.tc : Thread Cert.KvProjDwReferenceIdeal.nD Cert.KvProjDwReferenceIdeal.τ).loc Cert.KvProjDwReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hUpDw : Cert.UpDw.Facts) (hUpDwIdeal : Cert.UpDwIdeal.Facts) (hUpDwReferenceIdeal : Cert.UpDwReferenceIdeal.Facts) (hDownDw : Cert.DownDw.Facts) (hDownDwIdeal : Cert.DownDwIdeal.Facts) (hDownDwReferenceIdeal : Cert.DownDwReferenceIdeal.Facts) (hDownDx : Cert.DownDx.Facts) (hDownDxIdeal : Cert.DownDxIdeal.Facts) (hDownDxReferenceIdeal : Cert.DownDxReferenceIdeal.Facts) (hGlaIn : Cert.GlaIn.Facts) (hGlaInIdeal : Cert.GlaInIdeal.Facts) (hGlaInReferenceIdeal : Cert.GlaInReferenceIdeal.Facts) (hGlaOut : Cert.GlaOut.Facts) (hGlaOutIdeal : Cert.GlaOutIdeal.Facts) (hGlaOutReferenceIdeal : Cert.GlaOutReferenceIdeal.Facts) (hQProj : Cert.QProj.Facts) (hQProjIdeal : Cert.QProjIdeal.Facts) (hQProjReferenceIdeal : Cert.QProjReferenceIdeal.Facts) (hKvProj : Cert.KvProj.Facts) (hKvProjIdeal : Cert.KvProjIdeal.Facts) (hKvProjReferenceIdeal : Cert.KvProjReferenceIdeal.Facts) (hDsaOut : Cert.DsaOut.Facts) (hDsaOutIdeal : Cert.DsaOutIdeal.Facts) (hDsaOutReferenceIdeal : Cert.DsaOutReferenceIdeal.Facts) (hGlaInDw : Cert.GlaInDw.Facts) (hGlaInDwIdeal : Cert.GlaInDwIdeal.Facts) (hGlaInDwReferenceIdeal : Cert.GlaInDwReferenceIdeal.Facts) (hGlaOutDw : Cert.GlaOutDw.Facts) (hGlaOutDwIdeal : Cert.GlaOutDwIdeal.Facts) (hGlaOutDwReferenceIdeal : Cert.GlaOutDwReferenceIdeal.Facts) (hDsaOutDw : Cert.DsaOutDw.Facts) (hDsaOutDwIdeal : Cert.DsaOutDwIdeal.Facts) (hDsaOutDwReferenceIdeal : Cert.DsaOutDwReferenceIdeal.Facts) (hOutDx : Cert.OutDx.Facts) (hOutDxIdeal : Cert.OutDxIdeal.Facts) (hOutDxReferenceIdeal : Cert.OutDxReferenceIdeal.Facts) (hQProjDw : Cert.QProjDw.Facts) (hQProjDwIdeal : Cert.QProjDwIdeal.Facts) (hQProjDwReferenceIdeal : Cert.QProjDwReferenceIdeal.Facts) (hKvProjDw : Cert.KvProjDw.Facts) (hKvProjDwIdeal : Cert.KvProjDwIdeal.Facts) (hKvProjDwReferenceIdeal : Cert.KvProjDwReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_GlaIn (hGlaIn := hGlaIn)
    ∧ quiescent_GlaInIdeal (hGlaInIdeal := hGlaInIdeal)
    ∧ quiescent_GlaInReferenceIdeal (hGlaInReferenceIdeal := hGlaInReferenceIdeal)
    ∧ quiescent_GlaOut (hGlaOut := hGlaOut)
    ∧ quiescent_GlaOutIdeal (hGlaOutIdeal := hGlaOutIdeal)
    ∧ quiescent_GlaOutReferenceIdeal (hGlaOutReferenceIdeal := hGlaOutReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_DsaOut (hDsaOut := hDsaOut)
    ∧ quiescent_DsaOutIdeal (hDsaOutIdeal := hDsaOutIdeal)
    ∧ quiescent_DsaOutReferenceIdeal (hDsaOutReferenceIdeal := hDsaOutReferenceIdeal)
    ∧ quiescent_GlaInDw (hGlaInDw := hGlaInDw)
    ∧ quiescent_GlaInDwIdeal (hGlaInDwIdeal := hGlaInDwIdeal)
    ∧ quiescent_GlaInDwReferenceIdeal (hGlaInDwReferenceIdeal := hGlaInDwReferenceIdeal)
    ∧ quiescent_GlaOutDw (hGlaOutDw := hGlaOutDw)
    ∧ quiescent_GlaOutDwIdeal (hGlaOutDwIdeal := hGlaOutDwIdeal)
    ∧ quiescent_GlaOutDwReferenceIdeal (hGlaOutDwReferenceIdeal := hGlaOutDwReferenceIdeal)
    ∧ quiescent_DsaOutDw (hDsaOutDw := hDsaOutDw)
    ∧ quiescent_DsaOutDwIdeal (hDsaOutDwIdeal := hDsaOutDwIdeal)
    ∧ quiescent_DsaOutDwReferenceIdeal (hDsaOutDwReferenceIdeal := hDsaOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_QProjDw (hQProjDw := hQProjDw)
    ∧ quiescent_QProjDwIdeal (hQProjDwIdeal := hQProjDwIdeal)
    ∧ quiescent_QProjDwReferenceIdeal (hQProjDwReferenceIdeal := hQProjDwReferenceIdeal)
    ∧ quiescent_KvProjDw (hKvProjDw := hKvProjDw)
    ∧ quiescent_KvProjDwIdeal (hKvProjDwIdeal := hKvProjDwIdeal)
    ∧ quiescent_KvProjDwReferenceIdeal (hKvProjDwReferenceIdeal := hKvProjDwReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDw_DownDwIdeal
    ∧ algebraic_DownDwIdeal_DownDwReferenceIdeal (hDownDwIdeal := hDownDwIdeal) (hDownDwReferenceIdeal := hDownDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_GlaIn_GlaInIdeal
    ∧ algebraic_GlaInIdeal_GlaInReferenceIdeal (hGlaInIdeal := hGlaInIdeal) (hGlaInReferenceIdeal := hGlaInReferenceIdeal)
    ∧ preserves_GlaOut_GlaOutIdeal
    ∧ algebraic_GlaOutIdeal_GlaOutReferenceIdeal (hGlaOutIdeal := hGlaOutIdeal) (hGlaOutReferenceIdeal := hGlaOutReferenceIdeal)
    ∧ preserves_QProj_QProjIdeal
    ∧ algebraic_QProjIdeal_QProjReferenceIdeal (hQProjIdeal := hQProjIdeal) (hQProjReferenceIdeal := hQProjReferenceIdeal)
    ∧ preserves_KvProj_KvProjIdeal
    ∧ algebraic_KvProjIdeal_KvProjReferenceIdeal (hKvProjIdeal := hKvProjIdeal) (hKvProjReferenceIdeal := hKvProjReferenceIdeal)
    ∧ preserves_DsaOut_DsaOutIdeal
    ∧ algebraic_DsaOutIdeal_DsaOutReferenceIdeal (hDsaOutIdeal := hDsaOutIdeal) (hDsaOutReferenceIdeal := hDsaOutReferenceIdeal)
    ∧ preserves_GlaInDw_GlaInDwIdeal
    ∧ algebraic_GlaInDwIdeal_GlaInDwReferenceIdeal (hGlaInDwIdeal := hGlaInDwIdeal) (hGlaInDwReferenceIdeal := hGlaInDwReferenceIdeal)
    ∧ preserves_GlaOutDw_GlaOutDwIdeal
    ∧ algebraic_GlaOutDwIdeal_GlaOutDwReferenceIdeal (hGlaOutDwIdeal := hGlaOutDwIdeal) (hGlaOutDwReferenceIdeal := hGlaOutDwReferenceIdeal)
    ∧ preserves_DsaOutDw_DsaOutDwIdeal
    ∧ algebraic_DsaOutDwIdeal_DsaOutDwReferenceIdeal (hDsaOutDwIdeal := hDsaOutDwIdeal) (hDsaOutDwReferenceIdeal := hDsaOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_QProjDw_QProjDwIdeal
    ∧ algebraic_QProjDwIdeal_QProjDwReferenceIdeal (hQProjDwIdeal := hQProjDwIdeal) (hQProjDwReferenceIdeal := hQProjDwReferenceIdeal)
    ∧ preserves_KvProjDw_KvProjDwIdeal
    ∧ algebraic_KvProjDwIdeal_KvProjDwReferenceIdeal (hKvProjDwIdeal := hKvProjDwIdeal) (hKvProjDwReferenceIdeal := hKvProjDwReferenceIdeal)
-- ==== Pre_finite.lean ====
abbrev S4096x6272 : Shape := ⟨2, ![4096, 6272]⟩
abbrev S4096x1024 : Shape := ⟨2, ![4096, 1024]⟩
abbrev S4x64x512x256 : Shape := ⟨4, ![4, 64, 512, 256]⟩
abbrev S4096x2048 : Shape := ⟨2, ![4096, 2048]⟩
abbrev S1x512 : Shape := ⟨2, ![1, 512]⟩
abbrev S_ : Shape := ⟨0, ![]⟩

class Facts : Prop where
  bcast_S_S4096x6272 : S_.BroadcastsInDim S4096x6272 (![] : Fin 0 → Fin S4096x6272.rank)
  bcast_S_S4096x1024 : S_.BroadcastsInDim S4096x1024 (![] : Fin 0 → Fin S4096x1024.rank)
  bcast_S_S4x64x512x256 : S_.BroadcastsInDim S4x64x512x256 (![] : Fin 0 → Fin S4x64x512x256.rank)
  bcast_S_S4096x2048 : S_.BroadcastsInDim S4096x2048 (![] : Fin 0 → Fin S4096x2048.rank)
  bcast_S_S1x512 : S_.BroadcastsInDim S1x512 (![] : Fin 0 → Fin S1x512.rank)

variable [Facts]

def fn {F : FTy → Type} [FloatOps F] (main_arg0 : FVec F S4096x6272 .f32) (main_arg1 : FVec F S4096x1024 .f32) (main_arg2 : FVec F S4x64x512x256 .f32) (main_arg3 : FVec F S4096x2048 .f32) (main_arg4 : FVec F S1x512 .f32) (main_arg5 : FVec F S4096x2048 .f32) : IVec S4096x6272 1 × IVec S4096x1024 1 × IVec S4x64x512x256 1 × IVec S4096x2048 1 × IVec S1x512 1 × IVec S4096x2048 1 :=
  let main_v0 : FVec F S4096x6272 .f32 := Host.absf main_arg0
  let main_cst : FVec F S_ .f32 := constant S_ .f32 0x7F800000#32
  let main_v1 : FVec F S4096x6272 .f32 := broadcastInDim S4096x6272 ![] bcast_S_S4096x6272 main_cst
  let main_v2 : IVec S4096x6272 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x64x512x256 .f32 := Host.absf main_arg2
  let main_cst_1 : FVec F S_ .f32 := constant S_ .f32 0x7F800000#32
  let main_v7 : FVec F S4x64x512x256 .f32 := broadcastInDim S4x64x512x256 ![] bcast_S_S4x64x512x256 main_cst_1
  let main_v8 : IVec S4x64x512x256 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Kernel.lean ====
abbrev S4096x6272 : Shape := ⟨2, ![4096, 6272]⟩
abbrev S4096x1024 : Shape := ⟨2, ![4096, 1024]⟩
abbrev S4x64x512x256 : Shape := ⟨4, ![4, 64, 512, 256]⟩
abbrev S4096x2048 : Shape := ⟨2, ![4096, 2048]⟩
abbrev S1x512 : Shape := ⟨2, ![1, 512]⟩
abbrev S256x1024 : Shape := ⟨2, ![256, 1024]⟩
abbrev S256x2048 : Shape := ⟨2, ![256, 2048]⟩
abbrev S4x4x512x256 : Shape := ⟨4, ![4, 4, 512, 256]⟩
abbrev S4x512x256 : Shape := ⟨3, ![4, 512, 256]⟩
abbrev S64x64 : Shape := ⟨2, ![64, 64]⟩
abbrev S64x512 : Shape := ⟨2, ![64, 512]⟩
abbrev S64 : Shape := ⟨1, ![64]⟩
abbrev S64x1 : Shape := ⟨2, ![64, 1]⟩
abbrev S512 : Shape := ⟨1, ![512]⟩
abbrev S64x256 : Shape := ⟨2, ![64, 256]⟩
abbrev S256 : Shape := ⟨1, ![256]⟩
abbrev S1x256 : Shape := ⟨2, ![1, 256]⟩
abbrev S1x1x512x256 : Shape := ⟨4, ![1, 1, 512, 256]⟩
abbrev S512x256 : Shape := ⟨2, ![512, 256]⟩
abbrev S1x512x256 : Shape := ⟨3, ![1, 512, 256]⟩

abbrev nBuf : Space → Nat
  | .hbm => 12
  | .vmem => 29
  | .smem => 0
  | _ => 0

abbrev bufTy : (tb : Table) → Fin (tcTables nBuf tb) → BufTy
  | .hbm, ⟨0, _⟩ => ⟨S4096x6272, .f32⟩
  | .hbm, ⟨1, _⟩ => ⟨S4096x1024, .f32⟩
  | .hbm, ⟨2, _⟩ => ⟨S4x64x512x256, .f32⟩
  | .hbm, ⟨3, _⟩ => ⟨S4096x2048, .f32⟩
  | .hbm, ⟨4, _⟩ => ⟨S1x512, .f32⟩
  | .hbm, ⟨5, _⟩ => ⟨S4096x2048, .f32⟩
  | .hbm, ⟨6, _⟩ => ⟨S4096x1024, .bf16⟩
  | .hbm, ⟨7, _⟩ => ⟨S4096x1024, .bf16⟩
  | .hbm, ⟨8, _⟩ => ⟨S4096x2048, .bf16⟩
  | .hbm, ⟨9, _⟩ => ⟨S4096x2048, .bf16⟩
  | .hbm, ⟨10, _⟩ => ⟨S4096x1024, .f32⟩
  | .hbm, ⟨11, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S1x512, .f32⟩
  | .local _ .vmem, ⟨13, _⟩ => ⟨S256x2048, .f32⟩
  | .local _ .vmem, ⟨14, _⟩ => ⟨S256x2048, .f32⟩
  | .local _ .vmem, ⟨15, _⟩ => ⟨S4x4x512x256, .f32⟩
  | .local _ .vmem, ⟨16, _⟩ => ⟨S4x4x512x256, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x1024, .f32⟩
  | .local _ .vmem, ⟨26, _⟩ => ⟨S256x1024, .f32⟩
  | .local _ .vmem, ⟨27, _⟩ => ⟨S1x512, .f32⟩
  | .local _ .vmem, ⟨28, _⟩ => ⟨S4x512x256, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x6272 : Shape := ⟨2, ![4096, 6272]⟩
abbrev S4096x1024 : Shape := ⟨2, ![4096, 1024]⟩
abbrev S4x64x512x256 : Shape := ⟨4, ![4, 64, 512, 256]⟩
abbrev S4096x2048 : Shape := ⟨2, ![4096, 2048]⟩
abbrev S1x512 : Shape := ⟨2, ![1, 512]⟩
abbrev S4096x128 : Shape := ⟨2, ![4096, 128]⟩
abbrev S512 : Shape := ⟨1, ![512]⟩
abbrev S4096x4x512 : Shape := ⟨3, ![4096, 4, 512]⟩
abbrev S_ : Shape := ⟨0, ![]⟩
abbrev S4096x4 : Shape := ⟨2, ![4096, 4]⟩
abbrev S4096x4x1 : Shape := ⟨3, ![4096, 4, 1]⟩
abbrev S1x1x512 : Shape := ⟨3, ![1, 1, 512]⟩
abbrev S64x4x256x512 : Shape := ⟨4, ![64, 4, 256, 512]⟩
abbrev S64x64x4x256 : Shape := ⟨4, ![64, 64, 4, 256]⟩
abbrev S64x4x64x256 : Shape := ⟨4, ![64, 4, 64, 256]⟩
abbrev S64x64x4x512 : Shape := ⟨4, ![64, 64, 4, 512]⟩
abbrev S64x4x64x512 : Shape := ⟨4, ![64, 4, 64, 512]⟩
abbrev S4x256x512 : Shape := ⟨3, ![4, 256, 512]⟩
abbrev S1x4x256x512 : Shape := ⟨4, ![1, 4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S4x1x256 : Shape := ⟨3, ![4, 1, 256]⟩
abbrev S64x64 : Shape := ⟨2, ![64, 64]⟩
abbrev S4x64x64 : Shape := ⟨3, ![4, 64, 64]⟩
abbrev S4x256 : Shape := ⟨2, ![4, 256]⟩
abbrev S4x256x1 : Shape := ⟨3, ![4, 256, 1]⟩
abbrev S4x512x64 : Shape := ⟨3, ![4, 512, 64]⟩
abbrev S4x256x64 : Shape := ⟨3, ![4, 256, 64]⟩
abbrev S4x512x256 : Shape := ⟨3, ![4, 512, 256]⟩

abbrev nBuf : Space → Nat
  | .hbm => 365
  | .vmem => 0
  | .smem => 0
  | _ => 0

abbrev hbmTy0_0 (i : Nat) : BufTy := match i % 128 with
  | 0 => ⟨S4096x6272, .f32⟩
  | 1 => ⟨S4096x1024, .f32⟩
  | 2 => ⟨S4x64x512x256, .f32⟩
  | 3 => ⟨S4096x2048, .f32⟩
  | 4 => ⟨S1x512, .f32⟩
  | 5 => ⟨S4096x2048, .f32⟩
  | 6 => ⟨S4096x1024, .f32⟩
  | 7 => ⟨S4096x1024, .f32⟩
  | 8 => ⟨S4096x2048, .f32⟩
  | 9 => ⟨S4096x2048, .f32⟩
  | 10 => ⟨S4096x128, .f32⟩
  | 11 => ⟨S512, .f32⟩
  | 12 => ⟨S4096x4x512, .f32⟩
  | 13 => ⟨S4096x4x512, .f32⟩
  | 14 => ⟨S_, .f32⟩
  | 15 => ⟨S4096x4, .f32⟩
  | 16 => ⟨S4096x4x1, .f32⟩
  | 17 => ⟨S_, .f32⟩
  | 18 => ⟨S4096x4x1, .f32⟩
  | 19 => ⟨S4096x4x1, .f32⟩
  | 20 => ⟨S_, .f32⟩
  | 21 => ⟨S4096x4x1, .f32⟩
  | 22 => ⟨S4096x4x1, .f32⟩
  | 23 => ⟨S4096x4x1, .f32⟩
  | 24 => ⟨S4096x4x1, .f32⟩
  | 25 => ⟨S_, .f32⟩
  | 26 => ⟨S4096x4x1, .f32⟩
  | 27 => ⟨S4096x4x1, .f32⟩
  | 28 => ⟨S4096x4x512, .f32⟩
  | 29 => ⟨S4096x4x512, .f32⟩
  | 30 => ⟨S1x1x512, .f32⟩
  | 31 => ⟨S4096x4x512, .f32⟩
  | 32 => ⟨S4096x4x512, .f32⟩
  | 33 => ⟨S4096x2048, .f32⟩
  | 34 => ⟨S4096x2048, .f32⟩
  | 35 => ⟨S_, .f32⟩
  | 36 => ⟨S4096x2048, .f32⟩
  | 37 => ⟨S4096x2048, .f32⟩
  | 38 => ⟨S_, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S4096x2048, .f32⟩
  | 45 => ⟨S4096x2048, .f32⟩
  | 46 => ⟨S4096x4x512, .f32⟩
  | 47 => ⟨S4096x4x512, .f32⟩
  | 48 => ⟨S4096x2048, .f32⟩
  | 49 => ⟨S4096x4x512, .f32⟩
  | 50 => ⟨S4096x4x512, .f32⟩
  | 51 => ⟨S4096x4x512, .f32⟩
  | 52 => ⟨S4096x2048, .f32⟩
  | 53 => ⟨S4096x2048, .f32⟩
  | 54 => ⟨S4096x2048, .f32⟩
  | 55 => ⟨S4096x2048, .f32⟩
  | 56 => ⟨S4096x2048, .f32⟩
  | 57 => ⟨S4096x4x512, .f32⟩
  | 58 => ⟨S_, .f32⟩
  | 59 => ⟨S512, .f32⟩
  | 60 => ⟨S1x1x512, .f32⟩
  | 61 => ⟨S4096x4x512, .f32⟩
  | 62 => ⟨S4096x4x512, .f32⟩
  | 63 => ⟨S_, .f32⟩
  | 64 => ⟨S512, .f32⟩
  | 65 => ⟨S4096x4x512, .f32⟩
  | 66 => ⟨S_, .f32⟩
  | 67 => ⟨S4096x4, .f32⟩
  | 68 => ⟨S4096x4x1, .f32⟩
  | 69 => ⟨S4096x4x512, .f32⟩
  | 70 => ⟨S4096x4x512, .f32⟩
  | 71 => ⟨S4096x4x1, .f32⟩
  | 72 => ⟨S_, .f32⟩
  | 73 => ⟨S4096x4x1, .f32⟩
  | 74 => ⟨S4096x4x1, .f32⟩
  | 75 => ⟨S_, .f32⟩
  | 76 => ⟨S4096x4, .f32⟩
  | 77 => ⟨S4096x4x512, .f32⟩
  | 78 => ⟨S4096x4x512, .f32⟩
  | 79 => ⟨S4096x4x512, .f32⟩
  | 80 => ⟨S4096x4x512, .f32⟩
  | 81 => ⟨S4096x4x512, .f32⟩
  | 82 => ⟨S4096x2048, .f32⟩
  | 83 => ⟨S64x4x256x512, .f32⟩
  | 84 => ⟨S64x64x4x256, .f32⟩
  | 85 => ⟨S64x4x64x256, .f32⟩
  | 86 => ⟨S64x64x4x256, .f32⟩
  | 87 => ⟨S64x4x64x256, .f32⟩
  | 88 => ⟨S64x64x4x512, .f32⟩
  | 89 => ⟨S64x4x64x512, .f32⟩
  | 90 => ⟨S64x64x4x256, .f32⟩
  | 91 => ⟨S64x4x64x256, .f32⟩
  | 92 => ⟨S64x64x4x512, .f32⟩
  | 93 => ⟨S64x4x64x512, .f32⟩
  | 94 => ⟨S_, .f32⟩
  | 95 => ⟨S4x256x512, .f32⟩
  | 96 => ⟨S_, .f32⟩
  | 97 => ⟨S64x4x64x256, .f32⟩
  | 98 => ⟨S_, .f32⟩
  | 99 => ⟨S64x4x64x256, .f32⟩
  | 100 => ⟨S_, .f32⟩
  | 101 => ⟨S64x4x64x512, .f32⟩
  | 102 => ⟨S_, .f32⟩
  | 103 => ⟨S64x4x64x256, .f32⟩
  | 104 => ⟨S_, .i32⟩
  | 105 => ⟨S64x4x256x512, .f32⟩
  | 106 => ⟨S64x4x64x256, .f32⟩
  | 107 => ⟨S64x4x64x256, .f32⟩
  | 108 => ⟨S64x4x64x512, .f32⟩
  | 109 => ⟨S64x4x64x256, .f32⟩
  | 110 => ⟨S64x4x64x512, .f32⟩
  | 111 => ⟨S_, .i32⟩
  | 112 => ⟨S4x256x512, .f32⟩
  | 113 => ⟨S64x4x64x256, .f32⟩
  | 114 => ⟨S64x4x64x256, .f32⟩
  | 115 => ⟨S64x4x64x512, .f32⟩
  | 116 => ⟨S64x4x64x256, .f32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1x4x256x512, .f32⟩
  | 127 => ⟨S4x256x512, .f32⟩
  | _ => ⟨S4096x6272, .f32⟩

abbrev hbmTy0_1 (i : Nat) : BufTy := match i % 128 with
  | 0 => ⟨S_, .i32⟩
  | 1 => ⟨S_, .i32⟩
  | 2 => ⟨S_, .i32⟩
  | 3 => ⟨S1x4x64x256, .f32⟩
  | 4 => ⟨S4x64x256, .f32⟩
  | 5 => ⟨S_, .i32⟩
  | 6 => ⟨S_, .i32⟩
  | 7 => ⟨S_, .i32⟩
  | 8 => ⟨S1x4x64x256, .f32⟩
  | 9 => ⟨S4x64x256, .f32⟩
  | 10 => ⟨S_, .i32⟩
  | 11 => ⟨S_, .i32⟩
  | 12 => ⟨S_, .i32⟩
  | 13 => ⟨S1x4x64x512, .f32⟩
  | 14 => ⟨S4x64x512, .f32⟩
  | 15 => ⟨S_, .i32⟩
  | 16 => ⟨S_, .i32⟩
  | 17 => ⟨S_, .i32⟩
  | 18 => ⟨S1x4x64x256, .f32⟩
  | 19 => ⟨S4x64x256, .f32⟩
  | 20 => ⟨S_, .i32⟩
  | 21 => ⟨S_, .i32⟩
  | 22 => ⟨S_, .i32⟩
  | 23 => ⟨S1x4x64x512, .f32⟩
  | 24 => ⟨S4x64x512, .f32⟩
  | 25 => ⟨S_, .f32⟩
  | 26 => ⟨S4x64x256, .f32⟩
  | 27 => ⟨S4x64x256, .f32⟩
  | 28 => ⟨S_, .f32⟩
  | 29 => ⟨S_, .f32⟩
  | 30 => ⟨S4x64x256, .f32⟩
  | 31 => ⟨S4x1x256, .f32⟩
  | 32 => ⟨S4x64x256, .f32⟩
  | 33 => ⟨S4x64x256, .f32⟩
  | 34 => ⟨S4x64x256, .f32⟩
  | 35 => ⟨S4x64x256, .f32⟩
  | 36 => ⟨S4x64x256, .f32⟩
  | 37 => ⟨S4x64x256, .f32⟩
  | 38 => ⟨S4x64x256, .f32⟩
  | 39 => ⟨S4x64x256, .f32⟩
  | 40 => ⟨S4x64x256, .f32⟩
  | 41 => ⟨S_, .i1⟩
  | 42 => ⟨S64x64, .i1⟩
  | 43 => ⟨S64x64, .i32⟩
  | 44 => ⟨S_, .i32⟩
  | 45 => ⟨S64x64, .i32⟩
  | 46 => ⟨S64x64, .i32⟩
  | 47 => ⟨S64x64, .i32⟩
  | 48 => ⟨S64x64, .i1⟩
  | 49 => ⟨S_, .i1⟩
  | 50 => ⟨S64x64, .i1⟩
  | 51 => ⟨S64x64, .i1⟩
  | 52 => ⟨S4x64x64, .f32⟩
  | 53 => ⟨S_, .f32⟩
  | 54 => ⟨S_, .f32⟩
  | 55 => ⟨S4x64x64, .i1⟩
  | 56 => ⟨S4x64x64, .f32⟩
  | 57 => ⟨S4x64x64, .f32⟩
  | 58 => ⟨S_, .f32⟩
  | 59 => ⟨S4x64x64, .f32⟩
  | 60 => ⟨S4x64x512, .f32⟩
  | 61 => ⟨S4x64x512, .f32⟩
  | 62 => ⟨S4x256, .f32⟩
  | 63 => ⟨S4x256, .f32⟩
  | 64 => ⟨S4x256x1, .f32⟩
  | 65 => ⟨S4x256x512, .f32⟩
  | 66 => ⟨S4x256x512, .f32⟩
  | 67 => ⟨S4x256x512, .f32⟩
  | 68 => ⟨S4x256x512, .f32⟩
  | 69 => ⟨S4x64x512, .f32⟩
  | 70 => ⟨S4x512x64, .f32⟩
  | 71 => ⟨S4x64x512, .f32⟩
  | 72 => ⟨S4x256x64, .f32⟩
  | 73 => ⟨S4x64x256, .f32⟩
  | 74 => ⟨S4x256x512, .f32⟩
  | 75 => ⟨S_, .f32⟩
  | 76 => ⟨S4x256, .f32⟩
  | 77 => ⟨S4x256x1, .f32⟩
  | 78 => ⟨S4x256x512, .f32⟩
  | 79 => ⟨S4x256x512, .f32⟩
  | 80 => ⟨S_, .f32⟩
  | 81 => ⟨S4x256, .f32⟩
  | 82 => ⟨S4x256, .f32⟩
  | 83 => ⟨S4x1x256, .f32⟩
  | 84 => ⟨S4x512x256, .f32⟩
  | 85 => ⟨S4x256x512, .f32⟩
  | 86 => ⟨S4x256x512, .f32⟩
  | 87 => ⟨S4x64x256, .f32⟩
  | 88 => ⟨S4x512x64, .f32⟩
  | 89 => ⟨S4x64x512, .f32⟩
  | 90 => ⟨S4x64x512, .f32⟩
  | 91 => ⟨S4x64x64, .f32⟩
  | 92 => ⟨S_, .f32⟩
  | 93 => ⟨S4x64x64, .f32⟩
  | 94 => ⟨S4x64x64, .f32⟩
  | 95 => ⟨S4x64x256, .f32⟩
  | 96 => ⟨S4x64x256, .f32⟩
  | 97 => ⟨S4x64x256, .f32⟩
  | 98 => ⟨S4x64x256, .f32⟩
  | 99 => ⟨S4x64x256, .f32⟩
  | 100 => ⟨S4x64x256, .f32⟩
  | 101 => ⟨S_, .f32⟩
  | 102 => ⟨S4x256, .f32⟩
  | 103 => ⟨S4x1x256, .f32⟩
  | 104 => ⟨S4x64x256, .f32⟩
  | 105 => ⟨S4x1x256, .f32⟩
  | 106 => ⟨S4x64x256, .f32⟩
  | 107 => ⟨S4x64x256, .f32⟩
  | 108 => ⟨S4x64x256, .f32⟩
  | 109 => ⟨S4x64x256, .f32⟩
  | 110 => ⟨S4x64x256, .f32⟩
  | 111 => ⟨S4x64x256, .f32⟩
  | 112 => ⟨S4x64x256, .f32⟩
  | 113 => ⟨S4x64x256, .f32⟩
  | 114 => ⟨S4x64x256, .f32⟩
  | 115 => ⟨S4x64x256, .f32⟩
  | 116 => ⟨S_, .f32⟩
  | 117 => ⟨S4x64x256, .f32⟩
  | 118 => ⟨S4x64x256, .f32⟩
  | 119 => ⟨S_, .f32⟩
  | 120 => ⟨S_, .f32⟩
  | 121 => ⟨S4x64x256, .f32⟩
  | 122 => ⟨S_, .f32⟩
  | 123 => ⟨S4x64x256, .f32⟩
  | 124 => ⟨S4x64x256, .f32⟩
  | 125 => ⟨S1x4x64x256, .f32⟩
  | 126 => ⟨S_, .i32⟩
  | 127 => ⟨S_, .i32⟩
  | _ => ⟨S4096x6272, .f32⟩

abbrev hbmTy0_2 (i : Nat) : BufTy := match i % 128 with
  | 0 => ⟨S_, .i32⟩
  | 1 => ⟨S64x4x64x256, .f32⟩
  | 2 => ⟨S1x4x64x256, .f32⟩
  | 3 => ⟨S_, .i32⟩
  | 4 => ⟨S_, .i32⟩
  | 5 => ⟨S_, .i32⟩
  | 6 => ⟨S64x4x64x256, .f32⟩
  | 7 => ⟨S1x4x64x512, .f32⟩
  | 8 => ⟨S_, .i32⟩
  | 9 => ⟨S_, .i32⟩
  | 10 => ⟨S_, .i32⟩
  | 11 => ⟨S64x4x64x512, .f32⟩
  | 12 => ⟨S1x4x64x256, .f32⟩
  | 13 => ⟨S_, .i32⟩
  | 14 => ⟨S_, .i32⟩
  | 15 => ⟨S_, .i32⟩
  | 16 => ⟨S64x4x64x256, .f32⟩
  | 17 => ⟨S_, .i32⟩
  | 18 => ⟨S_, .i32⟩
  | 19 => ⟨S4096x1024, .f32⟩
  | 20 => ⟨S4096x1024, .f32⟩
  | 21 => ⟨S4096x2048, .f32⟩
  | 22 => ⟨S4096x2048, .f32⟩
  | 23 => ⟨S4096x128, .f32⟩
  | 24 => ⟨S512, .f32⟩
  | 25 => ⟨S4096x4x512, .f32⟩
  | 26 => ⟨S4096x4x512, .f32⟩
  | 27 => ⟨S_, .f32⟩
  | 28 => ⟨S4096x4, .f32⟩
  | 29 => ⟨S4096x4x1, .f32⟩
  | 30 => ⟨S_, .f32⟩
  | 31 => ⟨S4096x4x1, .f32⟩
  | 32 => ⟨S4096x4x1, .f32⟩
  | 33 => ⟨S_, .f32⟩
  | 34 => ⟨S4096x4x1, .f32⟩
  | 35 => ⟨S4096x4x1, .f32⟩
  | 36 => ⟨S4096x4x1, .f32⟩
  | 37 => ⟨S4096x4x1, .f32⟩
  | 38 => ⟨S_, .f32⟩
  | 39 => ⟨S4096x4x1, .f32⟩
  | 40 => ⟨S4096x4x1, .f32⟩
  | 41 => ⟨S4096x4x512, .f32⟩
  | 42 => ⟨S4096x4x512, .f32⟩
  | 43 => ⟨S1x1x512, .f32⟩
  | 44 => ⟨S4096x4x512, .f32⟩
  | 45 => ⟨S4096x4x512, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S4096x2048, .f32⟩
  | 58 => ⟨S4096x2048, .f32⟩
  | 59 => ⟨S4096x4x512, .f32⟩
  | 60 => ⟨S4096x4x512, .f32⟩
  | 61 => ⟨S4096x2048, .f32⟩
  | 62 => ⟨S4096x4x512, .f32⟩
  | 63 => ⟨S4096x4x512, .f32⟩
  | 64 => ⟨S4096x4x512, .f32⟩
  | 65 => ⟨S4096x2048, .f32⟩
  | 66 => ⟨S4096x2048, .f32⟩
  | 67 => ⟨S4096x2048, .f32⟩
  | 68 => ⟨S4096x2048, .f32⟩
  | 69 => ⟨S4096x2048, .f32⟩
  | 70 => ⟨S4096x4x512, .f32⟩
  | 71 => ⟨S_, .f32⟩
  | 72 => ⟨S512, .f32⟩
  | 73 => ⟨S1x1x512, .f32⟩
  | 74 => ⟨S4096x4x512, .f32⟩
  | 75 => ⟨S4096x4x512, .f32⟩
  | 76 => ⟨S_, .f32⟩
  | 77 => ⟨S512, .f32⟩
  | 78 => ⟨S4096x4x512, .f32⟩
  | 79 => ⟨S_, .f32⟩
  | 80 => ⟨S4096x4, .f32⟩
  | 81 => ⟨S4096x4x1, .f32⟩
  | 82 => ⟨S4096x4x512, .f32⟩
  | 83 => ⟨S4096x4x512, .f32⟩
  | 84 => ⟨S4096x4x1, .f32⟩
  | 85 => ⟨S_, .f32⟩
  | 86 => ⟨S4096x4x1, .f32⟩
  | 87 => ⟨S4096x4x1, .f32⟩
  | 88 => ⟨S_, .f32⟩
  | 89 => ⟨S4096x4, .f32⟩
  | 90 => ⟨S4096x4x512, .f32⟩
  | 91 => ⟨S4096x4x512, .f32⟩
  | 92 => ⟨S4096x4x512, .f32⟩
  | 93 => ⟨S4096x4x512, .f32⟩
  | 94 => ⟨S4096x4x512, .f32⟩
  | 95 => ⟨S4096x2048, .f32⟩
  | 96 => ⟨S64x64x4x256, .f32⟩
  | 97 => ⟨S4096x1024, .f32⟩
  | 98 => ⟨S4096x1024, .bf16⟩
  | 99 => ⟨S64x64x4x256, .f32⟩
  | 100 => ⟨S4096x1024, .f32⟩
  | 101 => ⟨S4096x1024, .bf16⟩
  | 102 => ⟨S64x64x4x512, .f32⟩
  | 103 => ⟨S4096x2048, .f32⟩
  | 104 => ⟨S4096x2048, .bf16⟩
  | 105 => ⟨S4096x2048, .bf16⟩
  | 106 => ⟨S64x64x4x256, .f32⟩
  | 107 => ⟨S4096x1024, .f32⟩
  | 108 => ⟨S1x512, .f32⟩
  | _ => ⟨S4096x6272, .f32⟩

abbrev hbmTy (i : Nat) : BufTy := match i / 128 with
  | 0 => hbmTy0_0 i
  | 1 => hbmTy0_1 i
  | 2 => hbmTy0_2 i
  | _ => ⟨S4096x6272, .f32⟩

abbrev bufTy : (tb : Table) → Fin (tcTables nBuf tb) → BufTy
  | .hbm, ⟨i, _⟩ => hbmTy i
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_c : Ref sig .tc := ⟨.hbm, 104, rfl⟩
abbrev main_v69_0 : Ref sig .tc := ⟨.hbm, 105, rfl⟩
abbrev main_v69_1 : Ref sig .tc := ⟨.hbm, 106, rfl⟩
abbrev main_v69_2 : Ref sig .tc := ⟨.hbm, 107, rfl⟩
abbrev main_v69_3 : Ref sig .tc := ⟨.hbm, 108, rfl⟩
abbrev main_v69_4 : Ref sig .tc := ⟨.hbm, 109, rfl⟩
abbrev main_v69_5 : Ref sig .tc := ⟨.hbm, 110, rfl⟩
abbrev main_v69_6 : Ref sig .tc := ⟨.hbm, 111, rfl⟩
abbrev main_v69_7 : Ref sig .tc := ⟨.hbm, 112, rfl⟩
abbrev main_v69_8 : Ref sig .tc := ⟨.hbm, 113, rfl⟩
abbrev main_v69_9 : Ref sig .tc := ⟨.hbm, 114, rfl⟩
abbrev main_v69_10 : Ref sig .tc := ⟨.hbm, 115, rfl⟩
abbrev main_v69_11 : Ref sig .tc := ⟨.hbm, 116, rfl⟩
abbrev main_while0c_c_33 : Ref sig .tc := ⟨.hbm, 117, rfl⟩
abbrev main_while0c_v136 : Ref sig .tc := ⟨.hbm, 118, rfl⟩
abbrev main_while0b_c_33 : Ref sig .tc := ⟨.hbm, 119, rfl⟩
abbrev main_while0b_v136 : Ref sig .tc := ⟨.hbm, 120, rfl⟩
abbrev main_while0b_c_34 : Ref sig .tc := ⟨.hbm, 121, rfl⟩
abbrev main_while0b_v137 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_c_1 : Ref sig .tc := ⟨.hbm, 125, rfl⟩
abbrev main_while0b_call2_v0 : Ref sig .tc := ⟨.hbm, 126, rfl⟩
abbrev main_while0b_v138 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_v0 : Ref sig .tc := ⟨.hbm, 131, rfl⟩
abbrev main_while0b_v139 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v140 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_v0 : Ref sig .tc := ⟨.hbm, 141, rfl⟩
abbrev main_while0b_v141 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_v0 : Ref sig .tc := ⟨.hbm, 146, rfl⟩
abbrev main_while0b_v142 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_call7_v0 : Ref sig .tc := ⟨.hbm, 151, rfl⟩
abbrev main_while0b_v143 : Ref sig .tc := ⟨.hbm, 152, rfl⟩
abbrev main_while0b_cst_35 : Ref sig .tc := ⟨.hbm, 153, rfl⟩
abbrev main_while0b_v144 : Ref sig .tc := ⟨.hbm, 154, rfl⟩
abbrev main_while0b_v145 : Ref sig .tc := ⟨.hbm, 155, rfl⟩
abbrev main_while0b_call8_call0_cst : Ref sig .tc := ⟨.hbm, 156, rfl⟩
abbrev main_while0b_call8_call0_v0 : Ref sig .tc := ⟨.hbm, 157, rfl⟩
abbrev main_while0b_v146 : Ref sig .tc := ⟨.hbm, 158, rfl⟩
abbrev main_while0b_v147 : Ref sig .tc := ⟨.hbm, 159, rfl⟩
abbrev main_while0b_v148 : Ref sig .tc := ⟨.hbm, 160, rfl⟩
abbrev main_while0b_v149 : Ref sig .tc := ⟨.hbm, 161, rfl⟩
abbrev main_while0b_v150 : Ref sig .tc := ⟨.hbm, 162, rfl⟩
abbrev main_while0b_v151 : Ref sig .tc := ⟨.hbm, 163, rfl⟩
abbrev main_while0b_v152 : Ref sig .tc := ⟨.hbm, 164, rfl⟩
abbrev main_while0b_v153 : Ref sig .tc := ⟨.hbm, 165, rfl⟩
abbrev main_while0b_v154 : Ref sig .tc := ⟨.hbm, 166, rfl⟩
abbrev main_while0b_v155 : Ref sig .tc := ⟨.hbm, 167, rfl⟩
abbrev main_while0b_v156 : Ref sig .tc := ⟨.hbm, 168, rfl⟩
abbrev main_while0b_c_36 : Ref sig .tc := ⟨.hbm, 169, rfl⟩
abbrev main_while0b_v157 : Ref sig .tc := ⟨.hbm, 170, rfl⟩
abbrev main_while0b_call9_v0 : Ref sig .tc := ⟨.hbm, 171, rfl⟩
abbrev main_while0b_call9_c : Ref sig .tc := ⟨.hbm, 172, rfl⟩
abbrev main_while0b_call9_v1 : Ref sig .tc := ⟨.hbm, 173, rfl⟩
abbrev main_while0b_call9_v2 : Ref sig .tc := ⟨.hbm, 174, rfl⟩
abbrev main_while0b_call9_v3 : Ref sig .tc := ⟨.hbm, 175, rfl⟩
abbrev main_while0b_call9_v4 : Ref sig .tc := ⟨.hbm, 176, rfl⟩
abbrev main_while0b_call9_c_0 : Ref sig .tc := ⟨.hbm, 177, rfl⟩
abbrev main_while0b_call9_v5 : Ref sig .tc := ⟨.hbm, 178, rfl⟩
abbrev main_while0b_v158 : Ref sig .tc := ⟨.hbm, 179, rfl⟩
abbrev main_while0b_v159 : Ref sig .tc := ⟨.hbm, 180, rfl⟩
abbrev main_while0b_cst_37 : Ref sig .tc := ⟨.hbm, 181, rfl⟩
abbrev main_while0b_call10_v0 : Ref sig .tc := ⟨.hbm, 182, rfl⟩
abbrev main_while0b_v160_1 : Ref sig .tc := ⟨.hbm, 183, rfl⟩
abbrev main_while0b_call10_v2 : Ref sig .tc := ⟨.hbm, 184, rfl⟩
abbrev main_while0b_v160_0 : Ref sig .tc := ⟨.hbm, 185, rfl⟩
abbrev main_while0b_call10_cst : Ref sig .tc := ⟨.hbm, 186, rfl⟩
abbrev main_while0b_v160_2 : Ref sig .tc := ⟨.hbm, 187, rfl⟩
abbrev main_while0b_v161 : Ref sig .tc := ⟨.hbm, 188, rfl⟩
abbrev main_while0b_v162 : Ref sig .tc := ⟨.hbm, 189, rfl⟩
abbrev main_while0b_v163 : Ref sig .tc := ⟨.hbm, 190, rfl⟩
abbrev main_while0b_v164 : Ref sig .tc := ⟨.hbm, 191, rfl⟩
abbrev main_while0b_v165 : Ref sig .tc := ⟨.hbm, 192, rfl⟩
abbrev main_while0b_v166 : Ref sig .tc := ⟨.hbm, 193, rfl⟩
abbrev main_while0b_v167 : Ref sig .tc := ⟨.hbm, 194, rfl⟩
abbrev main_while0b_v168 : Ref sig .tc := ⟨.hbm, 195, rfl⟩
abbrev main_while0b_v169 : Ref sig .tc := ⟨.hbm, 196, rfl⟩
abbrev main_while0b_v170 : Ref sig .tc := ⟨.hbm, 197, rfl⟩
abbrev main_while0b_v171 : Ref sig .tc := ⟨.hbm, 198, rfl⟩
abbrev main_while0b_v172 : Ref sig .tc := ⟨.hbm, 199, rfl⟩
abbrev main_while0b_v173 : Ref sig .tc := ⟨.hbm, 200, rfl⟩
abbrev main_while0b_v174 : Ref sig .tc := ⟨.hbm, 201, rfl⟩
abbrev main_while0b_v175 : Ref sig .tc := ⟨.hbm, 202, rfl⟩
abbrev main_while0b_cst_38 : Ref sig .tc := ⟨.hbm, 203, rfl⟩
abbrev main_while0b_v176 : Ref sig .tc := ⟨.hbm, 204, rfl⟩
abbrev main_while0b_v177 : Ref sig .tc := ⟨.hbm, 205, rfl⟩
abbrev main_while0b_v178 : Ref sig .tc := ⟨.hbm, 206, rfl⟩
abbrev main_while0b_v179 : Ref sig .tc := ⟨.hbm, 207, rfl⟩
abbrev main_while0b_cst_39 : Ref sig .tc := ⟨.hbm, 208, rfl⟩
abbrev main_while0b_v180 : Ref sig .tc := ⟨.hbm, 209, rfl⟩
abbrev main_while0b_v181 : Ref sig .tc := ⟨.hbm, 210, rfl⟩
abbrev main_while0b_v182 : Ref sig .tc := ⟨.hbm, 211, rfl⟩
abbrev main_while0b_v183 : Ref sig .tc := ⟨.hbm, 212, rfl⟩
abbrev main_while0b_v184 : Ref sig .tc := ⟨.hbm, 213, rfl⟩
abbrev main_while0b_v185 : Ref sig .tc := ⟨.hbm, 214, rfl⟩
abbrev main_while0b_v186 : Ref sig .tc := ⟨.hbm, 215, rfl⟩
abbrev main_while0b_v187 : Ref sig .tc := ⟨.hbm, 216, rfl⟩
abbrev main_while0b_v188 : Ref sig .tc := ⟨.hbm, 217, rfl⟩
abbrev main_while0b_v189 : Ref sig .tc := ⟨.hbm, 218, rfl⟩
abbrev main_while0b_v190 : Ref sig .tc := ⟨.hbm, 219, rfl⟩
abbrev main_while0b_call11_cst : Ref sig .tc := ⟨.hbm, 220, rfl⟩
abbrev main_while0b_call11_v0 : Ref sig .tc := ⟨.hbm, 221, rfl⟩
abbrev main_while0b_v191 : Ref sig .tc := ⟨.hbm, 222, rfl⟩
abbrev main_while0b_v192 : Ref sig .tc := ⟨.hbm, 223, rfl⟩
abbrev main_while0b_v193 : Ref sig .tc := ⟨.hbm, 224, rfl⟩
abbrev main_while0b_v194 : Ref sig .tc := ⟨.hbm, 225, rfl⟩
abbrev main_while0b_v195 : Ref sig .tc := ⟨.hbm, 226, rfl⟩
abbrev main_while0b_v196 : Ref sig .tc := ⟨.hbm, 227, rfl⟩
abbrev main_while0b_v197 : Ref sig .tc := ⟨.hbm, 228, rfl⟩
abbrev main_while0b_cst_40 : Ref sig .tc := ⟨.hbm, 229, rfl⟩
abbrev main_while0b_v198 : Ref sig .tc := ⟨.hbm, 230, rfl⟩
abbrev main_while0b_v199 : Ref sig .tc := ⟨.hbm, 231, rfl⟩
abbrev main_while0b_v200 : Ref sig .tc := ⟨.hbm, 232, rfl⟩
abbrev main_while0b_v201 : Ref sig .tc := ⟨.hbm, 233, rfl⟩
abbrev main_while0b_v202 : Ref sig .tc := ⟨.hbm, 234, rfl⟩
abbrev main_while0b_v203 : Ref sig .tc := ⟨.hbm, 235, rfl⟩
abbrev main_while0b_v204 : Ref sig .tc := ⟨.hbm, 236, rfl⟩
abbrev main_while0b_v205 : Ref sig .tc := ⟨.hbm, 237, rfl⟩
abbrev main_while0b_v206 : Ref sig .tc := ⟨.hbm, 238, rfl⟩
abbrev main_while0b_v207 : Ref sig .tc := ⟨.hbm, 239, rfl⟩
abbrev main_while0b_v208 : Ref sig .tc := ⟨.hbm, 240, rfl⟩
abbrev main_while0b_v209 : Ref sig .tc := ⟨.hbm, 241, rfl⟩
abbrev main_while0b_v210 : Ref sig .tc := ⟨.hbm, 242, rfl⟩
abbrev main_while0b_v211 : Ref sig .tc := ⟨.hbm, 243, rfl⟩
abbrev main_while0b_cst_41 : Ref sig .tc := ⟨.hbm, 244, rfl⟩
abbrev main_while0b_v212 : Ref sig .tc := ⟨.hbm, 245, rfl⟩
abbrev main_while0b_v213 : Ref sig .tc := ⟨.hbm, 246, rfl⟩
abbrev main_while0b_call12_call0_cst : Ref sig .tc := ⟨.hbm, 247, rfl⟩
abbrev main_while0b_call12_call0_v0 : Ref sig .tc := ⟨.hbm, 248, rfl⟩
abbrev main_while0b_v214 : Ref sig .tc := ⟨.hbm, 249, rfl⟩
abbrev main_while0b_cst_42 : Ref sig .tc := ⟨.hbm, 250, rfl⟩
abbrev main_while0b_v215 : Ref sig .tc := ⟨.hbm, 251, rfl⟩
abbrev main_while0b_v216 : Ref sig .tc := ⟨.hbm, 252, rfl⟩
abbrev main_while0b_call13_v0 : Ref sig .tc := ⟨.hbm, 253, rfl⟩
abbrev main_while0b_call13_c : Ref sig .tc := ⟨.hbm, 254, rfl⟩
abbrev main_while0b_call13_c_0 : Ref sig .tc := ⟨.hbm, 255, rfl⟩
abbrev main_while0b_call13_c_1 : Ref sig .tc := ⟨.hbm, 256, rfl⟩
abbrev main_while0b_v217 : Ref sig .tc := ⟨.hbm, 257, rfl⟩
abbrev main_while0b_call14_v0 : Ref sig .tc := ⟨.hbm, 258, rfl⟩
abbrev main_while0b_call14_c : Ref sig .tc := ⟨.hbm, 259, rfl⟩
abbrev main_while0b_call14_c_0 : Ref sig .tc := ⟨.hbm, 260, rfl⟩
abbrev main_while0b_call14_c_1 : Ref sig .tc := ⟨.hbm, 261, rfl⟩
abbrev main_while0b_v218 : Ref sig .tc := ⟨.hbm, 262, rfl⟩
abbrev main_while0b_call15_v0 : Ref sig .tc := ⟨.hbm, 263, rfl⟩
abbrev main_while0b_call15_c : Ref sig .tc := ⟨.hbm, 264, rfl⟩
abbrev main_while0b_call15_c_0 : Ref sig .tc := ⟨.hbm, 265, rfl⟩
abbrev main_while0b_call15_c_1 : Ref sig .tc := ⟨.hbm, 266, rfl⟩
abbrev main_while0b_v219 : Ref sig .tc := ⟨.hbm, 267, rfl⟩
abbrev main_while0b_call16_v0 : Ref sig .tc := ⟨.hbm, 268, rfl⟩
abbrev main_while0b_call16_c : Ref sig .tc := ⟨.hbm, 269, rfl⟩
abbrev main_while0b_call16_c_0 : Ref sig .tc := ⟨.hbm, 270, rfl⟩
abbrev main_while0b_call16_c_1 : Ref sig .tc := ⟨.hbm, 271, rfl⟩
abbrev main_while0b_v220 : Ref sig .tc := ⟨.hbm, 272, rfl⟩
abbrev main_while0b_c_43 : Ref sig .tc := ⟨.hbm, 273, rfl⟩
abbrev main_while0b_v221 : Ref sig .tc := ⟨.hbm, 274, rfl⟩
abbrev main_v70 : Ref sig .tc := ⟨.hbm, 275, rfl⟩
abbrev main_v71 : Ref sig .tc := ⟨.hbm, 276, rfl⟩
abbrev main_v72 : Ref sig .tc := ⟨.hbm, 277, rfl⟩
abbrev main_v73 : Ref sig .tc := ⟨.hbm, 278, rfl⟩
abbrev main_v74 : Ref sig .tc := ⟨.hbm, 279, rfl⟩
abbrev main_v75 : Ref sig .tc := ⟨.hbm, 280, rfl⟩
abbrev main_v76 : Ref sig .tc := ⟨.hbm, 281, rfl⟩
abbrev main_v77 : Ref sig .tc := ⟨.hbm, 282, rfl⟩
abbrev main_cst_13 : Ref sig .tc := ⟨.hbm, 283, rfl⟩
abbrev main_v78 : Ref sig .tc := ⟨.hbm, 284, rfl⟩
abbrev main_v79 : Ref sig .tc := ⟨.hbm, 285, rfl⟩
abbrev main_cst_14 : Ref sig .tc := ⟨.hbm, 286, rfl⟩
abbrev main_v80 : Ref sig .tc := ⟨.hbm, 287, rfl⟩
abbrev main_v81 : Ref sig .tc := ⟨.hbm, 288, rfl⟩
abbrev main_cst_15 : Ref sig .tc := ⟨.hbm, 289, rfl⟩
abbrev main_v82 : Ref sig .tc := ⟨.hbm, 290, rfl⟩
abbrev main_v83 : Ref sig .tc := ⟨.hbm, 291, rfl⟩
abbrev main_v84 : Ref sig .tc := ⟨.hbm, 292, rfl⟩
abbrev main_v85 : Ref sig .tc := ⟨.hbm, 293, rfl⟩
abbrev main_cst_16 : Ref sig .tc := ⟨.hbm, 294, rfl⟩
abbrev main_v86 : Ref sig .tc := ⟨.hbm, 295, rfl⟩
abbrev main_v87 : Ref sig .tc := ⟨.hbm, 296, rfl⟩
abbrev main_v88 : Ref sig .tc := ⟨.hbm, 297, rfl⟩
abbrev main_v89 : Ref sig .tc := ⟨.hbm, 298, rfl⟩
abbrev main_v90 : Ref sig .tc := ⟨.hbm, 299, rfl⟩
abbrev main_v91 : Ref sig .tc := ⟨.hbm, 300, rfl⟩
abbrev main_v92 : Ref sig .tc := ⟨.hbm, 301, rfl⟩
abbrev main_call17_v0 : Ref sig .tc := ⟨.hbm, 302, rfl⟩
abbrev main_call17_v1 : Ref sig .tc := ⟨.hbm, 303, rfl⟩
abbrev main_call17_cst : Ref sig .tc := ⟨.hbm, 304, rfl⟩
abbrev main_call17_v2 : Ref sig .tc := ⟨.hbm, 305, rfl⟩
abbrev main_call17_v3 : Ref sig .tc := ⟨.hbm, 306, rfl⟩
abbrev main_call17_cst_0 : Ref sig .tc := ⟨.hbm, 307, rfl⟩
abbrev main_call17_v4 : Ref sig .tc := ⟨.hbm, 308, rfl⟩
abbrev main_v93_2 : Ref sig .tc := ⟨.hbm, 309, rfl⟩
abbrev main_call17_cst_1 : Ref sig .tc := ⟨.hbm, 310, rfl⟩
abbrev main_call17_v6 : Ref sig .tc := ⟨.hbm, 311, rfl⟩
abbrev main_call17_v7 : Ref sig .tc := ⟨.hbm, 312, rfl⟩
abbrev main_v93_1 : Ref sig .tc := ⟨.hbm, 313, rfl⟩
abbrev main_v93_0 : Ref sig .tc := ⟨.hbm, 314, rfl⟩
abbrev main_v94 : Ref sig .tc := ⟨.hbm, 315, rfl⟩
abbrev main_v95 : Ref sig .tc := ⟨.hbm, 316, rfl⟩
abbrev main_v96 : Ref sig .tc := ⟨.hbm, 317, rfl⟩
abbrev main_v97 : Ref sig .tc := ⟨.hbm, 318, rfl⟩
abbrev main_v98 : Ref sig .tc := ⟨.hbm, 319, rfl⟩
abbrev main_v99 : Ref sig .tc := ⟨.hbm, 320, rfl⟩
abbrev main_v100 : Ref sig .tc := ⟨.hbm, 321, rfl⟩
abbrev main_call18_v0 : Ref sig .tc := ⟨.hbm, 322, rfl⟩
abbrev main_call18_v1 : Ref sig .tc := ⟨.hbm, 323, rfl⟩
abbrev main_call18_v2 : Ref sig .tc := ⟨.hbm, 324, rfl⟩
abbrev main_v101 : Ref sig .tc := ⟨.hbm, 325, rfl⟩
abbrev main_v102 : Ref sig .tc := ⟨.hbm, 326, rfl⟩
abbrev main_cst_17 : Ref sig .tc := ⟨.hbm, 327, rfl⟩
abbrev main_v103 : Ref sig .tc := ⟨.hbm, 328, rfl⟩
abbrev main_v104 : Ref sig .tc := ⟨.hbm, 329, rfl⟩
abbrev main_v105 : Ref sig .tc := ⟨.hbm, 330, rfl⟩
abbrev main_v106 : Ref sig .tc := ⟨.hbm, 331, rfl⟩
abbrev main_cst_18 : Ref sig .tc := ⟨.hbm, 332, rfl⟩
abbrev main_v107 : Ref sig .tc := ⟨.hbm, 333, rfl⟩
abbrev main_v108 : Ref sig .tc := ⟨.hbm, 334, rfl⟩
abbrev main_cst_19 : Ref sig .tc := ⟨.hbm, 335, rfl⟩
abbrev main_v109 : Ref sig .tc := ⟨.hbm, 336, rfl⟩
abbrev main_v110 : Ref sig .tc := ⟨.hbm, 337, rfl⟩
abbrev main_v111 : Ref sig .tc := ⟨.hbm, 338, rfl⟩
abbrev main_v112 : Ref sig .tc := ⟨.hbm, 339, rfl⟩
abbrev main_v113 : Ref sig .tc := ⟨.hbm, 340, rfl⟩
abbrev main_cst_20 : Ref sig .tc := ⟨.hbm, 341, rfl⟩
abbrev main_v114 : Ref sig .tc := ⟨.hbm, 342, rfl⟩
abbrev main_v115 : Ref sig .tc := ⟨.hbm, 343, rfl⟩
abbrev main_cst_21 : Ref sig .tc := ⟨.hbm, 344, rfl⟩
abbrev main_v116 : Ref sig .tc := ⟨.hbm, 345, rfl⟩
abbrev main_v117 : Ref sig .tc := ⟨.hbm, 346, rfl⟩
abbrev main_v118 : Ref sig .tc := ⟨.hbm, 347, rfl⟩
abbrev main_v119 : Ref sig .tc := ⟨.hbm, 348, rfl⟩
abbrev main_v120 : Ref sig .tc := ⟨.hbm, 349, rfl⟩
abbrev main_v121 : Ref sig .tc := ⟨.hbm, 350, rfl⟩
abbrev main_v122 : Ref sig .tc := ⟨.hbm, 351, rfl⟩
abbrev main_v123 : Ref sig .tc := ⟨.hbm, 352, rfl⟩
abbrev main_v124 : Ref sig .tc := ⟨.hbm, 353, rfl⟩
abbrev main_v125 : Ref sig .tc := ⟨.hbm, 354, rfl⟩
abbrev main_v126 : Ref sig .tc := ⟨.hbm, 355, rfl⟩
abbrev main_v127 : Ref sig .tc := ⟨.hbm, 356, rfl⟩
abbrev main_v128 : Ref sig .tc := ⟨.hbm, 357, rfl⟩
abbrev main_v129 : Ref sig .tc := ⟨.hbm, 358, rfl⟩
abbrev main_v130 : Ref sig .tc := ⟨.hbm, 359, rfl⟩
abbrev main_v131 : Ref sig .tc := ⟨.hbm, 360, rfl⟩
abbrev main_v132 : Ref sig .tc := ⟨.hbm, 361, rfl⟩
abbrev main_v133 : Ref sig .tc := ⟨.hbm, 362, rfl⟩
abbrev main_v134 : Ref sig .tc := ⟨.hbm, 363, rfl⟩
abbrev main_v135 : Ref sig .tc := ⟨.hbm, 364, rfl⟩

abbrev nD : Nat := 1
abbrev τ : Topo := Topo.v7x

variable {F : FTy → Type} [FloatOps F]

abbrev main_while0_count : Scf.Loop 32 := ⟨0#32, 64#32, 1#32⟩
-- ==== Up.lean ====
abbrev S4096x2048 : Shape := ⟨2, ![4096, 2048]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S4096x5632 : Shape := ⟨2, ![4096, 5632]⟩
abbrev S1x5632x2048 : Shape := ⟨3, ![1, 5632, 2048]⟩
abbrev S4096x2048 : Shape := ⟨2, ![4096, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x5632 : Shape := ⟨2, ![4096, 5632]⟩
abbrev S1x5632x2048 : Shape := ⟨3, ![1, 5632, 2048]⟩
abbrev S4096x2048 : Shape := ⟨2, ![4096, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x5632, .f32⟩
  | .hbm, ⟨4, _⟩ => ⟨S5632x2048, .bf16⟩
  | .hbm, ⟨5, _⟩ => ⟨S5632x2048, .f32⟩
  | .hbm, ⟨6, _⟩ => ⟨S4096x2048, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .bf16⟩
  | .hbm, ⟨9, _⟩ => ⟨S4096x5632, .bf16⟩
  | .hbm, ⟨10, _⟩ => ⟨S4096x5632, .f32⟩
  | .hbm, ⟨11, _⟩ => ⟨S1x4096x5632, .bf16⟩
  | .hbm, ⟨12, _⟩ => ⟨S4096x5632, .bf16⟩
  | .hbm, ⟨13, _⟩ => ⟨S4096x5632, .f32⟩
  | .hbm, ⟨14, _⟩ => ⟨S4096x11264, .f32⟩
  | .hbm, ⟨15, _⟩ => ⟨S11264x2048, .f32⟩
  | .hbm, ⟨16, _⟩ => ⟨S2048x11264, .f32⟩
  | .hbm, ⟨17, _⟩ => ⟨S2048x8x1408, .f32⟩
  | .hbm, ⟨18, _⟩ => ⟨S8x2048x1408, .f32⟩
  | .hbm, ⟨19, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | .hbm, ⟨9, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x2048 : Shape := ⟨2, ![4096, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x5632x2048, .bf16⟩
  | .hbm, ⟨2, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x2048 : Shape := ⟨2, ![4096, 2048]⟩
abbrev S1x5632x2048 : Shape := ⟨3, ![1, 5632, 2048]⟩
abbrev S_ : Shape := ⟨0, ![]⟩
abbrev S4096x5632 : Shape := ⟨2, ![4096, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x5632x2048, .bf16⟩
  | .hbm, ⟨2, _⟩ => ⟨S_, .f32⟩
  | .hbm, ⟨3, _⟩ => ⟨S4096x5632, .f32⟩
  | .hbm, ⟨4, _⟩ => ⟨S5632x2048, .bf16⟩
  | .hbm, ⟨5, _⟩ => ⟨S5632x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GlaIn.lean ====
abbrev S4096x2048 : Shape := ⟨2, ![4096, 2048]⟩
abbrev S1x2048x6272 : Shape := ⟨3, ![1, 2048, 6272]⟩
abbrev S4096x6272 : Shape := ⟨2, ![4096, 6272]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1x2048x6272, .bf16⟩
  | .hbm, ⟨2, _⟩ => ⟨S4096x6272, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInReferenceIdeal.lean ====
abbrev S4096x2048 : Shape := ⟨2, ![4096, 2048]⟩
abbrev S1x2048x6272 : Shape := ⟨3, ![1, 2048, 6272]⟩
abbrev S2048x6272 : Shape := ⟨2, ![2048, 6272]⟩
abbrev S4096x6272 : Shape := ⟨2, ![4096, 6272]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x6272, .bf16⟩
  | .hbm, ⟨2, _⟩ => ⟨S4096x2048, .f32⟩
  | .hbm, ⟨3, _⟩ => ⟨S2048x6272, .bf16⟩
  | .hbm, ⟨4, _⟩ => ⟨S2048x6272, .f32⟩
  | .hbm, ⟨5, _⟩ => ⟨S4096x6272, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GlaOut.lean ====
abbrev S4096x2048 : Shape := ⟨2, ![4096, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GlaOutReferenceIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QProj.lean ====
abbrev S4096x2048 : Shape := ⟨2, ![4096, 2048]⟩
abbrev S8x2048x768 : Shape := ⟨3, ![8, 2048, 768]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjReferenceIdeal.lean ====
abbrev S4096x2048 : Shape := ⟨2, ![4096, 2048]⟩
abbrev S8x2048x768 : Shape := ⟨3, ![8, 2048, 768]⟩
abbrev S2048x8x768 : Shape := ⟨3, ![2048, 8, 768]⟩
abbrev S2048x6144 : Shape := ⟨2, ![2048, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S4096x2048, .f32⟩
  | .hbm, ⟨3, _⟩ => ⟨S2048x8x768, .bf16⟩
  | .hbm, ⟨4, _⟩ => ⟨S2048x6144, .bf16⟩
  | .hbm, ⟨5, _⟩ => ⟨S2048x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvProj.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjReferenceIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .f32⟩
  | .hbm, ⟨3, _⟩ => ⟨S2048x8x512, .bf16⟩
  | .hbm, ⟨4, _⟩ => ⟨S2048x4096, .bf16⟩
  | .hbm, ⟨5, _⟩ => ⟨S2048x4096, .f32⟩
  | .hbm, ⟨6, _⟩ => ⟨S4096x4096, .f32⟩
  | .hbm, ⟨7, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DsaOut.lean ====
abbrev S4096x2048 : Shape := ⟨2, ![4096, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DsaOutReferenceIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .bf16⟩
  | .hbm, ⟨2, _⟩ => ⟨S4096x2048, .f32⟩
  | .hbm, ⟨3, _⟩ => ⟨S2048x2048, .bf16⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaInDw.lean ====
abbrev S4096x2048 : Shape := ⟨2, ![4096, 2048]⟩
abbrev S4096x6272 : Shape := ⟨2, ![4096, 6272]⟩
abbrev S1x2048x6272 : Shape := ⟨3, ![1, 2048, 6272]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S1x2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInDwReferenceIdeal.lean ====
abbrev S4096x2048 : Shape := ⟨2, ![4096, 2048]⟩
abbrev S4096x6272 : Shape := ⟨2, ![4096, 6272]⟩
abbrev S_ : Shape := ⟨0, ![]⟩
abbrev S2048x6272 : Shape := ⟨2, ![2048, 6272]⟩
abbrev S6272x2048 : Shape := ⟨2, ![6272, 2048]⟩
abbrev S1x2048x6272 : Shape := ⟨3, ![1, 2048, 6272]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S_, .f32⟩
  | .hbm, ⟨3, _⟩ => ⟨S2048x6272, .f32⟩
  | .hbm, ⟨4, _⟩ => ⟨S4096x2048, .f32⟩
  | .hbm, ⟨5, _⟩ => ⟨S4096x6272, .f32⟩
  | .hbm, ⟨6, _⟩ => ⟨S4096x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | .hbm, ⟨10, _⟩ => ⟨S1x2048x6272, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GlaOutDw.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaOutDwReferenceIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DsaOutDw.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DsaOutDwReferenceIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x2048 : Shape := ⟨2, ![4096, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .bf16⟩
  | .hbm, ⟨2, _⟩ => ⟨S_, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QProjDw.lean ====
abbrev S4096x2048 : Shape := ⟨2, ![4096, 2048]⟩
abbrev S4096x6144 : Shape := ⟨2, ![4096, 6144]⟩
abbrev S8x2048x768 : Shape := ⟨3, ![8, 2048, 768]⟩
abbrev S2048x1024 : Shape := ⟨2, ![2048, 1024]⟩
abbrev S2048x1536 : Shape := ⟨2, ![2048, 1536]⟩
abbrev S2x1024x768 : Shape := ⟨3, ![2, 1024, 768]⟩
abbrev S1x1024x768 : Shape := ⟨3, ![1, 1024, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .f32⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .f32⟩
  | .local _ .vmem, ⟨3, _⟩ => ⟨S2048x1536, .f32⟩
  | .local _ .vmem, ⟨4, _⟩ => ⟨S2x1024x768, .bf16⟩
  | .local _ .vmem, ⟨5, _⟩ => ⟨S2x1024x768, .bf16⟩
  | .local _ .vmem, ⟨6, _⟩ => ⟨S2x1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjDwReferenceIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .f32⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S6144x2048, .f32⟩
  | .hbm, ⟨7, _⟩ => ⟨S2048x6144, .f32⟩
  | .hbm, ⟨8, _⟩ => ⟨S2048x8x768, .f32⟩
  | .hbm, ⟨9, _⟩ => ⟨S8x2048x768, .f32⟩
  | .hbm, ⟨10, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvProjDw.lean ====
abbrev S4096x2048 : Shape := ⟨2, ![4096, 2048]⟩
abbrev S2x4096x2048 : Shape := ⟨3, ![2, 4096, 2048]⟩
abbrev S8x2048x512 : Shape := ⟨3, ![8, 2048, 512]⟩
abbrev S2048x1024 : Shape := ⟨2, ![2048, 1024]⟩
abbrev S1x2048x1024 : Shape := ⟨3, ![1, 2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .f32⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjDwReferenceIdeal.lean ====
abbrev S4096x2048 : Shape := ⟨2, ![4096, 2048]⟩
abbrev S2x4096x2048 : Shape := ⟨3, ![2, 4096, 2048]⟩
abbrev S_ : Shape := ⟨0, ![]⟩
abbrev S2048x4096 : Shape := ⟨2, ![2048, 4096]⟩
abbrev S4096x4096 : Shape := ⟨2, ![4096, 4096]⟩
abbrev S1x4096x2048 : Shape := ⟨3, ![1, 4096, 2048]⟩
abbrev S2048x8x512 : Shape := ⟨3, ![2048, 8, 512]⟩
abbrev S8x2048x512 : Shape := ⟨3, ![8, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .f32⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S1x4096x2048, .f32⟩
  | .hbm, ⟨11, _⟩ => ⟨S4096x2048, .f32⟩
  | .hbm, ⟨12, _⟩ => ⟨S4096x4096, .f32⟩
  | .hbm, ⟨13, _⟩ => ⟨S4096x2048, .f32⟩
  | .hbm, ⟨14, _⟩ => ⟨S2048x4096, .f32⟩
  | .hbm, ⟨15, _⟩ => ⟨S2048x8x512, .f32⟩
  | .hbm, ⟨16, _⟩ => ⟨S8x2048x512, .f32⟩
  | .hbm, ⟨17, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Chunk.lean ====
/- What the kernel does with ONE chunk of one head, as functions of the blocks it loads: the chunk's queries, keys, values,
   decays, forward output, head gain, gate input and incoming cotangent, the state saved before the chunk, and the
   cotangent of the state after it. The kernel's body is sixteen copies of these functions, one per head and chunk of a
   grid point; the operations are the printed ones in the printed order. -/
module

public import proofs.«01_k».proof.Proof.Gen.KernelIdeal

@[expose] public section

noncomputable section

namespace Cert.Chunk

open Idealize.ShloMosaic Cert.KernelIdeal
open Cert.KernelIdeal.Facts₀ Cert.KernelIdeal.Facts

variable {F : FTy → Type} [FloatOps F]

/-! ## The gated RMS norm -/

/-- The reciprocal root mean square of the rows. -/
def rinv (o : FVec F S64x512 .f32) : FVec F S64x1 .f32 :=
  rsqrt (addf (divf (shapeCast S64x1 (multiReduction .add [1] S64 (mulf o o) 0x00000000#32 reduces_S64x512_S64 (.inl rfl) rfl)
    shapeCasts_S64_S64x1) (broadcast S64x1 (Scalar.ofBits .f32 0x44000000#32))) (broadcast S64x1 (Scalar.ofBits .f32 0x358637BD#32)))
/-- The normalised rows. -/
def ohat (o : FVec F S64x512 .f32) : FVec F S64x512 .f32 := mulf o (broadcastTo S64x512 (rinv o) broadcasts_S64x1_S64x512)
/-- The cotangent behind the gate. -/
def dnorm (r dog : FVec F S64x512 .f32) : FVec F S64x512 .f32 := mulf dog (mulf r (logistic r))
/-- The cotangent of the gate's input. -/
def dgate (hn : FVec F S1x512 .f32) (o r dog : FVec F S64x512 .f32) : FVec F S64x512 .bf16 :=
  truncf .bf16 (mulf (mulf dog (mulf (ohat o) (broadcastTo S64x512 hn broadcasts_S1x512_S64x512)))
    (mulf (logistic r) (addf (broadcast S64x512 (Scalar.ofBits .f32 0x3F800000#32))
      (mulf r (subf (broadcast S64x512 (Scalar.ofBits .f32 0x3F800000#32)) (logistic r)))))) bitsLt_bf16_f32
/-- The head gain's cotangent, added to what is there. -/
def dgain (acc : FVec F S1x512 .f32) (o r dog : FVec F S64x512 .f32) : FVec F S1x512 .f32 :=
  addf (shapeCast S1x512 acc shapeCasts_S1x512_S1x512)
    (shapeCast S1x512 (multiReduction .add [0] S512 (mulf (dnorm r dog) (ohat o)) 0x00000000#32 reduces_S64x512_S512 (.inl rfl) rfl)
      shapeCasts_S512_S1x512)
/-- The cotangent of the normalised rows. -/
def dohat (hn : FVec F S1x512 .f32) (r dog : FVec F S64x512 .f32) : FVec F S64x512 .f32 :=
  mulf (dnorm r dog) (broadcastTo S64x512 hn broadcasts_S1x512_S64x512)
/-- The cotangent of the recurrence's output. -/
def dout (hn : FVec F S1x512 .f32) (o r dog : FVec F S64x512 .f32) : FVec F S64x512 .f32 :=
  mulf (broadcastTo S64x512 (rinv o) broadcasts_S64x1_S64x512)
    (subf (dohat hn r dog) (mulf (ohat o) (broadcastTo S64x512 (divf (shapeCast S64x1
      (multiReduction .add [1] S64 (mulf (dohat hn r dog) (ohat o)) 0x00000000#32 reduces_S64x512_S64 (.inl rfl) rfl)
      shapeCasts_S64_S64x1) (broadcast S64x1 (Scalar.ofBits .f32 0x44000000#32))) broadcasts_S64x1_S64x512)))

/-! ## The chunk's decays -/

def causal : IVec S64x64 1 :=
  cmpi .sge (iota .tc S64x64 32 [0] iota_S64x64_d0_w32) (iota .tc S64x64 32 [1] iota_S64x64_d1_w32)
def anticausal : IVec S64x64 1 :=
  cmpi .sle (iota .tc S64x64 32 [0] iota_S64x64_d0_w32) (iota .tc S64x64 32 [1] iota_S64x64_d1_w32)
/-- A mask's product with an array split in three parts, each rounded. -/
def maskedSum (m : IVec S64x64 1) (x : FVec F S64x256 .f32) : FVec F S64x256 .f32 :=
  have mm : FVec F S64x64 .bf16 := truncf .bf16 (sitofp .f32 (extui 32 m natLt_1_32)) bitsLt_bf16_f32
  have hi : FVec F S64x256 .bf16 := truncf .bf16 x bitsLt_bf16_f32
  have rest : FVec F S64x256 .f32 := subf x (extf .f32 hi bitsLt_bf16_f32)
  have mid : FVec F S64x256 .bf16 := truncf .bf16 rest bitsLt_bf16_f32
  have lo : FVec F S64x256 .bf16 := truncf .bf16 (subf rest (extf .f32 mid bitsLt_bf16_f32)) bitsLt_bf16_f32
  addf (addf (matmul dot_S64x64_S64x256_S64x256_1_0_0_1_n_n none mm hi (constant S64x256 .f32 0x00000000#32))
      (matmul dot_S64x64_S64x256_S64x256_1_0_0_1_n_n none mm mid (constant S64x256 .f32 0x00000000#32)))
    (matmul dot_S64x64_S64x256_S64x256_1_0_0_1_n_n none mm lo (constant S64x256 .f32 0x00000000#32))
/-- The running sums of the log decays, and their total. -/
def cum (la : FVec F S64x256 .f32) : FVec F S64x256 .f32 := maskedSum causal la
def tot (la : FVec F S64x256 .f32) : FVec F S1x256 .f32 :=
  shapeCast S1x256 (multiReduction .add [0] S256 la 0x00000000#32 reduces_S64x256_S256 (.inl rfl) rfl) shapeCasts_S256_S1x256
/-- The three exponentials, and the total's. -/
def eneg (la : FVec F S64x256 .f32) : FVec F S64x256 .f32 :=
  exp (subf (broadcast S64x256 (Scalar.ofBits .f32 0x00000000#32)) (cum la))
def eend (la : FVec F S64x256 .f32) : FVec F S64x256 .f32 :=
  exp (subf (broadcastTo S64x256 (tot la) broadcasts_S1x256_S64x256) (cum la))
def qdec (q la : FVec F S64x256 .f32) : FVec F S64x256 .f32 :=
  mulf (mulf q (broadcast S64x256 (Scalar.ofBits .f32 0x3D800000#32))) (exp (cum la))
def kinv (k la : FVec F S64x256 .f32) : FVec F S64x256 .f32 := mulf k (eneg la)
def kend (k la : FVec F S64x256 .f32) : FVec F S64x256 .f32 := mulf k (eend la)

/-! ## The chunk's products -/

def slab (x : FVec F S1x512x256 .f32) : FVec F S512x256 .f32 := shapeCast S512x256 x shapeCasts_S1x512x256_S512x256
def saved (x : FVec F S1x1x512x256 .f32) : FVec F S512x256 .f32 := shapeCast S512x256 x shapeCasts_S1x1x512x256_S512x256

/-- The chunk's attention, and its cotangent: each the lower triangle of a product. -/
def att (q k la : FVec F S64x256 .f32) : FVec F S64x64 .f32 :=
  select causal (matmul dot_S64x256_S64x256_S64x64_1_1_0_0_n_n none (truncf .bf16 (qdec q la) bitsLt_bf16_f32)
    (truncf .bf16 (kinv k la) bitsLt_bf16_f32) (constant S64x64 .f32 0x00000000#32)) (broadcast S64x64 (Scalar.ofBits .f32 0x00000000#32))
def datt (v d : FVec F S64x512 .f32) : FVec F S64x64 .f32 :=
  select causal (matmul dot_S64x512_S64x512_S64x64_1_1_0_0_n_n none (truncf .bf16 d bitsLt_bf16_f32)
    (truncf .bf16 v bitsLt_bf16_f32) (constant S64x64 .f32 0x00000000#32)) (broadcast S64x64 (Scalar.ofBits .f32 0x00000000#32))
/-- The values' cotangent. -/
def dval (q k la : FVec F S64x256 .f32) (d : FVec F S64x512 .f32) (D : FVec F S512x256 .f32) : FVec F S64x512 .bf16 :=
  truncf .bf16 (addf
    (matmul dot_S64x64_S64x512_S64x512_0_0_1_1_n_n none (truncf .bf16 (att q k la) bitsLt_bf16_f32) (truncf .bf16 d bitsLt_bf16_f32)
      (constant S64x512 .f32 0x00000000#32))
    (matmul dot_S64x256_S512x256_S64x512_1_1_0_0_n_n none (truncf .bf16 (kend k la) bitsLt_bf16_f32) (truncf .bf16 D bitsLt_bf16_f32)
      (constant S64x512 .f32 0x00000000#32))) bitsLt_bf16_f32
/-- The cotangents of the three decayed arrays. -/
def dqdec (k la : FVec F S64x256 .f32) (v d : FVec F S64x512 .f32) (S : FVec F S512x256 .f32) : FVec F S64x256 .f32 :=
  addf
    (matmul dot_S64x64_S64x256_S64x256_1_0_0_1_n_n none (truncf .bf16 (datt v d) bitsLt_bf16_f32)
      (truncf .bf16 (kinv k la) bitsLt_bf16_f32) (constant S64x256 .f32 0x00000000#32))
    (matmul dot_S64x512_S512x256_S64x256_1_0_0_1_n_n none (truncf .bf16 d bitsLt_bf16_f32) (truncf .bf16 S bitsLt_bf16_f32)
      (constant S64x256 .f32 0x00000000#32))
def dkinv (q la : FVec F S64x256 .f32) (v d : FVec F S64x512 .f32) : FVec F S64x256 .f32 :=
  matmul dot_S64x64_S64x256_S64x256_0_0_1_1_n_n none (truncf .bf16 (datt v d) bitsLt_bf16_f32)
    (truncf .bf16 (qdec q la) bitsLt_bf16_f32) (constant S64x256 .f32 0x00000000#32)
def dkend (v : FVec F S64x512 .f32) (D : FVec F S512x256 .f32) : FVec F S64x256 .f32 :=
  matmul dot_S64x512_S512x256_S64x256_1_0_0_1_n_n none (truncf .bf16 v bitsLt_bf16_f32) (truncf .bf16 D bitsLt_bf16_f32)
    (constant S64x256 .f32 0x00000000#32)
/-- The cotangent of the state before the chunk. -/
def dstate (q la : FVec F S64x256 .f32) (d : FVec F S64x512 .f32) (D : FVec F S512x256 .f32) : FVec F S512x256 .f32 :=
  addf (mulf D (broadcastTo S512x256 (exp (tot la)) broadcasts_S1x256_S512x256))
    (matmul dot_S64x512_S64x256_S512x256_0_0_1_1_n_n none (truncf .bf16 d bitsLt_bf16_f32)
      (truncf .bf16 (qdec q la) bitsLt_bf16_f32) (constant S512x256 .f32 0x00000000#32))
def dstateSlab (q la : FVec F S64x256 .f32) (d : FVec F S64x512 .f32) (D : FVec F S512x256 .f32) : FVec F S1x512x256 .f32 :=
  shapeCast S1x512x256 (dstate q la d D) shapeCasts_S512x256_S1x512x256
/-- The queries' and the keys' cotangents. -/
def dquery (k la : FVec F S64x256 .f32) (v d : FVec F S64x512 .f32) (S : FVec F S512x256 .f32) : FVec F S64x256 .bf16 :=
  truncf .bf16 (mulf (mulf (dqdec k la v d S) (broadcast S64x256 (Scalar.ofBits .f32 0x3D800000#32))) (exp (cum la))) bitsLt_bf16_f32
def dkey (q la : FVec F S64x256 .f32) (v d : FVec F S64x512 .f32) (D : FVec F S512x256 .f32) : FVec F S64x256 .bf16 :=
  truncf .bf16 (addf (mulf (dkinv q la v d) (eneg la)) (mulf (dkend v D) (eend la))) bitsLt_bf16_f32
/-- The log decays' cotangent: that of the running sums, summed from below, and the total's. -/
def dcum (q k la : FVec F S64x256 .f32) (v d : FVec F S64x512 .f32) (S D : FVec F S512x256 .f32) : FVec F S64x256 .f32 :=
  subf (subf (mulf (dqdec k la v d S) (qdec q la)) (mulf (dkinv q la v d) (kinv k la))) (mulf (dkend v D) (kend k la))
def dtot (k la : FVec F S64x256 .f32) (v : FVec F S64x512 .f32) (S D : FVec F S512x256 .f32) : FVec F S1x256 .f32 :=
  addf
    (shapeCast S1x256 (multiReduction .add [0] S256 (mulf (dkend v D) (kend k la)) 0x00000000#32 reduces_S64x256_S256 (.inl rfl) rfl)
      shapeCasts_S256_S1x256)
    (mulf (exp (tot la)) (shapeCast S1x256 (multiReduction .add [0] S256 (mulf D S) 0x00000000#32 reduces_S512x256_S256 (.inl rfl) rfl)
      shapeCasts_S256_S1x256))
def ddecay (q k la : FVec F S64x256 .f32) (v d : FVec F S64x512 .f32) (S D : FVec F S512x256 .f32) : FVec F S64x256 .f32 :=
  addf (maskedSum anticausal (dcum q k la v d S D)) (broadcastTo S64x256 (dtot k la v S D) broadcasts_S1x256_S64x256)

end Cert.Chunk

end
-- ==== Proof.Loads.lean ====
/- The kernel's body as sixteen copies of one chunk's work: what each output's stores hold, in terms of the blocks that a
   grid point loads. A grid point takes four chunks of each of the four heads, the heads one after another and a head's
   chunks from the last to the first; it hands a head's state cotangent from a chunk to the one before it through the
   scratch slab, and adds every copy's part of the head gain's cotangent to the one row. -/
module

public import proofs.«01_k».proof.Proof.Chunk
public import Idealize.ShloMosaic.Lib.Pipeline.Value

@[expose] public section

noncomputable section

namespace Cert.Loads

open Idealize.ShloMosaic Cert.KernelIdeal Cert.Chunk

variable {F : FTy → Type} [FloatOps F]

/-- The rectangles of chunk `b` of head `h`, in the blocks by rows and in the block of states; and a head's slab. -/
def rc256 (b h : Fin 4) : Rect S256x1024 := Rect.unit ![64 * b.val, 256 * h.val] S64x256.size (by
  intro a; fin_cases a <;> simp <;> omega)
def rc512 (b h : Fin 4) : Rect S256x2048 := Rect.unit ![64 * b.val, 512 * h.val] S64x512.size (by
  intro a; fin_cases a <;> simp <;> omega)
def rcS (b h : Fin 4) : Rect S4x4x512x256 := Rect.unit ![h.val, b.val, 0, 0] S1x1x512x256.size (by
  intro a; fin_cases a <;> simp <;> omega)
def rcT (h : Fin 4) : Rect S4x512x256 := Rect.unit ![h.val, 0, 0] S1x512x256.size (by
  intro a; fin_cases a <;> simp <;> omega)
def rcG : Rect S1x512 := Rect.unit ![0, 0] S1x512.size (by decide)

/-- What a grid point loads, by chunk and head. -/
structure Loads (F : FTy → Type) [FloatOps F] where
  q : Fin 4 → Fin 4 → FVec F S64x256 .f32
  k : Fin 4 → Fin 4 → FVec F S64x256 .f32
  la : Fin 4 → Fin 4 → FVec F S64x256 .f32
  v : Fin 4 → Fin 4 → FVec F S64x512 .f32
  r : Fin 4 → Fin 4 → FVec F S64x512 .f32
  o : Fin 4 → Fin 4 → FVec F S64x512 .f32
  g : Fin 4 → Fin 4 → FVec F S64x512 .f32
  S : Fin 4 → Fin 4 → FVec F S1x1x512x256 .f32
  hn : FVec F S1x512 .f32

namespace Loads
variable (L : Loads F)

/-- The cotangent of the recurrence's output. -/
def d (b h : Fin 4) : FVec F S64x512 .f32 := dout L.hn (L.o b h) (L.r b h) (L.g b h)

/-- A head's state cotangent after `n` of its chunks. -/
def D (D0 : Fin 4 → FVec F S1x512x256 .f32) (h : Fin 4) : ℕ → FVec F S1x512x256 .f32
  | 0 => D0 h
  | n + 1 => dstateSlab (L.q ⟨3 - n, by omega⟩ h) (L.la ⟨3 - n, by omega⟩ h) (L.d ⟨3 - n, by omega⟩ h) (slab (D D0 h n))

/-- The head gain's cotangent after `n` copies. -/
def G (G0 : FVec F S1x512 .f32) : ℕ → FVec F S1x512 .f32
  | 0 => G0
  | n + 1 => dgain (G G0 n) (L.o ⟨3 - n % 4, by omega⟩ ⟨n / 4 % 4, by omega⟩) (L.r ⟨3 - n % 4, by omega⟩ ⟨n / 4 % 4, by omega⟩)
      (L.g ⟨3 - n % 4, by omega⟩ ⟨n / 4 % 4, by omega⟩)

/-- The stores, the last first: chunk and head. -/
def order : List (Fin 4 × Fin 4) :=
  [(0, 3), (1, 3), (2, 3), (3, 3), (0, 2), (1, 2), (2, 2), (3, 2), (0, 1), (1, 1), (2, 1), (3, 1), (0, 0), (1, 0), (2, 0), (3, 0)]

/-- The state cotangent each copy finds. -/
def Dt (D0 : Fin 4 → FVec F S1x512x256 .f32) (b h : Fin 4) : FVec F S1x512x256 .f32 := L.D D0 h (3 - b.val)

variable (T : Fin 4 → Fin 4 → FVec F S1x512x256 .f32)

/-- What a copy stores, given the state cotangents found. -/
def dq (b h : Fin 4) : FVec F S64x256 .bf16 := dquery (L.k b h) (L.la b h) (L.v b h) (L.d b h) (saved (L.S b h))
def dk (b h : Fin 4) : FVec F S64x256 .bf16 := dkey (L.q b h) (L.la b h) (L.v b h) (L.d b h) (slab (T b h))
def dv (b h : Fin 4) : FVec F S64x512 .bf16 := dval (L.q b h) (L.k b h) (L.la b h) (L.d b h) (slab (T b h))
def dr (b h : Fin 4) : FVec F S64x512 .bf16 := dgate L.hn (L.o b h) (L.r b h) (L.g b h)
def dla (b h : Fin 4) : FVec F S64x256 .f32 :=
  ddecay (L.q b h) (L.k b h) (L.la b h) (L.v b h) (L.d b h) (saved (L.S b h)) (slab (T b h))
def dS (b h : Fin 4) : FVec F S1x512x256 .f32 := dstateSlab (L.q b h) (L.la b h) (L.d b h) (slab (T b h))

def dqs : List (View.Piece (Elt F) S256x1024 .bf16) := order.map fun p => ⟨rc256 p.1 p.2, L.dq p.1 p.2⟩
def dks : List (View.Piece (Elt F) S256x1024 .bf16) := order.map fun p => ⟨rc256 p.1 p.2, L.dk T p.1 p.2⟩
def dvs : List (View.Piece (Elt F) S256x2048 .bf16) := order.map fun p => ⟨rc512 p.1 p.2, L.dv T p.1 p.2⟩
def drs : List (View.Piece (Elt F) S256x2048 .bf16) := order.map fun p => ⟨rc512 p.1 p.2, L.dr p.1 p.2⟩
def dlas : List (View.Piece (Elt F) S256x1024 .f32) := order.map fun p => ⟨rc256 p.1 p.2, L.dla T p.1 p.2⟩
def dSs : List (View.Piece (Elt F) S4x512x256 .f32) := order.map fun p => ⟨rcT p.2, L.dS T p.1 p.2⟩

end Loads

/-- The loads of a point from the contents of its blocks. -/
def ofRefs (arg1 : Memref sig .tc .vmem S256x1024 .f32) (harg1 : arg1.IsWhole) (arg2 : Memref sig .tc .vmem S256x1024 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S256x1024 .f32) (harg5 : arg5.IsWhole) (arg6 : Memref sig .tc .vmem S256x2048 .f32) (harg6 : arg6.IsWhole)
    (arg7 : Memref sig .tc .vmem S1x512 .f32) (harg7 : arg7.IsWhole) (arg8 : Memref sig .tc .vmem S256x2048 .f32) (harg8 : arg8.IsWhole)
    (arg9 : Memref sig .tc .vmem S4x4x512x256 .f32) (harg9 : arg9.IsWhole)
    (x0 : Vec F S256x1024 .f32) (x1 : Vec F S256x1024 .f32) (x2 : Vec F S256x2048 .f32) (x3 : Vec F S256x2048 .f32) (x4 : Vec F S256x1024 .f32)
    (x5 : Vec F S256x2048 .f32) (x6 : Vec F S1x512 .f32) (x7 : Vec F S256x2048 .f32) (x8 : Vec F S4x4x512x256 .f32) : Loads F where
  q b h := View.readAt (Elt F) arg1.view (rc256 b h).toLoadRect (harg1.unread x0)
  k b h := View.readAt (Elt F) arg2.view (rc256 b h).toLoadRect (harg2.unread x1)
  v b h := View.readAt (Elt F) arg3.view (rc512 b h).toLoadRect (harg3.unread x2)
  r b h := View.readAt (Elt F) arg4.view (rc512 b h).toLoadRect (harg4.unread x3)
  la b h := View.readAt (Elt F) arg5.view (rc256 b h).toLoadRect (harg5.unread x4)
  o b h := View.readAt (Elt F) arg6.view (rc512 b h).toLoadRect (harg6.unread x5)
  hn := View.readAt (Elt F) arg7.view rcG.toLoadRect (harg7.unread x6)
  g b h := View.readAt (Elt F) arg8.view (rc512 b h).toLoadRect (harg8.unread x7)
  S b h := View.readAt (Elt F) arg9.view (rcS b h).toLoadRect (harg9.unread x8)

end Cert.Loads

end
-- ==== Proof.PiecesA.lean ====
/- The piece lists found for the first grid point, which starts from zeros, are the sixteen copies' (`Loads`):
   every load is of the block's chunk, every read-back of the scratch slab or the gain's row is what the copy before stored,
   and every stored array is the chunk's function of them. -/
module

public import proofs.«01_k».proof.Proof.Gen.KernelIdeal.Frame.RunA
public import proofs.«01_k».proof.Proof.Loads
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL.Sem
open Cert.Loads

variable {F : FTy → Type} [FloatOps F]

attribute [local irreducible] View.readAt

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x512 .f32) (harg7 : arg7.IsWhole) (arg8 : Memref sig .tc .vmem S256x2048 .f32) (harg8 : arg8.IsWhole) (arg9 : Memref sig .tc .vmem S4x4x512x256 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x1024 .f32) (harg14 : arg14.IsWhole) (arg15 : Memref sig .tc .vmem S1x512 .f32) (harg15 : arg15.IsWhole) (arg16 : Memref sig .tc .vmem S4x512x256 .f32) (harg16 : arg16.IsWhole) (hc0 : cond0_0 i)
    (x0 : Vec F S256x1024 .f32) (x1 : Vec F S256x1024 .f32) (x2 : Vec F S256x2048 .f32) (x3 : Vec F S256x2048 .f32) (x4 : Vec F S256x1024 .f32) (x5 : Vec F S256x2048 .f32) (x6 : Vec F S1x512 .f32) (x7 : Vec F S256x2048 .f32) (x8 : Vec F S4x4x512x256 .f32)

/-- The zeros stored first. -/
def zeroD (h : Fin 4) : FVec F S1x512x256 .f32 := broadcast S1x512x256 (Scalar.ofBits .f32 0x00000000#32)
def zeroG : FVec F S1x512 .f32 := broadcast S1x512 (Scalar.ofBits .f32 0x00000000#32)

/-! The reads of a head's slab: before its last chunk, and then after each copy. -/

theorem DA_0 : (kernelRun0_A.sl.v92 c arg16) = (ofRefs arg1 harg1 arg2 harg2 arg3 harg3 arg4 harg4 arg5 harg5 arg6 harg6 arg7 harg7 arg8 harg8 arg9 harg9 x0 x1 x2 x3 x4 x5 x6 x7 x8).D zeroD 0 0 := by
  unfold kernelRun0_A.sl.v92 kernelRun0_A.sl.HS0_1
  exact (View.readCov_fill _ _ _ _ (rcT 0) (by decide)).trans rfl
theorem DA_1 : (kernelRun0_A.sl.v268 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 0 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 0) ((ofRefs arg1 harg1 arg2 harg2 arg3 harg3 arg4 harg4 arg5 harg5 arg6 harg6 arg7 harg7 arg8 harg8 arg9 harg9 x0 x1 x2 x3 x4 x5 x6 x7 x8).la 3 0) ((ofRefs arg1 harg1 arg2 harg2 arg3 harg3 arg4 harg4 arg5 harg5 arg6 harg6 arg7 harg7 arg8 harg8 arg9 harg9 x0 x1 x2 x3 x4 x5 x6 x7 x8).d 3 0) (Cert.Chunk.slab D)) (DA_0 c arg1 harg1 arg2 harg2 arg3 harg3 arg4 harg4 arg5 harg5 arg6 harg6 arg7 harg7 arg8 harg8 arg9 harg9 arg16 x0 x1 x2 x3 x4 x5 x6 x7 x8))
theorem DA_2 : (kernelRun0_A.sl.v444 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 0 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 0) ((ofRefs arg1 harg1 arg2 harg2 arg3 harg3 arg4 harg4 arg5 harg5 arg6 harg6 arg7 harg7 arg8 harg8 arg9 harg9 x0 x1 x2 x3 x4 x5 x6 x7 x8).la 2 0) ((ofRefs arg1 harg1 arg2 harg2 arg3 harg3 arg4 harg4 arg5 harg5 arg6 harg6 arg7 harg7 arg8 harg8 arg9 harg9 x0 x1 x2 x3 x4 x5 x6 x7 x8).d 2 0) (Cert.Chunk.slab D)) (DA_1 c arg1 harg1 arg2 harg2 arg3 harg3 arg4 harg4 arg5 harg5 arg6 harg6 arg7 harg7 arg8 harg8 arg9 harg9 arg16 x0 x1 x2 x3 x4 x5 x6 x7 x8))
theorem DA_3 : (kernelRun0_A.sl.v620 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 0 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 0) ((ofRefs arg1 harg1 arg2 harg2 arg3 harg3 arg4 harg4 arg5 harg5 arg6 harg6 arg7 harg7 arg8 harg8 arg9 harg9 x0 x1 x2 x3 x4 x5 x6 x7 x8).la 1 0) ((ofRefs arg1 harg1 arg2 harg2 arg3 harg3 arg4 harg4 arg5 harg5 arg6 harg6 arg7 harg7 arg8 harg8 arg9 harg9 x0 x1 x2 x3 x4 x5 x6 x7 x8).d 1 0) (Cert.Chunk.slab D)) (DA_2 c arg1 harg1 arg2 harg2 arg3 harg3 arg4 harg4 arg5 harg5 arg6 harg6 arg7 harg7 arg8 harg8 arg9 harg9 arg16 x0 x1 x2 x3 x4 x5 x6 x7 x8))
theorem DA_4 : (kernelRun0_A.sl.v796 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 1 0 := by
  unfold kernelRun0_A.sl.v796 kernelRun0_A.sl.HS0_5 kernelRun0_A.sl.HS0_4 kernelRun0_A.sl.HS0_3 kernelRun0_A.sl.HS0_2 kernelRun0_A.sl.HS0_1
  simp (disch := decide) only [View.readCov_skip]
  exact (View.readCov_fill _ _ _ _ (rcT 1) (by decide)).trans rfl
theorem DA_5 : (kernelRun0_A.sl.v972 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 1 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 1) ((ofRefs arg1 harg1 arg2 harg2 arg3 harg3 arg4 harg4 arg5 harg5 arg6 harg6 arg7 harg7 arg8 harg8 arg9 harg9 x0 x1 x2 x3 x4 x5 x6 x7 x8).la 3 1) ((ofRefs arg1 harg1 arg2 harg2 arg3 harg3 arg4 harg4 arg5 harg5 arg6 harg6 arg7 harg7 arg8 harg8 arg9 harg9 x0 x1 x2 x3 x4 x5 x6 x7 x8).d 3 1) (Cert.Chunk.slab D)) (DA_4 c arg1 harg1 arg2 harg2 arg3 harg3 arg4 harg4 arg5 harg5 arg6 harg6 arg7 harg7 arg8 harg8 arg9 harg9 arg16 x0 x1 x2 x3 x4 x5 x6 x7 x8))
theorem DA_6 : (kernelRun0_A.sl.v1148 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 1 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 1) ((ofRefs arg1 harg1 arg2 harg2 arg3 harg3 arg4 harg4 arg5 harg5 arg6 harg6 arg7 harg7 arg8 harg8 arg9 harg9 x0 x1 x2 x3 x4 x5 x6 x7 x8).la 2 1) ((ofRefs arg1 harg1 arg2 harg2 arg3 harg3 arg4 harg4 arg5 harg5 arg6 harg6 arg7 harg7 arg8 harg8 arg9 harg9 x0 x1 x2 x3 x4 x5 x6 x7 x8).d 2 1) (Cert.Chunk.slab D)) (DA_5 c arg1 harg1 arg2 harg2 arg3 harg3 arg4 harg4 arg5 harg5 arg6 harg6 arg7 harg7 arg8 harg8 arg9 harg9 arg16 x0 x1 x2 x3 x4 x5 x6 x7 x8))
theorem DA_7 : (kernelRun0_A.sl.v1324 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 1 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 1) ((ofRefs arg1 harg1 arg2 harg2 arg3 harg3 arg4 harg4 arg5 harg5 arg6 harg6 arg7 harg7 arg8 harg8 arg9 harg9 x0 x1 x2 x3 x4 x5 x6 x7 x8).la 1 1) ((ofRefs arg1 harg1 arg2 harg2 arg3 harg3 arg4 harg4 arg5 harg5 arg6 harg6 arg7 harg7 arg8 harg8 arg9 harg9 x0 x1 x2 x3 x4 x5 x6 x7 x8).d 1 1) (Cert.Chunk.slab D)) (DA_6 c arg1 harg1 arg2 harg2 arg3 harg3 arg4 harg4 arg5 harg5 arg6 harg6 arg7 harg7 arg8 harg8 arg9 harg9 arg16 x0 x1 x2 x3 x4 x5 x6 x7 x8))
theorem DA_8 : (kernelRun0_A.sl.v1500 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 2 0 := by
  unfold kernelRun0_A.sl.v1500 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  simp (disch := decide) only [View.readCov_skip]
  exact (View.readCov_fill _ _ _ _ (rcT 2) (by decide)).trans rfl
theorem DA_9 : (kernelRun0_A.sl.v1676 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 2 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 2) ((ofRefs arg1 harg1 arg2 harg2 arg3 harg3 arg4 harg4 arg5 harg5 arg6 harg6 arg7 harg7 arg8 harg8 arg9 harg9 x0 x1 x2 x3 x4 x5 x6 x7 x8).la 3 2) ((ofRefs arg1 harg1 arg2 harg2 arg3 harg3 arg4 harg4 arg5 harg5 arg6 harg6 arg7 harg7 arg8 harg8 arg9 harg9 x0 x1 x2 x3 x4 x5 x6 x7 x8).d 3 2) (Cert.Chunk.slab D)) (DA_8 c arg1 harg1 arg2 harg2 arg3 harg3 arg4 harg4 arg5 harg5 arg6 harg6 arg7 harg7 arg8 harg8 arg9 harg9 arg16 x0 x1 x2 x3 x4 x5 x6 x7 x8))
theorem DA_10 : (kernelRun0_A.sl.v1852 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 2 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 2) ((ofRefs arg1 harg1 arg2 harg2 arg3 harg3 arg4 harg4 arg5 harg5 arg6 harg6 arg7 harg7 arg8 harg8 arg9 harg9 x0 x1 x2 x3 x4 x5 x6 x7 x8).la 2 2) ((ofRefs arg1 harg1 arg2 harg2 arg3 harg3 arg4 harg4 arg5 harg5 arg6 harg6 arg7 harg7 arg8 harg8 arg9 harg9 x0 x1 x2 x3 x4 x5 x6 x7 x8).d 2 2) (Cert.Chunk.slab D)) (DA_9 c arg1 harg1 arg2 harg2 arg3 harg3 arg4 harg4 arg5 harg5 arg6 harg6 arg7 harg7 arg8 harg8 arg9 harg9 arg16 x0 x1 x2 x3 x4 x5 x6 x7 x8))
theorem DA_11 : (kernelRun0_A.sl.v2028 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 2 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 2) ((ofRefs arg1 harg1 arg2 harg2 arg3 harg3 arg4 harg4 arg5 harg5 arg6 harg6 arg7 harg7 arg8 harg8 arg9 harg9 x0 x1 x2 x3 x4 x5 x6 x7 x8).la 1 2) ((ofRefs arg1 harg1 arg2 harg2 arg3 harg3 arg4 harg4 arg5 harg5 arg6 harg6 arg7 harg7 arg8 harg8 arg9 harg9 x0 x1 x2 x3 x4 x5 x6 x7 x8).d 1 2) (Cert.Chunk.slab D)) (DA_10 c arg1 harg1 arg2 harg2 arg3 harg3 arg4 harg4 arg5 harg5 arg6 harg6 arg7 harg7 arg8 harg8 arg9 harg9 arg16 x0 x1 x2 x3 x4 x5 x6 x7 x8))
theorem DA_12 : (kernelRun0_A.sl.v2204 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 3 0 := by
  unfold kernelRun0_A.sl.v2204 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  simp (disch := decide) only [View.readCov_skip]
  exact (View.readCov_fill _ _ _ _ (rcT 3) (by decide)).trans rfl
theorem DA_13 : (kernelRun0_A.sl.v2380 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 3 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 3) ((ofRefs arg1 harg1 arg2 harg2 arg3 harg3 arg4 harg4 arg5 harg5 arg6 harg6 arg7 harg7 arg8 harg8 arg9 harg9 x0 x1 x2 x3 x4 x5 x6 x7 x8).la 3 3) ((ofRefs arg1 harg1 arg2 harg2 arg3 harg3 arg4 harg4 arg5 harg5 arg6 harg6 arg7 harg7 arg8 harg8 arg9 harg9 x0 x1 x2 x3 x4 x5 x6 x7 x8).d 3 3) (Cert.Chunk.slab D)) (DA_12 c arg1 harg1 arg2 harg2 arg3 harg3 arg4 harg4 arg5 harg5 arg6 harg6 arg7 harg7 arg8 harg8 arg9 harg9 arg16 x0 x1 x2 x3 x4 x5 x6 x7 x8))
theorem DA_14 : (kernelRun0_A.sl.v2556 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 3 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 3) ((ofRefs arg1 harg1 arg2 harg2 arg3 harg3 arg4 harg4 arg5 harg5 arg6 harg6 arg7 harg7 arg8 harg8 arg9 harg9 x0 x1 x2 x3 x4 x5 x6 x7 x8).la 2 3) ((ofRefs arg1 harg1 arg2 harg2 arg3 harg3 arg4 harg4 arg5 harg5 arg6 harg6 arg7 harg7 arg8 harg8 arg9 harg9 x0 x1 x2 x3 x4 x5 x6 x7 x8).d 2 3) (Cert.Chunk.slab D)) (DA_13 c arg1 harg1 arg2 harg2 arg3 harg3 arg4 harg4 arg5 harg5 arg6 harg6 arg7 harg7 arg8 harg8 arg9 harg9 arg16 x0 x1 x2 x3 x4 x5 x6 x7 x8))
theorem DA_15 : (kernelRun0_A.sl.v2732 c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).D zeroD 3 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 3) ((ofRefs arg1 harg1 arg2 harg2 arg3 harg3 arg4 harg4 arg5 harg5 arg6 harg6 arg7 harg7 arg8 harg8 arg9 harg9 x0 x1 x2 x3 x4 x5 x6 x7 x8).la 1 3) ((ofRefs arg1 harg1 arg2 harg2 arg3 harg3 arg4 harg4 arg5 harg5 arg6 harg6 arg7 harg7 arg8 harg8 arg9 harg9 x0 x1 x2 x3 x4 x5 x6 x7 x8).d 1 3) (Cert.Chunk.slab D)) (DA_14 c arg1 harg1 arg2 harg2 arg3 harg3 arg4 harg4 arg5 harg5 arg6 harg6 arg7 harg7 arg8 harg8 arg9 harg9 arg16 x0 x1 x2 x3 x4 x5 x6 x7 x8))

/-! The reads of the gain's row. -/

theorem GA_0 : (kernelRun0_A.sl.v35 c arg15) = (ofRefs arg1 harg1 arg2 harg2 arg3 harg3 arg4 harg4 arg5 harg5 arg6 harg6 arg7 harg7 arg8 harg8 arg9 harg9 x0 x1 x2 x3 x4 x5 x6 x7 x8).G zeroG 0 := (View.readCov_cons_toLoadRect _ _ _ _).trans rfl
theorem GA_1 : (kernelRun0_A.sl.v211 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 1 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 0) ((ofRefs arg1 harg1 arg2 harg2 arg3 harg3 arg4 harg4 arg5 harg5 arg6 harg6 arg7 harg7 arg8 harg8 arg9 harg9 x0 x1 x2 x3 x4 x5 x6 x7 x8).r 3 0) ((ofRefs arg1 harg1 arg2 harg2 arg3 harg3 arg4 harg4 arg5 harg5 arg6 harg6 arg7 harg7 arg8 harg8 arg9 harg9 x0 x1 x2 x3 x4 x5 x6 x7 x8).g 3 0)) (GA_0 c arg1 harg1 arg2 harg2 arg3 harg3 arg4 harg4 arg5 harg5 arg6 harg6 arg7 harg7 arg8 harg8 arg9 harg9 arg15 x0 x1 x2 x3 x4 x5 x6 x7 x8))
theorem GA_2 : (kernelRun0_A.sl.v387 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 2 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 0) ((ofRefs arg1 harg1 arg2 harg2 arg3 harg3 arg4 harg4 arg5 harg5 arg6 harg6 arg7 harg7 arg8 harg8 arg9 harg9 x0 x1 x2 x3 x4 x5 x6 x7 x8).r 2 0) ((ofRefs arg1 harg1 arg2 harg2 arg3 harg3 arg4 harg4 arg5 harg5 arg6 harg6 arg7 harg7 arg8 harg8 arg9 harg9 x0 x1 x2 x3 x4 x5 x6 x7 x8).g 2 0)) (GA_1 c arg1 harg1 arg2 harg2 arg3 harg3 arg4 harg4 arg5 harg5 arg6 harg6 arg7 harg7 arg8 harg8 arg9 harg9 arg15 x0 x1 x2 x3 x4 x5 x6 x7 x8))
theorem GA_3 : (kernelRun0_A.sl.v563 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 3 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 0) ((ofRefs arg1 harg1 arg2 harg2 arg3 harg3 arg4 harg4 arg5 harg5 arg6 harg6 arg7 harg7 arg8 harg8 arg9 harg9 x0 x1 x2 x3 x4 x5 x6 x7 x8).r 1 0) ((ofRefs arg1 harg1 arg2 harg2 arg3 harg3 arg4 harg4 arg5 harg5 arg6 harg6 arg7 harg7 arg8 harg8 arg9 harg9 x0 x1 x2 x3 x4 x5 x6 x7 x8).g 1 0)) (GA_2 c arg1 harg1 arg2 harg2 arg3 harg3 arg4 harg4 arg5 harg5 arg6 harg6 arg7 harg7 arg8 harg8 arg9 harg9 arg15 x0 x1 x2 x3 x4 x5 x6 x7 x8))
theorem GA_4 : (kernelRun0_A.sl.v739 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 4 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 0) ((ofRefs arg1 harg1 arg2 harg2 arg3 harg3 arg4 harg4 arg5 harg5 arg6 harg6 arg7 harg7 arg8 harg8 arg9 harg9 x0 x1 x2 x3 x4 x5 x6 x7 x8).r 0 0) ((ofRefs arg1 harg1 arg2 harg2 arg3 harg3 arg4 harg4 arg5 harg5 arg6 harg6 arg7 harg7 arg8 harg8 arg9 harg9 x0 x1 x2 x3 x4 x5 x6 x7 x8).g 0 0)) (GA_3 c arg1 harg1 arg2 harg2 arg3 harg3 arg4 harg4 arg5 harg5 arg6 harg6 arg7 harg7 arg8 harg8 arg9 harg9 arg15 x0 x1 x2 x3 x4 x5 x6 x7 x8))
theorem GA_5 : (kernelRun0_A.sl.v915 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 5 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 1) ((ofRefs arg1 harg1 arg2 harg2 arg3 harg3 arg4 harg4 arg5 harg5 arg6 harg6 arg7 harg7 arg8 harg8 arg9 harg9 x0 x1 x2 x3 x4 x5 x6 x7 x8).r 3 1) ((ofRefs arg1 harg1 arg2 harg2 arg3 harg3 arg4 harg4 arg5 harg5 arg6 harg6 arg7 harg7 arg8 harg8 arg9 harg9 x0 x1 x2 x3 x4 x5 x6 x7 x8).g 3 1)) (GA_4 c arg1 harg1 arg2 harg2 arg3 harg3 arg4 harg4 arg5 harg5 arg6 harg6 arg7 harg7 arg8 harg8 arg9 harg9 arg15 x0 x1 x2 x3 x4 x5 x6 x7 x8))
theorem GA_6 : (kernelRun0_A.sl.v1091 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 6 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 1) ((ofRefs arg1 harg1 arg2 harg2 arg3 harg3 arg4 harg4 arg5 harg5 arg6 harg6 arg7 harg7 arg8 harg8 arg9 harg9 x0 x1 x2 x3 x4 x5 x6 x7 x8).r 2 1) ((ofRefs arg1 harg1 arg2 harg2 arg3 harg3 arg4 harg4 arg5 harg5 arg6 harg6 arg7 harg7 arg8 harg8 arg9 harg9 x0 x1 x2 x3 x4 x5 x6 x7 x8).g 2 1)) (GA_5 c arg1 harg1 arg2 harg2 arg3 harg3 arg4 harg4 arg5 harg5 arg6 harg6 arg7 harg7 arg8 harg8 arg9 harg9 arg15 x0 x1 x2 x3 x4 x5 x6 x7 x8))
theorem GA_7 : (kernelRun0_A.sl.v1267 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 7 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 1) ((ofRefs arg1 harg1 arg2 harg2 arg3 harg3 arg4 harg4 arg5 harg5 arg6 harg6 arg7 harg7 arg8 harg8 arg9 harg9 x0 x1 x2 x3 x4 x5 x6 x7 x8).r 1 1) ((ofRefs arg1 harg1 arg2 harg2 arg3 harg3 arg4 harg4 arg5 harg5 arg6 harg6 arg7 harg7 arg8 harg8 arg9 harg9 x0 x1 x2 x3 x4 x5 x6 x7 x8).g 1 1)) (GA_6 c arg1 harg1 arg2 harg2 arg3 harg3 arg4 harg4 arg5 harg5 arg6 harg6 arg7 harg7 arg8 harg8 arg9 harg9 arg15 x0 x1 x2 x3 x4 x5 x6 x7 x8))
theorem GA_8 : (kernelRun0_A.sl.v1443 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 8 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 1) ((ofRefs arg1 harg1 arg2 harg2 arg3 harg3 arg4 harg4 arg5 harg5 arg6 harg6 arg7 harg7 arg8 harg8 arg9 harg9 x0 x1 x2 x3 x4 x5 x6 x7 x8).r 0 1) ((ofRefs arg1 harg1 arg2 harg2 arg3 harg3 arg4 harg4 arg5 harg5 arg6 harg6 arg7 harg7 arg8 harg8 arg9 harg9 x0 x1 x2 x3 x4 x5 x6 x7 x8).g 0 1)) (GA_7 c arg1 harg1 arg2 harg2 arg3 harg3 arg4 harg4 arg5 harg5 arg6 harg6 arg7 harg7 arg8 harg8 arg9 harg9 arg15 x0 x1 x2 x3 x4 x5 x6 x7 x8))
theorem GA_9 : (kernelRun0_A.sl.v1619 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 9 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 2) ((ofRefs arg1 harg1 arg2 harg2 arg3 harg3 arg4 harg4 arg5 harg5 arg6 harg6 arg7 harg7 arg8 harg8 arg9 harg9 x0 x1 x2 x3 x4 x5 x6 x7 x8).r 3 2) ((ofRefs arg1 harg1 arg2 harg2 arg3 harg3 arg4 harg4 arg5 harg5 arg6 harg6 arg7 harg7 arg8 harg8 arg9 harg9 x0 x1 x2 x3 x4 x5 x6 x7 x8).g 3 2)) (GA_8 c arg1 harg1 arg2 harg2 arg3 harg3 arg4 harg4 arg5 harg5 arg6 harg6 arg7 harg7 arg8 harg8 arg9 harg9 arg15 x0 x1 x2 x3 x4 x5 x6 x7 x8))
theorem GA_10 : (kernelRun0_A.sl.v1795 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 10 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 2) ((ofRefs arg1 harg1 arg2 harg2 arg3 harg3 arg4 harg4 arg5 harg5 arg6 harg6 arg7 harg7 arg8 harg8 arg9 harg9 x0 x1 x2 x3 x4 x5 x6 x7 x8).r 2 2) ((ofRefs arg1 harg1 arg2 harg2 arg3 harg3 arg4 harg4 arg5 harg5 arg6 harg6 arg7 harg7 arg8 harg8 arg9 harg9 x0 x1 x2 x3 x4 x5 x6 x7 x8).g 2 2)) (GA_9 c arg1 harg1 arg2 harg2 arg3 harg3 arg4 harg4 arg5 harg5 arg6 harg6 arg7 harg7 arg8 harg8 arg9 harg9 arg15 x0 x1 x2 x3 x4 x5 x6 x7 x8))
theorem GA_11 : (kernelRun0_A.sl.v1971 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 11 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 2) ((ofRefs arg1 harg1 arg2 harg2 arg3 harg3 arg4 harg4 arg5 harg5 arg6 harg6 arg7 harg7 arg8 harg8 arg9 harg9 x0 x1 x2 x3 x4 x5 x6 x7 x8).r 1 2) ((ofRefs arg1 harg1 arg2 harg2 arg3 harg3 arg4 harg4 arg5 harg5 arg6 harg6 arg7 harg7 arg8 harg8 arg9 harg9 x0 x1 x2 x3 x4 x5 x6 x7 x8).g 1 2)) (GA_10 c arg1 harg1 arg2 harg2 arg3 harg3 arg4 harg4 arg5 harg5 arg6 harg6 arg7 harg7 arg8 harg8 arg9 harg9 arg15 x0 x1 x2 x3 x4 x5 x6 x7 x8))
theorem GA_12 : (kernelRun0_A.sl.v2147 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 12 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 2) ((ofRefs arg1 harg1 arg2 harg2 arg3 harg3 arg4 harg4 arg5 harg5 arg6 harg6 arg7 harg7 arg8 harg8 arg9 harg9 x0 x1 x2 x3 x4 x5 x6 x7 x8).r 0 2) ((ofRefs arg1 harg1 arg2 harg2 arg3 harg3 arg4 harg4 arg5 harg5 arg6 harg6 arg7 harg7 arg8 harg8 arg9 harg9 x0 x1 x2 x3 x4 x5 x6 x7 x8).g 0 2)) (GA_11 c arg1 harg1 arg2 harg2 arg3 harg3 arg4 harg4 arg5 harg5 arg6 harg6 arg7 harg7 arg8 harg8 arg9 harg9 arg15 x0 x1 x2 x3 x4 x5 x6 x7 x8))
theorem GA_13 : (kernelRun0_A.sl.v2323 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 13 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 3) ((ofRefs arg1 harg1 arg2 harg2 arg3 harg3 arg4 harg4 arg5 harg5 arg6 harg6 arg7 harg7 arg8 harg8 arg9 harg9 x0 x1 x2 x3 x4 x5 x6 x7 x8).r 3 3) ((ofRefs arg1 harg1 arg2 harg2 arg3 harg3 arg4 harg4 arg5 harg5 arg6 harg6 arg7 harg7 arg8 harg8 arg9 harg9 x0 x1 x2 x3 x4 x5 x6 x7 x8).g 3 3)) (GA_12 c arg1 harg1 arg2 harg2 arg3 harg3 arg4 harg4 arg5 harg5 arg6 harg6 arg7 harg7 arg8 harg8 arg9 harg9 arg15 x0 x1 x2 x3 x4 x5 x6 x7 x8))
theorem GA_14 : (kernelRun0_A.sl.v2499 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 14 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 3) ((ofRefs arg1 harg1 arg2 harg2 arg3 harg3 arg4 harg4 arg5 harg5 arg6 harg6 arg7 harg7 arg8 harg8 arg9 harg9 x0 x1 x2 x3 x4 x5 x6 x7 x8).r 2 3) ((ofRefs arg1 harg1 arg2 harg2 arg3 harg3 arg4 harg4 arg5 harg5 arg6 harg6 arg7 harg7 arg8 harg8 arg9 harg9 x0 x1 x2 x3 x4 x5 x6 x7 x8).g 2 3)) (GA_13 c arg1 harg1 arg2 harg2 arg3 harg3 arg4 harg4 arg5 harg5 arg6 harg6 arg7 harg7 arg8 harg8 arg9 harg9 arg15 x0 x1 x2 x3 x4 x5 x6 x7 x8))
theorem GA_15 : (kernelRun0_A.sl.v2675 c arg4 harg4 arg6 harg6 arg8 harg8 arg15 x3 x5 x7) = (ofRefs arg1 harg1 arg2 harg2 arg3 harg3 arg4 harg4 arg5 harg5 arg6 harg6 arg7 harg7 arg8 harg8 arg9 harg9 x0 x1 x2 x3 x4 x5 x6 x7 x8).G zeroG 15 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 3) ((ofRefs arg1 harg1 arg2 harg2 arg3 harg3 arg4 harg4 arg5 harg5 arg6 harg6 arg7 harg7 arg8 harg8 arg9 harg9 x0 x1 x2 x3 x4 x5 x6 x7 x8).r 1 3) ((ofRefs arg1 harg1 arg2 harg2 arg3 harg3 arg4 harg4 arg5 harg5 arg6 harg6 arg7 harg7 arg8 harg8 arg9 harg9 x0 x1 x2 x3 x4 x5 x6 x7 x8).g 1 3)) (GA_14 c arg1 harg1 arg2 harg2 arg3 harg3 arg4 harg4 arg5 harg5 arg6 harg6 arg7 harg7 arg8 harg8 arg9 harg9 arg15 x0 x1 x2 x3 x4 x5 x6 x7 x8))

/-- The state cotangents found, by chunk and head. -/
def tableA : Fin 4 → Fin 4 → FVec F S1x512x256 .f32 := fun b h =>
  (![![kernelRun0_A.sl.v620 c arg1 harg1 arg4 harg4 arg5 harg5 arg6 harg6 arg7 harg7 arg8 harg8 arg16 x0 x3 x4 x5 x6 x7, kernelRun0_A.sl.v1324 c arg1 harg1 arg4 harg4 arg5 harg5 arg6 harg6 arg7 harg7 arg8 harg8 arg16 x0 x3 x4 x5 x6 x7, kernelRun0_A.sl.v2028 c arg1 harg1 arg4 harg4 arg5 harg5 arg6 harg6 arg7 harg7 arg8 harg8 arg16 x0 x3 x4 x5 x6 x7, kernelRun0_A.sl.v2732 c arg1 harg1 arg4 harg4 arg5 harg5 arg6 harg6 arg7 harg7 arg8 harg8 arg16 x0 x3 x4 x5 x6 x7],
    ![kernelRun0_A.sl.v444 c arg1 harg1 arg4 harg4 arg5 harg5 arg6 harg6 arg7 harg7 arg8 harg8 arg16 x0 x3 x4 x5 x6 x7, kernelRun0_A.sl.v1148 c arg1 harg1 arg4 harg4 arg5 harg5 arg6 harg6 arg7 harg7 arg8 harg8 arg16 x0 x3 x4 x5 x6 x7, kernelRun0_A.sl.v1852 c arg1 harg1 arg4 harg4 arg5 harg5 arg6 harg6 arg7 harg7 arg8 harg8 arg16 x0 x3 x4 x5 x6 x7, kernelRun0_A.sl.v2556 c arg1 harg1 arg4 harg4 arg5 harg5 arg6 harg6 arg7 harg7 arg8 harg8 arg16 x0 x3 x4 x5 x6 x7],
    ![kernelRun0_A.sl.v268 c arg1 harg1 arg4 harg4 arg5 harg5 arg6 harg6 arg7 harg7 arg8 harg8 arg16 x0 x3 x4 x5 x6 x7, kernelRun0_A.sl.v972 c arg1 harg1 arg4 harg4 arg5 harg5 arg6 harg6 arg7 harg7 arg8 harg8 arg16 x0 x3 x4 x5 x6 x7, kernelRun0_A.sl.v1676 c arg1 harg1 arg4 harg4 arg5 harg5 arg6 harg6 arg7 harg7 arg8 harg8 arg16 x0 x3 x4 x5 x6 x7, kernelRun0_A.sl.v2380 c arg1 harg1 arg4 harg4 arg5 harg5 arg6 harg6 arg7 harg7 arg8 harg8 arg16 x0 x3 x4 x5 x6 x7],
    ![kernelRun0_A.sl.v92 c arg16, kernelRun0_A.sl.v796 c arg1 harg1 arg4 harg4 arg5 harg5 arg6 harg6 arg7 harg7 arg8 harg8 arg16 x0 x3 x4 x5 x6 x7, kernelRun0_A.sl.v1500 c arg1 harg1 arg4 harg4 arg5 harg5 arg6 harg6 arg7 harg7 arg8 harg8 arg16 x0 x3 x4 x5 x6 x7, kernelRun0_A.sl.v2204 c arg1 harg1 arg4 harg4 arg5 harg5 arg6 harg6 arg7 harg7 arg8 harg8 arg16 x0 x3 x4 x5 x6 x7]] : Fin 4 → Fin 4 → FVec F S1x512x256 .f32) b h
theorem tableA_eq : (tableA c arg1 harg1 arg4 harg4 arg5 harg5 arg6 harg6 arg7 harg7 arg8 harg8 arg16 x0 x3 x4 x5 x6 x7) = (ofRefs arg1 harg1 arg2 harg2 arg3 harg3 arg4 harg4 arg5 harg5 arg6 harg6 arg7 harg7 arg8 harg8 arg9 harg9 x0 x1 x2 x3 x4 x5 x6 x7 x8).Dt zeroD := by
  funext b h
  fin_cases b <;> fin_cases h
  exacts [DA_3 c arg1 harg1 arg2 harg2 arg3 harg3 arg4 harg4 arg5 harg5 arg6 harg6 arg7 harg7 arg8 harg8 arg9 harg9 arg16 x0 x1 x2 x3 x4 x5 x6 x7 x8,
    DA_7 c arg1 harg1 arg2 harg2 arg3 harg3 arg4 harg4 arg5 harg5 arg6 harg6 arg7 harg7 arg8 harg8 arg9 harg9 arg16 x0 x1 x2 x3 x4 x5 x6 x7 x8,
    DA_11 c arg1 harg1 arg2 harg2 arg3 harg3 arg4 harg4 arg5 harg5 arg6 harg6 arg7 harg7 arg8 harg8 arg9 harg9 arg16 x0 x1 x2 x3 x4 x5 x6 x7 x8,
    DA_15 c arg1 harg1 arg2 harg2 arg3 harg3 arg4 harg4 arg5 harg5 arg6 harg6 arg7 harg7 arg8 harg8 arg9 harg9 arg16 x0 x1 x2 x3 x4 x5 x6 x7 x8,
    DA_2 c arg1 harg1 arg2 harg2 arg3 harg3 arg4 harg4 arg5 harg5 arg6 harg6 arg7 harg7 arg8 harg8 arg9 harg9 arg16 x0 x1 x2 x3 x4 x5 x6 x7 x8,
    DA_6 c arg1 harg1 arg2 harg2 arg3 harg3 arg4 harg4 arg5 harg5 arg6 harg6 arg7 harg7 arg8 harg8 arg9 harg9 arg16 x0 x1 x2 x3 x4 x5 x6 x7 x8,
    DA_10 c arg1 harg1 arg2 harg2 arg3 harg3 arg4 harg4 arg5 harg5 arg6 harg6 arg7 harg7 arg8 harg8 arg9 harg9 arg16 x0 x1 x2 x3 x4 x5 x6 x7 x8,
    DA_14 c arg1 harg1 arg2 harg2 arg3 harg3 arg4 harg4 arg5 harg5 arg6 harg6 arg7 harg7 arg8 harg8 arg9 harg9 arg16 x0 x1 x2 x3 x4 x5 x6 x7 x8,
    DA_1 c arg1 harg1 arg2 harg2 arg3 harg3 arg4 harg4 arg5 harg5 arg6 harg6 arg7 harg7 arg8 harg8 arg9 harg9 arg16 x0 x1 x2 x3 x4 x5 x6 x7 x8,
    DA_5 c arg1 harg1 arg2 harg2 arg3 harg3 arg4 harg4 arg5 harg5 arg6 harg6 arg7 harg7 arg8 harg8 arg9 harg9 arg16 x0 x1 x2 x3 x4 x5 x6 x7 x8,
    DA_9 c arg1 harg1 arg2 harg2 arg3 harg3 arg4 harg4 arg5 harg5 arg6 harg6 arg7 harg7 arg8 harg8 arg9 harg9 arg16 x0 x1 x2 x3 x4 x5 x6 x7 x8,
    DA_13 c arg1 harg1 arg2 harg2 arg3 harg3 arg4 harg4 arg5 harg5 arg6 harg6 arg7 harg7 arg8 harg8 arg9 harg9 arg16 x0 x1 x2 x3 x4 x5 x6 x7 x8,
    DA_0 c arg1 harg1 arg2 harg2 arg3 harg3 arg4 harg4 arg5 harg5 arg6 harg6 arg7 harg7 arg8 harg8 arg9 harg9 arg16 x0 x1 x2 x3 x4 x5 x6 x7 x8,
    DA_4 c arg1 harg1 arg2 harg2 arg3 harg3 arg4 harg4 arg5 harg5 arg6 harg6 arg7 harg7 arg8 harg8 arg9 harg9 arg16 x0 x1 x2 x3 x4 x5 x6 x7 x8,
    DA_8 c arg1 harg1 arg2 harg2 arg3 harg3 arg4 harg4 arg5 harg5 arg6 harg6 arg7 harg7 arg8 harg8 arg9 harg9 arg16 x0 x1 x2 x3 x4 x5 x6 x7 x8,
    DA_12 c arg1 harg1 arg2 harg2 arg3 harg3 arg4 harg4 arg5 harg5 arg6 harg6 arg7 harg7 arg8 harg8 arg9 harg9 arg16 x0 x1 x2 x3 x4 x5 x6 x7 x8]

/-! The lists. -/

theorem listA_9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 = (ofRefs arg1 harg1 arg2 harg2 arg3 harg3 arg4 harg4 arg5 harg5 arg6 harg6 arg7 harg7 arg8 harg8 arg9 harg9 x0 x1 x2 x3 x4 x5 x6 x7 x8).dqs := rfl
theorem listA_10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 = (ofRefs arg1 harg1 arg2 harg2 arg3 harg3 arg4 harg4 arg5 harg5 arg6 harg6 arg7 harg7 arg8 harg8 arg9 harg9 x0 x1 x2 x3 x4 x5 x6 x7 x8).dks ((ofRefs arg1 harg1 arg2 harg2 arg3 harg3 arg4 harg4 arg5 harg5 arg6 harg6 arg7 harg7 arg8 harg8 arg9 harg9 x0 x1 x2 x3 x4 x5 x6 x7 x8).Dt zeroD) := by
  rw [← tableA_eq c arg1 harg1 arg2 harg2 arg3 harg3 arg4 harg4 arg5 harg5 arg6 harg6 arg7 harg7 arg8 harg8 arg9 harg9 arg16 x0 x1 x2 x3 x4 x5 x6 x7 x8]
  rfl
theorem listA_11 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 = (ofRefs arg1 harg1 arg2 harg2 arg3 harg3 arg4 harg4 arg5 harg5 arg6 harg6 arg7 harg7 arg8 harg8 arg9 harg9 x0 x1 x2 x3 x4 x5 x6 x7 x8).dvs ((ofRefs arg1 harg1 arg2 harg2 arg3 harg3 arg4 harg4 arg5 harg5 arg6 harg6 arg7 harg7 arg8 harg8 arg9 harg9 x0 x1 x2 x3 x4 x5 x6 x7 x8).Dt zeroD) := by
  rw [← tableA_eq c arg1 harg1 arg2 harg2 arg3 harg3 arg4 harg4 arg5 harg5 arg6 harg6 arg7 harg7 arg8 harg8 arg9 harg9 arg16 x0 x1 x2 x3 x4 x5 x6 x7 x8]
  rfl
theorem listA_12 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 = (ofRefs arg1 harg1 arg2 harg2 arg3 harg3 arg4 harg4 arg5 harg5 arg6 harg6 arg7 harg7 arg8 harg8 arg9 harg9 x0 x1 x2 x3 x4 x5 x6 x7 x8).drs := rfl
theorem listA_13 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 = (ofRefs arg1 harg1 arg2 harg2 arg3 harg3 arg4 harg4 arg5 harg5 arg6 harg6 arg7 harg7 arg8 harg8 arg9 harg9 x0 x1 x2 x3 x4 x5 x6 x7 x8).dlas ((ofRefs arg1 harg1 arg2 harg2 arg3 harg3 arg4 harg4 arg5 harg5 arg6 harg6 arg7 harg7 arg8 harg8 arg9 harg9 x0 x1 x2 x3 x4 x5 x6 x7 x8).Dt zeroD) := by
  rw [← tableA_eq c arg1 harg1 arg2 harg2 arg3 harg3 arg4 harg4 arg5 harg5 arg6 harg6 arg7 harg7 arg8 harg8 arg9 harg9 arg16 x0 x1 x2 x3 x4 x5 x6 x7 x8]
  rfl
theorem listA_s : ∃ Z, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.2.1 = (ofRefs arg1 harg1 arg2 harg2 arg3 harg3 arg4 harg4 arg5 harg5 arg6 harg6 arg7 harg7 arg8 harg8 arg9 harg9 x0 x1 x2 x3 x4 x5 x6 x7 x8).dSs ((ofRefs arg1 harg1 arg2 harg2 arg3 harg3 arg4 harg4 arg5 harg5 arg6 harg6 arg7 harg7 arg8 harg8 arg9 harg9 x0 x1 x2 x3 x4 x5 x6 x7 x8).Dt zeroD) ++ Z :=
  ⟨kernelRun0_A.sl.HS0_1, Eq.trans (b := (ofRefs arg1 harg1 arg2 harg2 arg3 harg3 arg4 harg4 arg5 harg5 arg6 harg6 arg7 harg7 arg8 harg8 arg9 harg9 x0 x1 x2 x3 x4 x5 x6 x7 x8).dSs (tableA c arg1 harg1 arg4 harg4 arg5 harg5 arg6 harg6 arg7 harg7 arg8 harg8 arg16 x0 x3 x4 x5 x6 x7) ++ kernelRun0_A.sl.HS0_1) rfl
    (congrArg (fun T => (ofRefs arg1 harg1 arg2 harg2 arg3 harg3 arg4 harg4 arg5 harg5 arg6 harg6 arg7 harg7 arg8 harg8 arg9 harg9 x0 x1 x2 x3 x4 x5 x6 x7 x8).dSs T ++ kernelRun0_A.sl.HS0_1) (tableA_eq c arg1 harg1 arg2 harg2 arg3 harg3 arg4 harg4 arg5 harg5 arg6 harg6 arg7 harg7 arg8 harg8 arg9 harg9 arg16 x0 x1 x2 x3 x4 x5 x6 x7 x8))⟩
theorem listA_14 : ∃ Z, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 = ⟨rcG, (ofRefs arg1 harg1 arg2 harg2 arg3 harg3 arg4 harg4 arg5 harg5 arg6 harg6 arg7 harg7 arg8 harg8 arg9 harg9 x0 x1 x2 x3 x4 x5 x6 x7 x8).G zeroG 16⟩ :: Z :=
  ⟨_, congrArg (fun G => (⟨rcG, Cert.Chunk.dgain G ((ofRefs arg1 harg1 arg2 harg2 arg3 harg3 arg4 harg4 arg5 harg5 arg6 harg6 arg7 harg7 arg8 harg8 arg9 harg9 x0 x1 x2 x3 x4 x5 x6 x7 x8).o 0 3) ((ofRefs arg1 harg1 arg2 harg2 arg3 harg3 arg4 harg4 arg5 harg5 arg6 harg6 arg7 harg7 arg8 harg8 arg9 harg9 x0 x1 x2 x3 x4 x5 x6 x7 x8).r 0 3) ((ofRefs arg1 harg1 arg2 harg2 arg3 harg3 arg4 harg4 arg5 harg5 arg6 harg6 arg7 harg7 arg8 harg8 arg9 harg9 x0 x1 x2 x3 x4 x5 x6 x7 x8).g 0 3)⟩ : View.Piece (Elt F) S1x512 .f32) :: _) (GA_15 c arg1 harg1 arg2 harg2 arg3 harg3 arg4 harg4 arg5 harg5 arg6 harg6 arg7 harg7 arg8 harg8 arg9 harg9 arg15 x0 x1 x2 x3 x4 x5 x6 x7 x8)⟩

end Cert.KernelIdeal.Gen

end
-- ==== Proof.PiecesB.lean ====
/- The piece lists found for a later grid point, which starts from what the point before left, are the sixteen copies' (`Loads`):
   every load is of the block's chunk, every read-back of the scratch slab or the gain's row is what the copy before stored,
   and every stored array is the chunk's function of them. -/
module

public import proofs.«01_k».proof.Proof.Gen.KernelIdeal.Frame.RunB
public import proofs.«01_k».proof.Proof.Loads
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL.Sem
open Cert.Loads

variable {F : FTy → Type} [FloatOps F]

attribute [local irreducible] View.readAt

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x512 .f32) (harg7 : arg7.IsWhole) (arg8 : Memref sig .tc .vmem S256x2048 .f32) (harg8 : arg8.IsWhole) (arg9 : Memref sig .tc .vmem S4x4x512x256 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x1024 .f32) (harg14 : arg14.IsWhole) (arg15 : Memref sig .tc .vmem S1x512 .f32) (harg15 : arg15.IsWhole) (arg16 : Memref sig .tc .vmem S4x512x256 .f32) (harg16 : arg16.IsWhole) (hc0 : ¬cond0_0 i)
    (x0 : Vec F S256x1024 .f32) (x1 : Vec F S256x1024 .f32) (x2 : Vec F S256x2048 .f32) (x3 : Vec F S256x2048 .f32) (x4 : Vec F S256x1024 .f32) (x5 : Vec F S256x2048 .f32) (x6 : Vec F S1x512 .f32) (x7 : Vec F S256x2048 .f32) (x8 : Vec F S4x4x512x256 .f32) (xo14 : Vec F S1x512 .f32) (xs0 : Vec F S4x512x256 .f32)

/-- What the scratch and the gain's row hold at the point's start. -/
def startD (h : Fin 4) : FVec F S1x512x256 .f32 := View.readAt (Elt F) arg16.view (rcT h).toLoadRect (harg16.unread xs0)
def startG : FVec F S1x512 .f32 := View.readAt (Elt F) arg15.view rcG.toLoadRect (harg15.unread xo14)

/-! The reads of a head's slab: before its last chunk, and then after each copy. -/

theorem DB_1 : (kernelRun0_B.sl.v268 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 0 1 := (View.readCov_cons_toLoadRect _ _ _ _).trans
  rfl
theorem DB_2 : (kernelRun0_B.sl.v444 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 0 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 0) ((ofRefs arg1 harg1 arg2 harg2 arg3 harg3 arg4 harg4 arg5 harg5 arg6 harg6 arg7 harg7 arg8 harg8 arg9 harg9 x0 x1 x2 x3 x4 x5 x6 x7 x8).la 2 0) ((ofRefs arg1 harg1 arg2 harg2 arg3 harg3 arg4 harg4 arg5 harg5 arg6 harg6 arg7 harg7 arg8 harg8 arg9 harg9 x0 x1 x2 x3 x4 x5 x6 x7 x8).d 2 0) (Cert.Chunk.slab D)) (DB_1 c arg1 harg1 arg2 harg2 arg3 harg3 arg4 harg4 arg5 harg5 arg6 harg6 arg7 harg7 arg8 harg8 arg9 harg9 arg16 harg16 x0 x1 x2 x3 x4 x5 x6 x7 x8 xs0))
theorem DB_3 : (kernelRun0_B.sl.v620 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 0 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 0) ((ofRefs arg1 harg1 arg2 harg2 arg3 harg3 arg4 harg4 arg5 harg5 arg6 harg6 arg7 harg7 arg8 harg8 arg9 harg9 x0 x1 x2 x3 x4 x5 x6 x7 x8).la 1 0) ((ofRefs arg1 harg1 arg2 harg2 arg3 harg3 arg4 harg4 arg5 harg5 arg6 harg6 arg7 harg7 arg8 harg8 arg9 harg9 x0 x1 x2 x3 x4 x5 x6 x7 x8).d 1 0) (Cert.Chunk.slab D)) (DB_2 c arg1 harg1 arg2 harg2 arg3 harg3 arg4 harg4 arg5 harg5 arg6 harg6 arg7 harg7 arg8 harg8 arg9 harg9 arg16 harg16 x0 x1 x2 x3 x4 x5 x6 x7 x8 xs0))
theorem DB_4 : (kernelRun0_B.sl.v796 c arg16 harg16 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 1 0 := rfl
theorem DB_5 : (kernelRun0_B.sl.v972 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 1 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 1) ((ofRefs arg1 harg1 arg2 harg2 arg3 harg3 arg4 harg4 arg5 harg5 arg6 harg6 arg7 harg7 arg8 harg8 arg9 harg9 x0 x1 x2 x3 x4 x5 x6 x7 x8).la 3 1) ((ofRefs arg1 harg1 arg2 harg2 arg3 harg3 arg4 harg4 arg5 harg5 arg6 harg6 arg7 harg7 arg8 harg8 arg9 harg9 x0 x1 x2 x3 x4 x5 x6 x7 x8).d 3 1) (Cert.Chunk.slab D)) (DB_4 c arg1 harg1 arg2 harg2 arg3 harg3 arg4 harg4 arg5 harg5 arg6 harg6 arg7 harg7 arg8 harg8 arg9 harg9 arg16 harg16 x0 x1 x2 x3 x4 x5 x6 x7 x8 xs0))
theorem DB_6 : (kernelRun0_B.sl.v1148 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 1 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 1) ((ofRefs arg1 harg1 arg2 harg2 arg3 harg3 arg4 harg4 arg5 harg5 arg6 harg6 arg7 harg7 arg8 harg8 arg9 harg9 x0 x1 x2 x3 x4 x5 x6 x7 x8).la 2 1) ((ofRefs arg1 harg1 arg2 harg2 arg3 harg3 arg4 harg4 arg5 harg5 arg6 harg6 arg7 harg7 arg8 harg8 arg9 harg9 x0 x1 x2 x3 x4 x5 x6 x7 x8).d 2 1) (Cert.Chunk.slab D)) (DB_5 c arg1 harg1 arg2 harg2 arg3 harg3 arg4 harg4 arg5 harg5 arg6 harg6 arg7 harg7 arg8 harg8 arg9 harg9 arg16 harg16 x0 x1 x2 x3 x4 x5 x6 x7 x8 xs0))
theorem DB_7 : (kernelRun0_B.sl.v1324 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 1 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 1) ((ofRefs arg1 harg1 arg2 harg2 arg3 harg3 arg4 harg4 arg5 harg5 arg6 harg6 arg7 harg7 arg8 harg8 arg9 harg9 x0 x1 x2 x3 x4 x5 x6 x7 x8).la 1 1) ((ofRefs arg1 harg1 arg2 harg2 arg3 harg3 arg4 harg4 arg5 harg5 arg6 harg6 arg7 harg7 arg8 harg8 arg9 harg9 x0 x1 x2 x3 x4 x5 x6 x7 x8).d 1 1) (Cert.Chunk.slab D)) (DB_6 c arg1 harg1 arg2 harg2 arg3 harg3 arg4 harg4 arg5 harg5 arg6 harg6 arg7 harg7 arg8 harg8 arg9 harg9 arg16 harg16 x0 x1 x2 x3 x4 x5 x6 x7 x8 xs0))
theorem DB_8 : (kernelRun0_B.sl.v1500 c arg16 harg16 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 2 0 := rfl
theorem DB_9 : (kernelRun0_B.sl.v1676 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 2 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 2) ((ofRefs arg1 harg1 arg2 harg2 arg3 harg3 arg4 harg4 arg5 harg5 arg6 harg6 arg7 harg7 arg8 harg8 arg9 harg9 x0 x1 x2 x3 x4 x5 x6 x7 x8).la 3 2) ((ofRefs arg1 harg1 arg2 harg2 arg3 harg3 arg4 harg4 arg5 harg5 arg6 harg6 arg7 harg7 arg8 harg8 arg9 harg9 x0 x1 x2 x3 x4 x5 x6 x7 x8).d 3 2) (Cert.Chunk.slab D)) (DB_8 c arg1 harg1 arg2 harg2 arg3 harg3 arg4 harg4 arg5 harg5 arg6 harg6 arg7 harg7 arg8 harg8 arg9 harg9 arg16 harg16 x0 x1 x2 x3 x4 x5 x6 x7 x8 xs0))
theorem DB_10 : (kernelRun0_B.sl.v1852 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 2 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 2) ((ofRefs arg1 harg1 arg2 harg2 arg3 harg3 arg4 harg4 arg5 harg5 arg6 harg6 arg7 harg7 arg8 harg8 arg9 harg9 x0 x1 x2 x3 x4 x5 x6 x7 x8).la 2 2) ((ofRefs arg1 harg1 arg2 harg2 arg3 harg3 arg4 harg4 arg5 harg5 arg6 harg6 arg7 harg7 arg8 harg8 arg9 harg9 x0 x1 x2 x3 x4 x5 x6 x7 x8).d 2 2) (Cert.Chunk.slab D)) (DB_9 c arg1 harg1 arg2 harg2 arg3 harg3 arg4 harg4 arg5 harg5 arg6 harg6 arg7 harg7 arg8 harg8 arg9 harg9 arg16 harg16 x0 x1 x2 x3 x4 x5 x6 x7 x8 xs0))
theorem DB_11 : (kernelRun0_B.sl.v2028 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 2 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 2) ((ofRefs arg1 harg1 arg2 harg2 arg3 harg3 arg4 harg4 arg5 harg5 arg6 harg6 arg7 harg7 arg8 harg8 arg9 harg9 x0 x1 x2 x3 x4 x5 x6 x7 x8).la 1 2) ((ofRefs arg1 harg1 arg2 harg2 arg3 harg3 arg4 harg4 arg5 harg5 arg6 harg6 arg7 harg7 arg8 harg8 arg9 harg9 x0 x1 x2 x3 x4 x5 x6 x7 x8).d 1 2) (Cert.Chunk.slab D)) (DB_10 c arg1 harg1 arg2 harg2 arg3 harg3 arg4 harg4 arg5 harg5 arg6 harg6 arg7 harg7 arg8 harg8 arg9 harg9 arg16 harg16 x0 x1 x2 x3 x4 x5 x6 x7 x8 xs0))
theorem DB_12 : (kernelRun0_B.sl.v2204 c arg16 harg16 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 3 0 := rfl
theorem DB_13 : (kernelRun0_B.sl.v2380 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 3 1 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 3 3) ((ofRefs arg1 harg1 arg2 harg2 arg3 harg3 arg4 harg4 arg5 harg5 arg6 harg6 arg7 harg7 arg8 harg8 arg9 harg9 x0 x1 x2 x3 x4 x5 x6 x7 x8).la 3 3) ((ofRefs arg1 harg1 arg2 harg2 arg3 harg3 arg4 harg4 arg5 harg5 arg6 harg6 arg7 harg7 arg8 harg8 arg9 harg9 x0 x1 x2 x3 x4 x5 x6 x7 x8).d 3 3) (Cert.Chunk.slab D)) (DB_12 c arg1 harg1 arg2 harg2 arg3 harg3 arg4 harg4 arg5 harg5 arg6 harg6 arg7 harg7 arg8 harg8 arg9 harg9 arg16 harg16 x0 x1 x2 x3 x4 x5 x6 x7 x8 xs0))
theorem DB_14 : (kernelRun0_B.sl.v2556 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 3 2 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 2 3) ((ofRefs arg1 harg1 arg2 harg2 arg3 harg3 arg4 harg4 arg5 harg5 arg6 harg6 arg7 harg7 arg8 harg8 arg9 harg9 x0 x1 x2 x3 x4 x5 x6 x7 x8).la 2 3) ((ofRefs arg1 harg1 arg2 harg2 arg3 harg3 arg4 harg4 arg5 harg5 arg6 harg6 arg7 harg7 arg8 harg8 arg9 harg9 x0 x1 x2 x3 x4 x5 x6 x7 x8).d 2 3) (Cert.Chunk.slab D)) (DB_13 c arg1 harg1 arg2 harg2 arg3 harg3 arg4 harg4 arg5 harg5 arg6 harg6 arg7 harg7 arg8 harg8 arg9 harg9 arg16 harg16 x0 x1 x2 x3 x4 x5 x6 x7 x8 xs0))
theorem DB_15 : (kernelRun0_B.sl.v2732 c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).D (startD arg16 harg16 xs0) 3 3 := (View.readCov_cons_toLoadRect _ _ _ _).trans
  (congrArg (fun D => Cert.Chunk.dstateSlab ((ofRefs arg1 harg1 arg2 harg2 arg3 harg3 arg4 harg4 arg5 harg5 arg6 harg6 arg7 harg7 arg8 harg8 arg9 harg9 x0 x1 x2 x3 x4 x5 x6 x7 x8).q 1 3) ((ofRefs arg1 harg1 arg2 harg2 arg3 harg3 arg4 harg4 arg5 harg5 arg6 harg6 arg7 harg7 arg8 harg8 arg9 harg9 x0 x1 x2 x3 x4 x5 x6 x7 x8).la 1 3) ((ofRefs arg1 harg1 arg2 harg2 arg3 harg3 arg4 harg4 arg5 harg5 arg6 harg6 arg7 harg7 arg8 harg8 arg9 harg9 x0 x1 x2 x3 x4 x5 x6 x7 x8).d 1 3) (Cert.Chunk.slab D)) (DB_14 c arg1 harg1 arg2 harg2 arg3 harg3 arg4 harg4 arg5 harg5 arg6 harg6 arg7 harg7 arg8 harg8 arg9 harg9 arg16 harg16 x0 x1 x2 x3 x4 x5 x6 x7 x8 xs0))

/-! The reads of the gain's row. -/

theorem GB_1 : (kernelRun0_B.sl.v211 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 1 := (View.readCov_cons_toLoadRect _ _ _ _).trans
  rfl
theorem GB_2 : (kernelRun0_B.sl.v387 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 2 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 0) ((ofRefs arg1 harg1 arg2 harg2 arg3 harg3 arg4 harg4 arg5 harg5 arg6 harg6 arg7 harg7 arg8 harg8 arg9 harg9 x0 x1 x2 x3 x4 x5 x6 x7 x8).r 2 0) ((ofRefs arg1 harg1 arg2 harg2 arg3 harg3 arg4 harg4 arg5 harg5 arg6 harg6 arg7 harg7 arg8 harg8 arg9 harg9 x0 x1 x2 x3 x4 x5 x6 x7 x8).g 2 0)) (GB_1 c arg1 harg1 arg2 harg2 arg3 harg3 arg4 harg4 arg5 harg5 arg6 harg6 arg7 harg7 arg8 harg8 arg9 harg9 arg15 harg15 x0 x1 x2 x3 x4 x5 x6 x7 x8 xo14))
theorem GB_3 : (kernelRun0_B.sl.v563 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 3 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 0) ((ofRefs arg1 harg1 arg2 harg2 arg3 harg3 arg4 harg4 arg5 harg5 arg6 harg6 arg7 harg7 arg8 harg8 arg9 harg9 x0 x1 x2 x3 x4 x5 x6 x7 x8).r 1 0) ((ofRefs arg1 harg1 arg2 harg2 arg3 harg3 arg4 harg4 arg5 harg5 arg6 harg6 arg7 harg7 arg8 harg8 arg9 harg9 x0 x1 x2 x3 x4 x5 x6 x7 x8).g 1 0)) (GB_2 c arg1 harg1 arg2 harg2 arg3 harg3 arg4 harg4 arg5 harg5 arg6 harg6 arg7 harg7 arg8 harg8 arg9 harg9 arg15 harg15 x0 x1 x2 x3 x4 x5 x6 x7 x8 xo14))
theorem GB_4 : (kernelRun0_B.sl.v739 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 4 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 0) ((ofRefs arg1 harg1 arg2 harg2 arg3 harg3 arg4 harg4 arg5 harg5 arg6 harg6 arg7 harg7 arg8 harg8 arg9 harg9 x0 x1 x2 x3 x4 x5 x6 x7 x8).r 0 0) ((ofRefs arg1 harg1 arg2 harg2 arg3 harg3 arg4 harg4 arg5 harg5 arg6 harg6 arg7 harg7 arg8 harg8 arg9 harg9 x0 x1 x2 x3 x4 x5 x6 x7 x8).g 0 0)) (GB_3 c arg1 harg1 arg2 harg2 arg3 harg3 arg4 harg4 arg5 harg5 arg6 harg6 arg7 harg7 arg8 harg8 arg9 harg9 arg15 harg15 x0 x1 x2 x3 x4 x5 x6 x7 x8 xo14))
theorem GB_5 : (kernelRun0_B.sl.v915 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 5 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 1) ((ofRefs arg1 harg1 arg2 harg2 arg3 harg3 arg4 harg4 arg5 harg5 arg6 harg6 arg7 harg7 arg8 harg8 arg9 harg9 x0 x1 x2 x3 x4 x5 x6 x7 x8).r 3 1) ((ofRefs arg1 harg1 arg2 harg2 arg3 harg3 arg4 harg4 arg5 harg5 arg6 harg6 arg7 harg7 arg8 harg8 arg9 harg9 x0 x1 x2 x3 x4 x5 x6 x7 x8).g 3 1)) (GB_4 c arg1 harg1 arg2 harg2 arg3 harg3 arg4 harg4 arg5 harg5 arg6 harg6 arg7 harg7 arg8 harg8 arg9 harg9 arg15 harg15 x0 x1 x2 x3 x4 x5 x6 x7 x8 xo14))
theorem GB_6 : (kernelRun0_B.sl.v1091 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 6 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 1) ((ofRefs arg1 harg1 arg2 harg2 arg3 harg3 arg4 harg4 arg5 harg5 arg6 harg6 arg7 harg7 arg8 harg8 arg9 harg9 x0 x1 x2 x3 x4 x5 x6 x7 x8).r 2 1) ((ofRefs arg1 harg1 arg2 harg2 arg3 harg3 arg4 harg4 arg5 harg5 arg6 harg6 arg7 harg7 arg8 harg8 arg9 harg9 x0 x1 x2 x3 x4 x5 x6 x7 x8).g 2 1)) (GB_5 c arg1 harg1 arg2 harg2 arg3 harg3 arg4 harg4 arg5 harg5 arg6 harg6 arg7 harg7 arg8 harg8 arg9 harg9 arg15 harg15 x0 x1 x2 x3 x4 x5 x6 x7 x8 xo14))
theorem GB_7 : (kernelRun0_B.sl.v1267 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 7 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 1) ((ofRefs arg1 harg1 arg2 harg2 arg3 harg3 arg4 harg4 arg5 harg5 arg6 harg6 arg7 harg7 arg8 harg8 arg9 harg9 x0 x1 x2 x3 x4 x5 x6 x7 x8).r 1 1) ((ofRefs arg1 harg1 arg2 harg2 arg3 harg3 arg4 harg4 arg5 harg5 arg6 harg6 arg7 harg7 arg8 harg8 arg9 harg9 x0 x1 x2 x3 x4 x5 x6 x7 x8).g 1 1)) (GB_6 c arg1 harg1 arg2 harg2 arg3 harg3 arg4 harg4 arg5 harg5 arg6 harg6 arg7 harg7 arg8 harg8 arg9 harg9 arg15 harg15 x0 x1 x2 x3 x4 x5 x6 x7 x8 xo14))
theorem GB_8 : (kernelRun0_B.sl.v1443 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 8 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 1) ((ofRefs arg1 harg1 arg2 harg2 arg3 harg3 arg4 harg4 arg5 harg5 arg6 harg6 arg7 harg7 arg8 harg8 arg9 harg9 x0 x1 x2 x3 x4 x5 x6 x7 x8).r 0 1) ((ofRefs arg1 harg1 arg2 harg2 arg3 harg3 arg4 harg4 arg5 harg5 arg6 harg6 arg7 harg7 arg8 harg8 arg9 harg9 x0 x1 x2 x3 x4 x5 x6 x7 x8).g 0 1)) (GB_7 c arg1 harg1 arg2 harg2 arg3 harg3 arg4 harg4 arg5 harg5 arg6 harg6 arg7 harg7 arg8 harg8 arg9 harg9 arg15 harg15 x0 x1 x2 x3 x4 x5 x6 x7 x8 xo14))
theorem GB_9 : (kernelRun0_B.sl.v1619 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 9 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 2) ((ofRefs arg1 harg1 arg2 harg2 arg3 harg3 arg4 harg4 arg5 harg5 arg6 harg6 arg7 harg7 arg8 harg8 arg9 harg9 x0 x1 x2 x3 x4 x5 x6 x7 x8).r 3 2) ((ofRefs arg1 harg1 arg2 harg2 arg3 harg3 arg4 harg4 arg5 harg5 arg6 harg6 arg7 harg7 arg8 harg8 arg9 harg9 x0 x1 x2 x3 x4 x5 x6 x7 x8).g 3 2)) (GB_8 c arg1 harg1 arg2 harg2 arg3 harg3 arg4 harg4 arg5 harg5 arg6 harg6 arg7 harg7 arg8 harg8 arg9 harg9 arg15 harg15 x0 x1 x2 x3 x4 x5 x6 x7 x8 xo14))
theorem GB_10 : (kernelRun0_B.sl.v1795 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 10 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 2) ((ofRefs arg1 harg1 arg2 harg2 arg3 harg3 arg4 harg4 arg5 harg5 arg6 harg6 arg7 harg7 arg8 harg8 arg9 harg9 x0 x1 x2 x3 x4 x5 x6 x7 x8).r 2 2) ((ofRefs arg1 harg1 arg2 harg2 arg3 harg3 arg4 harg4 arg5 harg5 arg6 harg6 arg7 harg7 arg8 harg8 arg9 harg9 x0 x1 x2 x3 x4 x5 x6 x7 x8).g 2 2)) (GB_9 c arg1 harg1 arg2 harg2 arg3 harg3 arg4 harg4 arg5 harg5 arg6 harg6 arg7 harg7 arg8 harg8 arg9 harg9 arg15 harg15 x0 x1 x2 x3 x4 x5 x6 x7 x8 xo14))
theorem GB_11 : (kernelRun0_B.sl.v1971 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 11 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 2) ((ofRefs arg1 harg1 arg2 harg2 arg3 harg3 arg4 harg4 arg5 harg5 arg6 harg6 arg7 harg7 arg8 harg8 arg9 harg9 x0 x1 x2 x3 x4 x5 x6 x7 x8).r 1 2) ((ofRefs arg1 harg1 arg2 harg2 arg3 harg3 arg4 harg4 arg5 harg5 arg6 harg6 arg7 harg7 arg8 harg8 arg9 harg9 x0 x1 x2 x3 x4 x5 x6 x7 x8).g 1 2)) (GB_10 c arg1 harg1 arg2 harg2 arg3 harg3 arg4 harg4 arg5 harg5 arg6 harg6 arg7 harg7 arg8 harg8 arg9 harg9 arg15 harg15 x0 x1 x2 x3 x4 x5 x6 x7 x8 xo14))
theorem GB_12 : (kernelRun0_B.sl.v2147 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 12 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 0 2) ((ofRefs arg1 harg1 arg2 harg2 arg3 harg3 arg4 harg4 arg5 harg5 arg6 harg6 arg7 harg7 arg8 harg8 arg9 harg9 x0 x1 x2 x3 x4 x5 x6 x7 x8).r 0 2) ((ofRefs arg1 harg1 arg2 harg2 arg3 harg3 arg4 harg4 arg5 harg5 arg6 harg6 arg7 harg7 arg8 harg8 arg9 harg9 x0 x1 x2 x3 x4 x5 x6 x7 x8).g 0 2)) (GB_11 c arg1 harg1 arg2 harg2 arg3 harg3 arg4 harg4 arg5 harg5 arg6 harg6 arg7 harg7 arg8 harg8 arg9 harg9 arg15 harg15 x0 x1 x2 x3 x4 x5 x6 x7 x8 xo14))
theorem GB_13 : (kernelRun0_B.sl.v2323 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 13 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 3 3) ((ofRefs arg1 harg1 arg2 harg2 arg3 harg3 arg4 harg4 arg5 harg5 arg6 harg6 arg7 harg7 arg8 harg8 arg9 harg9 x0 x1 x2 x3 x4 x5 x6 x7 x8).r 3 3) ((ofRefs arg1 harg1 arg2 harg2 arg3 harg3 arg4 harg4 arg5 harg5 arg6 harg6 arg7 harg7 arg8 harg8 arg9 harg9 x0 x1 x2 x3 x4 x5 x6 x7 x8).g 3 3)) (GB_12 c arg1 harg1 arg2 harg2 arg3 harg3 arg4 harg4 arg5 harg5 arg6 harg6 arg7 harg7 arg8 harg8 arg9 harg9 arg15 harg15 x0 x1 x2 x3 x4 x5 x6 x7 x8 xo14))
theorem GB_14 : (kernelRun0_B.sl.v2499 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 14 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 2 3) ((ofRefs arg1 harg1 arg2 harg2 arg3 harg3 arg4 harg4 arg5 harg5 arg6 harg6 arg7 harg7 arg8 harg8 arg9 harg9 x0 x1 x2 x3 x4 x5 x6 x7 x8).r 2 3) ((ofRefs arg1 harg1 arg2 harg2 arg3 harg3 arg4 harg4 arg5 harg5 arg6 harg6 arg7 harg7 arg8 harg8 arg9 harg9 x0 x1 x2 x3 x4 x5 x6 x7 x8).g 2 3)) (GB_13 c arg1 harg1 arg2 harg2 arg3 harg3 arg4 harg4 arg5 harg5 arg6 harg6 arg7 harg7 arg8 harg8 arg9 harg9 arg15 harg15 x0 x1 x2 x3 x4 x5 x6 x7 x8 xo14))
theorem GB_15 : (kernelRun0_B.sl.v2675 c arg4 harg4 arg6 harg6 arg8 harg8 arg15 harg15 x3 x5 x7 xo14) = (ofRefs arg1 harg1 arg2 harg2 arg3 harg3 arg4 harg4 arg5 harg5 arg6 harg6 arg7 harg7 arg8 harg8 arg9 harg9 x0 x1 x2 x3 x4 x5 x6 x7 x8).G (startG arg15 harg15 xo14) 15 := (View.readCov_cons_toLoadRect _ _ _ _).trans
  (congrArg (fun G => Cert.Chunk.dgain G ((ofRefs arg1 harg1 arg2 harg2 arg3 harg3 arg4 harg4 arg5 harg5 arg6 harg6 arg7 harg7 arg8 harg8 arg9 harg9 x0 x1 x2 x3 x4 x5 x6 x7 x8).o 1 3) ((ofRefs arg1 harg1 arg2 harg2 arg3 harg3 arg4 harg4 arg5 harg5 arg6 harg6 arg7 harg7 arg8 harg8 arg9 harg9 x0 x1 x2 x3 x4 x5 x6 x7 x8).r 1 3) ((ofRefs arg1 harg1 arg2 harg2 arg3 harg3 arg4 harg4 arg5 harg5 arg6 harg6 arg7 harg7 arg8 harg8 arg9 harg9 x0 x1 x2 x3 x4 x5 x6 x7 x8).g 1 3)) (GB_14 c arg1 harg1 arg2 harg2 arg3 harg3 arg4 harg4 arg5 harg5 arg6 harg6 arg7 harg7 arg8 harg8 arg9 harg9 arg15 harg15 x0 x1 x2 x3 x4 x5 x6 x7 x8 xo14))

/-- The state cotangents found, by chunk and head. -/
def tableB : Fin 4 → Fin 4 → FVec F S1x512x256 .f32 := fun b h =>
  (![![kernelRun0_B.sl.v620 c arg1 harg1 arg4 harg4 arg5 harg5 arg6 harg6 arg7 harg7 arg8 harg8 arg16 harg16 x0 x3 x4 x5 x6 x7 xs0, kernelRun0_B.sl.v1324 c arg1 harg1 arg4 harg4 arg5 harg5 arg6 harg6 arg7 harg7 arg8 harg8 arg16 harg16 x0 x3 x4 x5 x6 x7 xs0, kernelRun0_B.sl.v2028 c arg1 harg1 arg4 harg4 arg5 harg5 arg6 harg6 arg7 harg7 arg8 harg8 arg16 harg16 x0 x3 x4 x5 x6 x7 xs0, kernelRun0_B.sl.v2732 c arg1 harg1 arg4 harg4 arg5 harg5 arg6 harg6 arg7 harg7 arg8 harg8 arg16 harg16 x0 x3 x4 x5 x6 x7 xs0],
    ![kernelRun0_B.sl.v444 c arg1 harg1 arg4 harg4 arg5 harg5 arg6 harg6 arg7 harg7 arg8 harg8 arg16 harg16 x0 x3 x4 x5 x6 x7 xs0, kernelRun0_B.sl.v1148 c arg1 harg1 arg4 harg4 arg5 harg5 arg6 harg6 arg7 harg7 arg8 harg8 arg16 harg16 x0 x3 x4 x5 x6 x7 xs0, kernelRun0_B.sl.v1852 c arg1 harg1 arg4 harg4 arg5 harg5 arg6 harg6 arg7 harg7 arg8 harg8 arg16 harg16 x0 x3 x4 x5 x6 x7 xs0, kernelRun0_B.sl.v2556 c arg1 harg1 arg4 harg4 arg5 harg5 arg6 harg6 arg7 harg7 arg8 harg8 arg16 harg16 x0 x3 x4 x5 x6 x7 xs0],
    ![kernelRun0_B.sl.v268 c arg1 harg1 arg4 harg4 arg5 harg5 arg6 harg6 arg7 harg7 arg8 harg8 arg16 harg16 x0 x3 x4 x5 x6 x7 xs0, kernelRun0_B.sl.v972 c arg1 harg1 arg4 harg4 arg5 harg5 arg6 harg6 arg7 harg7 arg8 harg8 arg16 harg16 x0 x3 x4 x5 x6 x7 xs0, kernelRun0_B.sl.v1676 c arg1 harg1 arg4 harg4 arg5 harg5 arg6 harg6 arg7 harg7 arg8 harg8 arg16 harg16 x0 x3 x4 x5 x6 x7 xs0, kernelRun0_B.sl.v2380 c arg1 harg1 arg4 harg4 arg5 harg5 arg6 harg6 arg7 harg7 arg8 harg8 arg16 harg16 x0 x3 x4 x5 x6 x7 xs0],
    ![startD arg16 harg16 xs0 0, kernelRun0_B.sl.v796 c arg16 harg16 xs0, kernelRun0_B.sl.v1500 c arg16 harg16 xs0, kernelRun0_B.sl.v2204 c arg16 harg16 xs0]] : Fin 4 → Fin 4 → FVec F S1x512x256 .f32) b h
theorem tableB_eq : (tableB c arg1 harg1 arg4 harg4 arg5 harg5 arg6 harg6 arg7 harg7 arg8 harg8 arg16 harg16 x0 x3 x4 x5 x6 x7 xs0) = (ofRefs arg1 harg1 arg2 harg2 arg3 harg3 arg4 harg4 arg5 harg5 arg6 harg6 arg7 harg7 arg8 harg8 arg9 harg9 x0 x1 x2 x3 x4 x5 x6 x7 x8).Dt (startD arg16 harg16 xs0) := by
  funext b h
  fin_cases b <;> fin_cases h
  exacts [DB_3 c arg1 harg1 arg2 harg2 arg3 harg3 arg4 harg4 arg5 harg5 arg6 harg6 arg7 harg7 arg8 harg8 arg9 harg9 arg16 harg16 x0 x1 x2 x3 x4 x5 x6 x7 x8 xs0,
    DB_7 c arg1 harg1 arg2 harg2 arg3 harg3 arg4 harg4 arg5 harg5 arg6 harg6 arg7 harg7 arg8 harg8 arg9 harg9 arg16 harg16 x0 x1 x2 x3 x4 x5 x6 x7 x8 xs0,
    DB_11 c arg1 harg1 arg2 harg2 arg3 harg3 arg4 harg4 arg5 harg5 arg6 harg6 arg7 harg7 arg8 harg8 arg9 harg9 arg16 harg16 x0 x1 x2 x3 x4 x5 x6 x7 x8 xs0,
    DB_15 c arg1 harg1 arg2 harg2 arg3 harg3 arg4 harg4 arg5 harg5 arg6 harg6 arg7 harg7 arg8 harg8 arg9 harg9 arg16 harg16 x0 x1 x2 x3 x4 x5 x6 x7 x8 xs0,
    DB_2 c arg1 harg1 arg2 harg2 arg3 harg3 arg4 harg4 arg5 harg5 arg6 harg6 arg7 harg7 arg8 harg8 arg9 harg9 arg16 harg16 x0 x1 x2 x3 x4 x5 x6 x7 x8 xs0,
    DB_6 c arg1 harg1 arg2 harg2 arg3 harg3 arg4 harg4 arg5 harg5 arg6 harg6 arg7 harg7 arg8 harg8 arg9 harg9 arg16 harg16 x0 x1 x2 x3 x4 x5 x6 x7 x8 xs0,
    DB_10 c arg1 harg1 arg2 harg2 arg3 harg3 arg4 harg4 arg5 harg5 arg6 harg6 arg7 harg7 arg8 harg8 arg9 harg9 arg16 harg16 x0 x1 x2 x3 x4 x5 x6 x7 x8 xs0,
    DB_14 c arg1 harg1 arg2 harg2 arg3 harg3 arg4 harg4 arg5 harg5 arg6 harg6 arg7 harg7 arg8 harg8 arg9 harg9 arg16 harg16 x0 x1 x2 x3 x4 x5 x6 x7 x8 xs0,
    DB_1 c arg1 harg1 arg2 harg2 arg3 harg3 arg4 harg4 arg5 harg5 arg6 harg6 arg7 harg7 arg8 harg8 arg9 harg9 arg16 harg16 x0 x1 x2 x3 x4 x5 x6 x7 x8 xs0,
    DB_5 c arg1 harg1 arg2 harg2 arg3 harg3 arg4 harg4 arg5 harg5 arg6 harg6 arg7 harg7 arg8 harg8 arg9 harg9 arg16 harg16 x0 x1 x2 x3 x4 x5 x6 x7 x8 xs0,
    DB_9 c arg1 harg1 arg2 harg2 arg3 harg3 arg4 harg4 arg5 harg5 arg6 harg6 arg7 harg7 arg8 harg8 arg9 harg9 arg16 harg16 x0 x1 x2 x3 x4 x5 x6 x7 x8 xs0,
    DB_13 c arg1 harg1 arg2 harg2 arg3 harg3 arg4 harg4 arg5 harg5 arg6 harg6 arg7 harg7 arg8 harg8 arg9 harg9 arg16 harg16 x0 x1 x2 x3 x4 x5 x6 x7 x8 xs0,
    rfl,
    DB_4 c arg1 harg1 arg2 harg2 arg3 harg3 arg4 harg4 arg5 harg5 arg6 harg6 arg7 harg7 arg8 harg8 arg9 harg9 arg16 harg16 x0 x1 x2 x3 x4 x5 x6 x7 x8 xs0,
    DB_8 c arg1 harg1 arg2 harg2 arg3 harg3 arg4 harg4 arg5 harg5 arg6 harg6 arg7 harg7 arg8 harg8 arg9 harg9 arg16 harg16 x0 x1 x2 x3 x4 x5 x6 x7 x8 xs0,
    DB_12 c arg1 harg1 arg2 harg2 arg3 harg3 arg4 harg4 arg5 harg5 arg6 harg6 arg7 harg7 arg8 harg8 arg9 harg9 arg16 harg16 x0 x1 x2 x3 x4 x5 x6 x7 x8 xs0]

/-! The lists. -/

theorem listB_9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).1 = (ofRefs arg1 harg1 arg2 harg2 arg3 harg3 arg4 harg4 arg5 harg5 arg6 harg6 arg7 harg7 arg8 harg8 arg9 harg9 x0 x1 x2 x3 x4 x5 x6 x7 x8).dqs := rfl
theorem listB_10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.1 = (ofRefs arg1 harg1 arg2 harg2 arg3 harg3 arg4 harg4 arg5 harg5 arg6 harg6 arg7 harg7 arg8 harg8 arg9 harg9 x0 x1 x2 x3 x4 x5 x6 x7 x8).dks ((ofRefs arg1 harg1 arg2 harg2 arg3 harg3 arg4 harg4 arg5 harg5 arg6 harg6 arg7 harg7 arg8 harg8 arg9 harg9 x0 x1 x2 x3 x4 x5 x6 x7 x8).Dt (startD arg16 harg16 xs0)) :=
  Eq.trans (b := (ofRefs arg1 harg1 arg2 harg2 arg3 harg3 arg4 harg4 arg5 harg5 arg6 harg6 arg7 harg7 arg8 harg8 arg9 harg9 x0 x1 x2 x3 x4 x5 x6 x7 x8).dks (tableB c arg1 harg1 arg4 harg4 arg5 harg5 arg6 harg6 arg7 harg7 arg8 harg8 arg16 harg16 x0 x3 x4 x5 x6 x7 xs0)) rfl (congrArg (fun T => (ofRefs arg1 harg1 arg2 harg2 arg3 harg3 arg4 harg4 arg5 harg5 arg6 harg6 arg7 harg7 arg8 harg8 arg9 harg9 x0 x1 x2 x3 x4 x5 x6 x7 x8).dks T) (tableB_eq c arg1 harg1 arg2 harg2 arg3 harg3 arg4 harg4 arg5 harg5 arg6 harg6 arg7 harg7 arg8 harg8 arg9 harg9 arg16 harg16 x0 x1 x2 x3 x4 x5 x6 x7 x8 xs0))
theorem listB_11 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.2.1 = (ofRefs arg1 harg1 arg2 harg2 arg3 harg3 arg4 harg4 arg5 harg5 arg6 harg6 arg7 harg7 arg8 harg8 arg9 harg9 x0 x1 x2 x3 x4 x5 x6 x7 x8).dvs ((ofRefs arg1 harg1 arg2 harg2 arg3 harg3 arg4 harg4 arg5 harg5 arg6 harg6 arg7 harg7 arg8 harg8 arg9 harg9 x0 x1 x2 x3 x4 x5 x6 x7 x8).Dt (startD arg16 harg16 xs0)) :=
  Eq.trans (b := (ofRefs arg1 harg1 arg2 harg2 arg3 harg3 arg4 harg4 arg5 harg5 arg6 harg6 arg7 harg7 arg8 harg8 arg9 harg9 x0 x1 x2 x3 x4 x5 x6 x7 x8).dvs (tableB c arg1 harg1 arg4 harg4 arg5 harg5 arg6 harg6 arg7 harg7 arg8 harg8 arg16 harg16 x0 x3 x4 x5 x6 x7 xs0)) rfl (congrArg (fun T => (ofRefs arg1 harg1 arg2 harg2 arg3 harg3 arg4 harg4 arg5 harg5 arg6 harg6 arg7 harg7 arg8 harg8 arg9 harg9 x0 x1 x2 x3 x4 x5 x6 x7 x8).dvs T) (tableB_eq c arg1 harg1 arg2 harg2 arg3 harg3 arg4 harg4 arg5 harg5 arg6 harg6 arg7 harg7 arg8 harg8 arg9 harg9 arg16 harg16 x0 x1 x2 x3 x4 x5 x6 x7 x8 xs0))
theorem listB_12 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.2.2.1 = (ofRefs arg1 harg1 arg2 harg2 arg3 harg3 arg4 harg4 arg5 harg5 arg6 harg6 arg7 harg7 arg8 harg8 arg9 harg9 x0 x1 x2 x3 x4 x5 x6 x7 x8).drs := rfl
theorem listB_13 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.2.2.2.1 = (ofRefs arg1 harg1 arg2 harg2 arg3 harg3 arg4 harg4 arg5 harg5 arg6 harg6 arg7 harg7 arg8 harg8 arg9 harg9 x0 x1 x2 x3 x4 x5 x6 x7 x8).dlas ((ofRefs arg1 harg1 arg2 harg2 arg3 harg3 arg4 harg4 arg5 harg5 arg6 harg6 arg7 harg7 arg8 harg8 arg9 harg9 x0 x1 x2 x3 x4 x5 x6 x7 x8).Dt (startD arg16 harg16 xs0)) :=
  Eq.trans (b := (ofRefs arg1 harg1 arg2 harg2 arg3 harg3 arg4 harg4 arg5 harg5 arg6 harg6 arg7 harg7 arg8 harg8 arg9 harg9 x0 x1 x2 x3 x4 x5 x6 x7 x8).dlas (tableB c arg1 harg1 arg4 harg4 arg5 harg5 arg6 harg6 arg7 harg7 arg8 harg8 arg16 harg16 x0 x3 x4 x5 x6 x7 xs0)) rfl (congrArg (fun T => (ofRefs arg1 harg1 arg2 harg2 arg3 harg3 arg4 harg4 arg5 harg5 arg6 harg6 arg7 harg7 arg8 harg8 arg9 harg9 x0 x1 x2 x3 x4 x5 x6 x7 x8).dlas T) (tableB_eq c arg1 harg1 arg2 harg2 arg3 harg3 arg4 harg4 arg5 harg5 arg6 harg6 arg7 harg7 arg8 harg8 arg9 harg9 arg16 harg16 x0 x1 x2 x3 x4 x5 x6 x7 x8 xs0))
theorem listB_s : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.2.2.2.2.2.1 = (ofRefs arg1 harg1 arg2 harg2 arg3 harg3 arg4 harg4 arg5 harg5 arg6 harg6 arg7 harg7 arg8 harg8 arg9 harg9 x0 x1 x2 x3 x4 x5 x6 x7 x8).dSs ((ofRefs arg1 harg1 arg2 harg2 arg3 harg3 arg4 harg4 arg5 harg5 arg6 harg6 arg7 harg7 arg8 harg8 arg9 harg9 x0 x1 x2 x3 x4 x5 x6 x7 x8).Dt (startD arg16 harg16 xs0)) :=
  Eq.trans (b := (ofRefs arg1 harg1 arg2 harg2 arg3 harg3 arg4 harg4 arg5 harg5 arg6 harg6 arg7 harg7 arg8 harg8 arg9 harg9 x0 x1 x2 x3 x4 x5 x6 x7 x8).dSs (tableB c arg1 harg1 arg4 harg4 arg5 harg5 arg6 harg6 arg7 harg7 arg8 harg8 arg16 harg16 x0 x3 x4 x5 x6 x7 xs0)) rfl
    (congrArg (fun T => (ofRefs arg1 harg1 arg2 harg2 arg3 harg3 arg4 harg4 arg5 harg5 arg6 harg6 arg7 harg7 arg8 harg8 arg9 harg9 x0 x1 x2 x3 x4 x5 x6 x7 x8).dSs T) (tableB_eq c arg1 harg1 arg2 harg2 arg3 harg3 arg4 harg4 arg5 harg5 arg6 harg6 arg7 harg7 arg8 harg8 arg9 harg9 arg16 harg16 x0 x1 x2 x3 x4 x5 x6 x7 x8 xs0))
theorem listB_14 : ∃ Z, (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0).2.2.2.2.2.1 = ⟨rcG, (ofRefs arg1 harg1 arg2 harg2 arg3 harg3 arg4 harg4 arg5 harg5 arg6 harg6 arg7 harg7 arg8 harg8 arg9 harg9 x0 x1 x2 x3 x4 x5 x6 x7 x8).G (startG arg15 harg15 xo14) 16⟩ :: Z :=
  ⟨_, congrArg (fun G => (⟨rcG, Cert.Chunk.dgain G ((ofRefs arg1 harg1 arg2 harg2 arg3 harg3 arg4 harg4 arg5 harg5 arg6 harg6 arg7 harg7 arg8 harg8 arg9 harg9 x0 x1 x2 x3 x4 x5 x6 x7 x8).o 0 3) ((ofRefs arg1 harg1 arg2 harg2 arg3 harg3 arg4 harg4 arg5 harg5 arg6 harg6 arg7 harg7 arg8 harg8 arg9 harg9 x0 x1 x2 x3 x4 x5 x6 x7 x8).r 0 3) ((ofRefs arg1 harg1 arg2 harg2 arg3 harg3 arg4 harg4 arg5 harg5 arg6 harg6 arg7 harg7 arg8 harg8 arg9 harg9 x0 x1 x2 x3 x4 x5 x6 x7 x8).g 0 3)⟩ : View.Piece (Elt F) S1x512 .f32) :: _) (GB_15 c arg1 harg1 arg2 harg2 arg3 harg3 arg4 harg4 arg5 harg5 arg6 harg6 arg7 harg7 arg8 harg8 arg9 harg9 arg15 harg15 x0 x1 x2 x3 x4 x5 x6 x7 x8 xo14)⟩

end Cert.KernelIdeal.Gen

end
-- ==== Proof.Spec.lean ====
/- One chunk of one head over the real numbers: what the layer's backward pass computes from the chunk's rows, the state
   saved before it and the cotangent of the state after it. Both programs are shown to compute these. Arrays are
   functions of their coordinates; the state and its cotangent are laid out [value, key]. -/
module

public import Idealize.ShloMosaic.PureOps.Ideal

@[expose] public section

noncomputable section

open scoped BigOperators

namespace Cert.Spec

/-- The norm's epsilon: the f32 number next to one millionth. -/
def eps : ℝ := 8796093 / 2 ^ 43

/-! ## The gated RMS norm -/

section Gate
variable (hn : Fin 512 → ℝ) (o r g : Fin 64 → Fin 512 → ℝ)

def inv (t : Fin 64) : ℝ := (Real.sqrt ((∑ j, o t j * o t j) / 512 + eps))⁻¹
def oh (t : Fin 64) (j : Fin 512) : ℝ := o t j * inv o t
def sig (t : Fin 64) (j : Fin 512) : ℝ := 1 / (1 + Real.exp (-r t j))
def don (t : Fin 64) (j : Fin 512) : ℝ := g t j * (r t j * sig r t j)
def dr (t : Fin 64) (j : Fin 512) : ℝ := g t j * (oh o t j * hn j) * (sig r t j * (1 + r t j * (1 - sig r t j)))
def dgain (j : Fin 512) : ℝ := ∑ t, don r g t j * oh o t j
def dohat (t : Fin 64) (j : Fin 512) : ℝ := don r g t j * hn j
def dout (t : Fin 64) (j : Fin 512) : ℝ :=
  inv o t * (dohat hn r g t j - oh o t j * ((∑ i, dohat hn r g t i * oh o t i) / 512))

end Gate

/-! ## The decayed recurrence -/

section Chunk
variable (q k la : Fin 64 → Fin 256 → ℝ) (v d : Fin 64 → Fin 512 → ℝ) (S D : Fin 512 → Fin 256 → ℝ)

def cum (t : Fin 64) (i : Fin 256) : ℝ := ∑ s, if s ≤ t then la s i else 0
def tot (i : Fin 256) : ℝ := ∑ s, la s i
def eneg (t : Fin 64) (i : Fin 256) : ℝ := Real.exp (0 - cum la t i)
def eend (t : Fin 64) (i : Fin 256) : ℝ := Real.exp (tot la i - cum la t i)
def qdec (t : Fin 64) (i : Fin 256) : ℝ := q t i * (1 / 16) * Real.exp (cum la t i)
def kinv (s : Fin 64) (i : Fin 256) : ℝ := k s i * eneg la s i
def kend (s : Fin 64) (i : Fin 256) : ℝ := k s i * eend la s i
def att (t s : Fin 64) : ℝ := if s ≤ t then ∑ i, qdec q la t i * kinv k la s i else 0
def datt (t s : Fin 64) : ℝ := if s ≤ t then ∑ j, d t j * v s j else 0
def dval (s : Fin 64) (j : Fin 512) : ℝ := (∑ t, att q k la t s * d t j) + ∑ i, kend k la s i * D j i
def dqdec (t : Fin 64) (i : Fin 256) : ℝ := (∑ s, datt v d t s * kinv k la s i) + ∑ j, d t j * S j i
def dkinv (s : Fin 64) (i : Fin 256) : ℝ := ∑ t, datt v d t s * qdec q la t i
def dkend (s : Fin 64) (i : Fin 256) : ℝ := ∑ j, v s j * D j i
def dstate (j : Fin 512) (i : Fin 256) : ℝ := D j i * Real.exp (tot la i) + ∑ t, d t j * qdec q la t i
def dquery (t : Fin 64) (i : Fin 256) : ℝ := dqdec k la v d S t i * (1 / 16) * Real.exp (cum la t i)
def dkey (s : Fin 64) (i : Fin 256) : ℝ := dkinv q la v d s i * eneg la s i + dkend v D s i * eend la s i
def dcum (t : Fin 64) (i : Fin 256) : ℝ :=
  dqdec k la v d S t i * qdec q la t i - dkinv q la v d t i * kinv k la t i - dkend v D t i * kend k la t i
def dtot (i : Fin 256) : ℝ :=
  (∑ s, dkend v D s i * kend k la s i) + Real.exp (tot la i) * ∑ j, D j i * S j i
def ddecay (s : Fin 64) (i : Fin 256) : ℝ :=
  (∑ t, if s ≤ t then dcum q k la v d S D t i else 0) + dtot k la v S D i

end Chunk

end Cert.Spec

end
-- ==== Proof.RealOps.lean ====
/- Arrays of REAL numbers among the ideal values. `up f` is the array whose element at `j` is the real `f j`. Every
   operation the two programs use sends such arrays to such arrays, and this module says to which: the elementwise ones
   at any shape, the layout ones as a change of index, a reduction over one axis as a sum over that axis, and a product as
   the sum over the contracted axis. -/
module

public import Idealize.ShloMosaic.PureOps
public import Idealize.ShloMosaic.PureOps.Ideal
public import Idealize.ShloMosaic.PureOps.Ideal.Laws
public import Idealize.ShloMosaic.Lib.ValueIdx
public import Idealize.ShloMosaic.Lib.Pipeline.Value

@[expose] public section

noncomputable section

open scoped BigOperators

namespace Cert.RealOps

open Idealize.ShloMosaic Idealize.ShloMosaic.ValueIdx

variable {s t : Shape} {φ ψ : FTy}

/-- The real array `f` among the ideal values. -/
def up (f : s.Idx → ℝ) : FVec Ideal s φ := fun j => ((f j : ℝ) : EReal)

/-- A vector, a matrix, and the two higher ranks by their coordinates. -/
abbrev r1 {a : Nat} (f : Fin a → ℝ) : FVec Ideal ⟨1, ![a]⟩ φ := up fun j => f (j 0)
abbrev r2 {a b : Nat} (f : Fin a → Fin b → ℝ) : FVec Ideal ⟨2, ![a, b]⟩ φ := up fun j => f (j 0) (j 1)
abbrev r3 {a b c : Nat} (f : Fin a → Fin b → Fin c → ℝ) : FVec Ideal ⟨3, ![a, b, c]⟩ φ := up fun j => f (j 0) (j 1) (j 2)
abbrev r4 {a b c d : Nat} (f : Fin a → Fin b → Fin c → Fin d → ℝ) : FVec Ideal ⟨4, ![a, b, c, d]⟩ φ :=
  up fun j => f (j 0) (j 1) (j 2) (j 3)

theorem up_apply (f : s.Idx → ℝ) (j : s.Idx) : (up f : FVec Ideal s φ) j = ((f j : ℝ) : EReal) := rfl

theorem up_congr {f g : s.Idx → ℝ} (h : ∀ j, f j = g j) : (up f : FVec Ideal s φ) = up g := by
  rw [funext h]

/-! ## Elementwise -/

theorem mulf_up (f g : s.Idx → ℝ) : mulf (up f : FVec Ideal s φ) (up g) = up fun j => f j * g j :=
  funext fun j => (EReal.coe_mul (f j) (g j)).symm
theorem addf_up (f g : s.Idx → ℝ) : addf (up f : FVec Ideal s φ) (up g) = up fun j => f j + g j :=
  funext fun j => (EReal.coe_add (f j) (g j)).symm
theorem subf_up (f g : s.Idx → ℝ) : subf (up f : FVec Ideal s φ) (up g) = up fun j => f j - g j :=
  funext fun j => (EReal.coe_sub (f j) (g j)).symm
theorem hostNegf_up (f : s.Idx → ℝ) : Host.negf (up f : FVec Ideal s φ) = up fun j => -f j :=
  funext fun j => (EReal.coe_neg (f j)).symm
theorem truncf_up (f : s.Idx → ℝ) (h : ψ.bits < φ.bits) : truncf ψ (up f : FVec Ideal s φ) h = up f := rfl
theorem extf_up (f : s.Idx → ℝ) (h : φ.bits < ψ.bits) : extf ψ (up f : FVec Ideal s φ) h = up f := rfl
theorem exp_up (f : s.Idx → ℝ) : exp (up f : FVec Ideal s φ) = up fun j => Real.exp (f j) := rfl
theorem hostExp_up (f : s.Idx → ℝ) : Host.exp (up f : FVec Ideal s φ) = up fun j => Real.exp (f j) := rfl

theorem idealDiv_coe (a b : ℝ) (h : b ≠ 0) : Ideal.div (a : EReal) (b : EReal) = ((a / b : ℝ) : EReal) := by
  rw [Ideal.div_coe h, ← EReal.coe_mul, mul_one_div]
theorem divf_up (f g : s.Idx → ℝ) (h : ∀ j, g j ≠ 0) : divf (up f : FVec Ideal s φ) (up g) = up fun j => f j / g j :=
  funext fun j => idealDiv_coe _ _ (h j)
theorem hostDivf_up (f g : s.Idx → ℝ) (h : ∀ j, g j ≠ 0) : Host.divf (up f : FVec Ideal s φ) (up g) = up fun j => f j / g j :=
  funext fun j => idealDiv_coe _ _ (h j)

theorem idealRsqrt_pos (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 h.le), if_neg h.ne']
theorem rsqrt_up (f : s.Idx → ℝ) (h : ∀ j, 0 < f j) : rsqrt (up f : FVec Ideal s φ) = up fun j => (Real.sqrt (f j))⁻¹ :=
  funext fun j => idealRsqrt_pos _ (h j)
theorem hostRsqrt_up (f : s.Idx → ℝ) (h : ∀ j, 0 < f j) : Host.rsqrt (up f : FVec Ideal s φ) = up fun j => (Real.sqrt (f j))⁻¹ :=
  funext fun j => idealRsqrt_pos _ (h j)

theorem logistic_up (f : s.Idx → ℝ) : logistic (up f : FVec Ideal s φ) = up fun j => 1 / (1 + Real.exp (-f j)) := by
  funext j
  show Ideal.div 1 (1 + Ideal.exp (-((f j : ℝ) : EReal))) = _
  have h1 : (1 + Ideal.exp (-((f j : ℝ) : EReal))) = ((1 + Real.exp (-f j) : ℝ) : EReal) := by
    rw [← EReal.coe_neg, EReal.coe_add]; rfl
  rw [h1, ← EReal.coe_one, idealDiv_coe _ _ (by positivity)]; rfl

/-- A constant splat, in the kernel's form and in the host's. -/
theorem broadcast_up (c : ℝ) : broadcast t ((c : EReal) : Ideal φ) = (up fun _ => c : FVec Ideal t φ) := rfl

/-! ## Layout -/

theorem broadcastTo_up (f : s.Idx → ℝ) (h : s.Broadcasts t) :
    broadcastTo t (up f : FVec Ideal s φ) h = up (broadcastTo t f h) := rfl
theorem broadcastInDim_up (dims : Fin s.rank → Fin t.rank) (h : s.BroadcastsInDim t dims) (f : s.Idx → ℝ) :
    broadcastInDim t dims h (up f : FVec Ideal s φ) = up (broadcastInDim t dims h f) := rfl
theorem shapeCast_up (f : s.Idx → ℝ) (h : s.ShapeCasts t) : shapeCast t (up f : FVec Ideal s φ) h = up (shapeCast t f h) := rfl
theorem transpose_up (perm : List (Fin s.rank)) (f : s.Idx → ℝ) (h : s.Transposes perm t) :
    transpose t perm (up f : FVec Ideal s φ) h = up (transpose t perm f h) := rfl
theorem slice_up (off : Fin s.rank → Nat) (f : s.Idx → ℝ) (h : s.Slices off t) :
    extractStridedSlice t off (up f : FVec Ideal s φ) h = up (extractStridedSlice t off f h) := rfl
theorem dynamicSlice_up (f : s.Idx → ℝ) (start : Fin s.rank → Int) (h : s.Slices (fun _ => 0) t) :
    Host.dynamicSlice t (up f : FVec Ideal s φ) start h = up (Host.dynamicSlice t f start h) := rfl
theorem select_up (c : IVec s 1) (f g : s.Idx → ℝ) : select c (up f : FVec Ideal s φ) (up g) = up (select c f g) := by
  funext j; show Scalar.select (c j) _ _ = (((select c f g j) : ℝ) : EReal)
  rw [select_apply]; unfold Scalar.select; split <;> rfl

section Layout2
variable {α : Type} {m n p : Nat}

/-- A column repeated along the rows, and a row repeated down them. -/
theorem broadcastTo_col (f : (⟨2, ![m, 1]⟩ : Shape).Idx → α) (h : (⟨2, ![m, 1]⟩ : Shape).Broadcasts ⟨2, ![m, n]⟩) :
    broadcastTo ⟨2, ![m, n]⟩ f h = fun j => f (ix2 (j 0 : Fin m) (0 : Fin 1)) := by
  funext j
  refine broadcastTo_apply f h j _ fun a => ?_
  fin_cases a
  · show (j 0).val = if m = 1 then 0 else (j 0).val
    split
    · have := (j 0).isLt; simp at this; omega
    · rfl
  · rfl
theorem broadcastTo_row (f : (⟨2, ![1, n]⟩ : Shape).Idx → α) (h : (⟨2, ![1, n]⟩ : Shape).Broadcasts ⟨2, ![m, n]⟩) :
    broadcastTo ⟨2, ![m, n]⟩ f h = fun j => f (ix2 (0 : Fin 1) (j 1 : Fin n)) := by
  funext j
  refine broadcastTo_apply f h j _ fun a => ?_
  fin_cases a
  · rfl
  · show (j 1).val = if n = 1 then 0 else (j 1).val
    split
    · have := (j 1).isLt; simp at this; omega
    · rfl

/-- A vector as a column, and as a row. -/
theorem shapeCast_col (f : (⟨1, ![m]⟩ : Shape).Idx → α) (h : (⟨1, ![m]⟩ : Shape).ShapeCasts ⟨2, ![m, 1]⟩) :
    shapeCast ⟨2, ![m, 1]⟩ f h = fun j => f (ix1 (j 0 : Fin m)) := by
  funext j
  refine shapeCast_apply f h j _ ?_
  rw [Shape.rowMajor_val_one, Shape.rowMajor_val_two]
  have h1 : (j 1).val = 0 := by have := (j 1).isLt; simp at this; omega
  show (j 0).val = (j 0).val * 1 + (j 1).val
  omega
theorem shapeCast_row (f : (⟨1, ![n]⟩ : Shape).Idx → α) (h : (⟨1, ![n]⟩ : Shape).ShapeCasts ⟨2, ![1, n]⟩) :
    shapeCast ⟨2, ![1, n]⟩ f h = fun j => f (ix1 (j 1 : Fin n)) := by
  funext j
  refine shapeCast_apply f h j _ ?_
  rw [Shape.rowMajor_val_one, Shape.rowMajor_val_two]
  have h0 : (j 0).val = 0 := by have := (j 0).isLt; simp at this; omega
  show (j 1).val = (j 0).val * n + (j 1).val
  rw [h0]; omega
/-- Leading axes of extent one, dropped and added. -/
theorem shapeCast_drop1 (f : (⟨3, ![1, m, n]⟩ : Shape).Idx → α) (h : (⟨3, ![1, m, n]⟩ : Shape).ShapeCasts ⟨2, ![m, n]⟩) :
    shapeCast ⟨2, ![m, n]⟩ f h = fun j => f (ix3 (0 : Fin 1) (j 0 : Fin m) (j 1 : Fin n)) := by
  funext j
  refine shapeCast_apply f h j _ ?_
  rw [Shape.rowMajor_val_three, Shape.rowMajor_val_two]
  show ((0 : Fin 1).val * m + (j 0).val) * n + (j 1).val = (j 0).val * n + (j 1).val
  simp
theorem shapeCast_add1 (f : (⟨2, ![m, n]⟩ : Shape).Idx → α) (h : (⟨2, ![m, n]⟩ : Shape).ShapeCasts ⟨3, ![1, m, n]⟩) :
    shapeCast ⟨3, ![1, m, n]⟩ f h = fun j => f (ix2 (j 1 : Fin m) (j 2 : Fin n)) := by
  funext j
  refine shapeCast_apply f h j _ ?_
  rw [Shape.rowMajor_val_three, Shape.rowMajor_val_two]
  have h0 : (j 0).val = 0 := by have := (j 0).isLt; simp at this; omega
  show (j 1).val * n + (j 2).val = ((j 0).val * m + (j 1).val) * n + (j 2).val
  rw [h0]; simp
theorem shapeCast_drop11 (f : (⟨4, ![1, 1, m, n]⟩ : Shape).Idx → α) (h : (⟨4, ![1, 1, m, n]⟩ : Shape).ShapeCasts ⟨2, ![m, n]⟩) :
    shapeCast ⟨2, ![m, n]⟩ f h = fun j => f (ix4 (0 : Fin 1) (0 : Fin 1) (j 0 : Fin m) (j 1 : Fin n)) := by
  funext j
  refine shapeCast_apply f h j _ ?_
  rw [Shape.rowMajor_val_four, Shape.rowMajor_val_two]
  show (((0 : Fin 1).val * 1 + (0 : Fin 1).val) * m + (j 0).val) * n + (j 1).val = (j 0).val * n + (j 1).val
  simp

end Layout2

/-! ## Sums -/

/-- A finite sum of reals is the sum among the ideal values. -/
theorem coe_sum {ι : Type*} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A reduction by sum over one axis. -/
theorem multiReduction_up {a : Fin s.rank} (f : s.Idx → ℝ) (acc : BitVec φ.bits) (h : s.Reduces [a] t)
    (hφ : FKind.Formats φ) (hacc : acc = FKind.add.neutral φ hφ) :
    multiReduction .add [a] t (up f : FVec Ideal s φ) acc h hφ hacc = up fun j => ∑ k : Fin (s.size a), f (h.lift j k) := by
  funext j
  rw [Ideal.multiReduction_add_single, up_apply, coe_sum]; rfl

theorem hostReduceAdd_up {a : Fin s.rank} {u : Shape} (f : s.Idx → ℝ) (init : u.Idx → Ideal φ) (h' : s.ReducesTo [a] t)
    (h : s.Reduces [a] t) (hu : 0 < u.numel) (hi : init (Shape.Idx.first hu) = ((0 : ℝ) : EReal)) :
    Host.reduceAdd (up f : FVec Ideal s φ) init h' hu = up fun j => ∑ k : Fin (s.size a), f (h.lift j k) := by
  funext j
  show Ideal.hostReduceAdd h' (up f : FVec Ideal s φ) (init (Shape.Idx.first hu)) j = _
  rw [Ideal.hostReduceAdd_single h' h, hi, EReal.coe_zero, zero_add, up_apply, coe_sum]; rfl

/-- The lifts of a matrix's two single-axis reductions, by coordinates. -/
theorem lift_rows {m n : Nat} (h : (⟨2, ![m, n]⟩ : Shape).Reduces [0] ⟨1, ![n]⟩) (j : (⟨1, ![n]⟩ : Shape).Idx) (k : Fin m) :
    h.lift j k = ix2 k (j 0 : Fin n) := by
  funext c; refine Fin.ext ((h.lift_val j k c).trans ?_)
  fin_cases c <;> simp [Shape.Reduces.liftVal] <;> rfl
theorem lift_cols {m n : Nat} (h : (⟨2, ![m, n]⟩ : Shape).Reduces [1] ⟨1, ![m]⟩) (j : (⟨1, ![m]⟩ : Shape).Idx) (k : Fin n) :
    h.lift j k = ix2 (j 0 : Fin m) k := by
  funext c; refine Fin.ext ((h.lift_val j k c).trans ?_)
  fin_cases c <;> simp [Shape.Reduces.liftVal] <;> rfl

/-- A product with one contracted axis, its operands read at named indices. -/
theorem matmul_up {sl sr so : Shape} {φ₁ φ₂ : FTy} (D : DotDims sl sr so) (prec : Option ContractPrecision) (K : Nat)
    (hr : D.contr.rank = 1) (hs : D.contr.size ⟨0, by omega⟩ = K) (f : sl.Idx → ℝ) (g : sr.Idx → ℝ)
    (L : so.Idx → Fin K → sl.Idx) (R : so.Idx → Fin K → sr.Idx)
    (hL : ∀ j k, D.lhsIdx j ((contrEquiv1 D K hr hs).symm k) = L j k)
    (hR : ∀ j k, D.rhsIdx j ((contrEquiv1 D K hr hs).symm k) = R j k) :
    matmul D prec (up f : FVec Ideal sl φ₁) (up g : FVec Ideal sr φ₂) (constant so .f32 0x00000000#32)
      = up fun j => ∑ k, f (L j k) * g (R j k) := by
  funext j
  show FloatOps.matmul D prec _ _ _ j = _
  rw [Ideal.matmul_constant_zero_apply, up_apply, coe_sum, ← (contrEquiv1 D K hr hs).symm.sum_comp]
  refine Finset.sum_congr rfl fun k _ => ?_
  rw [hL, hR, EReal.coe_mul]; rfl

theorem dotGeneral_up {sl sr so : Shape} {φ₁ φ₂ : FTy} (D : DotDims sl sr so) (prec : Option ContractPrecision) (K : Nat)
    (hr : D.contr.rank = 1) (hs : D.contr.size ⟨0, by omega⟩ = K) (f : sl.Idx → ℝ) (g : sr.Idx → ℝ)
    (L : so.Idx → Fin K → sl.Idx) (R : so.Idx → Fin K → sr.Idx)
    (hL : ∀ j k, D.lhsIdx j ((contrEquiv1 D K hr hs).symm k) = L j k)
    (hR : ∀ j k, D.rhsIdx j ((contrEquiv1 D K hr hs).symm k) = R j k) :
    Host.dotGeneral D prec (up f : FVec Ideal sl φ₁) (up g : FVec Ideal sr φ₂)
      = up fun j => ∑ k, f (L j k) * g (R j k) := by
  funext j
  show (0 : EReal) + ∑ k : D.contr.Idx, _ = _
  rw [zero_add, up_apply, coe_sum, ← (contrEquiv1 D K hr hs).symm.sum_comp]
  refine Finset.sum_congr rfl fun k _ => ?_
  rw [hL, hR, EReal.coe_mul]; rfl

end Cert.RealOps

end
-- ==== Proof.ChunkUp.lean ====
/- The kernel's chunk functions (`Chunk`) on arrays of real numbers are the real functions (`Spec`). -/
module

public import proofs.«01_k».proof.Proof.Chunk
public import proofs.«01_k».proof.Proof.Spec
public import proofs.«01_k».proof.Proof.RealOps

@[expose] public section

noncomputable section

open scoped BigOperators

namespace Cert.ChunkUp

open Idealize.ShloMosaic Idealize.ShloMosaic.ValueIdx Cert.KernelIdeal Cert.RealOps
open Cert.KernelIdeal.Facts₀ Cert.KernelIdeal.Facts

/-! ## The programs' constants -/

theorem c512 : (Scalar.ofBits .f32 0x44000000#32 : Ideal .f32) = ((512 : ℝ) : EReal) := by
  show Ideal.ofBits .f32 0x44000000#32 = _
  simp [Ideal.ofBits, Ideal.ieee, -EReal.coe_mul]; norm_num
theorem ceps : (Scalar.ofBits .f32 0x358637BD#32 : Ideal .f32) = ((Spec.eps : ℝ) : EReal) := by
  show Ideal.ofBits .f32 0x358637BD#32 = _
  unfold Spec.eps
  simp [Ideal.ofBits, Ideal.ieee, -EReal.coe_mul]; norm_num
theorem c16 : (Scalar.ofBits .f32 0x3D800000#32 : Ideal .f32) = ((1 / 16 : ℝ) : EReal) := by
  show Ideal.ofBits .f32 0x3D800000#32 = _
  simp [Ideal.ofBits, Ideal.ieee, -EReal.coe_mul]; norm_num
theorem c1 : (Scalar.ofBits .f32 0x3F800000#32 : Ideal .f32) = ((1 : ℝ) : EReal) := by
  show Ideal.ofBits .f32 0x3F800000#32 = _
  simp [Ideal.ofBits, Ideal.ieee, -EReal.coe_mul]; norm_num
theorem c0 : (Scalar.ofBits .f32 0x00000000#32 : Ideal .f32) = ((0 : ℝ) : EReal) := by
  show Ideal.ofBits .f32 0x00000000#32 = _
  simp [Ideal.ofBits, Ideal.ieee]

theorem eps_pos : 0 < Spec.eps := by unfold Spec.eps; norm_num

/-! ## The kernel's products -/

section Dots
variable {φ₁ φ₂ : FTy}

theorem mm_tt (f : S64x64.Idx → ℝ) (g : S64x256.Idx → ℝ) :
    matmul dot_S64x64_S64x256_S64x256_1_0_0_1_n_n none (up f : FVec Ideal _ φ₁) (up g : FVec Ideal _ φ₂) (constant S64x256 .f32 0x00000000#32)
      = up fun j => ∑ k : Fin 64, f (ix2 (j 0 : Fin 64) k) * g (ix2 k (j 1 : Fin 256)) :=
  matmul_up dot_S64x64_S64x256_S64x256_1_0_0_1_n_n none 64 rfl rfl f g (fun j k => ix2 (j 0 : Fin 64) k) (fun j k => ix2 k (j 1 : Fin 256))
    (fun j k => by funext a; fin_cases a <;> rfl) (fun j k => by funext a; fin_cases a <;> rfl)
theorem mm_qk (f : S64x256.Idx → ℝ) (g : S64x256.Idx → ℝ) :
    matmul dot_S64x256_S64x256_S64x64_1_1_0_0_n_n none (up f : FVec Ideal _ φ₁) (up g : FVec Ideal _ φ₂) (constant S64x64 .f32 0x00000000#32)
      = up fun j => ∑ k : Fin 256, f (ix2 (j 0 : Fin 64) k) * g (ix2 (j 1 : Fin 64) k) :=
  matmul_up dot_S64x256_S64x256_S64x64_1_1_0_0_n_n none 256 rfl rfl f g (fun j k => ix2 (j 0 : Fin 64) k) (fun j k => ix2 (j 1 : Fin 64) k)
    (fun j k => by funext a; fin_cases a <;> rfl) (fun j k => by funext a; fin_cases a <;> rfl)
theorem mm_dv (f : S64x512.Idx → ℝ) (g : S64x512.Idx → ℝ) :
    matmul dot_S64x512_S64x512_S64x64_1_1_0_0_n_n none (up f : FVec Ideal _ φ₁) (up g : FVec Ideal _ φ₂) (constant S64x64 .f32 0x00000000#32)
      = up fun j => ∑ k : Fin 512, f (ix2 (j 0 : Fin 64) k) * g (ix2 (j 1 : Fin 64) k) :=
  matmul_up dot_S64x512_S64x512_S64x64_1_1_0_0_n_n none 512 rfl rfl f g (fun j k => ix2 (j 0 : Fin 64) k) (fun j k => ix2 (j 1 : Fin 64) k)
    (fun j k => by funext a; fin_cases a <;> rfl) (fun j k => by funext a; fin_cases a <;> rfl)
theorem mm_ad (f : S64x64.Idx → ℝ) (g : S64x512.Idx → ℝ) :
    matmul dot_S64x64_S64x512_S64x512_0_0_1_1_n_n none (up f : FVec Ideal _ φ₁) (up g : FVec Ideal _ φ₂) (constant S64x512 .f32 0x00000000#32)
      = up fun j => ∑ k : Fin 64, f (ix2 k (j 0 : Fin 64)) * g (ix2 k (j 1 : Fin 512)) :=
  matmul_up dot_S64x64_S64x512_S64x512_0_0_1_1_n_n none 64 rfl rfl f g (fun j k => ix2 k (j 0 : Fin 64)) (fun j k => ix2 k (j 1 : Fin 512))
    (fun j k => by funext a; fin_cases a <;> rfl) (fun j k => by funext a; fin_cases a <;> rfl)
theorem mm_kD (f : S64x256.Idx → ℝ) (g : S512x256.Idx → ℝ) :
    matmul dot_S64x256_S512x256_S64x512_1_1_0_0_n_n none (up f : FVec Ideal _ φ₁) (up g : FVec Ideal _ φ₂) (constant S64x512 .f32 0x00000000#32)
      = up fun j => ∑ k : Fin 256, f (ix2 (j 0 : Fin 64) k) * g (ix2 (j 1 : Fin 512) k) :=
  matmul_up dot_S64x256_S512x256_S64x512_1_1_0_0_n_n none 256 rfl rfl f g (fun j k => ix2 (j 0 : Fin 64) k) (fun j k => ix2 (j 1 : Fin 512) k)
    (fun j k => by funext a; fin_cases a <;> rfl) (fun j k => by funext a; fin_cases a <;> rfl)
theorem mm_dS (f : S64x512.Idx → ℝ) (g : S512x256.Idx → ℝ) :
    matmul dot_S64x512_S512x256_S64x256_1_0_0_1_n_n none (up f : FVec Ideal _ φ₁) (up g : FVec Ideal _ φ₂) (constant S64x256 .f32 0x00000000#32)
      = up fun j => ∑ k : Fin 512, f (ix2 (j 0 : Fin 64) k) * g (ix2 k (j 1 : Fin 256)) :=
  matmul_up dot_S64x512_S512x256_S64x256_1_0_0_1_n_n none 512 rfl rfl f g (fun j k => ix2 (j 0 : Fin 64) k) (fun j k => ix2 k (j 1 : Fin 256))
    (fun j k => by funext a; fin_cases a <;> rfl) (fun j k => by funext a; fin_cases a <;> rfl)
theorem mm_aq (f : S64x64.Idx → ℝ) (g : S64x256.Idx → ℝ) :
    matmul dot_S64x64_S64x256_S64x256_0_0_1_1_n_n none (up f : FVec Ideal _ φ₁) (up g : FVec Ideal _ φ₂) (constant S64x256 .f32 0x00000000#32)
      = up fun j => ∑ k : Fin 64, f (ix2 k (j 0 : Fin 64)) * g (ix2 k (j 1 : Fin 256)) :=
  matmul_up dot_S64x64_S64x256_S64x256_0_0_1_1_n_n none 64 rfl rfl f g (fun j k => ix2 k (j 0 : Fin 64)) (fun j k => ix2 k (j 1 : Fin 256))
    (fun j k => by funext a; fin_cases a <;> rfl) (fun j k => by funext a; fin_cases a <;> rfl)
theorem mm_dq (f : S64x512.Idx → ℝ) (g : S64x256.Idx → ℝ) :
    matmul dot_S64x512_S64x256_S512x256_0_0_1_1_n_n none (up f : FVec Ideal _ φ₁) (up g : FVec Ideal _ φ₂) (constant S512x256 .f32 0x00000000#32)
      = up fun j => ∑ k : Fin 64, f (ix2 k (j 0 : Fin 512)) * g (ix2 k (j 1 : Fin 256)) :=
  matmul_up dot_S64x512_S64x256_S512x256_0_0_1_1_n_n none 64 rfl rfl f g (fun j k => ix2 k (j 0 : Fin 512)) (fun j k => ix2 k (j 1 : Fin 256))
    (fun j k => by funext a; fin_cases a <;> rfl) (fun j k => by funext a; fin_cases a <;> rfl)

end Dots

/-! ## Reductions and masks -/

theorem sum_cols {m n : Nat} (f : (⟨2, ![m, n]⟩ : Shape).Idx → ℝ) (h : (⟨2, ![m, n]⟩ : Shape).Reduces [1] ⟨1, ![m]⟩)
    (hφ : FKind.Formats .f32) (hacc : 0x00000000#32 = FKind.add.neutral .f32 hφ)
    (hc : (⟨1, ![m]⟩ : Shape).ShapeCasts ⟨2, ![m, 1]⟩) :
    shapeCast ⟨2, ![m, 1]⟩ (multiReduction .add [1] ⟨1, ![m]⟩ (up f : FVec Ideal ⟨2, ![m, n]⟩ .f32) 0x00000000#32 h hφ hacc) hc
      = up fun j => ∑ k : Fin n, f (ix2 (j 0 : Fin m) k) := by
  rw [multiReduction_up, shapeCast_up, shapeCast_col]
  refine up_congr fun j => ?_
  exact Finset.sum_congr rfl fun k _ => congrArg f (lift_cols h _ k)
theorem sum_rows {m n : Nat} (f : (⟨2, ![m, n]⟩ : Shape).Idx → ℝ) (h : (⟨2, ![m, n]⟩ : Shape).Reduces [0] ⟨1, ![n]⟩)
    (hφ : FKind.Formats .f32) (hacc : 0x00000000#32 = FKind.add.neutral .f32 hφ)
    (hc : (⟨1, ![n]⟩ : Shape).ShapeCasts ⟨2, ![1, n]⟩) :
    shapeCast ⟨2, ![1, n]⟩ (multiReduction .add [0] ⟨1, ![n]⟩ (up f : FVec Ideal ⟨2, ![m, n]⟩ .f32) 0x00000000#32 h hφ hacc) hc
      = up fun j => ∑ k : Fin m, f (ix2 k (j 1 : Fin n)) := by
  rw [multiReduction_up, shapeCast_up, shapeCast_row]
  refine up_congr fun j => ?_
  exact Finset.sum_congr rfl fun k _ => congrArg f (lift_rows h _ k)

theorem sum64x512 (f : S64x512.Idx → ℝ) :
    shapeCast S64x1 (multiReduction .add [1] S64 (up f : FVec Ideal S64x512 .f32) 0x00000000#32 reduces_S64x512_S64 (.inl rfl) rfl) shapeCasts_S64_S64x1
      = up fun j => ∑ k : Fin 512, f (ix2 (j 0 : Fin 64) k) := sum_cols f _ _ _ _
theorem sum512 (f : S64x512.Idx → ℝ) :
    shapeCast S1x512 (multiReduction .add [0] S512 (up f : FVec Ideal S64x512 .f32) 0x00000000#32 reduces_S64x512_S512 (.inl rfl) rfl) shapeCasts_S512_S1x512
      = up fun j => ∑ k : Fin 64, f (ix2 k (j 1 : Fin 512)) := sum_rows f _ _ _ _
theorem sum256 (f : S64x256.Idx → ℝ) :
    shapeCast S1x256 (multiReduction .add [0] S256 (up f : FVec Ideal S64x256 .f32) 0x00000000#32 reduces_S64x256_S256 (.inl rfl) rfl) shapeCasts_S256_S1x256
      = up fun j => ∑ k : Fin 64, f (ix2 k (j 1 : Fin 256)) := sum_rows f _ _ _ _
theorem sumS (f : S512x256.Idx → ℝ) :
    shapeCast S1x256 (multiReduction .add [0] S256 (up f : FVec Ideal S512x256 .f32) 0x00000000#32 reduces_S512x256_S256 (.inl rfl) rfl) shapeCasts_S256_S1x256
      = up fun j => ∑ k : Fin 512, f (ix2 k (j 1 : Fin 256)) := sum_rows f _ _ _ _
theorem shapeCast_same {s : Shape} {α : Type} (f : s.Idx → α) (h : s.ShapeCasts s) : shapeCast s f h = f :=
  funext fun j => shapeCast_apply f h j j rfl

theorem causal_apply (j : S64x64.Idx) : Chunk.causal j = if (j 1 : Fin 64) ≤ (j 0 : Fin 64) then 1#1 else 0#1 := by
  have key : ∀ a b : Fin 64, Chunk.causal (ix2 a b) = if b ≤ a then 1#1 else 0#1 := by decide +kernel
  rw [eq_ix2 j]; exact key _ _
theorem anticausal_apply (j : S64x64.Idx) : Chunk.anticausal j = if (j 0 : Fin 64) ≤ (j 1 : Fin 64) then 1#1 else 0#1 := by
  have key : ∀ a b : Fin 64, Chunk.anticausal (ix2 a b) = if a ≤ b then 1#1 else 0#1 := by decide +kernel
  rw [eq_ix2 j]; exact key _ _

/-- A mask as an array of zeros and ones. -/
theorem mask_up {ψ : FTy} (m : IVec S64x64 1) (p : Fin 64 → Fin 64 → Bool)
    (hm : ∀ j : S64x64.Idx, m j = if p (j 0) (j 1) then 1#1 else 0#1) :
    (sitofp .f32 (extui 32 m natLt_1_32) : FVec Ideal S64x64 .f32) = up fun j => if p (j 0) (j 1) then 1 else 0 := by
  funext j
  rw [up_apply, sitofp_apply, extui_apply, hm]
  split
  · show (((1 : ℤ) : ℝ) : EReal) = _; norm_num
  · show (((0 : ℤ) : ℝ) : EReal) = _; norm_num

/-- The split in three parts loses nothing: the second and third part of a real number are zero. -/
theorem maskedSum_up (m : IVec S64x64 1) (p : Fin 64 → Fin 64 → Bool)
    (hm : ∀ j : S64x64.Idx, m j = if p (j 0) (j 1) then 1#1 else 0#1) (x : Fin 64 → Fin 256 → ℝ) :
    Chunk.maskedSum m (r2 x) = (r2 fun t i => ∑ s, if p t s then x s i else 0 : FVec Ideal S64x256 .f32) := by
  unfold Chunk.maskedSum
  rw [mask_up (ψ := .f32) m p hm]
  simp only [truncf_up, extf_up, subf_up, mm_tt, addf_up]
  refine up_congr fun j => ?_
  simp

theorem select_causal (f g : S64x64.Idx → ℝ) :
    select Chunk.causal (up f : FVec Ideal S64x64 .f32) (up g) = up fun j => if (j 1 : Fin 64) ≤ (j 0 : Fin 64) then f j else g j := by
  rw [select_up]
  refine up_congr fun j => ?_
  rw [select_apply, causal_apply]
  unfold Scalar.select
  by_cases hj : (j 1 : Fin 64) ≤ (j 0 : Fin 64)
  · rw [if_pos hj]; exact (if_pos hj).symm
  · rw [if_neg hj]; exact (if_neg hj).symm

/-! ## The gated RMS norm -/

section Gate
variable (hn : Fin 512 → ℝ) (o r g : Fin 64 → Fin 512 → ℝ)

theorem rinv_up : Chunk.rinv (r2 o) = (up fun j => Spec.inv o (j 0) : FVec Ideal S64x1 .f32) := by
  unfold Chunk.rinv
  rw [mulf_up, sum64x512, c512, broadcast_up, divf_up _ _ (fun _ => by norm_num), ceps, broadcast_up, addf_up, rsqrt_up]
  · rfl
  · intro j
    have h : 0 ≤ ∑ k : Fin 512, o (j 0) k * o (j 0) k := Finset.sum_nonneg fun k _ => mul_self_nonneg _
    have := eps_pos
    show 0 < (∑ k : Fin 512, o (j 0) k * o (j 0) k) / 512 + Spec.eps
    positivity
theorem ohat_up : Chunk.ohat (r2 o) = (r2 (Spec.oh o) : FVec Ideal S64x512 .f32) := by
  unfold Chunk.ohat
  rw [rinv_up, broadcastTo_up, broadcastTo_col, mulf_up]; rfl
theorem dnorm_up : Chunk.dnorm (r2 r) (r2 g) = (r2 (Spec.don r g) : FVec Ideal S64x512 .f32) := by
  unfold Chunk.dnorm
  rw [logistic_up, mulf_up, mulf_up]; rfl
theorem dgate_up : Chunk.dgate (up fun j => hn (j 1)) (r2 o) (r2 r) (r2 g) = (r2 (Spec.dr hn o r g) : FVec Ideal S64x512 .bf16) := by
  unfold Chunk.dgate
  rw [ohat_up, broadcastTo_up, broadcastTo_row, logistic_up, c1, broadcast_up (φ := .f32)]
  simp only [mulf_up, subf_up, addf_up, truncf_up]; rfl
theorem dgain_up (acc : Fin 512 → ℝ) : Chunk.dgain (up fun j => acc (j 1)) (r2 o) (r2 r) (r2 g)
    = (up fun j => acc (j 1) + Spec.dgain o r g (j 1) : FVec Ideal S1x512 .f32) := by
  unfold Chunk.dgain
  rw [ohat_up, dnorm_up, mulf_up, sum512, shapeCast_same, addf_up]; rfl
theorem dohat_up : Chunk.dohat (up fun j => hn (j 1)) (r2 r) (r2 g) = (r2 (Spec.dohat hn r g) : FVec Ideal S64x512 .f32) := by
  unfold Chunk.dohat
  rw [dnorm_up, broadcastTo_up, broadcastTo_row, mulf_up]; rfl
theorem dout_up : Chunk.dout (up fun j => hn (j 1)) (r2 o) (r2 r) (r2 g) = (r2 (Spec.dout hn o r g) : FVec Ideal S64x512 .f32) := by
  unfold Chunk.dout
  rw [rinv_up, ohat_up, dohat_up, mulf_up, sum64x512, c512, broadcast_up, divf_up _ _ (fun _ => by norm_num),
    broadcastTo_up, broadcastTo_col, broadcastTo_up, broadcastTo_col, mulf_up, subf_up, mulf_up]; rfl

end Gate

/-! ## The chunk -/

section Chunk
variable (q k la : Fin 64 → Fin 256 → ℝ) (v d : Fin 64 → Fin 512 → ℝ) (S D : Fin 512 → Fin 256 → ℝ)

theorem cum_up : Chunk.cum (r2 la) = (r2 (Spec.cum la) : FVec Ideal S64x256 .f32) := by
  unfold Chunk.cum
  rw [maskedSum_up Chunk.causal (fun t s => decide (s ≤ t)) (fun j => by simp only [decide_eq_true_eq]; exact causal_apply j)]
  simp; rfl
theorem tot_up : Chunk.tot (r2 la) = (up fun j => Spec.tot la (j 1) : FVec Ideal S1x256 .f32) := by
  unfold Chunk.tot
  rw [sum256]; rfl
theorem eneg_up : Chunk.eneg (r2 la) = (r2 (Spec.eneg la) : FVec Ideal S64x256 .f32) := by
  unfold Chunk.eneg
  rw [cum_up, c0, broadcast_up, subf_up, exp_up]; rfl
theorem eend_up : Chunk.eend (r2 la) = (r2 (Spec.eend la) : FVec Ideal S64x256 .f32) := by
  unfold Chunk.eend
  rw [cum_up, tot_up, broadcastTo_up, broadcastTo_row, subf_up, exp_up]; rfl
theorem qdec_up : Chunk.qdec (r2 q) (r2 la) = (r2 (Spec.qdec q la) : FVec Ideal S64x256 .f32) := by
  unfold Chunk.qdec
  rw [cum_up, c16, broadcast_up, exp_up, mulf_up, mulf_up]; rfl
theorem kinv_up : Chunk.kinv (r2 k) (r2 la) = (r2 (Spec.kinv k la) : FVec Ideal S64x256 .f32) := by
  unfold Chunk.kinv
  rw [eneg_up, mulf_up]; rfl
theorem kend_up : Chunk.kend (r2 k) (r2 la) = (r2 (Spec.kend k la) : FVec Ideal S64x256 .f32) := by
  unfold Chunk.kend
  rw [eend_up, mulf_up]; rfl
theorem slab_up : Chunk.slab (up fun j => D (j 1) (j 2)) = (r2 D : FVec Ideal S512x256 .f32) := by
  unfold Chunk.slab
  rw [shapeCast_up, shapeCast_drop1]
theorem saved_up : Chunk.saved (up fun j => S (j 2) (j 3)) = (r2 S : FVec Ideal S512x256 .f32) := by
  unfold Chunk.saved
  rw [shapeCast_up, shapeCast_drop11]
theorem att_up : Chunk.att (r2 q) (r2 k) (r2 la) = (r2 (Spec.att q k la) : FVec Ideal S64x64 .f32) := by
  unfold Chunk.att
  rw [qdec_up, kinv_up, truncf_up, truncf_up, mm_qk, c0, broadcast_up, select_causal]; rfl
theorem datt_up : Chunk.datt (r2 v) (r2 d) = (r2 (Spec.datt v d) : FVec Ideal S64x64 .f32) := by
  unfold Chunk.datt
  rw [truncf_up, truncf_up, mm_dv, c0, broadcast_up, select_causal]; rfl
theorem dval_up : Chunk.dval (r2 q) (r2 k) (r2 la) (r2 d) (r2 D) = (r2 (Spec.dval q k la d D) : FVec Ideal S64x512 .bf16) := by
  unfold Chunk.dval
  rw [att_up, kend_up]
  simp only [truncf_up, mm_ad, mm_kD, addf_up]; rfl
theorem dqdec_up : Chunk.dqdec (r2 k) (r2 la) (r2 v) (r2 d) (r2 S) = (r2 (Spec.dqdec k la v d S) : FVec Ideal S64x256 .f32) := by
  unfold Chunk.dqdec
  rw [datt_up, kinv_up]
  simp only [truncf_up, mm_tt, mm_dS, addf_up]; rfl
theorem dkinv_up : Chunk.dkinv (r2 q) (r2 la) (r2 v) (r2 d) = (r2 (Spec.dkinv q la v d) : FVec Ideal S64x256 .f32) := by
  unfold Chunk.dkinv
  rw [datt_up, qdec_up]
  simp only [truncf_up, mm_aq]; rfl
theorem dkend_up : Chunk.dkend (r2 v) (r2 D) = (r2 (Spec.dkend v D) : FVec Ideal S64x256 .f32) := by
  unfold Chunk.dkend
  simp only [truncf_up, mm_dS]; rfl
theorem dstate_up : Chunk.dstate (r2 q) (r2 la) (r2 d) (r2 D) = (r2 (Spec.dstate q la d D) : FVec Ideal S512x256 .f32) := by
  unfold Chunk.dstate
  rw [tot_up, qdec_up, exp_up, broadcastTo_up, broadcastTo_row]
  simp only [truncf_up, mm_dq, mulf_up, addf_up]; rfl
theorem dstateSlab_up : Chunk.dstateSlab (r2 q) (r2 la) (r2 d) (r2 D)
    = (up fun j => Spec.dstate q la d D (j 1) (j 2) : FVec Ideal S1x512x256 .f32) := by
  unfold Chunk.dstateSlab
  rw [dstate_up, shapeCast_up, shapeCast_add1]
theorem dquery_up : Chunk.dquery (r2 k) (r2 la) (r2 v) (r2 d) (r2 S) = (r2 (Spec.dquery k la v d S) : FVec Ideal S64x256 .bf16) := by
  unfold Chunk.dquery
  rw [dqdec_up, cum_up, c16, broadcast_up, exp_up, mulf_up, mulf_up, truncf_up]; rfl
theorem dkey_up : Chunk.dkey (r2 q) (r2 la) (r2 v) (r2 d) (r2 D) = (r2 (Spec.dkey q la v d D) : FVec Ideal S64x256 .bf16) := by
  unfold Chunk.dkey
  rw [dkinv_up, dkend_up, eneg_up, eend_up, mulf_up, mulf_up, addf_up, truncf_up]; rfl
theorem dcum_up : Chunk.dcum (r2 q) (r2 k) (r2 la) (r2 v) (r2 d) (r2 S) (r2 D)
    = (r2 (Spec.dcum q k la v d S D) : FVec Ideal S64x256 .f32) := by
  unfold Chunk.dcum
  rw [dqdec_up, qdec_up, dkinv_up, kinv_up, dkend_up, kend_up]
  simp only [mulf_up, subf_up]; rfl
theorem dtot_up : Chunk.dtot (r2 k) (r2 la) (r2 v) (r2 S) (r2 D) = (up fun j => Spec.dtot k la v S D (j 1) : FVec Ideal S1x256 .f32) := by
  unfold Chunk.dtot
  rw [dkend_up, kend_up, tot_up, exp_up, mulf_up, mulf_up, sum256, sumS, mulf_up, addf_up]; rfl
theorem ddecay_up : Chunk.ddecay (r2 q) (r2 k) (r2 la) (r2 v) (r2 d) (r2 S) (r2 D)
    = (r2 (Spec.ddecay q k la v d S D) : FVec Ideal S64x256 .f32) := by
  unfold Chunk.ddecay
  rw [dcum_up, dtot_up, maskedSum_up Chunk.anticausal (fun t s => decide (t ≤ s)) (fun j => by simp only [decide_eq_true_eq]; exact anticausal_apply j),
    broadcastTo_up, broadcastTo_row, addf_up]
  simp; rfl

end Chunk

end Cert.ChunkUp

end
-- ==== Proof.Whole.lean ====
/- The whole layer over the real numbers: the chunks' functions (`Spec`) at every chunk of every head, the state cotangents
   handed from a head's chunk to the one before it, and the results as arrays of rows and columns. -/
module

public import proofs.«01_k».proof.Proof.Spec

@[expose] public section

noncomputable section

open scoped BigOperators

namespace Cert.Spec

/-- The arguments, as functions of their coordinates: queries, keys and log decays [row, key], values, gate, recurrence output and
    output cotangent [row, value], the saved states [head, chunk, value, key] and the gain. -/
structure Args where
  q : ℕ → ℕ → ℝ
  k : ℕ → ℕ → ℝ
  la : ℕ → ℕ → ℝ
  v : ℕ → ℕ → ℝ
  r : ℕ → ℕ → ℝ
  o : ℕ → ℕ → ℝ
  g : ℕ → ℕ → ℝ
  S : ℕ → ℕ → ℕ → ℕ → ℝ
  hn : ℕ → ℝ

/-- Chunk `c` of head `h` of an array by rows. -/
def cut256 (x : ℕ → ℕ → ℝ) (c h : ℕ) (i : Fin 64) (j : Fin 256) : ℝ := x (64 * c + i) (256 * h + j)
def cut512 (x : ℕ → ℕ → ℝ) (c h : ℕ) (i : Fin 64) (j : Fin 512) : ℝ := x (64 * c + i) (512 * h + j)

/-- The array by rows whose chunks these are. -/
def glue256 (f : ℕ → ℕ → Fin 64 → Fin 256 → ℝ) (r j : ℕ) : ℝ :=
  f (r / 64) (j / 256) ⟨r % 64, Nat.mod_lt _ (by norm_num)⟩ ⟨j % 256, Nat.mod_lt _ (by norm_num)⟩
def glue512 (f : ℕ → ℕ → Fin 64 → Fin 512 → ℝ) (r j : ℕ) : ℝ :=
  f (r / 64) (j / 512) ⟨r % 64, Nat.mod_lt _ (by norm_num)⟩ ⟨j % 512, Nat.mod_lt _ (by norm_num)⟩

theorem glue256_at (f : ℕ → ℕ → Fin 64 → Fin 256 → ℝ) (c h : ℕ) (i : Fin 64) (j : Fin 256) :
    glue256 f (64 * c + i) (256 * h + j) = f c h i j := by
  have := i.isLt; have := j.isLt
  unfold glue256
  rw [show (64 * c + i.val) / 64 = c by omega, show (256 * h + j.val) / 256 = h by omega]
  congr 1 <;> exact Fin.ext (by show _ % _ = _; omega)
theorem glue512_at (f : ℕ → ℕ → Fin 64 → Fin 512 → ℝ) (c h : ℕ) (i : Fin 64) (j : Fin 512) :
    glue512 f (64 * c + i) (512 * h + j) = f c h i j := by
  have := i.isLt; have := j.isLt
  unfold glue512
  rw [show (64 * c + i.val) / 64 = c by omega, show (512 * h + j.val) / 512 = h by omega]
  congr 1 <;> exact Fin.ext (by show _ % _ = _; omega)

namespace Args
variable (A : Args)

def qc (c h : ℕ) := cut256 A.q c h
def kc (c h : ℕ) := cut256 A.k c h
def lac (c h : ℕ) := cut256 A.la c h
def vc (c h : ℕ) := cut512 A.v c h
def rc (c h : ℕ) := cut512 A.r c h
def oc (c h : ℕ) := cut512 A.o c h
def gc (c h : ℕ) := cut512 A.g c h
def Sc (c h : ℕ) (j : Fin 512) (i : Fin 256) : ℝ := A.S h c j i
def gain (j : Fin 512) : ℝ := A.hn j

/-- The cotangent of the recurrence's output. -/
def d (c h : ℕ) : Fin 64 → Fin 512 → ℝ := dout A.gain (A.oc c h) (A.rc c h) (A.gc c h)

/-- A head's state cotangent after `n` of its chunks, from the last one back. -/
def D (h : ℕ) : ℕ → Fin 512 → Fin 256 → ℝ
  | 0 => fun _ _ => 0
  | n + 1 => dstate (A.qc (63 - n) h) (A.lac (63 - n) h) (A.d (63 - n) h) (D h n)

def dq (c h : ℕ) : Fin 64 → Fin 256 → ℝ := dquery (A.kc c h) (A.lac c h) (A.vc c h) (A.d c h) (A.Sc c h)
def dk (c h : ℕ) : Fin 64 → Fin 256 → ℝ := dkey (A.qc c h) (A.lac c h) (A.vc c h) (A.d c h) (A.D h (63 - c))
def dv (c h : ℕ) : Fin 64 → Fin 512 → ℝ := dval (A.qc c h) (A.kc c h) (A.lac c h) (A.d c h) (A.D h (63 - c))
def dgate (c h : ℕ) : Fin 64 → Fin 512 → ℝ := dr A.gain (A.oc c h) (A.rc c h) (A.gc c h)
def dla (c h : ℕ) : Fin 64 → Fin 256 → ℝ :=
  ddecay (A.qc c h) (A.kc c h) (A.lac c h) (A.vc c h) (A.d c h) (A.Sc c h) (A.D h (63 - c))
def dhn (c h : ℕ) : Fin 512 → ℝ := dgain (A.oc c h) (A.rc c h) (A.gc c h)

/-- The gain's cotangent after `t` blocks of four chunks of every head, from the last block back. -/
def G (j : Fin 512) : ℕ → ℝ
  | 0 => 0
  | t + 1 => G j t + ∑ m ∈ Finset.range 16, A.dhn (4 * (15 - t) + (3 - m % 4)) (m / 4 % 4) j

end Args

/-- The arguments as the layer has them: queries, keys, values and gate side by side in one array. -/
def argsOf (P L : ℕ → ℕ → ℝ) (S : ℕ → ℕ → ℕ → ℕ → ℝ) (O : ℕ → ℕ → ℝ) (N : ℕ → ℝ) (Y : ℕ → ℕ → ℝ) : Args where
  q r j := P r j
  k r j := P r (1024 + j)
  v r j := P r (2048 + j)
  r r j := P r (4096 + j)
  la := L
  o := O
  g := Y
  S := S
  hn := N

end Cert.Spec

end
-- ==== Proof.Blocks.lean ====
/- A grid point whose blocks hold real numbers: what it loads, and what its stores leave in the blocks of its results. -/
module

public import proofs.«01_k».proof.Proof.Loads
public import proofs.«01_k».proof.Proof.ChunkUp
public import proofs.«01_k».proof.Proof.Whole
public import Idealize.ShloMosaic.Lib.Pipeline.ReadBack

@[expose] public section

noncomputable section

open scoped BigOperators

namespace Cert.Blocks

open Idealize.ShloMosaic Idealize.ShloMosaic.ValueIdx Cert.KernelIdeal Cert.RealOps Cert.Loads Cert.Spec Cert.ChunkUp

variable (A : Args) (t : ℕ)

/-- What the point loads. -/
def loads : Loads Ideal where
  q b h := r2 (A.qc (4 * (15 - t) + b) h)
  k b h := r2 (A.kc (4 * (15 - t) + b) h)
  la b h := r2 (A.lac (4 * (15 - t) + b) h)
  v b h := r2 (A.vc (4 * (15 - t) + b) h)
  r b h := r2 (A.rc (4 * (15 - t) + b) h)
  o b h := r2 (A.oc (4 * (15 - t) + b) h)
  g b h := r2 (A.gc (4 * (15 - t) + b) h)
  S b h := up fun j => A.Sc (4 * (15 - t) + b) h (j 2) (j 3)
  hn := up fun j => A.gain (j 1)

/-- A block of rows of an array, at the point. -/
def rows (w : ℕ) (x : ℕ → ℕ → ℝ) {φ : FTy} : FVec Ideal ⟨2, ![256, w]⟩ φ := up fun y => x (256 * (15 - t) + y 0) (y 1)

/-- The gain's block, and the block of states at the point. -/
def rowHn : FVec Ideal S1x512 .f32 := up fun y => A.hn (y 1)
def blockS : FVec Ideal S4x4x512x256 .f32 := up fun y => A.S (y 0) (4 * (15 - t) + y 1) (y 2) (y 3)
/-- The scratch's contents after `t` points, and the gain's row. -/
def scr : FVec Ideal S4x512x256 .f32 := up fun y => A.D (y 0) (4 * t) (y 1) (y 2)
def rowG : FVec Ideal S1x512 .f32 := up fun y => A.G (y 1) t

theorem ld256 (x : ℕ → ℕ → ℝ) (b h : Fin 4) :
    View.ld (Val := Elt Ideal) (e' := .f32) (rows t 1024 x : FVec Ideal S256x1024 .f32) (rc256 b h) = (r2 (cut256 x (4 * (15 - t) + b) h) : FVec Ideal S64x256 .f32) := by
  funext j
  show ((x (256 * (15 - t) + (64 * b.val + 1 * (j 0).val)) (256 * h.val + 1 * (j 1).val) : ℝ) : EReal)
    = ((x (64 * (4 * (15 - t) + b.val) + (j 0).val) (256 * h.val + (j 1).val) : ℝ) : EReal)
  rw [one_mul, one_mul, show 256 * (15 - t) + (64 * b.val + (j 0).val) = 64 * (4 * (15 - t) + b.val) + (j 0).val by omega]
theorem ld512 (x : ℕ → ℕ → ℝ) (b h : Fin 4) :
    View.ld (Val := Elt Ideal) (e' := .f32) (rows t 2048 x : FVec Ideal S256x2048 .f32) (rc512 b h) = (r2 (cut512 x (4 * (15 - t) + b) h) : FVec Ideal S64x512 .f32) := by
  funext j
  show ((x (256 * (15 - t) + (64 * b.val + 1 * (j 0).val)) (512 * h.val + 1 * (j 1).val) : ℝ) : EReal)
    = ((x (64 * (4 * (15 - t) + b.val) + (j 0).val) (512 * h.val + (j 1).val) : ℝ) : EReal)
  rw [one_mul, one_mul, show 256 * (15 - t) + (64 * b.val + (j 0).val) = 64 * (4 * (15 - t) + b.val) + (j 0).val by omega]
theorem ldS (x : ℕ → ℕ → ℕ → ℕ → ℝ) (b h : Fin 4) :
    View.ld (Val := Elt Ideal) (e' := .f32) (up (fun y => x (y 0) (4 * (15 - t) + y 1) (y 2) (y 3)) : FVec Ideal S4x4x512x256 .f32) (rcS b h)
      = (up fun j => x h (4 * (15 - t) + b) (j 2) (j 3) : FVec Ideal S1x1x512x256 .f32) := by
  funext j
  show ((x (h.val + 1 * (j 0).val) (4 * (15 - t) + (b.val + 1 * (j 1).val)) (0 + 1 * (j 2).val) (0 + 1 * (j 3).val) : ℝ) : EReal)
    = ((x h.val (4 * (15 - t) + b.val) (j 2).val (j 3).val : ℝ) : EReal)
  have h0 : (j 0).val = 0 := Nat.lt_one_iff.mp (j 0).isLt
  have h1 : (j 1).val = 0 := Nat.lt_one_iff.mp (j 1).isLt
  rw [h0, h1]; simp only [one_mul, zero_add, add_zero]
theorem ldG (x : Fin 512 → ℝ) : View.ld (Val := Elt Ideal) (e' := .f32) (up (fun y => x (y 1)) : FVec Ideal S1x512 .f32) rcG = (up fun j => x (j 1) : FVec Ideal S1x512 .f32) := by
  funext j
  refine congrArg (fun a => ((x a : ℝ) : EReal)) (Fin.ext ?_)
  show 0 + 1 * (j 1).val = (j 1).val
  rw [one_mul, zero_add]
theorem ldT (x : ℕ → Fin 512 → Fin 256 → ℝ) (h : Fin 4) :
    View.ld (Val := Elt Ideal) (e' := .f32) (up (fun y => x (y 0) (y 1) (y 2)) : FVec Ideal S4x512x256 .f32) (rcT h) = (up fun j => x h (j 1) (j 2) : FVec Ideal S1x512x256 .f32) := by
  funext j
  have h0 : (j 0).val = 0 := Nat.lt_one_iff.mp (j 0).isLt
  have e0 : ((rcT h).emb j 0).val = h.val := by show h.val + 1 * (j 0).val = h.val; rw [h0]; rfl
  have e1 : (rcT h).emb j 1 = j 1 := Fin.ext (by show 0 + 1 * (j 1).val = (j 1).val; rw [one_mul, zero_add])
  have e2 : (rcT h).emb j 2 = j 2 := Fin.ext (by show 0 + 1 * (j 2).val = (j 2).val; rw [one_mul, zero_add])
  show ((x ((rcT h).emb j 0).val ((rcT h).emb j 1) ((rcT h).emb j 2) : ℝ) : EReal) = _
  rw [e0, e1, e2]; rfl
theorem rowG_succ : rowG A (t + 1) = up fun y => A.G (y 1) t + ∑ m ∈ Finset.range 16, A.dhn (4 * (15 - t) + (3 - m % 4)) (m / 4 % 4) (y 1) := rfl

/-- The loads of a point whose blocks are the arguments'. -/
theorem ofRefs_loads (arg1 : Memref sig .tc .vmem S256x1024 .f32) (harg1 : arg1.IsWhole) (arg2 : Memref sig .tc .vmem S256x1024 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S256x1024 .f32) (harg5 : arg5.IsWhole) (arg6 : Memref sig .tc .vmem S256x2048 .f32) (harg6 : arg6.IsWhole)
    (arg7 : Memref sig .tc .vmem S1x512 .f32) (harg7 : arg7.IsWhole) (arg8 : Memref sig .tc .vmem S256x2048 .f32) (harg8 : arg8.IsWhole)
    (arg9 : Memref sig .tc .vmem S4x4x512x256 .f32) (harg9 : arg9.IsWhole) :
    ofRefs (F := Ideal) arg1 harg1 arg2 harg2 arg3 harg3 arg4 harg4 arg5 harg5 arg6 harg6 arg7 harg7 arg8 harg8 arg9 harg9
      (rows t 1024 A.q (φ := .f32)) (rows t 1024 A.k (φ := .f32)) (rows t 2048 A.v (φ := .f32)) (rows t 2048 A.r (φ := .f32))
      (rows t 1024 A.la (φ := .f32)) (rows t 2048 A.o (φ := .f32)) (rowHn A) (rows t 2048 A.g (φ := .f32)) (blockS A t) = loads A t := by
  unfold ofRefs loads
  simp only [View.readAt_eq_ld, Memref.IsWhole.read_unread]
  congr 1
  · exact funext fun b => funext fun h => ld256 t A.q b h
  · exact funext fun b => funext fun h => ld256 t A.k b h
  · exact funext fun b => funext fun h => ld256 t A.la b h
  · exact funext fun b => funext fun h => ld512 t A.v b h
  · exact funext fun b => funext fun h => ld512 t A.r b h
  · exact funext fun b => funext fun h => ld512 t A.o b h
  · exact funext fun b => funext fun h => ld512 t A.g b h
  · exact funext fun b => funext fun h => ldS t A.S b h
  · exact ldG (fun j => A.hn j)

section Point

theorem d_up (b h : Fin 4) : (loads A t).d b h = r2 (A.d (4 * (15 - t) + b) h) := by
  show Chunk.dout _ _ _ _ = _
  exact dout_up _ _ _ _

variable (ht : t ≤ 15) (D0 : Fin 4 → FVec Ideal S1x512x256 .f32) (hD0 : ∀ h, D0 h = up fun j => A.D h (4 * t) (j 1) (j 2))
include ht hD0

theorem D_up (h : Fin 4) : ∀ n, n ≤ 4 → (loads A t).D D0 h n = up fun j => A.D h (4 * t + n) (j 1) (j 2)
  | 0, _ => hD0 h
  | n + 1, hn => by
    show Chunk.dstateSlab _ _ _ _ = _
    rw [D_up h n (by omega), slab_up, d_up]
    refine (dstateSlab_up _ _ _ _).trans ?_
    have e : 63 - (4 * t + n) = 4 * (15 - t) + (3 - n) := by omega
    show _ = (up fun j => Spec.dstate (A.qc (63 - (4 * t + n)) h) (A.lac (63 - (4 * t + n)) h) (A.d (63 - (4 * t + n)) h) (A.D h (4 * t + n)) (j 1) (j 2) : FVec Ideal S1x512x256 .f32)
    rw [e]

theorem Dt_up (b h : Fin 4) : (loads A t).Dt D0 b h = up fun j => A.D h (63 - (4 * (15 - t) + b)) (j 1) (j 2) := by
  have hb := b.isLt
  have e : 63 - (4 * (15 - t) + b.val) = 4 * t + (3 - b.val) := by omega
  rw [e]
  exact D_up A t ht D0 hD0 h (3 - b.val) (by omega)

theorem dk_up (b h : Fin 4) : (loads A t).dk ((loads A t).Dt D0) b h = r2 (A.dk (4 * (15 - t) + b) h) := by
  show Chunk.dkey _ _ _ _ _ = _
  rw [Dt_up A t ht D0 hD0, slab_up, d_up]; exact dkey_up _ _ _ _ _
theorem dv_up (b h : Fin 4) : (loads A t).dv ((loads A t).Dt D0) b h = r2 (A.dv (4 * (15 - t) + b) h) := by
  show Chunk.dval _ _ _ _ _ = _
  rw [Dt_up A t ht D0 hD0, slab_up, d_up]; exact dval_up _ _ _ _ _
theorem dla_up (b h : Fin 4) : (loads A t).dla ((loads A t).Dt D0) b h = r2 (A.dla (4 * (15 - t) + b) h) := by
  show Chunk.ddecay _ _ _ _ _ (Chunk.saved (up fun j => A.Sc (4 * (15 - t) + b) h (j 2) (j 3))) _ = _
  rw [Dt_up A t ht D0 hD0, slab_up, saved_up, d_up]; exact ddecay_up _ _ _ _ _ _ _
theorem dS_up (h : Fin 4) : (loads A t).dS ((loads A t).Dt D0) 0 h = up fun j => A.D h (4 * (t + 1)) (j 1) (j 2) :=
  D_up A t ht D0 hD0 h 4 le_rfl

omit ht hD0

theorem dq_up (b h : Fin 4) : (loads A t).dq b h = r2 (A.dq (4 * (15 - t) + b) h) := by
  show Chunk.dquery _ _ _ _ (Chunk.saved (up fun j => A.Sc (4 * (15 - t) + b) h (j 2) (j 3))) = _
  rw [saved_up, d_up]; exact dquery_up _ _ _ _ _
theorem dr_up (b h : Fin 4) : (loads A t).dr b h = r2 (A.dgate (4 * (15 - t) + b) h) := by
  show Chunk.dgate _ _ _ _ = _
  exact dgate_up _ _ _ _

theorem G_up (G0 : FVec Ideal S1x512 .f32) (g0 : Fin 512 → ℝ) (hG0 : G0 = up fun j => g0 (j 1)) : ∀ n,
    (loads A t).G G0 n = up fun j => g0 (j 1) + ∑ m ∈ Finset.range n, A.dhn (4 * (15 - t) + (3 - m % 4)) (m / 4 % 4) (j 1)
  | 0 => by rw [show (loads A t).G G0 0 = G0 from rfl, hG0]; simp
  | n + 1 => by
    show Chunk.dgain ((loads A t).G G0 n) _ _ _ = _
    rw [G_up G0 g0 hG0 n]
    refine (dgain_up _ _ _ (fun i => g0 i + ∑ m ∈ Finset.range n, A.dhn (4 * (15 - t) + (3 - m % 4)) (m / 4 % 4) i)).trans ?_
    refine up_congr fun j => ?_
    exact (add_assoc _ _ _).trans (congrArg (g0 (j 1) + ·) (Finset.sum_range_succ _ _).symm)

/-! What the stores leave. -/

theorem rows_emb256 {φ : FTy} (f : ℕ → ℕ → Fin 64 → Fin 256 → ℝ) (b h : Fin 4) (x : S64x256.Idx) :
    (r2 (f (4 * (15 - t) + b) h) : FVec Ideal S64x256 φ) x = (rows t 1024 (glue256 f) : FVec Ideal S256x1024 φ) ((rc256 b h).emb x) := by
  show ((f (4 * (15 - t) + b.val) h.val (x 0) (x 1) : ℝ) : EReal)
    = ((glue256 f (256 * (15 - t) + (64 * b.val + 1 * (x 0).val)) (256 * h.val + 1 * (x 1).val) : ℝ) : EReal)
  rw [one_mul, one_mul, show 256 * (15 - t) + (64 * b.val + (x 0).val) = 64 * (4 * (15 - t) + b.val) + (x 0).val by omega]
  exact congrArg _ (glue256_at f _ _ (x 0) (x 1)).symm
theorem canon256 {e : EltTy} (G : S256x1024.Idx → Elt Ideal e) (P : Fin 4 → Fin 4 → S64x256.Idx → Elt Ideal e)
    (hP : ∀ b h x, P b h x = G ((rc256 b h).emb x))
    (hc : ∀ y : S256x1024.Idx, ∃ p ∈ (Loads.order.map fun p => ⟨rc256 p.1 p.2, P p.1 p.2⟩ : List (View.Piece (Elt Ideal) S256x1024 e)), y ∈ p.1.set) :
    View.canon (Loads.order.map fun p => ⟨rc256 p.1 p.2, P p.1 p.2⟩ : List (View.Piece (Elt Ideal) S256x1024 e)) = G := by
  funext y
  refine View.canon_apply_of_pieces _ _ (fun p hp x => ?_) y (hc y)
  obtain ⟨⟨b, h⟩, -, rfl⟩ := List.mem_map.mp hp
  exact hP b h x

theorem rows_emb512 {φ : FTy} (f : ℕ → ℕ → Fin 64 → Fin 512 → ℝ) (b h : Fin 4) (x : S64x512.Idx) :
    (r2 (f (4 * (15 - t) + b) h) : FVec Ideal S64x512 φ) x = (rows t 2048 (glue512 f) : FVec Ideal S256x2048 φ) ((rc512 b h).emb x) := by
  show ((f (4 * (15 - t) + b.val) h.val (x 0) (x 1) : ℝ) : EReal)
    = ((glue512 f (256 * (15 - t) + (64 * b.val + 1 * (x 0).val)) (512 * h.val + 1 * (x 1).val) : ℝ) : EReal)
  rw [one_mul, one_mul, show 256 * (15 - t) + (64 * b.val + (x 0).val) = 64 * (4 * (15 - t) + b.val) + (x 0).val by omega]
  exact congrArg _ (glue512_at f _ _ (x 0) (x 1)).symm
theorem canon512 {e : EltTy} (G : S256x2048.Idx → Elt Ideal e) (P : Fin 4 → Fin 4 → S64x512.Idx → Elt Ideal e)
    (hP : ∀ b h x, P b h x = G ((rc512 b h).emb x))
    (hc : ∀ y : S256x2048.Idx, ∃ p ∈ (Loads.order.map fun p => ⟨rc512 p.1 p.2, P p.1 p.2⟩ : List (View.Piece (Elt Ideal) S256x2048 e)), y ∈ p.1.set) :
    View.canon (Loads.order.map fun p => ⟨rc512 p.1 p.2, P p.1 p.2⟩ : List (View.Piece (Elt Ideal) S256x2048 e)) = G := by
  funext y
  refine View.canon_apply_of_pieces _ _ (fun p hp x => ?_) y (hc y)
  obtain ⟨⟨b, h⟩, -, rfl⟩ := List.mem_map.mp hp
  exact hP b h x

/-- A head's slab holds what its last store, at its first chunk, left. -/
theorem not_mem_rcT (h : Fin 4) (y : S4x512x256.Idx) (hy : (y 0).val ≠ h.val) : y ∉ (rcT h).set := by
  intro hm
  obtain ⟨x, rfl⟩ := (rcT h).exists_idx_of_mem hm
  apply hy
  show h.val + 1 * (x 0).val = h.val
  have h0 : (x 0).val = 0 := Nat.lt_one_iff.mp (x 0).isLt
  omega
theorem eq_emb_rcT (h : Fin 4) (y : S4x512x256.Idx) (hy : (y 0).val = h.val) : y = (rcT h).emb (ix3 (0 : Fin 1) (y 1) (y 2)) := by
  funext a; apply Fin.ext
  fin_cases a
  · show (y 0).val = h.val + 1 * 0; omega
  · show (y 1).val = 0 + 1 * (y 1).val; omega
  · show (y 2).val = 0 + 1 * (y 2).val; omega

theorem canonT (P : Fin 4 → Fin 4 → FVec Ideal S1x512x256 .f32) (Z : List (View.Piece (Elt Ideal) S4x512x256 .f32)) (y : S4x512x256.Idx) :
    View.canon ((Loads.order.map fun p => ⟨rcT p.2, P p.1 p.2⟩ : List (View.Piece (Elt Ideal) S4x512x256 .f32)) ++ Z) y
      = P 0 ⟨(y 0).val, (y 0).isLt⟩ (ix3 (0 : Fin 1) (y 1) (y 2)) := by
  have key : ∀ h : Fin 4, (y 0).val = h.val → View.canon ((Loads.order.map fun p => ⟨rcT p.2, P p.1 p.2⟩ : List (View.Piece (Elt Ideal) S4x512x256 .f32)) ++ Z) y
      = P 0 h (ix3 (0 : Fin 1) (y 1) (y 2)) := by
    intro h hy
    have hn : ∀ (h' : Fin 4), h'.val ≠ h.val → y ∉ (rcT h').set := fun h' hh => not_mem_rcT h' y (fun e => hh (e ▸ hy))
    have hh : ∀ (w : FVec Ideal S1x512x256 .f32) (L : List (View.Piece (Elt Ideal) S4x512x256 .f32)),
        View.canon (⟨rcT h, w⟩ :: L) y = w (ix3 (0 : Fin 1) (y 1) (y 2)) := fun w L => by
      conv_lhs => rw [eq_emb_rcT h y hy]
      exact View.canon_cons_emb _ _ _ _
    have hs : ∀ (h' : Fin 4) (w : FVec Ideal S1x512x256 .f32) (L : List (View.Piece (Elt Ideal) S4x512x256 .f32)), h'.val ≠ h.val →
        View.canon (⟨rcT h', w⟩ :: L) y = View.canon L y := fun h' w L e => View.canon_cons_of_not_mem _ _ (hn h' e)
    simp only [Loads.order, List.map_cons, List.map_nil, List.cons_append]
    fin_cases h
    · rw [hs 3 _ _ (by decide), hs 3 _ _ (by decide), hs 3 _ _ (by decide), hs 3 _ _ (by decide), hs 2 _ _ (by decide), hs 2 _ _ (by decide), hs 2 _ _ (by decide), hs 2 _ _ (by decide), hs 1 _ _ (by decide), hs 1 _ _ (by decide), hs 1 _ _ (by decide), hs 1 _ _ (by decide)]; exact hh _ _
    · rw [hs 3 _ _ (by decide), hs 3 _ _ (by decide), hs 3 _ _ (by decide), hs 3 _ _ (by decide), hs 2 _ _ (by decide), hs 2 _ _ (by decide), hs 2 _ _ (by decide), hs 2 _ _ (by decide)]; exact hh _ _
    · rw [hs 3 _ _ (by decide), hs 3 _ _ (by decide), hs 3 _ _ (by decide), hs 3 _ _ (by decide)]; exact hh _ _
    · exact hh _ _
  exact key ⟨(y 0).val, (y 0).isLt⟩ rfl

theorem canonG (w : FVec Ideal S1x512 .f32) (Z : List (View.Piece (Elt Ideal) S1x512 .f32)) : View.canon (⟨rcG, w⟩ :: Z) = w :=
  View.canon_cons_unit_zero (by decide) _ _ _

end Point

end Cert.Blocks

end
-- ==== Proof.Outs.lean ====
/- What a grid point of each kind leaves in the blocks of its results, in the scratch and in the gain's row, when its blocks
   hold real numbers: the layer's real functions at the point's chunks. -/
module

public import proofs.«01_k».proof.Proof.Gen.KernelIdeal.Frame
public import proofs.«01_k».proof.Proof.PiecesA
public import proofs.«01_k».proof.Proof.PiecesB
public import proofs.«01_k».proof.Proof.Blocks

@[expose] public section

set_option maxRecDepth 16384
set_option maxHeartbeats 1000000

noncomputable section

namespace Cert.KernelIdeal.Gen

open Idealize.ShloMosaic Idealize.ShloMosaic.TcCoe
open Idealize.SL.Sem
open Cert.Loads Cert.Blocks Cert.RealOps Cert.Spec Cert.ChunkUp

attribute [local irreducible] View.readAt

theorem startD_up (Ag : Args) (t : ℕ) (arg16 : Memref sig .tc .vmem S4x512x256 .f32) (harg16 : arg16.IsWhole) (h : Fin 4) :
    startD (F := Ideal) arg16 harg16 (scr Ag t) h = up fun j => Ag.D h (4 * t) (j 1) (j 2) := by
  unfold startD
  rw [View.readAt_eq_ld, harg16.read_unread]
  exact ldT (fun a => Ag.D a (4 * t)) h
theorem startG_up (Ag : Args) (t : ℕ) (arg15 : Memref sig .tc .vmem S1x512 .f32) (harg15 : arg15.IsWhole) :
    startG (F := Ideal) arg15 harg15 (rowG Ag t) = up fun j => Ag.G (j 1) t := by
  unfold startG
  rw [View.readAt_eq_ld, harg15.read_unread]
  exact ldG (fun j => Ag.G j t)
theorem zeroD_up (Ag : Args) (h : Fin 4) : zeroD (F := Ideal) h = up fun j => Ag.D h (4 * 0) (j 1) (j 2) := by
  unfold zeroD
  rw [c0, broadcast_up (φ := .f32)]; rfl
theorem zeroG_up (Ag : Args) : zeroG (F := Ideal) = up fun j => Ag.G (j 1) 0 := by
  unfold zeroG
  rw [c0, broadcast_up (φ := .f32)]; rfl

section CaseA

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x512 .f32) (harg7 : arg7.IsWhole) (arg8 : Memref sig .tc .vmem S256x2048 .f32) (harg8 : arg8.IsWhole) (arg9 : Memref sig .tc .vmem S4x4x512x256 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x1024 .f32) (harg14 : arg14.IsWhole) (arg15 : Memref sig .tc .vmem S1x512 .f32) (harg15 : arg15.IsWhole) (arg16 : Memref sig .tc .vmem S4x512x256 .f32) (harg16 : arg16.IsWhole) (hc0 : cond0_0 i) (Ag : Args)

theorem outA_9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = (rows 0 1024 (glue256 Ag.dq) : FVec Ideal S256x1024 .bf16) := by
  have hc := cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  rw [listA_9, ofRefs_loads] at hc ⊢
  exact canon256 (e := .bf16) (rows 0 1024 (glue256 Ag.dq) : FVec Ideal S256x1024 .bf16) _ (fun b h x => (congrFun (dq_up Ag 0 b h) x).trans (rows_emb256 0 Ag.dq b h x)) hc
theorem outA_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = (rows 0 1024 (glue256 Ag.dk) : FVec Ideal S256x1024 .bf16) := by
  have hc := cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  rw [listA_10, ofRefs_loads] at hc ⊢
  exact canon256 (e := .bf16) (rows 0 1024 (glue256 Ag.dk) : FVec Ideal S256x1024 .bf16) _ (fun b h x => (congrFun (dk_up Ag 0 (by norm_num) _ (zeroD_up Ag) b h) x).trans (rows_emb256 0 Ag.dk b h x)) hc
theorem outA_11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = (rows 0 2048 (glue512 Ag.dv) : FVec Ideal S256x2048 .bf16) := by
  have hc := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  rw [listA_11, ofRefs_loads] at hc ⊢
  exact canon512 (e := .bf16) (rows 0 2048 (glue512 Ag.dv) : FVec Ideal S256x2048 .bf16) _ (fun b h x => (congrFun (dv_up Ag 0 (by norm_num) _ (zeroD_up Ag) b h) x).trans (rows_emb512 0 Ag.dv b h x)) hc
theorem outA_12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = (rows 0 2048 (glue512 Ag.dgate) : FVec Ideal S256x2048 .bf16) := by
  have hc := cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  rw [listA_12, ofRefs_loads] at hc ⊢
  exact canon512 (e := .bf16) (rows 0 2048 (glue512 Ag.dgate) : FVec Ideal S256x2048 .bf16) _ (fun b h x => (congrFun (dr_up Ag 0 b h) x).trans (rows_emb512 0 Ag.dgate b h x)) hc
theorem outA_13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = (rows 0 1024 (glue256 Ag.dla) : FVec Ideal S256x1024 .f32) := by
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  rw [listA_13, ofRefs_loads] at hc ⊢
  exact canon256 (e := .f32) (rows 0 1024 (glue256 Ag.dla) : FVec Ideal S256x1024 .f32) _ (fun b h x => (congrFun (dla_up Ag 0 (by norm_num) _ (zeroD_up Ag) b h) x).trans (rows_emb256 0 Ag.dla b h x)) hc
theorem outA_s : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = scr Ag 1 := by
  have hc := scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  have hl := listA_s (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine hl.elim fun Z hZ => ?_
  rw [hZ]
  rw [ofRefs_loads]
  funext y
  refine (canonT _ _ y).trans ?_
  exact congrFun (dS_up Ag 0 (by norm_num) _ (zeroD_up Ag) ⟨(y 0).val, (y 0).isLt⟩) _
theorem outA_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0) = rowG Ag 1 := by
  have hc := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  refine (View.read_writes_eq_canon _ _ _ hc).trans ?_
  obtain ⟨Z, hZ⟩ := listA_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows 0 1024 Ag.q (φ := .f32)) (rows 0 1024 Ag.k (φ := .f32)) (rows 0 2048 Ag.v (φ := .f32)) (rows 0 2048 Ag.r (φ := .f32)) (rows 0 1024 Ag.la (φ := .f32)) (rows 0 2048 Ag.o (φ := .f32)) (rowHn Ag) (rows 0 2048 Ag.g (φ := .f32)) (blockS Ag 0)
  rw [hZ, ofRefs_loads]
  exact (canonG _ Z).trans (G_up Ag 0 _ (fun j => Ag.G j 0) (zeroG_up Ag) 16 |>.trans (rowG_succ Ag 0).symm)

end CaseA

section CaseB

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x512 .f32) (harg7 : arg7.IsWhole) (arg8 : Memref sig .tc .vmem S256x2048 .f32) (harg8 : arg8.IsWhole) (arg9 : Memref sig .tc .vmem S4x4x512x256 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x1024 .f32) (harg14 : arg14.IsWhole) (arg15 : Memref sig .tc .vmem S1x512 .f32) (harg15 : arg15.IsWhole) (arg16 : Memref sig .tc .vmem S4x512x256 .f32) (harg16 : arg16.IsWhole) (hc0 : ¬cond0_0 i) (Ag : Args) (t : ℕ) (ht : t ≤ 15)
include ht

theorem outB_9 : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = (rows t 1024 (glue256 Ag.dq) : FVec Ideal S256x1024 .bf16) := by
  have hc := cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_9, ofRefs_loads] at hc ⊢
  exact canon256 (e := .bf16) (rows t 1024 (glue256 Ag.dq) : FVec Ideal S256x1024 .bf16) _ (fun b h x => (congrFun (dq_up Ag t b h) x).trans (rows_emb256 t Ag.dq b h x)) hc
theorem outB_10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = (rows t 1024 (glue256 Ag.dk) : FVec Ideal S256x1024 .bf16) := by
  have hc := cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_10, ofRefs_loads] at hc ⊢
  exact canon256 (e := .bf16) (rows t 1024 (glue256 Ag.dk) : FVec Ideal S256x1024 .bf16) _ (fun b h x => (congrFun (dk_up Ag t ht _ (startD_up Ag t arg16 harg16) b h) x).trans (rows_emb256 t Ag.dk b h x)) hc
theorem outB_11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = (rows t 2048 (glue512 Ag.dv) : FVec Ideal S256x2048 .bf16) := by
  have hc := cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_11, ofRefs_loads] at hc ⊢
  exact canon512 (e := .bf16) (rows t 2048 (glue512 Ag.dv) : FVec Ideal S256x2048 .bf16) _ (fun b h x => (congrFun (dv_up Ag t ht _ (startD_up Ag t arg16 harg16) b h) x).trans (rows_emb512 t Ag.dv b h x)) hc
theorem outB_12 : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = (rows t 2048 (glue512 Ag.dgate) : FVec Ideal S256x2048 .bf16) := by
  have hc := cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_12, ofRefs_loads] at hc ⊢
  exact canon512 (e := .bf16) (rows t 2048 (glue512 Ag.dgate) : FVec Ideal S256x2048 .bf16) _ (fun b h x => (congrFun (dr_up Ag t b h) x).trans (rows_emb512 t Ag.dgate b h x)) hc
theorem outB_13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = (rows t 1024 (glue256 Ag.dla) : FVec Ideal S256x1024 .f32) := by
  have hc := cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_13, ofRefs_loads] at hc ⊢
  exact canon256 (e := .f32) (rows t 1024 (glue256 Ag.dla) : FVec Ideal S256x1024 .f32) _ (fun b h x => (congrFun (dla_up Ag t ht _ (startD_up Ag t arg16 harg16) b h) x).trans (rows_emb256 t Ag.dla b h x)) hc
theorem outB_s : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = scr Ag (t + 1) := by
  have hc := scover0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  rw [listB_s, ofRefs_loads, ← List.append_nil ((loads Ag t).dSs _)]
  funext y
  refine (canonT _ _ y).trans ?_
  exact congrFun (dS_up Ag t ht _ (startD_up Ag t arg16 harg16) ⟨(y 0).val, (y 0).isLt⟩) _
theorem outB_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t) = rowG Ag (t + 1) := by
  have hc := cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  refine (View.read_writes_eq_canon _ _ _ hc).trans ?_
  obtain ⟨Z, hZ⟩ := listB_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (rows t 1024 Ag.q (φ := .f32)) (rows t 1024 Ag.k (φ := .f32)) (rows t 2048 Ag.v (φ := .f32)) (rows t 2048 Ag.r (φ := .f32)) (rows t 1024 Ag.la (φ := .f32)) (rows t 2048 Ag.o (φ := .f32)) (rowHn Ag) (rows t 2048 Ag.g (φ := .f32)) (blockS Ag t) (rowG Ag t) (scr Ag t)
  rw [hZ, ofRefs_loads]
  exact (canonG _ Z).trans (G_up Ag t _ (fun j => Ag.G j t) (startG_up Ag t arg15 harg15) 16 |>.trans (rowG_succ Ag t).symm)

end CaseB

end Cert.KernelIdeal.Gen

end
-- ==== Proof.KernelArrays.lean ====
/- The kernel's result arrays, when its arguments hold real numbers: by the blocks that its grid points load, what they leave
   from point to point, and where their results' blocks lie. -/
module

public import proofs.«01_k».proof.Proof.Outs
public import proofs.«01_k».proof.Proof.Gen.KernelIdeal.Value
public import Idealize.ShloMosaic.Lib.Pipeline.ValueKit.Geometry

@[expose] public section

set_option maxRecDepth 16384
set_option maxHeartbeats 1000000

noncomputable section

namespace Cert.KernelIdeal.Gen

open Idealize.ShloMosaic Idealize.ShloMosaic.TcCoe
open Idealize.SL.Sem
open Cert.Loads Cert.Blocks Cert.RealOps Cert.Spec Cert.ChunkUp

variable (m : (ℓ : Loc nD τ sig) → Buf (Elt Ideal) ℓ) (c : Dev nD) (t : Fin cfg0.N)

theorem e0 : ∀ t : Fin cfg0.N, win0_0.index t = ![15 - t.val, 0] := (by decide +kernel : ∀ t : Fin grid0.N, _)
theorem e1 : ∀ t : Fin cfg0.N, win0_1.index t = ![15 - t.val, 1] := (by decide +kernel : ∀ t : Fin grid0.N, _)
theorem e2 : ∀ t : Fin cfg0.N, win0_2.index t = ![15 - t.val, 1] := (by decide +kernel : ∀ t : Fin grid0.N, _)
theorem e3 : ∀ t : Fin cfg0.N, win0_3.index t = ![15 - t.val, 2] := (by decide +kernel : ∀ t : Fin grid0.N, _)
theorem e4 : ∀ t : Fin cfg0.N, win0_4.index t = ![15 - t.val, 0] := (by decide +kernel : ∀ t : Fin grid0.N, _)
theorem e5 : ∀ t : Fin cfg0.N, win0_5.index t = ![15 - t.val, 0] := (by decide +kernel : ∀ t : Fin grid0.N, _)
theorem e7 : ∀ t : Fin cfg0.N, win0_7.index t = ![15 - t.val, 0] := (by decide +kernel : ∀ t : Fin grid0.N, _)
theorem e6 : ∀ t : Fin cfg0.N, win0_6.index t = ![0, 0] := (by decide +kernel : ∀ t : Fin grid0.N, _)
theorem e8 : ∀ t : Fin cfg0.N, win0_8.index t = ![0, 15 - t.val, 0, 0] := (by decide +kernel : ∀ t : Fin grid0.N, _)
theorem e9 : ∀ t : Fin cfg0.N, win0_9.index t = ![15 - t.val, 0] := (by decide +kernel : ∀ t : Fin grid0.N, _)
theorem e10 : ∀ t : Fin cfg0.N, win0_10.index t = ![15 - t.val, 0] := (by decide +kernel : ∀ t : Fin grid0.N, _)
theorem e11 : ∀ t : Fin cfg0.N, win0_11.index t = ![15 - t.val, 0] := (by decide +kernel : ∀ t : Fin grid0.N, _)
theorem e12 : ∀ t : Fin cfg0.N, win0_12.index t = ![15 - t.val, 0] := (by decide +kernel : ∀ t : Fin grid0.N, _)
theorem e13 : ∀ t : Fin cfg0.N, win0_13.index t = ![15 - t.val, 0] := (by decide +kernel : ∀ t : Fin grid0.N, _)

/-! The blocks loaded. -/

theorem X0_0_eq (P : ℕ → ℕ → ℝ) (h : (V m c main_arg0 : FVec Ideal S4096x6272 .f32) = (up fun y => P (y 0) (y 1) : FVec Ideal S4096x6272 .f32)) :
    X0_0 m c t = (rows t 1024 (fun r j => P r j) : FVec Ideal S256x1024 .f32) := by
  funext y
  unfold X0_0 Pipeline.Window.fill
  rw [dif_pos (moved0_0 t y)]
  blk_simp [iblk]
  refine (congrFun h _).trans ?_
  refine congrArg₂ (fun a b => ((P a b : ℝ) : EReal)) ?_ ?_
  · blk_simp [e0]; show (15 - t.val) * 256 + (y 0).val = 256 * (15 - t.val) + (y 0).val; omega
  · blk_simp [e0]
theorem X0_1_eq (P : ℕ → ℕ → ℝ) (h : (V m c main_arg0 : FVec Ideal S4096x6272 .f32) = (up fun y => P (y 0) (y 1) : FVec Ideal S4096x6272 .f32)) :
    X0_1 m c t = (rows t 1024 (fun r j => P r (1024 + j)) : FVec Ideal S256x1024 .f32) := by
  funext y
  unfold X0_1 Pipeline.Window.fill
  rw [dif_pos (moved0_1 t y)]
  blk_simp [iblk]
  refine (congrFun h _).trans ?_
  refine congrArg₂ (fun a b => ((P a b : ℝ) : EReal)) ?_ ?_
  · blk_simp [e1]; show (15 - t.val) * 256 + (y 0).val = 256 * (15 - t.val) + (y 0).val; omega
  · blk_simp [e1]; try rfl
theorem X0_2_eq (P : ℕ → ℕ → ℝ) (h : (V m c main_arg0 : FVec Ideal S4096x6272 .f32) = (up fun y => P (y 0) (y 1) : FVec Ideal S4096x6272 .f32)) :
    X0_2 m c t = (rows t 2048 (fun r j => P r (2048 + j)) : FVec Ideal S256x2048 .f32) := by
  funext y
  unfold X0_2 Pipeline.Window.fill
  rw [dif_pos (moved0_2 t y)]
  blk_simp [iblk]
  refine (congrFun h _).trans ?_
  refine congrArg₂ (fun a b => ((P a b : ℝ) : EReal)) ?_ ?_
  · blk_simp [e2]; show (15 - t.val) * 256 + (y 0).val = 256 * (15 - t.val) + (y 0).val; omega
  · blk_simp [e2]; try rfl
theorem X0_3_eq (P : ℕ → ℕ → ℝ) (h : (V m c main_arg0 : FVec Ideal S4096x6272 .f32) = (up fun y => P (y 0) (y 1) : FVec Ideal S4096x6272 .f32)) :
    X0_3 m c t = (rows t 2048 (fun r j => P r (4096 + j)) : FVec Ideal S256x2048 .f32) := by
  funext y
  unfold X0_3 Pipeline.Window.fill
  rw [dif_pos (moved0_3 t y)]
  blk_simp [iblk]
  refine (congrFun h _).trans ?_
  refine congrArg₂ (fun a b => ((P a b : ℝ) : EReal)) ?_ ?_
  · blk_simp [e3]; show (15 - t.val) * 256 + (y 0).val = 256 * (15 - t.val) + (y 0).val; omega
  · blk_simp [e3]; try rfl
theorem iblk4_eq (P : ℕ → ℕ → ℝ) (h : (V m c main_arg1 : FVec Ideal S4096x1024 .f32) = (up fun y => P (y 0) (y 1) : FVec Ideal S4096x1024 .f32)) :
    iblk m c 4 t = (rows t 1024 P : FVec Ideal S256x1024 .f32) := by
  funext y
  blk_simp [iblk]
  refine (congrFun h _).trans ?_
  refine congrArg₂ (fun a b => ((P a b : ℝ) : EReal)) ?_ ?_
  · blk_simp [e4]; show (15 - t.val) * 256 + (y 0).val = 256 * (15 - t.val) + (y 0).val; omega
  · blk_simp [e4]
theorem iblk5_eq (P : ℕ → ℕ → ℝ) (h : (V m c main_arg3 : FVec Ideal S4096x2048 .f32) = (up fun y => P (y 0) (y 1) : FVec Ideal S4096x2048 .f32)) :
    iblk m c 5 t = (rows t 2048 P : FVec Ideal S256x2048 .f32) := by
  funext y
  blk_simp [iblk]
  refine (congrFun h _).trans ?_
  refine congrArg₂ (fun a b => ((P a b : ℝ) : EReal)) ?_ ?_
  · blk_simp [e5]; show (15 - t.val) * 256 + (y 0).val = 256 * (15 - t.val) + (y 0).val; omega
  · blk_simp [e5]
theorem iblk7_eq (P : ℕ → ℕ → ℝ) (h : (V m c main_arg5 : FVec Ideal S4096x2048 .f32) = (up fun y => P (y 0) (y 1) : FVec Ideal S4096x2048 .f32)) :
    iblk m c 7 t = (rows t 2048 P : FVec Ideal S256x2048 .f32) := by
  funext y
  blk_simp [iblk]
  refine (congrFun h _).trans ?_
  refine congrArg₂ (fun a b => ((P a b : ℝ) : EReal)) ?_ ?_
  · blk_simp [e7]; show (15 - t.val) * 256 + (y 0).val = 256 * (15 - t.val) + (y 0).val; omega
  · blk_simp [e7]
theorem iblk6_eq (Ag : Args) (h : (V m c main_arg4 : FVec Ideal S1x512 .f32) = (up fun y => Ag.hn (y 1) : FVec Ideal S1x512 .f32)) :
    iblk m c 6 t = rowHn Ag := by
  funext y
  blk_simp [iblk]
  refine (congrFun h _).trans ?_
  refine congrArg (fun a => ((Ag.hn a : ℝ) : EReal)) ?_
  blk_simp [e6]
theorem iblk8_eq (Ag : Args) (h : (V m c main_arg2 : FVec Ideal S4x64x512x256 .f32) = (up fun y => Ag.S (y 0) (y 1) (y 2) (y 3) : FVec Ideal S4x64x512x256 .f32)) :
    iblk m c 8 t = blockS Ag t := by
  funext y
  blk_simp [iblk]
  refine (congrFun h _).trans ?_
  show ((Ag.S _ _ _ _ : ℝ) : EReal) = ((Ag.S (y 0).val (4 * (15 - t.val) + (y 1).val) (y 2).val (y 3).val : ℝ) : EReal)
  congr 2
  · blk_simp [e8]
  · blk_simp [e8]; show (15 - t.val) * 4 + (y 1).val = 4 * (15 - t.val) + (y 1).val; omega
  · blk_simp [e8]
  · blk_simp [e8]

/-! From point to point. -/

/-- The arguments' arrays hold these real numbers. -/
structure Holds (P L : ℕ → ℕ → ℝ) (S : ℕ → ℕ → ℕ → ℕ → ℝ) (O : ℕ → ℕ → ℝ) (N : ℕ → ℝ) (Y : ℕ → ℕ → ℝ) : Prop where
  a0 : (V m c main_arg0 : FVec Ideal S4096x6272 .f32) = (up fun y => P (y 0) (y 1) : FVec Ideal S4096x6272 .f32)
  a1 : (V m c main_arg1 : FVec Ideal S4096x1024 .f32) = (up fun y => L (y 0) (y 1) : FVec Ideal S4096x1024 .f32)
  a2 : (V m c main_arg2 : FVec Ideal S4x64x512x256 .f32) = (up fun y => S (y 0) (y 1) (y 2) (y 3) : FVec Ideal S4x64x512x256 .f32)
  a3 : (V m c main_arg3 : FVec Ideal S4096x2048 .f32) = (up fun y => O (y 0) (y 1) : FVec Ideal S4096x2048 .f32)
  a4 : (V m c main_arg4 : FVec Ideal S1x512 .f32) = (up fun y => N (y 1) : FVec Ideal S1x512 .f32)
  a5 : (V m c main_arg5 : FVec Ideal S4096x2048 .f32) = (up fun y => Y (y 0) (y 1) : FVec Ideal S4096x2048 .f32)

variable {P L : ℕ → ℕ → ℝ} {S : ℕ → ℕ → ℕ → ℕ → ℝ} {O : ℕ → ℕ → ℝ} {N : ℕ → ℝ} {Y : ℕ → ℕ → ℝ} (H : Holds m c P L S O N Y)

/-- What point `n` leaves. -/
def left (Ag : Args) (n : ℕ) : Vec Ideal S256x1024 .bf16 × Vec Ideal S256x1024 .bf16 × Vec Ideal S256x2048 .bf16 × Vec Ideal S256x2048 .bf16 × Vec Ideal S256x1024 .f32 × Vec Ideal S1x512 .f32 × Vec Ideal S4x512x256 .f32 :=
  ((rows n 1024 (glue256 Ag.dq) : FVec Ideal S256x1024 .bf16), (rows n 1024 (glue256 Ag.dk) : FVec Ideal S256x1024 .bf16),
    (rows n 2048 (glue512 Ag.dv) : FVec Ideal S256x2048 .bf16), (rows n 2048 (glue512 Ag.dgate) : FVec Ideal S256x2048 .bf16),
    (rows n 1024 (glue256 Ag.dla) : FVec Ideal S256x1024 .f32), rowG Ag (n + 1), scr Ag (n + 1))

include H
theorem outs_eq : ∀ (n : ℕ) (hn : n < cfg0.N), outsAt0 m c n hn = left (argsOf P L S O N Y) n
  | 0, hn => by
    refine (outsAt0_A m c ⟨0, hn⟩ (Nat.zero_mod _)).trans ?_
    rw [X0_0_eq m c _ P H.a0, X0_1_eq m c _ P H.a0, X0_2_eq m c _ P H.a0, X0_3_eq m c _ P H.a0, iblk4_eq m c _ L H.a1, iblk5_eq m c _ O H.a3, iblk6_eq m c _ (argsOf P L S O N Y) H.a4, iblk7_eq m c _ Y H.a5, iblk8_eq m c _ (argsOf P L S O N Y) H.a2]
    exact (congrArg₂ Prod.mk (outA_9 _ _ _ _ _ _ _ _ _ _ _ _ _ _ _ _ _ _ _ _ _ _ _ _ _ _ _ _ _ _ _ _ _ _ _ (argsOf P L S O N Y))
    (congrArg₂ Prod.mk (outA_10 _ _ _ _ _ _ _ _ _ _ _ _ _ _ _ _ _ _ _ _ _ _ _ _ _ _ _ _ _ _ _ _ _ _ _ (argsOf P L S O N Y))
    (congrArg₂ Prod.mk (outA_11 _ _ _ _ _ _ _ _ _ _ _ _ _ _ _ _ _ _ _ _ _ _ _ _ _ _ _ _ _ _ _ _ _ _ _ (argsOf P L S O N Y))
    (congrArg₂ Prod.mk (outA_12 _ _ _ _ _ _ _ _ _ _ _ _ _ _ _ _ _ _ _ _ _ _ _ _ _ _ _ _ _ _ _ _ _ _ _ (argsOf P L S O N Y))
    (congrArg₂ Prod.mk (outA_13 _ _ _ _ _ _ _ _ _ _ _ _ _ _ _ _ _ _ _ _ _ _ _ _ _ _ _ _ _ _ _ _ _ _ _ (argsOf P L S O N Y))
    (congrArg₂ Prod.mk (outA_14 _ _ _ _ _ _ _ _ _ _ _ _ _ _ _ _ _ _ _ _ _ _ _ _ _ _ _ _ _ _ _ _ _ _ _ (argsOf P L S O N Y))
    (outA_s _ _ _ _ _ _ _ _ _ _ _ _ _ _ _ _ _ _ _ _ _ _ _ _ _ _ _ _ _ _ _ _ _ _ _ (argsOf P L S O N Y))))))))
  | n + 1, hn => by
    have hN : n + 1 < 16 := hn
    refine (outsAt0_B m c ⟨n + 1, hn⟩ (by show ¬(n + 1) % 16 = 0; omega)).trans ?_
    have ih := outs_eq n (Nat.lt_of_succ_lt hn)
    simp only [Nat.add_sub_cancel, ih]
    rw [X0_0_eq m c _ P H.a0, X0_1_eq m c _ P H.a0, X0_2_eq m c _ P H.a0, X0_3_eq m c _ P H.a0, iblk4_eq m c _ L H.a1, iblk5_eq m c _ O H.a3, iblk6_eq m c _ (argsOf P L S O N Y) H.a4, iblk7_eq m c _ Y H.a5, iblk8_eq m c _ (argsOf P L S O N Y) H.a2]
    exact (congrArg₂ Prod.mk (outB_9 _ _ _ _ _ _ _ _ _ _ _ _ _ _ _ _ _ _ _ _ _ _ _ _ _ _ _ _ _ _ _ _ _ _ _ (argsOf P L S O N Y) (n + 1) (by omega))
    (congrArg₂ Prod.mk (outB_10 _ _ _ _ _ _ _ _ _ _ _ _ _ _ _ _ _ _ _ _ _ _ _ _ _ _ _ _ _ _ _ _ _ _ _ (argsOf P L S O N Y) (n + 1) (by omega))
    (congrArg₂ Prod.mk (outB_11 _ _ _ _ _ _ _ _ _ _ _ _ _ _ _ _ _ _ _ _ _ _ _ _ _ _ _ _ _ _ _ _ _ _ _ (argsOf P L S O N Y) (n + 1) (by omega))
    (congrArg₂ Prod.mk (outB_12 _ _ _ _ _ _ _ _ _ _ _ _ _ _ _ _ _ _ _ _ _ _ _ _ _ _ _ _ _ _ _ _ _ _ _ (argsOf P L S O N Y) (n + 1) (by omega))
    (congrArg₂ Prod.mk (outB_13 _ _ _ _ _ _ _ _ _ _ _ _ _ _ _ _ _ _ _ _ _ _ _ _ _ _ _ _ _ _ _ _ _ _ _ (argsOf P L S O N Y) (n + 1) (by omega))
    (congrArg₂ Prod.mk (outB_14 _ _ _ _ _ _ _ _ _ _ _ _ _ _ _ _ _ _ _ _ _ _ _ _ _ _ _ _ _ _ _ _ _ _ _ (argsOf P L S O N Y) (n + 1) (by omega))
    (outB_s _ _ _ _ _ _ _ _ _ _ _ _ _ _ _ _ _ _ _ _ _ _ _ _ _ _ _ _ _ _ _ _ _ _ _ (argsOf P L S O N Y) (n + 1) (by omega))))))))

/-! The result arrays. -/

theorem final9 : ((dats m 0 c).arrAt 9 cfg0.N : FVec Ideal S4096x1024 .bf16)
    = (up fun y => glue256 (argsOf P L S O N Y).dq (y 0) (y 1) : FVec Ideal S4096x1024 .bf16) := by
  refine (dats m 0 c).arrAt_eq_of_covers 9 _ (by decide +kernel) fun t hf y => ?_
  blk_simp
  rw [after0_9, outs_eq m c H]
  show ((glue256 _ (256 * (15 - t.val) + (y 0).val) (y 1).val : ℝ) : EReal) = _
  refine congrArg₂ (fun a b => ((glue256 (argsOf P L S O N Y).dq a b : ℝ) : EReal)) ?_ ?_
  · blk_simp [e9]; show 256 * (15 - t.val) + (y 0).val = (15 - t.val) * 256 + (y 0).val; omega
  · blk_simp [e9]
theorem final10 : ((dats m 0 c).arrAt 10 cfg0.N : FVec Ideal S4096x1024 .bf16)
    = (up fun y => glue256 (argsOf P L S O N Y).dk (y 0) (y 1) : FVec Ideal S4096x1024 .bf16) := by
  refine (dats m 0 c).arrAt_eq_of_covers 10 _ (by decide +kernel) fun t hf y => ?_
  blk_simp
  rw [after0_10, outs_eq m c H]
  show ((glue256 _ (256 * (15 - t.val) + (y 0).val) (y 1).val : ℝ) : EReal) = _
  refine congrArg₂ (fun a b => ((glue256 (argsOf P L S O N Y).dk a b : ℝ) : EReal)) ?_ ?_
  · blk_simp [e10]; show 256 * (15 - t.val) + (y 0).val = (15 - t.val) * 256 + (y 0).val; omega
  · blk_simp [e10]
theorem final11 : ((dats m 0 c).arrAt 11 cfg0.N : FVec Ideal S4096x2048 .bf16)
    = (up fun y => glue512 (argsOf P L S O N Y).dv (y 0) (y 1) : FVec Ideal S4096x2048 .bf16) := by
  refine (dats m 0 c).arrAt_eq_of_covers 11 _ (by decide +kernel) fun t hf y => ?_
  blk_simp
  rw [after0_11, outs_eq m c H]
  show ((glue512 _ (256 * (15 - t.val) + (y 0).val) (y 1).val : ℝ) : EReal) = _
  refine congrArg₂ (fun a b => ((glue512 (argsOf P L S O N Y).dv a b : ℝ) : EReal)) ?_ ?_
  · blk_simp [e11]; show 256 * (15 - t.val) + (y 0).val = (15 - t.val) * 256 + (y 0).val; omega
  · blk_simp [e11]
theorem final12 : ((dats m 0 c).arrAt 12 cfg0.N : FVec Ideal S4096x2048 .bf16)
    = (up fun y => glue512 (argsOf P L S O N Y).dgate (y 0) (y 1) : FVec Ideal S4096x2048 .bf16) := by
  refine (dats m 0 c).arrAt_eq_of_covers 12 _ (by decide +kernel) fun t hf y => ?_
  blk_simp
  rw [after0_12, outs_eq m c H]
  show ((glue512 _ (256 * (15 - t.val) + (y 0).val) (y 1).val : ℝ) : EReal) = _
  refine congrArg₂ (fun a b => ((glue512 (argsOf P L S O N Y).dgate a b : ℝ) : EReal)) ?_ ?_
  · blk_simp [e12]; show 256 * (15 - t.val) + (y 0).val = (15 - t.val) * 256 + (y 0).val; omega
  · blk_simp [e12]
theorem final13 : ((dats m 0 c).arrAt 13 cfg0.N : FVec Ideal S4096x1024 .f32)
    = (up fun y => glue256 (argsOf P L S O N Y).dla (y 0) (y 1) : FVec Ideal S4096x1024 .f32) := by
  refine (dats m 0 c).arrAt_eq_of_covers 13 _ (by decide +kernel) fun t hf y => ?_
  blk_simp
  rw [after0_13, outs_eq m c H]
  show ((glue256 _ (256 * (15 - t.val) + (y 0).val) (y 1).val : ℝ) : EReal) = _
  refine congrArg₂ (fun a b => ((glue256 (argsOf P L S O N Y).dla a b : ℝ) : EReal)) ?_ ?_
  · blk_simp [e13]; show 256 * (15 - t.val) + (y 0).val = (15 - t.val) * 256 + (y 0).val; omega
  · blk_simp [e13]
theorem final14 : ((dats m 0 c).arrAt 14 cfg0.N : FVec Ideal S1x512 .f32)
    = (up fun y => (argsOf P L S O N Y).G (y 1) 16 : FVec Ideal S1x512 .f32) := by
  funext i
  have e : (dats m 0 c).after 14 ⟨15, by decide⟩ = rowG (argsOf P L S O N Y) (15 + 1) :=
    (after0_14 m c ⟨15, by decide⟩).trans (congrArg (fun o => o.2.2.2.2.2.1) (outs_eq m c H 15 (by decide)))
  exact ((dats m 0 c).arrAt_emb_eq_after_last 14 ⟨15, by decide⟩ (by decide +kernel) i).trans (congrFun e i)

end Cert.KernelIdeal.Gen

end
-- ==== Proof.Finite.lean ====
/- An array whose absolute values all lie below infinity is an array of real numbers. -/
module

public import proofs.«01_k».proof.Proof.KernelArrays
public import proofs.«01_k».proof.Pre_finite

@[expose] public section

noncomputable section

namespace Cert.Finite

open Idealize.ShloMosaic Idealize.ShloMosaic.ValueIdx Cert.RealOps

theorem infinity : (Scalar.ofBits .f32 0x7F800000#32 : Ideal .f32) = (⊤ : EReal) := by
  show Ideal.ofBits .f32 0x7F800000#32 = _
  simp [Ideal.ofBits, Ideal.ieee]

theorem real_of_lt (x : EReal) (h : BitVec.ofBool (decide (max x (-x) < ⊤)) = 1#1) : ∃ r : ℝ, x = (r : EReal) := by
  induction x using EReal.rec with
  | bot => simp at h
  | top => simp at h
  | coe r => exact ⟨r, rfl⟩

theorem real_of_finite {s : Shape} (x : FVec Ideal s .f32) (h : (⟨0, ![]⟩ : Shape).BroadcastsInDim s ![])
    (hx : cmpf .olt (Host.absf x) (broadcastInDim s ![] h (constant ⟨0, ![]⟩ .f32 0x7F800000#32)) = fun _ => 1#1) (j : s.Idx) :
    ∃ r : ℝ, x j = (r : EReal) := by
  have e := congrFun hx j
  refine real_of_lt (x j) ?_
  rw [← infinity]
  exact e

/-! ## Such an array as a function of its coordinates -/

theorem real2 {a b : ℕ} (X : FVec Ideal ⟨2, ![a, b]⟩ .f32) (h : ∀ j, ∃ r : ℝ, X j = (r : EReal)) :
    ∃ P : ℕ → ℕ → ℝ, X = (up fun y => P (y 0) (y 1) : FVec Ideal ⟨2, ![a, b]⟩ .f32) := by
  choose f hf using h
  refine ⟨fun i j => if h : i < a ∧ j < b then f (ix2 ⟨i, h.1⟩ ⟨j, h.2⟩) else 0, funext fun y => (hf y).trans (congrArg Real.toEReal ?_)⟩
  exact ((dif_pos (⟨(y 0).isLt, (y 1).isLt⟩ : (y 0).val < a ∧ (y 1).val < b)).trans (congrArg f (eq_ix2 y).symm)).symm

theorem real1 {b : ℕ} (X : FVec Ideal ⟨2, ![1, b]⟩ .f32) (h : ∀ j, ∃ r : ℝ, X j = (r : EReal)) :
    ∃ N : ℕ → ℝ, X = (up fun y => N (y 1) : FVec Ideal ⟨2, ![1, b]⟩ .f32) := by
  obtain ⟨P, hP⟩ := real2 X h
  refine ⟨P 0, hP.trans (up_congr fun y => ?_)⟩
  have h0 : (y 0).val < 1 := (y 0).isLt
  exact congrArg (fun i => P i (y 1).val) (by omega : (y 0).val = 0)

theorem real4 {a b c d : ℕ} (X : FVec Ideal ⟨4, ![a, b, c, d]⟩ .f32) (h : ∀ j, ∃ r : ℝ, X j = (r : EReal)) :
    ∃ S : ℕ → ℕ → ℕ → ℕ → ℝ, X = (up fun y => S (y 0) (y 1) (y 2) (y 3) : FVec Ideal ⟨4, ![a, b, c, d]⟩ .f32) := by
  choose f hf using h
  refine ⟨fun i j k l => if h : i < a ∧ j < b ∧ k < c ∧ l < d then f (ix4 ⟨i, h.1⟩ ⟨j, h.2.1⟩ ⟨k, h.2.2.1⟩ ⟨l, h.2.2.2⟩) else 0,
    funext fun y => (hf y).trans (congrArg Real.toEReal ?_)⟩
  exact ((dif_pos (⟨(y 0).isLt, (y 1).isLt, (y 2).isLt, (y 3).isLt⟩ :
    (y 0).val < a ∧ (y 1).val < b ∧ (y 2).val < c ∧ (y 3).val < d)).trans (congrArg f (eq_ix4 y).symm)).symm

end Cert.Finite

end
-- ==== Proof.RefOps.lean ====
/- The reference's layout and summing operations on arrays of real numbers, at the ranks it uses them: one chunk of a stack read and
   written, running sums in both directions, one row padded in front, sums over one axis, and products head by head. -/
module

public import proofs.«01_k».proof.Proof.RealOps

@[expose] public section

noncomputable section

open scoped BigOperators

namespace Cert.RefOps

open Idealize.ShloMosaic Idealize.ShloMosaic.ValueIdx Cert.RealOps

variable {α : Type} {φ : FTy}

/-! ## One chunk of a stack -/

section Stack
variable {a b : ℕ} {st : Fin 4 → Int} {c : ℕ}

/-- The start of a read or a write of chunk `c`. -/
structure At (st : Fin 4 → Int) (c : ℕ) : Prop where
  lt : c < 64
  h0 : st 0 = c
  h1 : st 1 = 0
  h2 : st 2 = 0
  h3 : st 3 = 0

theorem read_chunk (H : At st c) (f : (⟨4, ![64, 4, a, b]⟩ : Shape).Idx → α)
    (h : (⟨4, ![64, 4, a, b]⟩ : Shape).Slices (fun _ => 0) ⟨4, ![1, 4, a, b]⟩)
    (h' : (⟨4, ![1, 4, a, b]⟩ : Shape).ShapeCasts ⟨3, ![4, a, b]⟩) :
    shapeCast ⟨3, ![4, a, b]⟩ (Host.dynamicSlice ⟨4, ![1, 4, a, b]⟩ f st h) h'
      = fun y => f (ix4 (⟨c, H.lt⟩ : Fin 64) (y 0 : Fin 4) (y 1 : Fin a) (y 2 : Fin b)) := by
  funext y
  refine (shapeCast_apply _ h' y (ix4 (0 : Fin 1) (y 0 : Fin 4) (y 1 : Fin a) (y 2 : Fin b)) ?_).trans ?_
  · rw [Shape.rowMajor_val_three, Shape.rowMajor_val_four]
    show ((((0 : Fin 1).val * 4 + (y 0).val) * a + (y 1).val) * b + (y 2).val) = ((y 0).val * a + (y 1).val) * b + (y 2).val
    simp
  · unfold Host.dynamicSlice
    refine extractStridedSlice_apply _ _ _ _ _ fun i => ?_
    have hc := H.lt
    fin_cases i
    · show c = (min (max (st 0) 0) (((64 - 1 : ℕ)) : Int)).toNat + 0
      rw [H.h0]; omega
    · show (y 0).val = (min (max (st 1) 0) _).toNat + (y 0).val
      rw [H.h1]; simp
    · show (y 1).val = (min (max (st 2) 0) _).toNat + (y 1).val
      rw [H.h2]; simp
    · show (y 2).val = (min (max (st 3) 0) _).toNat + (y 2).val
      rw [H.h3]; simp

theorem write_chunk (H : At st c) (f : (⟨4, ![64, 4, a, b]⟩ : Shape).Idx → α) (g : (⟨4, ![1, 4, a, b]⟩ : Shape).Idx → α)
    (h : (⟨4, ![64, 4, a, b]⟩ : Shape).Slices (fun _ => 0) ⟨4, ![1, 4, a, b]⟩) :
    Host.dynamicUpdateSlice f g st h
      = fun y => if (y 0).val = c then g (ix4 (0 : Fin 1) (y 1 : Fin 4) (y 2 : Fin a) (y 3 : Fin b)) else f y := by
  funext y
  have hc := H.lt
  have e0 : (min (max (st 0) 0) (((64 - 1 : ℕ)) : Int)).toNat = c := by rw [H.h0]; omega
  have e1 : ∀ n : ℕ, (min (max (st 1) 0) (n : Int)).toNat = 0 := by intro n; rw [H.h1]; simp
  have e2 : ∀ n : ℕ, (min (max (st 2) 0) (n : Int)).toNat = 0 := by intro n; rw [H.h2]; simp
  have e3 : ∀ n : ℕ, (min (max (st 3) 0) (n : Int)).toNat = 0 := by intro n; rw [H.h3]; simp
  unfold Host.dynamicUpdateSlice updateSlice
  dsimp only
  split
  · next hin =>
    have h0 := hin 0
    change (min (max (st 0) 0) (((64 - 1 : ℕ)) : Int)).toNat ≤ (y 0).val ∧ (y 0).val < (min (max (st 0) 0) (((64 - 1 : ℕ)) : Int)).toNat + 1 at h0
    rw [e0] at h0
    rw [if_pos (by omega)]
    refine congrArg g (funext fun i => Fin.ext ?_)
    fin_cases i
    · show (y 0).val - (min (max (st 0) 0) (((64 - 1 : ℕ)) : Int)).toNat = 0
      omega
    · show (y 1).val - (min (max (st 1) 0) _).toNat = (y 1).val
      rw [e1]; rfl
    · show (y 2).val - (min (max (st 2) 0) _).toNat = (y 2).val
      rw [e2]; rfl
    · show (y 3).val - (min (max (st 3) 0) _).toNat = (y 3).val
      rw [e3]; rfl
  · next hin =>
    rw [if_neg fun hy => hin fun i => ?_]
    fin_cases i
    · show (min (max (st 0) 0) (((64 - 1 : ℕ)) : Int)).toNat ≤ (y 0).val ∧ (y 0).val < (min (max (st 0) 0) (((64 - 1 : ℕ)) : Int)).toNat + 1
      omega
    · show (min (max (st 1) 0) _).toNat ≤ (y 1).val ∧ (y 1).val < (min (max (st 1) 0) _).toNat + 4
      rw [e1]; have := (y 1).isLt; exact ⟨Nat.zero_le _, by simpa using this⟩
    · show (min (max (st 2) 0) _).toNat ≤ (y 2).val ∧ (y 2).val < (min (max (st 2) 0) _).toNat + a
      rw [e2]; have := (y 2).isLt; exact ⟨Nat.zero_le _, by simpa using this⟩
    · show (min (max (st 3) 0) _).toNat ≤ (y 3).val ∧ (y 3).val < (min (max (st 3) 0) _).toNat + b
      rw [e3]; have := (y 3).isLt; exact ⟨Nat.zero_le _, by simpa using this⟩

end Stack

/-! ## Running sums along the middle axis -/

theorem foldl_add {ι : Type} (l : List ι) (g : ι → EReal) (v : EReal) : l.foldl (fun r n => r + g n) v = v + (l.map g).sum := by
  induction l generalizing v with
  | nil => simp
  | cons x l ih => rw [List.foldl_cons, ih, List.map_cons, List.sum_cons, add_assoc]

/-- The indices of a window one wide but for its middle axis. -/
def mid {n : ℕ} : Fin n ≃ (⟨3, ![1, n, 1]⟩ : Shape).Idx where
  toFun s := ix3 (0 : Fin 1) s (0 : Fin 1)
  invFun j := j 1
  left_inv _ := rfl
  right_inv j := by
    funext i; fin_cases i
    · exact Subsingleton.elim (α := Fin 1) _ _
    · rfl
    · exact Subsingleton.elim (α := Fin 1) _ _

theorem window_sum {n : ℕ} (G : Fin (⟨3, ![1, n, 1]⟩ : Shape).numel → EReal) (g : Fin n → EReal)
    (hG : ∀ k, G k = g ((⟨3, ![1, n, 1]⟩ : Shape).rowMajor.symm k 1)) :
    ((List.finRange (⟨3, ![1, n, 1]⟩ : Shape).numel).map G).sum = ∑ s : Fin n, g s := by
  rw [← List.ofFn_eq_map, List.sum_ofFn, Fintype.sum_congr _ _ hG,
    Equiv.sum_comp (⟨3, ![1, n, 1]⟩ : Shape).rowMajor.symm (fun j => g (j 1))]
  exact (Equiv.sum_comp (mid (n := n)) (fun j => g (j 1))).symm

section Run
variable {a b : ℕ} {u : Shape}

theorem window_up (lo hi : Fin 3 → ℕ) (f : Fin a → Fin 64 → Fin b → ℝ) (g : Fin a → Fin 64 → Fin b → Fin 64 → ℝ) (z : u.Idx → Ideal φ)
    (h : (⟨3, ![a, 64, b]⟩ : Shape).ReduceWindows ![1, 64, 1] ![1, 1, 1] lo hi ⟨3, ![a, 64, b]⟩) (hu : 0 < u.numel)
    (hz : z (Shape.Idx.first hu) = ((0 : ℝ) : EReal)) (hlo : lo 0 = 0 ∧ lo 2 = 0)
    (hin : ∀ p t i w (hw : lo 1 ≤ t.val + w.val ∧ t.val + w.val - lo 1 < 64), g p t i w = f p ⟨t.val + w.val - lo 1, hw.2⟩ i)
    (hout : ∀ p t i w, ¬ (lo 1 ≤ t.val + w.val ∧ t.val + w.val - lo 1 < 64) → g p t i w = 0) :
    Host.reduceWindowAdd ![1, 64, 1] ![1, 1, 1] lo hi (r3 f : FVec Ideal ⟨3, ![a, 64, b]⟩ φ) z h hu
      = (r3 fun p t i => ∑ w, g p t i w : FVec Ideal ⟨3, ![a, 64, b]⟩ φ) := by
  funext j
  show Ideal.hostReduceWindowAdd _ _ _ _ h _ (z (Shape.Idx.first hu)) j = _
  unfold Ideal.hostReduceWindowAdd Host.reduceWindow
  refine (foldl_add _ _ _).trans ?_
  refine (congrArg (fun x => z (Shape.Idx.first hu) + x) (window_sum (n := 64) _ (fun w => ((g (j 0) (j 1) (j 2) w : ℝ) : EReal)) fun k => ?_)).trans ?_
  swap
  · rw [hz, EReal.coe_zero, zero_add]
    exact (coe_sum _ _).symm
  have hj0 := (j 0).isLt
  have hj2 := (j 2).isLt
  have hw0 : ((⟨3, ![1, 64, 1]⟩ : Shape).rowMajor.symm k 0).val = 0 := by have := ((⟨3, ![1, 64, 1]⟩ : Shape).rowMajor.symm k 0).isLt; simp at this; omega
  have hw2 : ((⟨3, ![1, 64, 1]⟩ : Shape).rowMajor.symm k 2).val = 0 := by have := ((⟨3, ![1, 64, 1]⟩ : Shape).rowMajor.symm k 2).isLt; simp at this; omega
  by_cases hw : lo 1 ≤ (j 1).val + ((⟨3, ![1, 64, 1]⟩ : Shape).rowMajor.symm k 1).val ∧ (j 1).val + ((⟨3, ![1, 64, 1]⟩ : Shape).rowMajor.symm k 1).val - lo 1 < 64
  · refine (dif_pos ?_).trans (Eq.trans ?_ (congrArg Real.toEReal (hin (j 0) (j 1) (j 2) _ hw)).symm)
    swap
    · show ((f _ _ _ : ℝ) : EReal) = _
      congr 2
      · refine Fin.ext ?_; show (j 0).val * 1 + ((⟨3, ![1, 64, 1]⟩ : Shape).rowMajor.symm k 0).val - lo 0 = (j 0).val; rw [hlo.1]; omega
      · refine Fin.ext ?_; show (j 1).val * 1 + ((⟨3, ![1, 64, 1]⟩ : Shape).rowMajor.symm k 1).val - lo 1 = (j 1).val + ((⟨3, ![1, 64, 1]⟩ : Shape).rowMajor.symm k 1).val - lo 1; omega
      · refine Fin.ext ?_; show (j 2).val * 1 + ((⟨3, ![1, 64, 1]⟩ : Shape).rowMajor.symm k 2).val - lo 2 = (j 2).val; rw [hlo.2]; omega
    · intro i
      fin_cases i
      · show lo 0 ≤ (j 0).val * 1 + ((⟨3, ![1, 64, 1]⟩ : Shape).rowMajor.symm k 0).val ∧ (j 0).val * 1 + ((⟨3, ![1, 64, 1]⟩ : Shape).rowMajor.symm k 0).val - lo 0 < a
        rw [hlo.1, hw0]; exact ⟨Nat.zero_le _, by simpa using hj0⟩
      · show lo 1 ≤ (j 1).val * 1 + ((⟨3, ![1, 64, 1]⟩ : Shape).rowMajor.symm k 1).val ∧ (j 1).val * 1 + ((⟨3, ![1, 64, 1]⟩ : Shape).rowMajor.symm k 1).val - lo 1 < 64
        omega
      · show lo 2 ≤ (j 2).val * 1 + ((⟨3, ![1, 64, 1]⟩ : Shape).rowMajor.symm k 2).val ∧ (j 2).val * 1 + ((⟨3, ![1, 64, 1]⟩ : Shape).rowMajor.symm k 2).val - lo 2 < b
        rw [hlo.2, hw2]; exact ⟨Nat.zero_le _, by simpa using hj2⟩
  · refine (dif_neg ?_).trans (Eq.trans hz (congrArg Real.toEReal (hout (j 0) (j 1) (j 2) _ hw)).symm)
    intro hall
    have h1 := hall 1
    change lo 1 ≤ (j 1).val * 1 + ((⟨3, ![1, 64, 1]⟩ : Shape).rowMajor.symm k 1).val ∧ (j 1).val * 1 + ((⟨3, ![1, 64, 1]⟩ : Shape).rowMajor.symm k 1).val - lo 1 < 64 at h1
    omega

theorem cumsum_up (f : Fin a → Fin 64 → Fin b → ℝ) (z : u.Idx → Ideal φ)
    (h : (⟨3, ![a, 64, b]⟩ : Shape).ReduceWindows ![1, 64, 1] ![1, 1, 1] ![0, 63, 0] ![0, 0, 0] ⟨3, ![a, 64, b]⟩) (hu : 0 < u.numel)
    (hz : z (Shape.Idx.first hu) = ((0 : ℝ) : EReal)) :
    Host.reduceWindowAdd ![1, 64, 1] ![1, 1, 1] ![0, 63, 0] ![0, 0, 0] (r3 f : FVec Ideal ⟨3, ![a, 64, b]⟩ φ) z h hu
      = (r3 fun p t i => ∑ s, if s ≤ t then f p s i else 0 : FVec Ideal ⟨3, ![a, 64, b]⟩ φ) := by
  refine (window_up _ _ f (fun p t i w => if t + 1 + w ≤ t then f p (t + 1 + w) i else 0) z h hu hz ⟨rfl, rfl⟩ ?_ ?_).trans ?_
  · intro p t i w hw
    change 63 ≤ t.val + w.val ∧ t.val + w.val - 63 < 64 at hw
    have ht := t.isLt; have hwl := w.isLt
    have e : (t + 1 + w).val = t.val + w.val - 63 := by
      rw [Fin.val_add, Fin.val_add]; show ((t.val + 1) % 64 + w.val) % 64 = _; omega
    rw [if_pos (by rw [Fin.le_def, e]; omega)]
    exact congrArg (f p · i) (Fin.ext e)
  · intro p t i w hw
    change ¬ (63 ≤ t.val + w.val ∧ t.val + w.val - 63 < 64) at hw
    have ht := t.isLt; have hwl := w.isLt
    have e : (t + 1 + w).val = t.val + w.val + 1 := by
      rw [Fin.val_add, Fin.val_add]; show ((t.val + 1) % 64 + w.val) % 64 = _; omega
    rw [if_neg (by rw [Fin.le_def, e]; omega)]
  · have e : ∀ (p : Fin a) (t : Fin 64) (i : Fin b), (∑ w, if t + 1 + w ≤ t then f p (t + 1 + w) i else 0) = ∑ s, if s ≤ t then f p s i else 0 :=
      fun p t i => Equiv.sum_comp (Equiv.addLeft (t + 1)) (fun s : Fin 64 => if s ≤ t then f p s i else 0)
    exact up_congr fun j => e (j 0) (j 1) (j 2)

theorem revsum_up (f : Fin a → Fin 64 → Fin b → ℝ) (z : u.Idx → Ideal φ)
    (h : (⟨3, ![a, 64, b]⟩ : Shape).ReduceWindows ![1, 64, 1] ![1, 1, 1] ![0, 0, 0] ![0, 63, 0] ⟨3, ![a, 64, b]⟩) (hu : 0 < u.numel)
    (hz : z (Shape.Idx.first hu) = ((0 : ℝ) : EReal)) :
    Host.reduceWindowAdd ![1, 64, 1] ![1, 1, 1] ![0, 0, 0] ![0, 63, 0] (r3 f : FVec Ideal ⟨3, ![a, 64, b]⟩ φ) z h hu
      = (r3 fun p t i => ∑ s, if t ≤ s then f p s i else 0 : FVec Ideal ⟨3, ![a, 64, b]⟩ φ) := by
  refine (window_up _ _ f (fun p t i w => if t ≤ t + w then f p (t + w) i else 0) z h hu hz ⟨rfl, rfl⟩ ?_ ?_).trans ?_
  · intro p t i w hw
    change 0 ≤ t.val + w.val ∧ t.val + w.val - 0 < 64 at hw
    have e : (t + w).val = t.val + w.val - 0 := by rw [Fin.val_add]; omega
    rw [if_pos (by rw [Fin.le_def, e]; omega)]
    exact congrArg (f p · i) (Fin.ext e)
  · intro p t i w hw
    change ¬ (0 ≤ t.val + w.val ∧ t.val + w.val - 0 < 64) at hw
    have ht := t.isLt; have hwl := w.isLt
    have e : (t + w).val = t.val + w.val - 64 := by rw [Fin.val_add]; omega
    rw [if_neg (by rw [Fin.le_def, e]; omega)]
  · have e : ∀ (p : Fin a) (t : Fin 64) (i : Fin b), (∑ w, if t ≤ t + w then f p (t + w) i else 0) = ∑ s, if t ≤ s then f p s i else 0 :=
      fun p t i => Equiv.sum_comp (Equiv.addLeft t) (fun s : Fin 64 => if t ≤ s then f p s i else 0)
    exact up_congr fun j => e (j 0) (j 1) (j 2)

/-- A row set behind 63 zero rows. -/
theorem pad_up (f : Fin a → Fin 1 → Fin b → ℝ) (z : u.Idx → Ideal φ)
    (h : (⟨3, ![a, 1, b]⟩ : Shape).Pads ![0, 63, 0] ![0, 0, 0] ![0, 0, 0] ⟨3, ![a, 64, b]⟩) (hu : 0 < u.numel)
    (hz : z (Shape.Idx.first hu) = ((0 : ℝ) : EReal)) :
    pad ⟨3, ![a, 64, b]⟩ ![0, 63, 0] ![0, 0, 0] ![0, 0, 0] (r3 f : FVec Ideal ⟨3, ![a, 1, b]⟩ φ) z h hu
      = (r3 fun p t i => if t = 63 then f p 0 i else 0 : FVec Ideal ⟨3, ![a, 64, b]⟩ φ) := by
  funext j
  have hj0 := (j 0).isLt
  have hj2 := (j 2).isLt
  have hj1 : (j 1).val < 64 := (j 1).isLt
  have key' : ∀ t : Fin 64, t = 63 ↔ t.val = 63 := fun t => Fin.ext_iff
  have key := key' (j 1)
  unfold pad
  split
  · next hin =>
    have h1 := hin 1
    change 63 ≤ (j 1).val ∧ ((j 1).val - 63) % 1 = 0 ∧ ((j 1).val - 63) / 1 < 1 at h1
    refine Eq.trans ?_ (congrArg Real.toEReal (if_pos (key.2 (by omega)))).symm
    show ((f _ _ _ : ℝ) : EReal) = _
    congr 2
    · refine Fin.ext ?_; show ((j 0).val - 0) / 1 = (j 0).val; omega
    · exact Subsingleton.elim _ _
    · refine Fin.ext ?_; show ((j 2).val - 0) / 1 = (j 2).val; omega
  · next hin =>
    refine Eq.trans hz (congrArg Real.toEReal (if_neg fun hk => hin fun i => ?_)).symm
    · have hk' := key.1 hk
      fin_cases i
      · show 0 ≤ (j 0).val ∧ ((j 0).val - 0) % 1 = 0 ∧ ((j 0).val - 0) / 1 < a
        exact ⟨Nat.zero_le _, by omega, by simpa using hj0⟩
      · show 63 ≤ (j 1).val ∧ ((j 1).val - 63) % 1 = 0 ∧ ((j 1).val - 63) / 1 < 1
        omega
      · show 0 ≤ (j 2).val ∧ ((j 2).val - 0) % 1 = 0 ∧ ((j 2).val - 0) / 1 < b
        exact ⟨Nat.zero_le _, by omega, by simpa using hj2⟩

end Run

/-! ## Layout -/

section Layout3
variable {a b c : ℕ}

theorem swap_up (f : Fin a → Fin b → Fin c → ℝ) (h : (⟨3, ![a, b, c]⟩ : Shape).Transposes [0, 2, 1] ⟨3, ![a, c, b]⟩) :
    transpose ⟨3, ![a, c, b]⟩ [0, 2, 1] (r3 f : FVec Ideal ⟨3, ![a, b, c]⟩ φ) h = (r3 fun p i j => f p j i : FVec Ideal ⟨3, ![a, c, b]⟩ φ) := by
  funext j
  exact transpose_apply _ _ h j (ix3 (j 0 : Fin a) (j 2 : Fin b) (j 1 : Fin c)) fun d => by fin_cases d <;> rfl

/-- Sums over the last and over the middle axis. -/
theorem lift_last (h : (⟨3, ![a, b, c]⟩ : Shape).Reduces [2] ⟨2, ![a, b]⟩) (j : (⟨2, ![a, b]⟩ : Shape).Idx) (k : Fin c) :
    h.lift j k = ix3 (j 0 : Fin a) (j 1 : Fin b) k := by
  funext d; refine Fin.ext ((h.lift_val j k d).trans ?_)
  fin_cases d <;> simp [Shape.Reduces.liftVal] <;> rfl
theorem lift_mid (h : (⟨3, ![a, b, c]⟩ : Shape).Reduces [1] ⟨2, ![a, c]⟩) (j : (⟨2, ![a, c]⟩ : Shape).Idx) (k : Fin b) :
    h.lift j k = ix3 (j 0 : Fin a) k (j 1 : Fin c) := by
  funext d; refine Fin.ext ((h.lift_val j k d).trans ?_)
  fin_cases d <;> simp [Shape.Reduces.liftVal] <;> rfl

theorem sum_last {u : Shape} (f : Fin a → Fin b → Fin c → ℝ) (z : u.Idx → Ideal φ) (h' : (⟨3, ![a, b, c]⟩ : Shape).ReducesTo [2] ⟨2, ![a, b]⟩)
    (h : (⟨3, ![a, b, c]⟩ : Shape).Reduces [2] ⟨2, ![a, b]⟩)
    (hu : 0 < u.numel) (hz : z (Shape.Idx.first hu) = ((0 : ℝ) : EReal)) :
    Host.reduceAdd (r3 f : FVec Ideal ⟨3, ![a, b, c]⟩ φ) z h' hu = (r2 fun p i => ∑ k, f p i k : FVec Ideal ⟨2, ![a, b]⟩ φ) := by
  rw [hostReduceAdd_up _ z h' h hu hz]
  exact up_congr fun j => Finset.sum_congr rfl fun k _ => congrArg (fun x : (⟨3, ![a, b, c]⟩ : Shape).Idx => f (x 0) (x 1) (x 2)) (lift_last h j k)
theorem sum_mid {u : Shape} (f : Fin a → Fin b → Fin c → ℝ) (z : u.Idx → Ideal φ) (h' : (⟨3, ![a, b, c]⟩ : Shape).ReducesTo [1] ⟨2, ![a, c]⟩)
    (h : (⟨3, ![a, b, c]⟩ : Shape).Reduces [1] ⟨2, ![a, c]⟩)
    (hu : 0 < u.numel) (hz : z (Shape.Idx.first hu) = ((0 : ℝ) : EReal)) :
    Host.reduceAdd (r3 f : FVec Ideal ⟨3, ![a, b, c]⟩ φ) z h' hu = (r2 fun p i => ∑ k, f p k i : FVec Ideal ⟨2, ![a, c]⟩ φ) := by
  rw [hostReduceAdd_up _ z h' h hu hz]
  exact up_congr fun j => Finset.sum_congr rfl fun k _ => congrArg (fun x : (⟨3, ![a, b, c]⟩ : Shape).Idx => f (x 0) (x 1) (x 2)) (lift_mid h j k)

/-- A last axis of extent one, and a middle one, added. -/
theorem cast_last1 (f : Fin a → Fin b → ℝ) (h : (⟨2, ![a, b]⟩ : Shape).ShapeCasts ⟨3, ![a, b, 1]⟩) :
    shapeCast ⟨3, ![a, b, 1]⟩ (r2 f : FVec Ideal ⟨2, ![a, b]⟩ φ) h = (r3 fun p i _ => f p i : FVec Ideal ⟨3, ![a, b, 1]⟩ φ) := by
  funext j
  refine shapeCast_apply _ h j (ix2 (j 0 : Fin a) (j 1 : Fin b)) ?_
  rw [Shape.rowMajor_val_two, Shape.rowMajor_val_three]
  have h2 : (j 2).val = 0 := by have := (j 2).isLt; simp at this; omega
  show (j 0).val * b + (j 1).val = ((j 0).val * b + (j 1).val) * 1 + (j 2).val
  omega
theorem cast_mid1 (f : Fin a → Fin b → ℝ) (h : (⟨2, ![a, b]⟩ : Shape).ShapeCasts ⟨3, ![a, 1, b]⟩) :
    shapeCast ⟨3, ![a, 1, b]⟩ (r2 f : FVec Ideal ⟨2, ![a, b]⟩ φ) h = (r3 fun p _ i => f p i : FVec Ideal ⟨3, ![a, 1, b]⟩ φ) := by
  funext j
  refine shapeCast_apply _ h j (ix2 (j 0 : Fin a) (j 2 : Fin b)) ?_
  rw [Shape.rowMajor_val_two, Shape.rowMajor_val_three]
  have h2 : (j 1).val = 0 := by have := (j 1).isLt; simp at this; omega
  show (j 0).val * b + (j 2).val = ((j 0).val * 1 + (j 1).val) * b + (j 2).val
  rw [h2]; simp
theorem drop_mid1 (f : Fin a → Fin 1 → Fin b → ℝ) (h : (⟨3, ![a, 1, b]⟩ : Shape).ShapeCasts ⟨2, ![a, b]⟩) :
    shapeCast ⟨2, ![a, b]⟩ (r3 f : FVec Ideal ⟨3, ![a, 1, b]⟩ φ) h = (r2 fun p i => f p 0 i : FVec Ideal ⟨2, ![a, b]⟩ φ) := by
  funext j
  refine shapeCast_apply _ h j (ix3 (j 0 : Fin a) (0 : Fin 1) (j 1 : Fin b)) ?_
  rw [Shape.rowMajor_val_two, Shape.rowMajor_val_three]
  show ((j 0).val * 1 + (0 : Fin 1).val) * b + (j 1).val = (j 0).val * b + (j 1).val
  simp

end Layout3

end Cert.RefOps

end
-- ==== Proof.RefDots.lean ====
/- The reference's products, head by head, on arrays of real numbers, and the layout steps of one trip at its own shapes. -/
module

public import proofs.«01_k».proof.Proof.RefOps
public import proofs.«01_k».proof.Proof.ChunkUp
public import proofs.«01_k».proof.Proof.Gen.ReferenceIdeal

@[expose] public section

noncomputable section

open scoped BigOperators

namespace Cert.RefDots

open Idealize.ShloMosaic Idealize.ShloMosaic.ValueIdx Cert.RealOps Cert.RefOps Cert.ReferenceIdeal
open Cert.ReferenceIdeal.Facts₀ Cert.ReferenceIdeal.Facts

theorem dot_att (f g : Fin 4 → Fin 64 → Fin 256 → ℝ) :
    Host.dotGeneral dot_S4x64x256_S4x64x256_S4x64x64_2_2_1_1_0_0 none (r3 f : FVec Ideal S4x64x256 .f32) (r3 g : FVec Ideal S4x64x256 .f32)
      = (r3 fun h t s => ∑ i, f h t i * g h s i : FVec Ideal S4x64x64 .f32) :=
  dotGeneral_up dot_S4x64x256_S4x64x256_S4x64x64_2_2_1_1_0_0 none 256 rfl rfl _ _
    (fun j k => ix3 (j 0 : Fin 4) (j 1 : Fin 64) k) (fun j k => ix3 (j 0 : Fin 4) (j 2 : Fin 64) k)
    (fun j k => by funext a; fin_cases a <;> rfl) (fun j k => by funext a; fin_cases a <;> rfl)

theorem dot_dkend (f : Fin 4 → Fin 256 → Fin 512 → ℝ) (g : Fin 4 → Fin 64 → Fin 512 → ℝ) :
    Host.dotGeneral dot_S4x256x512_S4x64x512_S4x256x64_2_2_1_1_0_0 none (r3 f : FVec Ideal S4x256x512 .f32) (r3 g : FVec Ideal S4x64x512 .f32)
      = (r3 fun h i s => ∑ j, f h i j * g h s j : FVec Ideal S4x256x64 .f32) :=
  dotGeneral_up dot_S4x256x512_S4x64x512_S4x256x64_2_2_1_1_0_0 none 512 rfl rfl _ _
    (fun j k => ix3 (j 0 : Fin 4) (j 1 : Fin 256) k) (fun j k => ix3 (j 0 : Fin 4) (j 2 : Fin 64) k)
    (fun j k => by funext a; fin_cases a <;> rfl) (fun j k => by funext a; fin_cases a <;> rfl)

theorem dot_datt (f g : Fin 4 → Fin 64 → Fin 512 → ℝ) :
    Host.dotGeneral dot_S4x64x512_S4x64x512_S4x64x64_2_2_1_1_0_0 none (r3 f : FVec Ideal S4x64x512 .f32) (r3 g : FVec Ideal S4x64x512 .f32)
      = (r3 fun h t s => ∑ i, f h t i * g h s i : FVec Ideal S4x64x64 .f32) :=
  dotGeneral_up dot_S4x64x512_S4x64x512_S4x64x64_2_2_1_1_0_0 none 512 rfl rfl _ _
    (fun j k => ix3 (j 0 : Fin 4) (j 1 : Fin 64) k) (fun j k => ix3 (j 0 : Fin 4) (j 2 : Fin 64) k)
    (fun j k => by funext a; fin_cases a <;> rfl) (fun j k => by funext a; fin_cases a <;> rfl)

theorem dot_dkinv (f : Fin 4 → Fin 64 → Fin 64 → ℝ) (g : Fin 4 → Fin 64 → Fin 256 → ℝ) :
    Host.dotGeneral dot_S4x64x64_S4x64x256_S4x64x256_1_1_2_2_0_0 none (r3 f : FVec Ideal S4x64x64 .f32) (r3 g : FVec Ideal S4x64x256 .f32)
      = (r3 fun h s i => ∑ t, f h t s * g h t i : FVec Ideal S4x64x256 .f32) :=
  dotGeneral_up dot_S4x64x64_S4x64x256_S4x64x256_1_1_2_2_0_0 none 64 rfl rfl _ _
    (fun j k => ix3 (j 0 : Fin 4) k (j 1 : Fin 64)) (fun j k => ix3 (j 0 : Fin 4) k (j 2 : Fin 256))
    (fun j k => by funext a; fin_cases a <;> rfl) (fun j k => by funext a; fin_cases a <;> rfl)

theorem dot_dqstate (f : Fin 4 → Fin 64 → Fin 512 → ℝ) (g : Fin 4 → Fin 256 → Fin 512 → ℝ) :
    Host.dotGeneral dot_S4x64x512_S4x256x512_S4x64x256_2_2_1_1_0_0 none (r3 f : FVec Ideal S4x64x512 .f32) (r3 g : FVec Ideal S4x256x512 .f32)
      = (r3 fun h t i => ∑ j, f h t j * g h i j : FVec Ideal S4x64x256 .f32) :=
  dotGeneral_up dot_S4x64x512_S4x256x512_S4x64x256_2_2_1_1_0_0 none 512 rfl rfl _ _
    (fun j k => ix3 (j 0 : Fin 4) (j 1 : Fin 64) k) (fun j k => ix3 (j 0 : Fin 4) (j 2 : Fin 256) k)
    (fun j k => by funext a; fin_cases a <;> rfl) (fun j k => by funext a; fin_cases a <;> rfl)

theorem dot_dqatt (f : Fin 4 → Fin 64 → Fin 64 → ℝ) (g : Fin 4 → Fin 64 → Fin 256 → ℝ) :
    Host.dotGeneral dot_S4x64x64_S4x64x256_S4x64x256_2_1_1_2_0_0 none (r3 f : FVec Ideal S4x64x64 .f32) (r3 g : FVec Ideal S4x64x256 .f32)
      = (r3 fun h t i => ∑ s, f h t s * g h s i : FVec Ideal S4x64x256 .f32) :=
  dotGeneral_up dot_S4x64x64_S4x64x256_S4x64x256_2_1_1_2_0_0 none 64 rfl rfl _ _
    (fun j k => ix3 (j 0 : Fin 4) (j 1 : Fin 64) k) (fun j k => ix3 (j 0 : Fin 4) k (j 2 : Fin 256))
    (fun j k => by funext a; fin_cases a <;> rfl) (fun j k => by funext a; fin_cases a <;> rfl)

theorem dot_dstate (f : Fin 4 → Fin 64 → Fin 512 → ℝ) (g : Fin 4 → Fin 64 → Fin 256 → ℝ) :
    Host.dotGeneral dot_S4x64x512_S4x64x256_S4x512x256_1_1_2_2_0_0 none (r3 f : FVec Ideal S4x64x512 .f32) (r3 g : FVec Ideal S4x64x256 .f32)
      = (r3 fun h j i => ∑ t, f h t j * g h t i : FVec Ideal S4x512x256 .f32) :=
  dotGeneral_up dot_S4x64x512_S4x64x256_S4x512x256_1_1_2_2_0_0 none 64 rfl rfl _ _
    (fun j k => ix3 (j 0 : Fin 4) k (j 1 : Fin 512)) (fun j k => ix3 (j 0 : Fin 4) k (j 2 : Fin 256))
    (fun j k => by funext a; fin_cases a <;> rfl) (fun j k => by funext a; fin_cases a <;> rfl)

theorem dot_dvstate (f : Fin 4 → Fin 256 → Fin 512 → ℝ) (g : Fin 4 → Fin 64 → Fin 256 → ℝ) :
    Host.dotGeneral dot_S4x256x512_S4x64x256_S4x512x64_1_2_2_1_0_0 none (r3 f : FVec Ideal S4x256x512 .f32) (r3 g : FVec Ideal S4x64x256 .f32)
      = (r3 fun h j s => ∑ i, f h i j * g h s i : FVec Ideal S4x512x64 .f32) :=
  dotGeneral_up dot_S4x256x512_S4x64x256_S4x512x64_1_2_2_1_0_0 none 256 rfl rfl _ _
    (fun j k => ix3 (j 0 : Fin 4) k (j 1 : Fin 512)) (fun j k => ix3 (j 0 : Fin 4) (j 2 : Fin 64) k)
    (fun j k => by funext a; fin_cases a <;> rfl) (fun j k => by funext a; fin_cases a <;> rfl)

theorem dot_dvatt (f : Fin 4 → Fin 64 → Fin 512 → ℝ) (g : Fin 4 → Fin 64 → Fin 64 → ℝ) :
    Host.dotGeneral dot_S4x64x512_S4x64x64_S4x512x64_1_1_2_2_0_0 none (r3 f : FVec Ideal S4x64x512 .f32) (r3 g : FVec Ideal S4x64x64 .f32)
      = (r3 fun h j s => ∑ t, f h t j * g h t s : FVec Ideal S4x512x64 .f32) :=
  dotGeneral_up dot_S4x64x512_S4x64x64_S4x512x64_1_1_2_2_0_0 none 64 rfl rfl _ _
    (fun j k => ix3 (j 0 : Fin 4) k (j 1 : Fin 512)) (fun j k => ix3 (j 0 : Fin 4) k (j 2 : Fin 64))
    (fun j k => by funext a; fin_cases a <;> rfl) (fun j k => by funext a; fin_cases a <;> rfl)

/-! ## Layout -/

/-- A literal filling an array. -/
theorem fill_up {t : Shape} (b : BitVec 32) (x : ℝ) (hb : (Scalar.ofBits .f32 b : Ideal .f32) = ((x : ℝ) : EReal))
    (h : S_.BroadcastsInDim t ![]) : broadcastInDim t ![] h (constant S_ .f32 b : FVec Ideal S_ .f32) = (up fun _ => x : FVec Ideal t .f32) := by
  funext j; exact hb

theorem lastrow_up (f : Fin 4 → Fin 64 → Fin 256 → ℝ) :
    extractStridedSlice S4x1x256 ![0, 63, 0] (r3 f : FVec Ideal S4x64x256 .f32) slices_S4x64x256_S4x1x256_0_63_0
      = (r3 fun h _ i => f h 63 i : FVec Ideal S4x1x256 .f32) := by
  funext j
  refine extractStridedSlice_apply _ _ _ j (ix3 (j 0 : Fin 4) (63 : Fin 64) (j 2 : Fin 256)) fun a => ?_
  have h1 : (j 1).val = 0 := by have := (j 1).isLt; simp at this; omega
  fin_cases a
  · show (j 0).val = 0 + (j 0).val; omega
  · show 63 = 63 + (j 1).val; omega
  · show (j 2).val = 0 + (j 2).val; omega

theorem spread_row (f : Fin 4 → Fin 1 → Fin 256 → ℝ) :
    broadcastInDim S4x64x256 ![0, 1, 2] bcast_S4x1x256_S4x64x256_0_1_2 (r3 f : FVec Ideal S4x1x256 .f32)
      = (r3 fun h _ i => f h 0 i : FVec Ideal S4x64x256 .f32) := by
  funext j
  refine broadcastInDim_apply _ _ _ j (ix3 (j 0 : Fin 4) (0 : Fin 1) (j 2 : Fin 256)) fun a => ?_
  fin_cases a <;> rfl

theorem spread_col (f : Fin 4 → Fin 256 → Fin 1 → ℝ) :
    broadcastInDim S4x256x512 ![0, 1, 2] bcast_S4x256x1_S4x256x512_0_1_2 (r3 f : FVec Ideal S4x256x1 .f32)
      = (r3 fun h i _ => f h i 0 : FVec Ideal S4x256x512 .f32) := by
  funext j
  refine broadcastInDim_apply _ _ _ j (ix3 (j 0 : Fin 4) (j 1 : Fin 256) (0 : Fin 1)) fun a => ?_
  fin_cases a <;> rfl

theorem add_col (f : Fin 4 → Fin 256 → ℝ) :
    broadcastInDim S4x256x1 ![0, 1] bcast_S4x256_S4x256x1_0_1 (r2 f : FVec Ideal S4x256 .f32)
      = (r3 fun h i _ => f h i : FVec Ideal S4x256x1 .f32) := by
  funext j
  refine broadcastInDim_apply _ _ _ j (ix2 (j 0 : Fin 4) (j 1 : Fin 256)) fun a => ?_
  fin_cases a <;> rfl

theorem add_row (f : S4x256.Idx → ℝ) :
    broadcastInDim S4x1x256 ![0, 2] bcast_S4x256_S4x1x256_0_2 (up f : FVec Ideal S4x256 .f32)
      = (r3 fun h _ i => f (ix2 h i) : FVec Ideal S4x1x256 .f32) := by
  funext j
  refine broadcastInDim_apply _ _ _ j (ix2 (j 0 : Fin 4) (j 2 : Fin 256)) fun a => ?_
  fin_cases a <;> rfl

theorem lead256_up (f : S4x64x256.Idx → ℝ) :
    broadcastInDim S1x4x64x256 ![1, 2, 3] bcast_S4x64x256_S1x4x64x256_1_2_3 (up f : FVec Ideal S4x64x256 .f32)
      = (r4 fun _ h t i => f (ix3 h t i) : FVec Ideal S1x4x64x256 .f32) := by
  funext j
  refine broadcastInDim_apply _ _ _ j (ix3 (j 1 : Fin 4) (j 2 : Fin 64) (j 3 : Fin 256)) fun a => ?_
  fin_cases a <;> rfl

theorem lead512_up (f : S4x64x512.Idx → ℝ) :
    broadcastInDim S1x4x64x512 ![1, 2, 3] bcast_S4x64x512_S1x4x64x512_1_2_3 (up f : FVec Ideal S4x64x512 .f32)
      = (r4 fun _ h t i => f (ix3 h t i) : FVec Ideal S1x4x64x512 .f32) := by
  funext j
  refine broadcastInDim_apply _ _ _ j (ix3 (j 1 : Fin 4) (j 2 : Fin 64) (j 3 : Fin 512)) fun a => ?_
  fin_cases a <;> rfl

/-- The causal mask, of which a row sees itself and those above. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem tri_apply (t s : Fin 64) : tri (ix2 t s) = if s ≤ t then 1#1 else 0#1 := by
  revert t s; decide +kernel

theorem select_tri (f : Fin 4 → Fin 64 → Fin 64 → ℝ) (z : FVec Ideal S4x64x64 .f32) (hz : z = (up fun _ => 0 : FVec Ideal S4x64x64 .f32)) :
    select (broadcastInDim S4x64x64 ![1, 2] bcast_S64x64_S4x64x64_1_2 tri) (r3 f : FVec Ideal S4x64x64 .f32) z
      = (r3 fun h t s => if s ≤ t then f h t s else 0 : FVec Ideal S4x64x64 .f32) := by
  subst hz
  rw [select_up]
  refine up_congr fun j => ?_
  have e : broadcastInDim S4x64x64 ![1, 2] bcast_S64x64_S4x64x64_1_2 tri j = if (j 2 : Fin 64) ≤ (j 1 : Fin 64) then 1#1 else 0#1 :=
    (broadcastInDim_apply _ _ _ j (ix2 (j 1 : Fin 64) (j 2 : Fin 64)) fun a => by fin_cases a <;> rfl).trans (tri_apply _ _)
  rw [select_apply, e]
  by_cases hj : (j 2 : Fin 64) ≤ (j 1 : Fin 64)
  · rw [if_pos hj]; exact (if_pos hj).symm
  · rw [if_neg hj]; exact (if_neg hj).symm

/-- What enters at a chunk's last row. -/
theorem last_up (f g z : Fin 4 → Fin 256 → ℝ) :
    pad S4x64x256 ![0, 63, 0] ![0, 0, 0] ![0, 0, 0]
        (addf (broadcastInDim S4x1x256 ![0, 2] bcast_S4x256_S4x1x256_0_2 (mulf (r2 f : FVec Ideal S4x256 .f32) (r2 g)))
          (shapeCast S4x1x256 (r2 z : FVec Ideal S4x256 .f32) shapeCasts_S4x256_S4x1x256))
        (constant S_ .f32 0x00000000#32 : FVec Ideal S_ .f32) pads_S4x1x256_S4x64x256_000_6300_000 h_S_
      = (r3 fun h t i => if t = 63 then f h i * g h i + z h i else 0 : FVec Ideal S4x64x256 .f32) := by
  rw [mulf_up, add_row, cast_mid1, addf_up]
  exact pad_up (fun (h : Fin 4) (_ : Fin 1) (i : Fin 256) => f h i * g h i + z h i) _ _ _ ChunkUp.c0

/-- The running sum from the last row back. -/
theorem back_up (f1 f2 f3 f4 f5 f6 f7 f8 : Fin 4 → Fin 64 → Fin 256 → ℝ) :
    Host.reduceWindowAdd ![1, 64, 1] ![1, 1, 1] ![0, 0, 0] ![0, 63, 0]
        (addf (addf (addf (Host.negf (r3 f1 : FVec Ideal S4x64x256 .f32)) (Host.negf (mulf (mulf (r3 f2) (r3 f3)) (r3 f4))))
          (mulf (mulf (r3 f5) (r3 f6)) (r3 f7))) (r3 f8))
        (broadcastInDim S_ ![] bcast_S_S_ (constant S_ .f32 0x00000000#32) : FVec Ideal S_ .f32)
        reduceWindows_S4x64x256_S4x64x256_w1s1p0_0_w64s1p0_63_w1s1p0_0 h_S_
      = (r3 fun h s i => ∑ t, if s ≤ t then (-f1 h t i + -(f2 h t i * f3 h t i * f4 h t i) + f5 h t i * f6 h t i * f7 h t i) + f8 h t i else 0 :
          FVec Ideal S4x64x256 .f32) := by
  rw [hostNegf_up, mulf_up, mulf_up, hostNegf_up, addf_up, mulf_up, mulf_up, addf_up, addf_up]
  exact revsum_up (fun (h : Fin 4) (t : Fin 64) (i : Fin 256) =>
    (-f1 h t i + -(f2 h t i * f3 h t i * f4 h t i) + f5 h t i * f6 h t i * f7 h t i) + f8 h t i) _ _ _ ChunkUp.c0

end Cert.RefDots

end
-- ==== Proof.RefStep.lean ====
/- One trip of the reference's loop over the chunks, from the last one back, on arrays of real numbers. -/
module

public import proofs.«01_k».proof.Proof.RefDots
public import proofs.«01_k».proof.Proof.Whole
public import proofs.«01_k».proof.Proof.Gen.ReferenceIdeal.Run

@[expose] public section

noncomputable section

open scoped BigOperators

namespace Cert.ReferenceIdeal.Trip

open Idealize.ShloMosaic Idealize.ShloMosaic.ValueIdx Cert.RealOps Cert.RefOps Cert.RefDots Cert.ReferenceIdeal Cert.ReferenceIdeal.Value
open Cert.ReferenceIdeal.Facts₀ Cert.ReferenceIdeal.Facts

/-- The stacked gradient of which the chunks from `n` trips have been written. -/
def part {a b : ℕ} (n : ℕ) (f : ℕ → ℕ → Fin a → Fin b → ℝ) (c h : ℕ) (i : Fin a) (j : Fin b) : ℝ := if 64 ≤ c + n then f c h i j else 0

/-- What the loop carries before trip `n`. -/
structure Holds (A : Spec.Args) (n : ℕ) (V0 : Valuation τ sig (Elt Ideal)) : Prop where
  ctr : (V0 (Proc.devRef .tc main_v69_6) : IVec S_ 32) = fun _ => BitVec.ofNat 32 n
  S : (V0 (Proc.devRef .tc main_v69_0) : FVec Ideal S64x4x256x512 .f32) = r4 (φ := .f32) fun c h i j => A.Sc c h j i
  q : (V0 (Proc.devRef .tc main_v69_1) : FVec Ideal S64x4x64x256 .f32) = r4 (φ := .f32) fun c h t i => A.qc c h t i
  k : (V0 (Proc.devRef .tc main_v69_2) : FVec Ideal S64x4x64x256 .f32) = r4 (φ := .f32) fun c h t i => A.kc c h t i
  v : (V0 (Proc.devRef .tc main_v69_3) : FVec Ideal S64x4x64x512 .f32) = r4 (φ := .f32) fun c h t j => A.vc c h t j
  la : (V0 (Proc.devRef .tc main_v69_4) : FVec Ideal S64x4x64x256 .f32) = r4 (φ := .f32) fun c h t i => A.lac c h t i
  d : (V0 (Proc.devRef .tc main_v69_5) : FVec Ideal S64x4x64x512 .f32) = r4 (φ := .f32) fun c h t j => A.d c h t j
  D : (V0 (Proc.devRef .tc main_v69_7) : FVec Ideal S4x256x512 .f32) = r3 (φ := .f32) fun h i j => A.D h n j i
  dq : (V0 (Proc.devRef .tc main_v69_8) : FVec Ideal S64x4x64x256 .f32) = r4 (φ := .f32) fun c h t i => part n A.dq c h t i
  dk : (V0 (Proc.devRef .tc main_v69_9) : FVec Ideal S64x4x64x256 .f32) = r4 (φ := .f32) fun c h t i => part n A.dk c h t i
  dv : (V0 (Proc.devRef .tc main_v69_10) : FVec Ideal S64x4x64x512 .f32) = r4 (φ := .f32) fun c h t j => part n A.dv c h t j
  dla : (V0 (Proc.devRef .tc main_v69_11) : FVec Ideal S64x4x64x256 .f32) = r4 (φ := .f32) fun c h t i => part n A.dla c h t i

section Trip
variable {A : Spec.Args} {n : ℕ} {V0 : Valuation τ sig (Elt Ideal)} (H : Holds A n V0) (hn : n < 64)
include H

theorem index_up (hn : n < 64) : (res_main_while0b_v137 V0 : IVec S_ 32) = fun _ => BitVec.ofNat 32 (63 - n) := by
  unfold res_main_while0b_v137
  rw [H.ctr]
  funext i
  show BitVec.ofNat 32 64 - BitVec.ofNat 32 n - BitVec.ofNat 32 1 = _
  apply BitVec.eq_of_toNat_eq
  simp only [BitVec.toNat_sub, BitVec.toNat_ofNat]
  omega

include hn

theorem start_at : At (fun k => (((![res_main_while0b_v137 V0, constantI S_ 32 0#32, constantI S_ 32 0#32, constantI S_ 32 0#32] :
    Fin 4 → (⟨S_, .i32⟩ : BufTy).Contents (Elt Ideal))) k (Shape.Idx.first h_S_)).toInt) (63 - n) where
  lt := by omega
  h0 := by
    show ((res_main_while0b_v137 V0 : IVec S_ 32) (Shape.Idx.first h_S_)).toInt = _
    rw [index_up H hn]
    show (BitVec.ofNat 32 (63 - n)).toInt = _
    rw [BitVec.toInt_eq_toNat_cond]
    simp only [BitVec.toNat_ofNat]
    rw [if_pos (by omega)]
    omega
  h1 := rfl
  h2 := rfl
  h3 := rfl

theorem state_up : (res_main_while0b_v138 V0 : FVec Ideal S4x256x512 .f32) = r3 (φ := .f32) fun h i j => A.Sc (63 - n) h j i := by
  unfold res_main_while0b_v138
  rw [H.S]
  exact read_chunk (start_at H hn) _ _ _
theorem k_up : (res_main_while0b_v140 V0 : FVec Ideal S4x64x256 .f32) = r3 (φ := .f32) fun h t i => A.kc (63 - n) h t i := by
  unfold res_main_while0b_v140
  rw [H.k]
  exact read_chunk (start_at H hn) _ _ _
theorem v_up : (res_main_while0b_v141 V0 : FVec Ideal S4x64x512 .f32) = r3 (φ := .f32) fun h t i => A.vc (63 - n) h t i := by
  unfold res_main_while0b_v141
  rw [H.v]
  exact read_chunk (start_at H hn) _ _ _
theorem d_up : (res_main_while0b_v143 V0 : FVec Ideal S4x64x512 .f32) = r3 (φ := .f32) fun h t i => A.d (63 - n) h t i := by
  unfold res_main_while0b_v143
  rw [H.d]
  exact read_chunk (start_at H hn) _ _ _
theorem q_up : (res_main_while0b_v145 V0 : FVec Ideal S4x64x256 .f32) = r3 (φ := .f32) fun h t i => A.qc (63 - n) h t i * (1 / 16) := by
  unfold res_main_while0b_v145
  rw [H.q]
  exact congrArg₂ (mulf (F := Ideal) (s := S4x64x256) (φ := .f32)) (read_chunk (start_at H hn) _ _ _) (fill_up _ _ ChunkUp.c16 _)
theorem cum_up : (res_main_while0b_v146 V0 : FVec Ideal S4x64x256 .f32) = r3 (φ := .f32) fun h t i => Spec.cum (A.lac (63 - n) h) t i := by
  unfold res_main_while0b_v146
  rw [H.la]
  refine (congrArg (fun x : FVec Ideal S4x64x256 .f32 => Host.reduceWindowAdd ![1, 64, 1] ![1, 1, 1] ![0, 63, 0] ![0, 0, 0] x
    (broadcastInDim S_ ![] bcast_S_S_ (constant S_ .f32 0x00000000#32)) reduceWindows_S4x64x256_S4x64x256_w1s1p0_0_w64s1p63_0_w1s1p0_0 h_S_)
    (read_chunk (start_at H hn) _ _ _)).trans ?_
  exact cumsum_up (fun h t i => A.lac (63 - n) h t i) _ _ _ ChunkUp.c0

theorem tot_up : (res_main_while0b_v147 V0 : FVec Ideal S4x1x256 .f32) = r3 (φ := .f32) fun h _ i => Spec.tot (A.lac (63 - n) h) i := by
  unfold res_main_while0b_v147
  rw [cum_up H hn, lastrow_up]
  refine up_congr fun j => ?_
  exact Finset.sum_congr rfl fun s _ => if_pos (Fin.le_last s)
theorem ecum_up : (res_main_while0b_v148 V0 : FVec Ideal S4x64x256 .f32) = r3 (φ := .f32) fun h t i => Real.exp (Spec.cum (A.lac (63 - n) h) t i) := by
  unfold res_main_while0b_v148
  rw [cum_up H hn]; rfl
theorem qdec_up : (res_main_while0b_v149 V0 : FVec Ideal S4x64x256 .f32) = r3 (φ := .f32) fun h t i => Spec.qdec (A.qc (63 - n) h) (A.lac (63 - n) h) t i := by
  unfold res_main_while0b_v149
  rw [q_up H hn, ecum_up H hn]; rfl
theorem eneg_up : (res_main_while0b_v151 V0 : FVec Ideal S4x64x256 .f32) = r3 (φ := .f32) fun h t i => Spec.eneg (A.lac (63 - n) h) t i := by
  unfold res_main_while0b_v151
  rw [cum_up H hn, hostNegf_up, hostExp_up]
  exact up_congr fun j => congrArg Real.exp (zero_sub _).symm
theorem kinv_up : (res_main_while0b_v152 V0 : FVec Ideal S4x64x256 .f32) = r3 (φ := .f32) fun h t i => Spec.kinv (A.kc (63 - n) h) (A.lac (63 - n) h) t i := by
  unfold res_main_while0b_v152
  rw [k_up H hn, eneg_up H hn]; rfl
theorem eend_up : (res_main_while0b_v155 V0 : FVec Ideal S4x64x256 .f32) = r3 (φ := .f32) fun h t i => Spec.eend (A.lac (63 - n) h) t i := by
  unfold res_main_while0b_v155
  rw [tot_up H hn, cum_up H hn, spread_row]; rfl
theorem kend_up : (res_main_while0b_v156 V0 : FVec Ideal S4x64x256 .f32) = r3 (φ := .f32) fun h t i => Spec.kend (A.kc (63 - n) h) (A.lac (63 - n) h) t i := by
  unfold res_main_while0b_v156
  rw [k_up H hn, eend_up H hn]; rfl
theorem att_up : (res_main_while0b_v160_0 V0 : FVec Ideal S4x64x64 .f32)
    = r3 (φ := .f32) fun h t s => Spec.att (A.qc (63 - n) h) (A.kc (63 - n) h) (A.lac (63 - n) h) t s := by
  unfold res_main_while0b_v160_0
  rw [qdec_up H hn, kinv_up H hn, dot_att]
  exact select_tri _ _ (fill_up _ _ ChunkUp.c0 _)
theorem etot_up : (res_main_while0b_v164 V0 : FVec Ideal S4x256 .f32) = r2 (φ := .f32) fun h i => Real.exp (Spec.tot (A.lac (63 - n) h) i) := by
  unfold res_main_while0b_v164
  rw [tot_up H hn, drop_mid1]; rfl
theorem etotcol_up : (res_main_while0b_v165 V0 : FVec Ideal S4x256x1 .f32) = r3 (φ := .f32) fun h i _ => Real.exp (Spec.tot (A.lac (63 - n) h) i) := by
  unfold res_main_while0b_v165
  rw [etot_up H hn, add_col]
theorem dkend_up : (res_main_while0b_v174 V0 : FVec Ideal S4x64x256 .f32) = r3 (φ := .f32) fun h t i => Spec.dkend (A.vc (63 - n) h) (A.D h n) t i := by
  unfold res_main_while0b_v174
  rw [H.D, v_up H hn, dot_dkend, swap_up]
  exact up_congr fun j => Finset.sum_congr rfl fun k _ => mul_comm _ _
theorem datt_up : (res_main_while0b_v191 V0 : FVec Ideal S4x64x64 .f32) = r3 (φ := .f32) fun h t s => Spec.datt (A.vc (63 - n) h) (A.d (63 - n) h) t s := by
  unfold res_main_while0b_v191
  rw [d_up H hn, v_up H hn, dot_datt]
  exact select_tri _ _ (fill_up _ _ ChunkUp.c0 _)
theorem dkinv_up : (res_main_while0b_v192 V0 : FVec Ideal S4x64x256 .f32)
    = r3 (φ := .f32) fun h t i => Spec.dkinv (A.qc (63 - n) h) (A.lac (63 - n) h) (A.vc (63 - n) h) (A.d (63 - n) h) t i := by
  unfold res_main_while0b_v192
  rw [datt_up H hn, qdec_up H hn, dot_dkinv]; rfl
theorem dqdec_up : (res_main_while0b_v194 V0 : FVec Ideal S4x64x256 .f32)
    = r3 (φ := .f32) fun h t i => Spec.dqdec (A.kc (63 - n) h) (A.lac (63 - n) h) (A.vc (63 - n) h) (A.d (63 - n) h) (A.Sc (63 - n) h) t i := by
  unfold res_main_while0b_v194
  rw [d_up H hn, state_up H hn, datt_up H hn, kinv_up H hn, dot_dqstate, dot_dqatt, addf_up]
  exact up_congr fun j => add_comm _ _
theorem dkendk_up : (res_main_while0b_v197 V0 : FVec Ideal S4x64x256 .f32)
    = r3 (φ := .f32) fun h t i => Spec.dkend (A.vc (63 - n) h) (A.D h n) t i * Spec.kend (A.kc (63 - n) h) (A.lac (63 - n) h) t i := by
  unfold res_main_while0b_v197
  rw [k_up H hn, dkend_up H hn, eend_up H hn, mulf_up, mulf_up]
  refine up_congr fun j => ?_
  unfold Spec.kend
  ring

/-! ## What the trip leaves -/

theorem step_n : (step_main_v69_6 V0 : IVec S_ 32) = fun _ => BitVec.ofNat 32 (n + 1) := by
  unfold step_main_v69_6
  rw [H.ctr]
  funext i
  show BitVec.ofNat 32 n + 1#32 = BitVec.ofNat 32 (n + 1)
  simp only [BitVec.ofNat_add]

theorem step_D : (step_main_v69_7 V0 : FVec Ideal S4x256x512 .f32) = r3 (φ := .f32) fun h i j => A.D h (n + 1) j i := by
  unfold step_main_v69_7
  rw [H.D, etotcol_up H hn, d_up H hn, qdec_up H hn, dot_dstate, swap_up, spread_col]
  rfl

omit H in
/-- One more chunk of a stacked gradient. -/
theorem part_succ {a b : ℕ} (f : ℕ → ℕ → Fin a → Fin b → ℝ) (c h : ℕ) (i : Fin a) (j : Fin b) :
    (if c = 63 - n then f (63 - n) h i j else part n f c h i j) = part (n + 1) f c h i j := by
  unfold part
  by_cases e : c = 63 - n
  · rw [if_pos e, if_pos (by omega), e]
  · rw [if_neg e]
    by_cases e' : 64 ≤ c + n
    · rw [if_pos e', if_pos (by omega)]
    · rw [if_neg e', if_neg (by omega)]

omit H in
/-- A stack of which one chunk has been written. -/
theorem put_up {a b : ℕ} {st : Fin 4 → Int} (hst : At st (63 - n)) (f : ℕ → ℕ → Fin a → Fin b → ℝ)
    (h : (⟨4, ![64, 4, a, b]⟩ : Shape).Slices (fun _ => 0) ⟨4, ![1, 4, a, b]⟩) (g : Fin 4 → Fin a → Fin b → ℝ)
    (hg : ∀ h i j, g h i j = f (63 - n) h i j) :
    Host.dynamicUpdateSlice (r4 (φ := .f32) fun (c : Fin 64) (h : Fin 4) (i : Fin a) (j : Fin b) => part n f c h i j)
      (r4 (φ := .f32) fun (_ : Fin 1) (h : Fin 4) i j => g h i j) st h
      = r4 (φ := .f32) fun (c : Fin 64) (h : Fin 4) (i : Fin a) (j : Fin b) => part (n + 1) f c h i j := by
  rw [write_chunk hst]
  funext y
  refine Eq.trans ?_ (congrArg Real.toEReal (part_succ hn f (y 0).val (y 1).val (y 2) (y 3)))
  by_cases e : (y 0).val = 63 - n
  · rw [if_pos e, if_pos e]
    exact congrArg Real.toEReal (hg _ _ _)
  · rw [if_neg e, if_neg e]
    rfl

theorem step_dq : (step_main_v69_8 V0 : FVec Ideal S64x4x64x256 .f32) = r4 (φ := .f32) fun c h t i => part (n + 1) A.dq c h t i := by
  unfold step_main_v69_8
  rw [H.dq, dqdec_up H hn, ecum_up H hn, fill_up _ _ ChunkUp.c16, mulf_up, mulf_up, lead256_up]
  refine put_up hn (start_at H hn) _ _ _ fun h i j => ?_
  show Spec.dqdec _ _ _ _ _ i j * Real.exp _ * (1 / 16) = Spec.dqdec _ _ _ _ _ i j * (1 / 16) * Real.exp _
  ring

theorem step_dk : (step_main_v69_9 V0 : FVec Ideal S64x4x64x256 .f32) = r4 (φ := .f32) fun c h t i => part (n + 1) A.dk c h t i := by
  unfold step_main_v69_9
  rw [H.dk, dkend_up H hn, eend_up H hn, dkinv_up H hn, eneg_up H hn, mulf_up, mulf_up, addf_up, lead256_up]
  refine put_up hn (start_at H hn) _ _ _ fun h i j => ?_
  show _ = Spec.dkey _ _ _ _ (A.D h (63 - (63 - n))) i j
  rw [show 63 - (63 - n) = n by omega]
  exact add_comm _ _

theorem step_dv : (step_main_v69_10 V0 : FVec Ideal S64x4x64x512 .f32) = r4 (φ := .f32) fun c h t j => part (n + 1) A.dv c h t j := by
  unfold step_main_v69_10
  rw [H.dv, H.D, kend_up H hn, d_up H hn, att_up H hn, dot_dvstate, dot_dvatt, swap_up, swap_up, addf_up, lead512_up]
  refine put_up hn (start_at H hn) _ _ _ fun h i j => ?_
  show _ = Spec.dval _ _ _ _ (A.D h (63 - (63 - n))) i j
  rw [show 63 - (63 - n) = n by omega]
  refine (add_comm _ _).trans (congrArg₂ (· + ·) ?_ ?_) <;> exact Finset.sum_congr rfl fun k _ => mul_comm _ _

omit H hn in
/-- The log decay's gradient, its part through the chunk's whole decay entering at the last row. -/
theorem decay_sum (q k la : Fin 64 → Fin 256 → ℝ) (v d : Fin 64 → Fin 512 → ℝ) (S D : Fin 512 → Fin 256 → ℝ) (s : Fin 64) (i : Fin 256) :
    (∑ t, if s ≤ t then
        (-(Spec.dkend v D t i * Spec.kend k la t i) + -(k t i * Spec.dkinv q la v d t i * Spec.eneg la t i)
          + q t i * (1 / 16) * Spec.dqdec k la v d S t i * Real.exp (Spec.cum la t i))
        + (if t = 63 then (∑ _k : Fin 1, ∑ j, S j i * D j i) * Real.exp (Spec.tot la i) + ∑ t, Spec.dkend v D t i * Spec.kend k la t i else 0)
      else 0) = Spec.ddecay q k la v d S D s i := by
  have e : ∀ t : Fin 64, (if s ≤ t then
        (-(Spec.dkend v D t i * Spec.kend k la t i) + -(k t i * Spec.dkinv q la v d t i * Spec.eneg la t i)
          + q t i * (1 / 16) * Spec.dqdec k la v d S t i * Real.exp (Spec.cum la t i))
        + (if t = 63 then (∑ _k : Fin 1, ∑ j, S j i * D j i) * Real.exp (Spec.tot la i) + ∑ t, Spec.dkend v D t i * Spec.kend k la t i else 0)
      else 0) = (if s ≤ t then Spec.dcum q k la v d S D t i else 0)
        + (if t = 63 then Spec.dtot k la v S D i else 0) := by
    intro t
    have h63 : t = 63 → s ≤ t := fun h => h ▸ Fin.le_last s
    have hc : -(Spec.dkend v D t i * Spec.kend k la t i) + -(k t i * Spec.dkinv q la v d t i * Spec.eneg la t i)
          + q t i * (1 / 16) * Spec.dqdec k la v d S t i * Real.exp (Spec.cum la t i) = Spec.dcum q k la v d S D t i := by
      unfold Spec.dcum Spec.qdec Spec.kinv
      ring
    have ht : (∑ _k : Fin 1, ∑ j, S j i * D j i) * Real.exp (Spec.tot la i) + ∑ t, Spec.dkend v D t i * Spec.kend k la t i
        = Spec.dtot k la v S D i := by
      unfold Spec.dtot
      rw [Fin.sum_univ_one, mul_comm, add_comm]
      exact congrArg (fun x => _ + _ * x) (Finset.sum_congr rfl fun j _ => mul_comm _ _)
    rw [hc, ht]
    by_cases h : s ≤ t
    · rw [if_pos h, if_pos h]
    · rw [if_neg h, if_neg h, if_neg fun h' => h (h63 h'), add_zero]
  rw [Finset.sum_congr rfl fun t _ => e t, Finset.sum_add_distrib, Finset.sum_ite_eq' Finset.univ (63 : Fin 64), if_pos (Finset.mem_univ _)]
  rfl

theorem step_dla : (step_main_v69_11 V0 : FVec Ideal S64x4x64x256 .f32) = r4 (φ := .f32) fun c h t i => part (n + 1) A.dla c h t i := by
  unfold step_main_v69_11
  have e1 : (Host.reduceAdd (mulf (res_main_while0b_v138 V0) (V0 (Proc.devRef .tc main_v69_7))) (constant S_ .f32 0x00000000#32)
      reducesTo_S4x256x512_S4x256_d2 h_S_ : FVec Ideal S4x256 .f32)
      = r2 (φ := .f32) fun h i => ∑ j, A.Sc (63 - n) h j i * A.D h n j i := by
    rw [H.D, state_up H hn, mulf_up]
    exact sum_last (fun (h : Fin 4) (i : Fin 256) (j : Fin 512) => A.Sc (63 - n) h j i * A.D h n j i) _ _ (by decide) _ ChunkUp.c0
  have e2 : (Host.reduceAdd (res_main_while0b_v197 V0) (constant S_ .f32 0x00000000#32) reducesTo_S4x64x256_S4x256_d1 h_S_ : FVec Ideal S4x256 .f32)
      = r2 (φ := .f32) fun h i => ∑ t, Spec.dkend (A.vc (63 - n) h) (A.D h n) t i * Spec.kend (A.kc (63 - n) h) (A.lac (63 - n) h) t i := by
    rw [dkendk_up H hn]
    exact sum_mid (fun (h : Fin 4) (t : Fin 64) (i : Fin 256) =>
      Spec.dkend (A.vc (63 - n) h) (A.D h n) t i * Spec.kend (A.kc (63 - n) h) (A.lac (63 - n) h) t i) _ _ (by decide) _ ChunkUp.c0
  have e3 : (Host.reduceAdd (shapeCast S4x256x1 (r2 (φ := .f32) fun (h : Fin 4) (i : Fin 256) => ∑ j, A.Sc (63 - n) h j i * A.D h n j i)
      shapeCasts_S4x256_S4x256x1) (constant S_ .f32 0x00000000#32) reducesTo_S4x256x1_S4x256_d2 h_S_ : FVec Ideal S4x256 .f32)
      = r2 (φ := .f32) fun h i => ∑ _k : Fin 1, ∑ j, A.Sc (63 - n) h j i * A.D h n j i := by
    rw [cast_last1]
    exact sum_last (fun (h : Fin 4) (i : Fin 256) (_ : Fin 1) => ∑ j, A.Sc (63 - n) h j i * A.D h n j i) _ _ (by decide) _ ChunkUp.c0
  rw [e1, e2, e3, H.dla, dkendk_up H hn, k_up H hn, dkinv_up H hn, eneg_up H hn, q_up H hn, dqdec_up H hn, ecum_up H hn, etot_up H hn,
    last_up, back_up, lead256_up]
  refine put_up hn (start_at H hn) _ _ _ fun h i j => ?_
  show _ = Spec.ddecay _ _ _ _ _ _ (A.D h (63 - (63 - n))) i j
  rw [show 63 - (63 - n) = n by omega]
  exact decay_sum _ _ _ _ _ _ _ _ _

/-- The trip keeps what the loop carries, one chunk on. -/
theorem step_holds : Holds A (n + 1) (STEP V0) where
  ctr := (STEP_main_v69_6 V0).trans (step_n H hn)
  S := (STEP_main_v69_0 V0).trans H.S
  q := (STEP_main_v69_1 V0).trans H.q
  k := (STEP_main_v69_2 V0).trans H.k
  v := (STEP_main_v69_3 V0).trans H.v
  la := (STEP_main_v69_4 V0).trans H.la
  d := (STEP_main_v69_5 V0).trans H.d
  D := (STEP_main_v69_7 V0).trans (step_D H hn)
  dq := (STEP_main_v69_8 V0).trans (step_dq H hn)
  dk := (STEP_main_v69_9 V0).trans (step_dk H hn)
  dv := (STEP_main_v69_10 V0).trans (step_dv H hn)
  dla := (STEP_main_v69_11 V0).trans (step_dla H hn)

omit H hn in
theorem iter_holds (H : Holds A 0 V0) : ∀ n, n ≤ 64 → Holds A n (STEP^[n] V0)
  | 0, _ => H
  | n + 1, hn => by
    rw [Function.iterate_succ_apply']
    exact step_holds (iter_holds H n (by omega)) (by omega)

end Trip

end Cert.ReferenceIdeal.Trip

end
-- ==== Proof.RefGate.lean ====
/- The reference's gated norm, back, on arrays of real numbers: by rows, by rows and heads, and by chunks. -/
module

public import proofs.«01_k».proof.Proof.RefDots
public import proofs.«01_k».proof.Proof.Whole

@[expose] public section

noncomputable section

open scoped BigOperators

namespace Cert.RefGate

open Idealize.ShloMosaic Idealize.ShloMosaic.ValueIdx Cert.RealOps Cert.RefOps Cert.RefDots Cert.ReferenceIdeal Cert.Spec
open Cert.ReferenceIdeal.Facts₀ Cert.ReferenceIdeal.Facts

/-! ## One array of chunks, in its three layouts -/

/-- A row within its chunk. -/
def low (r : ℕ) : Fin 64 := ⟨r % 64, Nat.mod_lt _ (by norm_num)⟩

/-- By rows; by rows and heads. -/
def G256 (f : ℕ → ℕ → Fin 64 → Fin 256 → ℝ) : FVec Ideal S4096x1024 .f32 := up fun y => glue256 f (y 0) (y 1)
def G2 (f : ℕ → ℕ → Fin 64 → Fin 512 → ℝ) : FVec Ideal S4096x2048 .f32 := up fun y => glue512 f (y 0) (y 1)
def G3 (f : ℕ → ℕ → Fin 64 → Fin 512 → ℝ) : FVec Ideal S4096x4x512 .f32 := r3 fun (r : Fin 4096) (h : Fin 4) j => f (r / 64) h (low r) j
/-- One number for each row and head. -/
def G21 (f : ℕ → ℕ → Fin 64 → ℝ) : FVec Ideal S4096x4 .f32 := r2 fun (r : Fin 4096) (h : Fin 4) => f (r / 64) h (low r)
def G31 (f : ℕ → ℕ → Fin 64 → ℝ) : FVec Ideal S4096x4x1 .f32 := r3 fun (r : Fin 4096) (h : Fin 4) (_ : Fin 1) => f (r / 64) h (low r)

theorem glue512_cut (x : ℕ → ℕ → ℝ) (r j : ℕ) : glue512 (cut512 x) r j = x r j := by
  unfold glue512 cut512
  show x (64 * (r / 64) + r % 64) (512 * (j / 512) + j % 512) = x r j
  rw [Nat.div_add_mod, Nat.div_add_mod]
theorem glue256_cut (x : ℕ → ℕ → ℝ) (r j : ℕ) : glue256 (cut256 x) r j = x r j := by
  unfold glue256 cut256
  show x (64 * (r / 64) + r % 64) (256 * (j / 256) + j % 256) = x r j
  rw [Nat.div_add_mod, Nat.div_add_mod]

variable (f g : ℕ → ℕ → Fin 64 → Fin 512 → ℝ)

theorem heads_up : shapeCast S4096x4x512 (G2 f) shapeCasts_S4096x2048_S4096x4x512 = G3 f := by
  funext y
  have h0 : (y 0).val < 4096 := (y 0).isLt
  have h1 : (y 1).val < 4 := (y 1).isLt
  have h2 : (y 2).val < 512 := (y 2).isLt
  refine (shapeCast_apply _ _ y (ix2 (⟨(y 0).val, h0⟩ : Fin 4096) (⟨512 * (y 1).val + (y 2).val, by omega⟩ : Fin 2048)) ?_).trans ?_
  · rw [Shape.rowMajor_val_two, Shape.rowMajor_val_three]
    show (y 0).val * 2048 + (512 * (y 1).val + (y 2).val) = ((y 0).val * 4 + (y 1).val) * 512 + (y 2).val
    omega
  · refine congrArg Real.toEReal ?_
    have e := glue512_at f ((y 0).val / 64) (y 1).val (low (y 0).val) (y 2)
    rw [show 64 * ((y 0).val / 64) + (low (y 0).val).val = (y 0).val from Nat.div_add_mod _ _] at e
    exact e

theorem rows_up : shapeCast S4096x2048 (G3 f) shapeCasts_S4096x4x512_S4096x2048 = G2 f := by
  funext y
  have h0 : (y 0).val < 4096 := (y 0).isLt
  have h1 : (y 1).val < 2048 := (y 1).isLt
  refine (shapeCast_apply _ _ y (ix3 (⟨(y 0).val, h0⟩ : Fin 4096) (⟨(y 1).val / 512, by omega⟩ : Fin 4) (⟨(y 1).val % 512, by omega⟩ : Fin 512)) ?_).trans rfl
  rw [Shape.rowMajor_val_two, Shape.rowMajor_val_three]
  show ((y 0).val * 4 + (y 1).val / 512) * 512 + (y 1).val % 512 = (y 0).val * 2048 + (y 1).val
  omega

theorem chunks512_up : transpose S64x4x64x512 [0, 2, 1, 3] (shapeCast S64x64x4x512 (G2 f) shapeCasts_S4096x2048_S64x64x4x512)
    transposes_S64x64x4x512_S64x4x64x512_0_2_1_3 = (r4 fun c h t j => f c h t j : FVec Ideal S64x4x64x512 .f32) := by
  funext y
  have h0 : (y 0).val < 64 := (y 0).isLt
  have h1 : (y 1).val < 4 := (y 1).isLt
  have h2 : (y 2).val < 64 := (y 2).isLt
  have h3 : (y 3).val < 512 := (y 3).isLt
  refine (transpose_apply _ _ _ y (ix4 (⟨_, h0⟩ : Fin 64) (⟨_, h2⟩ : Fin 64) (⟨_, h1⟩ : Fin 4) (⟨_, h3⟩ : Fin 512)) fun d => by fin_cases d <;> rfl).trans ?_
  refine (shapeCast_apply _ _ _ (ix2 (⟨64 * (y 0).val + (y 2).val, by omega⟩ : Fin 4096) (⟨512 * (y 1).val + (y 3).val, by omega⟩ : Fin 2048)) ?_).trans ?_
  · rw [Shape.rowMajor_val_two, Shape.rowMajor_val_four]
    show (64 * (y 0).val + (y 2).val) * 2048 + (512 * (y 1).val + (y 3).val) = (((y 0).val * 64 + (y 2).val) * 4 + (y 1).val) * 512 + (y 3).val
    omega
  · exact congrArg Real.toEReal (glue512_at f (y 0).val (y 1).val (y 2) (y 3))

theorem chunks256_up (f : ℕ → ℕ → Fin 64 → Fin 256 → ℝ) :
    transpose S64x4x64x256 [0, 2, 1, 3] (shapeCast S64x64x4x256 (G256 f) shapeCasts_S4096x1024_S64x64x4x256)
      transposes_S64x64x4x256_S64x4x64x256_0_2_1_3 = (r4 fun c h t j => f c h t j : FVec Ideal S64x4x64x256 .f32) := by
  funext y
  have h0 : (y 0).val < 64 := (y 0).isLt
  have h1 : (y 1).val < 4 := (y 1).isLt
  have h2 : (y 2).val < 64 := (y 2).isLt
  have h3 : (y 3).val < 256 := (y 3).isLt
  refine (transpose_apply _ _ _ y (ix4 (⟨_, h0⟩ : Fin 64) (⟨_, h2⟩ : Fin 64) (⟨_, h1⟩ : Fin 4) (⟨_, h3⟩ : Fin 256)) fun d => by fin_cases d <;> rfl).trans ?_
  refine (shapeCast_apply _ _ _ (ix2 (⟨64 * (y 0).val + (y 2).val, by omega⟩ : Fin 4096) (⟨256 * (y 1).val + (y 3).val, by omega⟩ : Fin 1024)) ?_).trans ?_
  · rw [Shape.rowMajor_val_two, Shape.rowMajor_val_four]
    show (64 * (y 0).val + (y 2).val) * 1024 + (256 * (y 1).val + (y 3).val) = (((y 0).val * 64 + (y 2).val) * 4 + (y 1).val) * 256 + (y 3).val
    omega
  · exact congrArg Real.toEReal (glue256_at f (y 0).val (y 1).val (y 2) (y 3))

theorem unchunk512_up : shapeCast S4096x2048 (transpose S64x64x4x512 [0, 2, 1, 3] (r4 fun c h t j => f c h t j : FVec Ideal S64x4x64x512 .f32)
    transposes_S64x4x64x512_S64x64x4x512_0_2_1_3) shapeCasts_S64x64x4x512_S4096x2048 = G2 f := by
  funext y
  have h0 : (y 0).val < 4096 := (y 0).isLt
  have h1 : (y 1).val < 2048 := (y 1).isLt
  refine (shapeCast_apply _ _ y (ix4 (⟨(y 0).val / 64, by omega⟩ : Fin 64) (low (y 0).val) (⟨(y 1).val / 512, by omega⟩ : Fin 4)
    (⟨(y 1).val % 512, by omega⟩ : Fin 512)) ?_).trans ?_
  · rw [Shape.rowMajor_val_two, Shape.rowMajor_val_four]
    show (((y 0).val / 64 * 64 + (y 0).val % 64) * 4 + (y 1).val / 512) * 512 + (y 1).val % 512 = (y 0).val * 2048 + (y 1).val
    omega
  · exact transpose_apply _ _ _ _ (ix4 (⟨(y 0).val / 64, by omega⟩ : Fin 64) (⟨(y 1).val / 512, by omega⟩ : Fin 4) (low (y 0).val)
      (⟨(y 1).val % 512, by omega⟩ : Fin 512)) fun d => by fin_cases d <;> rfl

theorem unchunk256_up (f : ℕ → ℕ → Fin 64 → Fin 256 → ℝ) :
    shapeCast S4096x1024 (transpose S64x64x4x256 [0, 2, 1, 3] (r4 fun c h t j => f c h t j : FVec Ideal S64x4x64x256 .f32)
      transposes_S64x4x64x256_S64x64x4x256_0_2_1_3) shapeCasts_S64x64x4x256_S4096x1024 = G256 f := by
  funext y
  have h0 : (y 0).val < 4096 := (y 0).isLt
  have h1 : (y 1).val < 1024 := (y 1).isLt
  refine (shapeCast_apply _ _ y (ix4 (⟨(y 0).val / 64, by omega⟩ : Fin 64) (low (y 0).val) (⟨(y 1).val / 256, by omega⟩ : Fin 4)
    (⟨(y 1).val % 256, by omega⟩ : Fin 256)) ?_).trans ?_
  · rw [Shape.rowMajor_val_two, Shape.rowMajor_val_four]
    show (((y 0).val / 64 * 64 + (y 0).val % 64) * 4 + (y 1).val / 256) * 256 + (y 1).val % 256 = (y 0).val * 1024 + (y 1).val
    omega
  · exact transpose_apply _ _ _ _ (ix4 (⟨(y 0).val / 64, by omega⟩ : Fin 64) (⟨(y 1).val / 256, by omega⟩ : Fin 4) (low (y 0).val)
      (⟨(y 1).val % 256, by omega⟩ : Fin 256)) fun d => by fin_cases d <;> rfl

/-! ## Rows and heads -/

theorem mul3 : mulf (G3 f) (G3 g) = G3 fun c h t j => f c h t j * g c h t j := rfl
theorem add3 : addf (G3 f) (G3 g) = G3 fun c h t j => f c h t j + g c h t j := rfl
theorem mul2 : mulf (G2 f) (G2 g) = G2 fun c h t j => f c h t j * g c h t j := rfl

theorem rowsum_up : Host.reduceAdd (G3 f) (constant S_ .f32 0x00000000#32 : FVec Ideal S_ .f32) reducesTo_S4096x4x512_S4096x4_d2 h_S_
    = G21 fun c h t => ∑ j, f c h t j :=
  sum_last (fun (r : Fin 4096) (h : Fin 4) j => f (r / 64) h (low r) j) _ _ (by decide) _ ChunkUp.c0

theorem rowsum1_up (f : ℕ → ℕ → Fin 64 → ℝ) :
    Host.reduceAdd (G31 f) (constant S_ .f32 0x00000000#32 : FVec Ideal S_ .f32) reducesTo_S4096x4x1_S4096x4_d2 h_S_ = G21 f := by
  refine (sum_last (fun (r : Fin 4096) (h : Fin 4) (_ : Fin 1) => f (r / 64) h (low r)) _ _ (by decide) _ ChunkUp.c0).trans ?_
  exact up_congr fun j => Fin.sum_univ_one _

theorem col_up (f : ℕ → ℕ → Fin 64 → ℝ) : broadcastInDim S4096x4x1 ![0, 1] bcast_S4096x4_S4096x4x1_0_1 (G21 f) = G31 f := by
  funext j
  refine broadcastInDim_apply _ _ _ j (ix2 (j 0 : Fin 4096) (j 1 : Fin 4)) fun a => ?_
  fin_cases a <;> rfl

theorem colcast_up (f : ℕ → ℕ → Fin 64 → ℝ) : shapeCast S4096x4x1 (G21 f) shapeCasts_S4096x4_S4096x4x1 = G31 f :=
  cast_last1 (fun (r : Fin 4096) (h : Fin 4) => f (r / 64) h (low r)) _

theorem spread31_up (f : ℕ → ℕ → Fin 64 → ℝ) :
    broadcastInDim S4096x4x512 ![0, 1, 2] bcast_S4096x4x1_S4096x4x512_0_1_2 (G31 f) = G3 fun c h t _ => f c h t := by
  funext j
  refine broadcastInDim_apply _ _ _ j (ix3 (j 0 : Fin 4096) (j 1 : Fin 4) (0 : Fin 1)) fun a => ?_
  fin_cases a <;> rfl

theorem spread21_up (f : ℕ → ℕ → Fin 64 → ℝ) :
    broadcastInDim S4096x4x512 ![0, 1] bcast_S4096x4_S4096x4x512_0_1 (G21 f) = G3 fun c h t _ => f c h t := by
  funext j
  refine broadcastInDim_apply _ _ _ j (ix2 (j 0 : Fin 4096) (j 1 : Fin 4)) fun a => ?_
  fin_cases a <;> rfl

theorem gain_up (N : ℕ → ℝ) :
    broadcastInDim S4096x4x512 ![0, 1, 2] bcast_S1x1x512_S4096x4x512_0_1_2 (broadcastInDim S1x1x512 ![2] bcast_S512_S1x1x512_2
      (shapeCast S512 (up fun y => N (y 1) : FVec Ideal S1x512 .f32) shapeCasts_S1x512_S512)) = G3 fun _ _ _ j => N j := by
  have key : ∀ i : Fin 512, shapeCast S512 (up fun y => N (y 1) : FVec Ideal S1x512 .f32) shapeCasts_S1x512_S512 (ix1 i) = ((N i : ℝ) : EReal) := by
    intro i
    refine (shapeCast_apply _ _ _ (ix2 (0 : Fin 1) i) ?_).trans rfl
    rw [Shape.rowMajor_val_two, Shape.rowMajor_val_one]
    show 0 * 512 + i.val = i.val
    omega
  funext j
  refine (broadcastInDim_apply _ _ _ j (ix3 (0 : Fin 1) (0 : Fin 1) (j 2 : Fin 512)) fun a => by fin_cases a <;> rfl).trans ?_
  exact (broadcastInDim_apply _ _ _ _ (ix1 (j 2 : Fin 512)) fun a => by fin_cases a <;> rfl).trans (key (j 2))

/-! ## The norm and the gate -/

/-- A row's mean square and epsilon. -/
def ms (o : Fin 64 → Fin 512 → ℝ) (t : Fin 64) : ℝ := (∑ j, o t j * o t j) / 512 + eps

theorem ms_pos (o : Fin 64 → Fin 512 → ℝ) (t : Fin 64) : 0 < ms o t :=
  add_pos_of_nonneg_of_pos (div_nonneg (Finset.sum_nonneg fun j _ => mul_self_nonneg _) (by norm_num)) ChunkUp.eps_pos

theorem inv_eq (o : Fin 64 → Fin 512 → ℝ) (t : Fin 64) : inv o t = (Real.sqrt (ms o t))⁻¹ := rfl

theorem ms_up : addf (Host.divf (broadcastInDim S4096x4x1 ![0, 1] bcast_S4096x4_S4096x4x1_0_1 (Host.reduceAdd (mulf (G3 f) (G3 f))
      (constant S_ .f32 0x00000000#32 : FVec Ideal S_ .f32) reducesTo_S4096x4x512_S4096x4_d2 h_S_))
      (broadcastInDim S4096x4x1 ![] bcast_S_S4096x4x1 (constant S_ .f32 0x44000000#32)))
      (broadcastInDim S4096x4x1 ![] bcast_S_S4096x4x1 (constant S_ .f32 0x358637BD#32)) = G31 fun c h t => ms (f c h) t := by
  rw [mul3, rowsum_up, col_up, fill_up _ _ ChunkUp.c512, fill_up _ _ ChunkUp.ceps]
  unfold G31
  rw [hostDivf_up _ _ (fun _ => by norm_num)]
  rfl

theorem inv_up : Host.rsqrt (G31 fun c h t => ms (f c h) t) = G31 fun c h t => inv (f c h) t :=
  hostRsqrt_up _ fun _ => ms_pos _ _

theorem sig_up : Host.divf (broadcastInDim S4096x2048 ![] bcast_S_S4096x2048 (constant S_ .f32 0x3F800000#32))
      (addf (broadcastInDim S4096x2048 ![] bcast_S_S4096x2048 (constant S_ .f32 0x3F800000#32)) (Host.exp (Host.negf (G2 f))))
    = G2 fun c h t j => sig (f c h) t j := by
  unfold G2
  rw [fill_up _ _ ChunkUp.c1, hostNegf_up, hostExp_up, addf_up, hostDivf_up _ _ (fun j => by positivity)]
  rfl

/-! ## The arguments' arrays -/

theorem slice2_up (off : ℕ) (P : ℕ → ℕ → ℝ) (h : S4096x6272.Slices ![0, off] S4096x2048) :
    extractStridedSlice S4096x2048 ![0, off] (up fun y => P (y 0) (y 1) : FVec Ideal S4096x6272 .f32) h
      = G2 (cut512 fun r j => P r (off + j)) := by
  funext y
  rw [slice_up]
  show ((P (0 + (y 0).val) (off + (y 1).val) : ℝ) : EReal) = ((glue512 (cut512 fun r j => P r (off + j)) (y 0).val (y 1).val : ℝ) : EReal)
  rw [glue512_cut, Nat.zero_add]
theorem slice1_up (off : ℕ) (P : ℕ → ℕ → ℝ) (h : S4096x6272.Slices ![0, off] S4096x1024) :
    extractStridedSlice S4096x1024 ![0, off] (up fun y => P (y 0) (y 1) : FVec Ideal S4096x6272 .f32) h
      = G256 (cut256 fun r j => P r (off + j)) := by
  funext y
  rw [slice_up]
  show ((P (0 + (y 0).val) (off + (y 1).val) : ℝ) : EReal) = ((glue256 (cut256 fun r j => P r (off + j)) (y 0).val (y 1).val : ℝ) : EReal)
  rw [glue256_cut, Nat.zero_add]

theorem whole512 (x : ℕ → ℕ → ℝ) : (up fun y => x (y 0) (y 1) : FVec Ideal S4096x2048 .f32) = G2 (cut512 x) :=
  up_congr fun y => (glue512_cut x _ _).symm
theorem whole256 (x : ℕ → ℕ → ℝ) : (up fun y => x (y 0) (y 1) : FVec Ideal S4096x1024 .f32) = G256 (cut256 x) :=
  up_congr fun y => (glue256_cut x _ _).symm

/-! ## Sums over rows and heads -/

theorem sum01 {a b n : ℕ} (F : Fin a → Fin b → Fin n → ℝ) (h : (⟨3, ![a, b, n]⟩ : Shape).ReducesTo [0, 1] ⟨1, ![n]⟩)
    (hd : ∀ i, h.drop i = ix1 (i 2 : Fin n)) :
    Host.reduceAdd (r3 F : FVec Ideal ⟨3, ![a, b, n]⟩ .f32) (constant S_ .f32 0x00000000#32 : FVec Ideal S_ .f32) h h_S_
      = (up fun j => ∑ r, ∑ k, F r k (j 0) : FVec Ideal ⟨1, ![n]⟩ .f32) := by
  funext j
  have hz : (constant S_ .f32 0x00000000#32 : FVec Ideal S_ .f32) (Shape.Idx.first h_S_) = ((0 : ℝ) : EReal) := ChunkUp.c0
  show Ideal.hostReduceAdd h (r3 F : FVec Ideal ⟨3, ![a, b, n]⟩ .f32) ((constant S_ .f32 0x00000000#32 : FVec Ideal S_ .f32) (Shape.Idx.first h_S_)) j = _
  unfold Ideal.hostReduceAdd
  rw [hz, EReal.coe_zero, zero_add, up_apply, ← Fintype.sum_prod_type' (f := fun r k => F r k (j 0)), coe_sum]
  refine Finset.sum_bij' (fun i _ => ((i 0 : Fin a), (i 1 : Fin b))) (fun p _ => ix3 p.1 p.2 (j 0 : Fin n)) ?_ ?_ ?_ ?_ ?_
  · intro i _; exact Finset.mem_univ _
  · intro p _
    rw [Finset.mem_filter]
    exact ⟨Finset.mem_univ _, (hd _).trans (eq_ix1 j).symm⟩
  · intro i hi
    rw [Finset.mem_filter, hd] at hi
    have e : (i 2 : Fin n) = j 0 := congrFun hi.2 0
    rw [eq_ix3 i]
    exact congrArg (ix3 (i 0 : Fin a) (i 1 : Fin b)) e.symm
  · intro p _; rfl
  · intro i hi
    rw [Finset.mem_filter, hd] at hi
    have e : (i 2 : Fin n) = j 0 := congrFun hi.2 0
    exact congrArg (fun x => ((F (i 0) (i 1) x : ℝ) : EReal)) e

end Cert.RefGate

end
-- ==== Proof.RefNorm.lean ====
/- The cotangents the reference's gated norm gives back: of its input, of its gate and of its gain. -/
module

public import proofs.«01_k».proof.Proof.RefGate
public import proofs.«01_k».proof.Proof.Gen.ReferenceIdeal.Step

@[expose] public section

noncomputable section

open scoped BigOperators

namespace Cert.RefGate

open Idealize.ShloMosaic Idealize.ShloMosaic.ValueIdx Cert.RealOps Cert.RefOps Cert.RefDots Cert.ReferenceIdeal Cert.Spec
open Cert.ReferenceIdeal.Facts₀ Cert.ReferenceIdeal.Facts

/-! ## The input's cotangent -/

theorem chalf : (Scalar.ofBits .f32 0xBF000000#32 : Ideal .f32) = ((-(1 / 2) : ℝ) : EReal) := by
  show Ideal.ofBits .f32 0xBF000000#32 = _
  simp [Ideal.ofBits, Ideal.ieee, -EReal.coe_mul]; norm_num

/-- Over the real numbers: the reference differentiates the mean square on its own. -/
theorem dout_eq (hn : Fin 512 → ℝ) (o r g : Fin 64 → Fin 512 → ℝ) (t : Fin 64) (j : Fin 512) :
    dohat hn r g t j * inv o t + o t j * ((∑ i, o t i * dohat hn r g t i) * (-(1 / 2) * (inv o t / ms o t)) / 512)
      + (∑ i, o t i * dohat hn r g t i) * (-(1 / 2) * (inv o t / ms o t)) / 512 * o t j = dout hn o r g t j := by
  have hp := ms_pos o t
  have hq : inv o t / ms o t = inv o t * inv o t * inv o t := by
    rw [inv_eq, div_eq_mul_inv]
    have : (ms o t)⁻¹ = (Real.sqrt (ms o t))⁻¹ * (Real.sqrt (ms o t))⁻¹ := by rw [← mul_inv, Real.mul_self_sqrt hp.le]
    rw [this]; ring
  have hs : ∑ i, dohat hn r g t i * oh o t i = inv o t * ∑ i, o t i * dohat hn r g t i := by
    rw [Finset.mul_sum]; exact Finset.sum_congr rfl fun i _ => by unfold oh; ring
  unfold dout
  rw [hs, hq]; unfold oh; ring

section Chain
variable (P L : ℕ → ℕ → ℝ) (S : ℕ → ℕ → ℕ → ℕ → ℝ) (O : ℕ → ℕ → ℝ) (N : ℕ → ℝ) (Y : ℕ → ℕ → ℝ)

def a0 : FVec Ideal S4096x6272 .f32 := up fun y => P (y 0) (y 1)
def a1 : FVec Ideal S4096x1024 .f32 := up fun y => L (y 0) (y 1)
def a2 : FVec Ideal S4x64x512x256 .f32 := up fun y => S (y 0) (y 1) (y 2) (y 3)
def a3 : FVec Ideal S4096x2048 .f32 := up fun y => O (y 0) (y 1)
def a4 : FVec Ideal S1x512 .f32 := up fun y => N (y 1)
def a5 : FVec Ideal S4096x2048 .f32 := up fun y => Y (y 0) (y 1)

theorem a3_eq : a3 O = G2 fun c h => cut512 O c h := whole512 O
theorem a5_eq : a5 Y = G2 fun c h => cut512 Y c h := whole512 Y
theorem a1_eq : a1 L = G256 fun c h => cut256 L c h := whole256 L

theorem v6_up : Step.A_main_v6 (F := Ideal) (a0 P) (a1 L) (a2 S) (a3 O) (a4 N) (a5 Y) = G3 (argsOf P L S O N Y).oc := by
  unfold Step.A_main_v6
  rw [a3_eq]
  exact heads_up _
theorem v13_up : Step.A_main_v13 (F := Ideal) (a0 P) (a1 L) (a2 S) (a3 O) (a4 N) (a5 Y) = G31 fun c h t => ms ((argsOf P L S O N Y).oc c h) t := by
  unfold Step.A_main_v13 Step.A_main_v11 Step.A_main_v9 Step.A_main_v8 Step.A_main_v7
  rw [v6_up]
  exact ms_up _
theorem v14_up : Step.A_main_v14 (F := Ideal) (a0 P) (a1 L) (a2 S) (a3 O) (a4 N) (a5 Y) = G31 fun c h t => inv ((argsOf P L S O N Y).oc c h) t := by
  unfold Step.A_main_v14
  rw [v13_up]
  exact inv_up _
theorem v17_up : Step.A_main_v17 (F := Ideal) (a0 P) (a1 L) (a2 S) (a3 O) (a4 N) (a5 Y)
    = G31 fun c h t => -(1 / 2) * (inv ((argsOf P L S O N Y).oc c h) t / ms ((argsOf P L S O N Y).oc c h) t) := by
  unfold Step.A_main_v17 Step.A_main_v15 Step.K_main_v16 Step.K_main_cst_2
  rw [v14_up, v13_up, fill_up _ _ chalf]
  unfold G31
  rw [hostDivf_up _ _ (fun _ => (ms_pos _ _).ne')]
  exact mulf_up _ _
theorem gate_up : extractStridedSlice S4096x2048 ![0, 4096] (a0 P) slices_S4096x6272_S4096x2048_0_4096 = G2 (argsOf P L S O N Y).rc :=
  slice2_up 4096 P _
theorem gain4_up : broadcastInDim S4096x4x512 ![0, 1, 2] bcast_S1x1x512_S4096x4x512_0_1_2 (broadcastInDim S1x1x512 ![2] bcast_S512_S1x1x512_2
    (shapeCast S512 (a4 N) shapeCasts_S1x512_S512)) = G3 fun _ _ _ j => N j := gain_up N
theorem v24_up : Step.A_main_v24 (F := Ideal) (a0 P) (a1 L) (a2 S) (a3 O) (a4 N) (a5 Y)
    = G3 fun c h t j => (argsOf P L S O N Y).rc c h t j * sig ((argsOf P L S O N Y).rc c h) t j := by
  unfold Step.A_main_v24 Step.A_main_v23_0 Step.A_main_v23_2 Step.A_main_call0_v3 Step.A_main_call0_v1 Step.A_main_call0_v0 Step.A_main_v3
    Step.K_main_call0_v2 Step.K_main_call0_v4 Step.K_main_call0_cst Step.K_main_call0_cst_0
  rw [gate_up P L S O N Y, sig_up, mul2, heads_up]
theorem v36_up : Step.A_main_v36 (F := Ideal) (a0 P) (a1 L) (a2 S) (a3 O) (a4 N) (a5 Y)
    = G3 fun c h t j => dohat (argsOf P L S O N Y).gain ((argsOf P L S O N Y).rc c h) ((argsOf P L S O N Y).gc c h) t j := by
  unfold Step.A_main_v36 Step.A_main_v29 Step.A_main_v27 Step.A_main_v35 Step.A_main_v20 Step.A_main_v5
  rw [v24_up, a5_eq, heads_up, mul3, gain4_up, mul3]
  rfl
theorem v39_up : Step.A_main_v39 (F := Ideal) (a0 P) (a1 L) (a2 S) (a3 O) (a4 N) (a5 Y)
    = G21 fun c h t => ∑ i, (argsOf P L S O N Y).oc c h t i
        * dohat (argsOf P L S O N Y).gain ((argsOf P L S O N Y).rc c h) ((argsOf P L S O N Y).gc c h) t i := by
  unfold Step.A_main_v39 Step.A_main_v38
  rw [v6_up, v36_up, mul3]
  exact rowsum_up _
theorem v47_up : Step.A_main_v47 (F := Ideal) (a0 P) (a1 L) (a2 S) (a3 O) (a4 N) (a5 Y)
    = G3 fun c h t _ => (∑ i, (argsOf P L S O N Y).oc c h t i
        * dohat (argsOf P L S O N Y).gain ((argsOf P L S O N Y).rc c h) ((argsOf P L S O N Y).gc c h) t i)
        * (-(1 / 2) * (inv ((argsOf P L S O N Y).oc c h) t / ms ((argsOf P L S O N Y).oc c h) t)) / 512 := by
  unfold Step.A_main_v47 Step.A_main_v46 Step.A_main_v45 Step.A_main_v43 Step.A_main_v40 Step.K_main_v44 Step.K_main_cst_6
  rw [v39_up, v17_up, colcast_up, fill_up _ _ ChunkUp.c512]
  refine Eq.trans ?_ (spread21_up _)
  refine congrArg _ ?_
  refine Eq.trans ?_ (rowsum1_up _)
  refine congrArg (fun x => Host.reduceAdd x _ _ _) ?_
  unfold G31
  rw [mulf_up]
  exact hostDivf_up _ _ (fun _ => by norm_num)
theorem v63_up : (Step.A_main_v63 (F := Ideal) (a0 P) (a1 L) (a2 S) (a3 O) (a4 N) (a5 Y) : FVec Ideal S64x4x64x512 .f32)
    = r4 (φ := .f32) fun c h t j => (argsOf P L S O N Y).d c h t j := by
  unfold Step.A_main_v63 Step.A_main_v62 Step.A_main_v52 Step.A_main_v51 Step.A_main_v50 Step.A_main_v49 Step.A_main_v48 Step.A_main_v42
    Step.A_main_v41
  rw [v6_up, v47_up, v36_up, v14_up, spread31_up, mul3, mul3, mul3, add3, add3, rows_up]
  refine (chunks512_up _).trans ?_
  exact up_congr fun y => dout_eq _ _ _ _ _ _

/-! ## The gate's and the gain's cotangents -/

theorem dr_eq (hn : Fin 512 → ℝ) (o r g : Fin 64 → Fin 512 → ℝ) (t : Fin 64) (j : Fin 512) :
    o t j * inv o t * hn j * g t j * sig r t j + r t j * (o t j * inv o t * hn j * g t j) * (sig r t j * (1 - sig r t j)) = dr hn o r g t j := by
  unfold dr oh; ring

theorem one_sub_up (f : ℕ → ℕ → Fin 64 → Fin 512 → ℝ) :
    subf (broadcastInDim S4096x2048 ![] bcast_S_S4096x2048 (constant S_ .f32 0x3F800000#32)) (G2 f) = G2 fun c h t j => 1 - f c h t j := by
  rw [fill_up _ _ ChunkUp.c1]
  exact subf_up _ _
theorem add2 (f g : ℕ → ℕ → Fin 64 → Fin 512 → ℝ) : addf (G2 f) (G2 g) = G2 fun c h t j => f c h t j + g c h t j := rfl

/-! ## All rows and heads at once -/

theorem sum_rows (F : ℕ → Fin 64 → ℝ) : ∑ r : Fin 4096, F (r.val / 64) (low r.val) = ∑ c ∈ Finset.range 64, ∑ t, F c t := by
  rw [Finset.sum_range, ← Fintype.sum_prod_type' (f := fun (c : Fin 64) t => F c t)]
  refine (Equiv.sum_comp (finProdFinEquiv (m := 64) (n := 64)) fun r : Fin 4096 => F (r.val / 64) (low r.val)).symm.trans ?_
  refine Finset.sum_congr rfl fun p _ => ?_
  have h2 := p.2.isLt
  have e : (finProdFinEquiv p).val = p.2.val + 64 * p.1.val := rfl
  have e1 : (finProdFinEquiv p).val / 64 = p.1.val := by omega
  have e2 : low (finProdFinEquiv p).val = p.2 := Fin.ext (by show (finProdFinEquiv p).val % 64 = _; omega)
  rw [e1, e2]

theorem gain_sum (A : Args) (j : Fin 512) : A.G j 16 = ∑ c ∈ Finset.range 64, ∑ h ∈ Finset.range 4, A.dhn c h j := by
  have e : ∀ n, A.G j n = ∑ t ∈ Finset.range n, ∑ m ∈ Finset.range 16, A.dhn (4 * (15 - t) + (3 - m % 4)) (m / 4 % 4) j := by
    intro n
    induction n with
    | zero => rfl
    | succ n ih => rw [Finset.sum_range_succ, ← ih]; rfl
  rw [e, ← Finset.sum_product', ← Finset.sum_product']
  refine Finset.sum_nbij' (fun p => (4 * (15 - p.1) + (3 - p.2 % 4), p.2 / 4 % 4)) (fun p => (15 - p.1 / 4, 4 * p.2 + (3 - p.1 % 4))) ?_ ?_ ?_ ?_ ?_
  · intro p hp
    simp only [Finset.mem_product, Finset.mem_range] at hp ⊢
    omega
  · intro p hp
    simp only [Finset.mem_product, Finset.mem_range] at hp ⊢
    omega
  · intro p hp
    simp only [Finset.mem_product, Finset.mem_range] at hp
    refine Prod.ext ?_ ?_
    · show 15 - (4 * (15 - p.1) + (3 - p.2 % 4)) / 4 = p.1
      omega
    · show 4 * (p.2 / 4 % 4) + (3 - (4 * (15 - p.1) + (3 - p.2 % 4)) % 4) = p.2
      omega
  · intro p hp
    simp only [Finset.mem_product, Finset.mem_range] at hp
    refine Prod.ext ?_ ?_
    · show 4 * (15 - (15 - p.1 / 4)) + (3 - (4 * p.2 + (3 - p.1 % 4)) % 4) = p.1
      omega
    · show (4 * p.2 + (3 - p.1 % 4)) / 4 % 4 = p.2
      omega
  · intro p _
    rfl

theorem gain_total (A : Args) (j : Fin 512) :
    ∑ r : Fin 4096, ∑ h : Fin 4, A.oc (r / 64) h (low r) j * inv (A.oc (r / 64) h) (low r)
      * (A.gc (r / 64) h (low r) j * (A.rc (r / 64) h (low r) j * sig (A.rc (r / 64) h) (low r) j)) = A.G j 16 := by
  rw [gain_sum]
  refine (sum_rows fun c t => ∑ h : Fin 4, A.oc c h t j * inv (A.oc c h) t * (A.gc c h t j * (A.rc c h t j * sig (A.rc c h) t j))).trans ?_
  refine Finset.sum_congr rfl fun c _ => ?_
  rw [Finset.sum_comm, Finset.sum_range]
  refine Finset.sum_congr rfl fun h _ => ?_
  show _ = ∑ t, don (A.rc c h) (A.gc c h) t j * oh (A.oc c h) t j
  refine Finset.sum_congr rfl fun t _ => ?_
  unfold don oh
  ring

theorem drop_rows (i : S4096x4x512.Idx) : reducesTo_S4096x4x512_S512_d0_1.drop i = ix1 (i 2 : Fin 512) := by
  funext a
  fin_cases a
  exact Fin.ext (Shape.ReducesTo.drop_apply_val_of_eq _ _ _ _ (by decide))
theorem drop_ones (i : S1x1x512.Idx) : reducesTo_S1x1x512_S512_d0_1.drop i = ix1 (i 2 : Fin 512) := by
  funext a
  fin_cases a
  exact Fin.ext (Shape.ReducesTo.drop_apply_val_of_eq _ _ _ _ (by decide))

/-- A row of numbers. -/
def G1 (f : Fin 512 → ℝ) : FVec Ideal S512 .f32 := up fun j => f (j 0)

theorem ones_up (f : Fin 512 → ℝ) : shapeCast S1x1x512 (G1 f) shapeCasts_S512_S1x1x512
    = (r3 fun _ _ j => f j : FVec Ideal ⟨3, ![1, 1, 512]⟩ .f32) := by
  have key : ∀ a b : Fin 1, ∀ i : Fin 512, shapeCast S1x1x512 (G1 f) shapeCasts_S512_S1x1x512 (ix3 a b i)
      = ((f i : ℝ) : EReal) := by
    intro a b i
    refine (shapeCast_apply _ _ _ (ix1 i) ?_).trans rfl
    rw [Shape.rowMajor_val_one, Shape.rowMajor_val_three]
    show i.val = (a.val * 1 + b.val) * 512 + i.val
    omega
  funext j
  exact (congrArg _ (eq_ix3 j)).trans (key (j 0) (j 1) (j 2))

theorem total_up (F : ℕ → ℕ → Fin 64 → Fin 512 → ℝ) :
    broadcastInDim S1x512 ![1] bcast_S512_S1x512_1 (Host.reduceAdd (shapeCast S1x1x512 (Host.reduceAdd (G3 F)
      (constant S_ .f32 0x00000000#32 : FVec Ideal S_ .f32) reducesTo_S4096x4x512_S512_d0_1 h_S_) shapeCasts_S512_S1x1x512)
      (constant S_ .f32 0x00000000#32 : FVec Ideal S_ .f32) reducesTo_S1x1x512_S512_d0_1 h_S_)
    = (up fun y => ∑ r : Fin 4096, ∑ h : Fin 4, F (r / 64) h (low r) (y 1) : FVec Ideal S1x512 .f32) := by
  have e1 : Host.reduceAdd (G3 F) (constant S_ .f32 0x00000000#32 : FVec Ideal S_ .f32) reducesTo_S4096x4x512_S512_d0_1 h_S_
      = G1 fun i => ∑ r : Fin 4096, ∑ h : Fin 4, F (r / 64) h (low r) i :=
    sum01 (fun (r : Fin 4096) (h : Fin 4) j => F (r / 64) h (low r) j) _ drop_rows
  rw [e1, ones_up]
  have e2 := sum01 (fun (_ _ : Fin 1) (i : Fin 512) => ∑ r : Fin 4096, ∑ h : Fin 4, F (r / 64) h (low r) i) reducesTo_S1x1x512_S512_d0_1 drop_ones
  refine (congrArg _ e2).trans ?_
  funext y
  refine (broadcastInDim_apply _ _ _ y (ix1 (y 1 : Fin 512)) fun a => by fin_cases a; rfl).trans ?_
  refine congrArg Real.toEReal ?_
  exact (Fin.sum_univ_one _).trans (Fin.sum_univ_one _)

end Chain

end Cert.RefGate

end
-- ==== Proof.RefEntry.lean ====
/- What the reference's loop finds when it begins: the chunks of its arguments, and gradients not yet written. -/
module

public import proofs.«01_k».proof.Proof.RefStep
public import proofs.«01_k».proof.Proof.RefNorm

@[expose] public section

set_option maxRecDepth 65536

noncomputable section

open scoped BigOperators

namespace Cert.ReferenceIdeal.Trip

open Idealize.ShloMosaic Idealize.ShloMosaic.TcCoe Idealize.ShloMosaic.StableHlo Idealize.ShloMosaic.ValueIdx Cert.RealOps Cert.RefOps Cert.ReferenceIdeal Cert.ReferenceIdeal.Gen Cert.ReferenceIdeal.Value

variable (m : (ℓ : Loc nD τ sig) → Buf (Elt Ideal) ℓ) (c : Dev nD)

/-- An argument's array. -/
abbrev arg (b : Ref sig .tc) : Buf (Elt Ideal) ((c.tc : Thread nD τ).loc b) := m ((c.tc : Thread nD τ).loc b)

/-- The arguments are arrays of real numbers. -/
structure Args (P L : ℕ → ℕ → ℝ) (S : ℕ → ℕ → ℕ → ℕ → ℝ) (O : ℕ → ℕ → ℝ) (N : ℕ → ℝ) (Y : ℕ → ℕ → ℝ) : Prop where
  e0 : arg m c main_arg0 = RefGate.a0 P
  e1 : arg m c main_arg1 = RefGate.a1 L
  e2 : arg m c main_arg2 = RefGate.a2 S
  e3 : arg m c main_arg3 = RefGate.a3 O
  e4 : arg m c main_arg4 = RefGate.a4 N
  e5 : arg m c main_arg5 = RefGate.a5 Y

section
variable {m c}

set_option maxHeartbeats 600000 in
theorem entry_0 : (entryContents preI m c (Proc.devRef .tc main_v69_0) : FVec Ideal S64x4x256x512 .f32)
    = Step.A_main_v53 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_1 : (entryContents preI m c (Proc.devRef .tc main_v69_1) : FVec Ideal S64x4x64x256 .f32)
    = Step.A_main_v55 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_2 : (entryContents preI m c (Proc.devRef .tc main_v69_2) : FVec Ideal S64x4x64x256 .f32)
    = Step.A_main_v57 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_3 : (entryContents preI m c (Proc.devRef .tc main_v69_3) : FVec Ideal S64x4x64x512 .f32)
    = Step.A_main_v59 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_4 : (entryContents preI m c (Proc.devRef .tc main_v69_4) : FVec Ideal S64x4x64x256 .f32)
    = Step.A_main_v61 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_5 : (entryContents preI m c (Proc.devRef .tc main_v69_5) : FVec Ideal S64x4x64x512 .f32)
    = Step.A_main_v63 (arg m c main_arg0) (arg m c main_arg1) (arg m c main_arg2) (arg m c main_arg3) (arg m c main_arg4) (arg m c main_arg5) := by
  simp only [entryContents, afterL_cons, afterL_nil]
  after_reads_simp
  rfl
set_option maxHeartbeats 600000 in
theorem entry_7 : (entryContents preI m c (Proc.devRef .tc main_v69_7) : FVec Ideal S4x256x512 .f32) = Step.K_main_v64 := by
  simp only [entryContents, afterL_cons, afterL_nil]
  after_reads_simp
  rfl
set_option maxHeartbeats 600000 in
theorem entry_8 : (entryContents preI m c (Proc.devRef .tc main_v69_8) : FVec Ideal S64x4x64x256 .f32) = Step.K_main_v65 := by
  simp only [entryContents, afterL_cons, afterL_nil]
  after_reads_simp
  rfl
set_option maxHeartbeats 600000 in
theorem entry_9 : (entryContents preI m c (Proc.devRef .tc main_v69_9) : FVec Ideal S64x4x64x256 .f32) = Step.K_main_v66 := by
  simp only [entryContents, afterL_cons, afterL_nil]
  after_reads_simp
  rfl
set_option maxHeartbeats 600000 in
theorem entry_10 : (entryContents preI m c (Proc.devRef .tc main_v69_10) : FVec Ideal S64x4x64x512 .f32) = Step.K_main_v67 := by
  simp only [entryContents, afterL_cons, afterL_nil]
  after_reads_simp
  rfl
set_option maxHeartbeats 600000 in
theorem entry_11 : (entryContents preI m c (Proc.devRef .tc main_v69_11) : FVec Ideal S64x4x64x256 .f32) = Step.K_main_v68 := by
  simp only [entryContents, afterL_cons, afterL_nil]
  after_reads_simp
  rfl

theorem part_zero {a b : ℕ} (f : ℕ → ℕ → Fin a → Fin b → ℝ) {c : ℕ} (hc : c < 64) (h : ℕ) (i : Fin a) (j : Fin b) : (0 : ℝ) = part 0 f c h i j :=
  (if_neg (by omega)).symm

variable {P L : ℕ → ℕ → ℝ} {S : ℕ → ℕ → ℕ → ℕ → ℝ} {O : ℕ → ℕ → ℝ} {N : ℕ → ℝ} {Y : ℕ → ℕ → ℝ}

theorem states_up : transpose S64x4x256x512 [1, 0, 3, 2] (RefGate.a2 S) Facts₀.transposes_S4x64x512x256_S64x4x256x512_1_0_3_2
    = (r4 fun c h i j => S h c j i : FVec Ideal S64x4x256x512 .f32) := by
  funext y
  exact transpose_apply _ _ _ y (ix4 (y 1 : Fin 4) (y 0 : Fin 64) (y 3 : Fin 512) (y 2 : Fin 256)) fun d => by fin_cases d <;> rfl

theorem entry_holds (H : Args m c P L S O N Y) : Holds (Spec.argsOf P L S O N Y) 0 (entryContents preI m c) where
  ctr := ctr_entry m c
  S := by
    rw [entry_0, H.e0, H.e1, H.e2, H.e3, H.e4, H.e5]
    exact states_up
  q := by
    rw [entry_1, H.e0, H.e1, H.e2, H.e3, H.e4, H.e5]
    unfold Step.A_main_v55 Step.A_main_v54 Step.A_main_v0
    refine Eq.trans ?_ (RefGate.chunks256_up _)
    exact congrArg (fun x => transpose S64x4x64x256 [0, 2, 1, 3] (shapeCast S64x64x4x256 x _) _)
      ((RefGate.slice1_up 0 P _).trans (congrArg (fun f : ℕ → ℕ → ℝ => RefGate.G256 (Spec.cut256 f)) (funext fun r => funext fun j => congrArg (P r) (Nat.zero_add j))))
  k := by
    rw [entry_2, H.e0, H.e1, H.e2, H.e3, H.e4, H.e5]
    unfold Step.A_main_v57 Step.A_main_v56 Step.A_main_v1
    refine Eq.trans ?_ (RefGate.chunks256_up _)
    exact congrArg (fun x => transpose S64x4x64x256 [0, 2, 1, 3] (shapeCast S64x64x4x256 x _) _) (RefGate.slice1_up 1024 P _)
  v := by
    rw [entry_3, H.e0, H.e1, H.e2, H.e3, H.e4, H.e5]
    unfold Step.A_main_v59 Step.A_main_v58 Step.A_main_v2
    refine Eq.trans ?_ (RefGate.chunks512_up _)
    exact congrArg (fun x => transpose S64x4x64x512 [0, 2, 1, 3] (shapeCast S64x64x4x512 x _) _) (RefGate.slice2_up 2048 P _)
  la := by
    rw [entry_4, H.e0, H.e1, H.e2, H.e3, H.e4, H.e5]
    unfold Step.A_main_v61 Step.A_main_v60
    refine Eq.trans ?_ (RefGate.chunks256_up _)
    exact congrArg (fun x => transpose S64x4x64x256 [0, 2, 1, 3] (shapeCast S64x64x4x256 x _) _) (RefGate.a1_eq L)
  d := by
    rw [entry_5, H.e0, H.e1, H.e2, H.e3, H.e4, H.e5]
    exact RefGate.v63_up P L S O N Y
  D := by
    rw [entry_7]
    exact RefDots.fill_up _ _ ChunkUp.c0 _
  dq := by
    rw [entry_8]
    exact (RefDots.fill_up _ _ ChunkUp.c0 _).trans (up_congr fun y => part_zero _ (y 0).isLt _ _ _)
  dk := by
    rw [entry_9]
    exact (RefDots.fill_up _ _ ChunkUp.c0 _).trans (up_congr fun y => part_zero _ (y 0).isLt _ _ _)
  dv := by
    rw [entry_10]
    exact (RefDots.fill_up _ _ ChunkUp.c0 _).trans (up_congr fun y => part_zero _ (y 0).isLt _ _ _)
  dla := by
    rw [entry_11]
    exact (RefDots.fill_up _ _ ChunkUp.c0 _).trans (up_congr fun y => part_zero _ (y 0).isLt _ _ _)

end

end Cert.ReferenceIdeal.Trip

end
-- ==== Proof.RefOuts.lean ====
/- The reference's six results, as functions of its arguments. -/
module

public import proofs.«01_k».proof.Proof.RefEntry

@[expose] public section

set_option maxRecDepth 65536

noncomputable section

open scoped BigOperators

namespace Cert.ReferenceIdeal.Trip

open Idealize.ShloMosaic Idealize.ShloMosaic.TcCoe Idealize.ShloMosaic.StableHlo Idealize.ShloMosaic.ValueIdx Cert.RealOps Cert.RefOps Cert.RefGate Cert.ReferenceIdeal Cert.ReferenceIdeal.Gen Cert.ReferenceIdeal.Value

variable {m : (ℓ : Loc nD τ sig) → Buf (Elt Ideal) ℓ} {c : Dev nD}
variable {P L : ℕ → ℕ → ℝ} {S : ℕ → ℕ → ℕ → ℕ → ℝ} {O : ℕ → ℕ → ℝ} {N : ℕ → ℝ} {Y : ℕ → ℕ → ℝ} (H : Args m c P L S O N Y)
include H

/-- What the loop leaves. -/
theorem last_holds : Holds (Spec.argsOf P L S O N Y) 64 (STEP^[64] (entryContents preI m c)) :=
  iter_holds (entry_holds H) 64 le_rfl

omit H in
theorem part_all {a b : ℕ} (f : ℕ → ℕ → Fin a → Fin b → ℝ) : part 64 f = f :=
  funext fun c => funext fun h => funext fun i => funext fun j => if_pos (by omega)

theorem out_dq : (out_main_v125 (STEP^[64] (entryContents preI m c)) : FVec Ideal S4096x1024 .bf16)
    = (up fun y => Spec.glue256 (Spec.argsOf P L S O N Y).dq (y 0) (y 1) : FVec Ideal S4096x1024 .bf16) := by
  unfold out_main_v125
  rw [(last_holds H).dq, part_all]
  exact congrArg (fun x => truncf .bf16 x Facts₀.bitsLt_bf16_f32) (unchunk256_up _)
theorem out_dk : (out_main_v128 (STEP^[64] (entryContents preI m c)) : FVec Ideal S4096x1024 .bf16)
    = (up fun y => Spec.glue256 (Spec.argsOf P L S O N Y).dk (y 0) (y 1) : FVec Ideal S4096x1024 .bf16) := by
  unfold out_main_v128
  rw [(last_holds H).dk, part_all]
  exact congrArg (fun x => truncf .bf16 x Facts₀.bitsLt_bf16_f32) (unchunk256_up _)
theorem out_dv : (out_main_v131 (STEP^[64] (entryContents preI m c)) : FVec Ideal S4096x2048 .bf16)
    = (up fun y => Spec.glue512 (Spec.argsOf P L S O N Y).dv (y 0) (y 1) : FVec Ideal S4096x2048 .bf16) := by
  unfold out_main_v131
  rw [(last_holds H).dv, part_all]
  exact congrArg (fun x => truncf .bf16 x Facts₀.bitsLt_bf16_f32) (unchunk512_up _)
theorem out_dla : (out_main_v134 (STEP^[64] (entryContents preI m c)) : FVec Ideal S4096x1024 .f32)
    = (up fun y => Spec.glue256 (Spec.argsOf P L S O N Y).dla (y 0) (y 1) : FVec Ideal S4096x1024 .f32) := by
  unfold out_main_v134
  rw [(last_holds H).dla, part_all]
  exact unchunk256_up _

theorem out_dr : (out_main_v132 (STEP^[64] (entryContents preI m c)) : FVec Ideal S4096x2048 .bf16)
    = (up fun y => Spec.glue512 (Spec.argsOf P L S O N Y).dgate (y 0) (y 1) : FVec Ideal S4096x2048 .bf16) := by
  unfold out_main_v132
  have e0 : m ((c.tc : Thread nD τ).loc main_arg0) = a0 P := H.e0
  have e3 : m ((c.tc : Thread nD τ).loc main_arg3) = a3 O := H.e3
  have e4 : m ((c.tc : Thread nD τ).loc main_arg4) = a4 N := H.e4
  have e5 : m ((c.tc : Thread nD τ).loc main_arg5) = a5 Y := H.e5
  rw [iter_main_arg0, iter_main_arg3, iter_main_arg4, iter_main_arg5, e0, e3, e4, e5]
  rw [gate_up P L S O N Y, a3_eq, a5_eq, heads_up, heads_up, ms_up, inv_up, spread31_up, mul3]
  rw [gain4_up, mul3, mul3]
  erw [rows_up]
  rw [sig_up, one_sub_up, mul2, mul2, mul2, mul2, add2]
  exact up_congr fun y => congrArg (fun f => Spec.glue512 f (y 0) (y 1)) (funext fun i => funext fun h => funext fun t => funext fun j =>
    dr_eq (Spec.argsOf P L S O N Y).gain ((Spec.argsOf P L S O N Y).oc i h) ((Spec.argsOf P L S O N Y).rc i h) ((Spec.argsOf P L S O N Y).gc i h) t j)

/-- A row of numbers, as the gain is laid out. -/
def row (f : Fin 512 → ℝ) : FVec Ideal S1x512 .f32 := up fun y => f (y 1)

theorem out_row : (out_main_v135 (STEP^[64] (entryContents preI m c)) : FVec Ideal S1x512 .f32) = row fun j => (Spec.argsOf P L S O N Y).G j 16 := by
  unfold out_main_v135
  have e0 : m ((c.tc : Thread nD τ).loc main_arg0) = a0 P := H.e0
  have e3 : m ((c.tc : Thread nD τ).loc main_arg3) = a3 O := H.e3
  have e5 : m ((c.tc : Thread nD τ).loc main_arg5) = a5 Y := H.e5
  rw [iter_main_arg0, iter_main_arg3, iter_main_arg5, e0, e3, e5]
  rw [gate_up P L S O N Y, a3_eq, a5_eq, heads_up, heads_up, ms_up, inv_up, spread31_up, mul3, sig_up, mul2, heads_up, mul3, mul3]
  refine (total_up _).trans (up_congr fun y => ?_)
  exact gain_total (Spec.argsOf P L S O N Y) (y 1)
theorem out_dhn : (out_main_v135 (STEP^[64] (entryContents preI m c)) : FVec Ideal S1x512 .f32)
    = (up fun y => (Spec.argsOf P L S O N Y).G (y 1) 16 : FVec Ideal S1x512 .f32) := out_row H

end Cert.ReferenceIdeal.Trip

end
-- ==== Proof.Product.lean ====
/- Products of matrices of extended reals, block by block. An array is written by its coordinates as natural numbers:
   `part n c X` is the block of `X` whose rows begin at `n` and whose columns begin at `c`. A product accumulated over
   consecutive blocks of the contracted axis is the sum over the range that they cover. Addition of extended reals is
   commutative and associative, so no entry has to be finite. -/
module

public import proofs.«01_k».proof.Proof.RealOps

@[expose] public section

noncomputable section

open scoped BigOperators

namespace Cert.Product

open Idealize.ShloMosaic Idealize.ShloMosaic.ValueIdx Cert.RealOps

variable {a b K : ℕ} {φ ψ φ₁ φ₂ : FTy}

/-- The block of `X` with rows from `n` and columns from `c` on, as a matrix and as a stack of one matrix. -/
def part (n c : ℕ) (X : ℕ → ℕ → EReal) : FVec Ideal ⟨2, ![a, b]⟩ φ := fun y => X (n + (y 0).val) (c + (y 1).val)
def slab (n c : ℕ) (X : ℕ → ℕ → EReal) : FVec Ideal ⟨3, ![1, a, b]⟩ φ := fun y => X (n + (y 1).val) (c + (y 2).val)
/-- A matrix and a stack of matrices, whole. -/
def mat (X : ℕ → ℕ → EReal) : FVec Ideal ⟨2, ![a, b]⟩ φ := fun y => X (y 0).val (y 1).val
def stack {d : ℕ} (X : ℕ → ℕ → ℕ → EReal) : FVec Ideal ⟨3, ![d, a, b]⟩ φ := fun y => X (y 0).val (y 1).val (y 2).val

theorem exists_mat (A : FVec Ideal ⟨2, ![a, b]⟩ φ) : ∃ X, A = mat X := by
  refine ⟨fun i j => if h : i < a ∧ j < b then A (ix2 ⟨i, h.1⟩ ⟨j, h.2⟩) else 0, funext fun y => ?_⟩
  exact ((dif_pos (⟨(y 0).isLt, (y 1).isLt⟩ : (y 0).val < a ∧ (y 1).val < b)).trans (congrArg A (eq_ix2 y).symm)).symm

theorem exists_stack {d : ℕ} (A : FVec Ideal ⟨3, ![d, a, b]⟩ φ) : ∃ X, A = stack X := by
  refine ⟨fun i j k => if h : i < d ∧ j < a ∧ k < b then A (ix3 ⟨i, h.1⟩ ⟨j, h.2.1⟩ ⟨k, h.2.2⟩) else 0, funext fun y => ?_⟩
  exact ((dif_pos (⟨(y 0).isLt, (y 1).isLt, (y 2).isLt⟩ : (y 0).val < d ∧ (y 1).val < a ∧ (y 2).val < b)).trans
    (congrArg A (eq_ix3 y).symm)).symm

theorem zero32 : (Scalar.ofBits .f32 0x00000000#32 : Ideal .f32) = (0 : EReal) := Ideal.ofBits_zero_f32
theorem part_zero (n c : ℕ) : (broadcast ⟨2, ![a, b]⟩ (Scalar.ofBits .f32 0x00000000#32 : Ideal .f32)) = part n c fun _ _ => 0 :=
  funext fun _ => zero32

theorem part_drop (n c : ℕ) (X : ℕ → ℕ → EReal) (h : (⟨3, ![1, a, b]⟩ : Shape).ShapeCasts ⟨2, ![a, b]⟩) :
    shapeCast ⟨2, ![a, b]⟩ (slab n c X : FVec Ideal ⟨3, ![1, a, b]⟩ φ) h = (part n c X : FVec Ideal ⟨2, ![a, b]⟩ φ) := shapeCast_drop1 _ _
theorem part_stack (n c : ℕ) (X : ℕ → ℕ → EReal) (h : (⟨2, ![a, b]⟩ : Shape).ShapeCasts ⟨3, ![1, a, b]⟩) :
    shapeCast ⟨3, ![1, a, b]⟩ (part n c X : FVec Ideal ⟨2, ![a, b]⟩ φ) h = (slab n c X : FVec Ideal ⟨3, ![1, a, b]⟩ φ) := shapeCast_add1 _ _

theorem part_add (n c : ℕ) (X Y : ℕ → ℕ → EReal) :
    addf (part n c X : FVec Ideal ⟨2, ![a, b]⟩ φ) (part n c Y) = part n c fun r j => X r j + Y r j := rfl
theorem part_trunc (n c : ℕ) (X : ℕ → ℕ → EReal) (h : ψ.bits < φ.bits) :
    truncf ψ (part n c X : FVec Ideal ⟨2, ![a, b]⟩ φ) h = part n c X := rfl

/-! ## Products -/

section entries

variable {sl sr so : Shape} (D : DotDims sl sr so) (hr : D.contr.rank = 1) (hs : D.contr.size ⟨0, by omega⟩ = K)

theorem matmul_sum (A : FVec Ideal sl φ₁) (B : FVec Ideal sr φ₂) (L : so.Idx → Fin K → sl.Idx) (R : so.Idx → Fin K → sr.Idx)
    (hL : ∀ j k, D.lhsIdx j ((contrEquiv1 D K hr hs).symm k) = L j k) (hR : ∀ j k, D.rhsIdx j ((contrEquiv1 D K hr hs).symm k) = R j k) :
    matmul D none A B (constant so .f32 0x00000000#32) = fun j => ∑ k, A (L j k) * B (R j k) := by
  funext j
  show FloatOps.matmul D none _ _ _ j = _
  rw [Ideal.matmul_constant_zero_apply, ← (contrEquiv1 D K hr hs).symm.sum_comp]
  exact Finset.sum_congr rfl fun k _ => by rw [hL, hR]

theorem dot_sum (A : FVec Ideal sl φ₁) (B : FVec Ideal sr φ₂) (L : so.Idx → Fin K → sl.Idx) (R : so.Idx → Fin K → sr.Idx)
    (hL : ∀ j k, D.lhsIdx j ((contrEquiv1 D K hr hs).symm k) = L j k) (hR : ∀ j k, D.rhsIdx j ((contrEquiv1 D K hr hs).symm k) = R j k) :
    Host.dotGeneral D none A B = fun j => ∑ k, A (L j k) * B (R j k) := by
  funext j
  show (0 : EReal) + ∑ k : D.contr.Idx, _ = _
  rw [zero_add, ← (contrEquiv1 D K hr hs).symm.sum_comp]
  exact Finset.sum_congr rfl fun k _ => by rw [hL, hR]

end entries

/-! ## Sums over a range -/

theorem sum_more (f : ℕ → EReal) (n K : ℕ) : (∑ i ∈ Finset.range n, f i) + ∑ k : Fin K, f (n + k) = ∑ i ∈ Finset.range (n + K), f i := by
  rw [Finset.sum_range_add]
  exact congrArg _ (Finset.sum_range fun k => f (n + k)).symm
theorem sum_first (f : ℕ → EReal) (K : ℕ) : 0 + ∑ k : Fin K, f (0 + k) = ∑ i ∈ Finset.range K, f i := by
  rw [zero_add, Finset.sum_range]
  simp

/-! ## Products of blocks -/

section blocks

variable {r c k0 : ℕ} (X Y : ℕ → ℕ → EReal)

/-- Rows of the first by columns of the second. -/
theorem part_nn (D : DotDims ⟨2, ![a, K]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 k (j 1)) :
    matmul D none (part r k0 X : FVec Ideal _ φ₁) (part k0 c Y : FVec Ideal _ φ₂) (constant _ .f32 0x00000000#32)
      = part r c fun i j => ∑ k : Fin K, X i (k0 + k) * Y (k0 + k) j :=
  matmul_sum D hr hs _ _ (fun j k => ix2 (j 0) k) (fun j k => ix2 k (j 1)) hL hR

/-- Columns of the first by columns of the second. -/
theorem part_tn (D : DotDims ⟨2, ![K, a]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 k (j 0)) (hR : ∀ j k, D.rhsIdx j ((contrEquiv1 D K hr hs).symm k) = ix2 k (j 1)) :
    matmul D none (part k0 r X : FVec Ideal _ φ₁) (part k0 c Y : FVec Ideal _ φ₂) (constant _ .f32 0x00000000#32)
      = part r c fun i j => ∑ k : Fin K, X (k0 + k) i * Y (k0 + k) j :=
  matmul_sum D hr hs _ _ (fun j k => ix2 k (j 0)) (fun j k => ix2 k (j 1)) hL hR

/-- Rows of the first by rows of the second. -/
theorem part_nt (D : DotDims ⟨2, ![a, K]⟩ ⟨2, ![b, K]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 (j 1) k) :
    matmul D none (part r k0 X : FVec Ideal _ φ₁) (part c k0 Y : FVec Ideal _ φ₂) (constant _ .f32 0x00000000#32)
      = part r c fun i j => ∑ k : Fin K, X i (k0 + k) * Y j (k0 + k) :=
  matmul_sum D hr hs _ _ (fun j k => ix2 (j 0) k) (fun j k => ix2 (j 1) k) hL hR

end blocks

/-! ## Products of whole matrices -/

section whole

variable (X Y : ℕ → ℕ → EReal)

theorem mat_nn (D : DotDims ⟨2, ![a, K]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 k (j 1)) :
    Host.dotGeneral D none (mat X : FVec Ideal _ φ₁) (mat Y : FVec Ideal _ φ₂) = mat fun i j => ∑ k ∈ Finset.range K, X i k * Y k j :=
  (dot_sum D hr hs _ _ (fun j k => ix2 (j 0) k) (fun j k => ix2 k (j 1)) hL hR).trans (funext fun y => (Finset.sum_range fun k => X (y 0).val k * Y k (y 1).val).symm)

theorem mat_tn (D : DotDims ⟨2, ![K, a]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 k (j 0)) (hR : ∀ j k, D.rhsIdx j ((contrEquiv1 D K hr hs).symm k) = ix2 k (j 1)) :
    Host.dotGeneral D none (mat X : FVec Ideal _ φ₁) (mat Y : FVec Ideal _ φ₂) = mat fun i j => ∑ k ∈ Finset.range K, X k i * Y k j :=
  (dot_sum D hr hs _ _ (fun j k => ix2 k (j 0)) (fun j k => ix2 k (j 1)) hL hR).trans (funext fun y => (Finset.sum_range fun k => X k (y 0).val * Y k (y 1).val).symm)

theorem mat_nt (D : DotDims ⟨2, ![a, K]⟩ ⟨2, ![b, K]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 (j 1) k) :
    Host.dotGeneral D none (mat X : FVec Ideal _ φ₁) (mat Y : FVec Ideal _ φ₂) = mat fun i j => ∑ k ∈ Finset.range K, X i k * Y j k :=
  (dot_sum D hr hs _ _ (fun j k => ix2 (j 0) k) (fun j k => ix2 (j 1) k) hL hR).trans (funext fun y => (Finset.sum_range fun k => X (y 0).val k * Y (y 1).val k).symm)

theorem mat_ext (h : φ.bits < ψ.bits) : extf ψ (mat X : FVec Ideal ⟨2, ![a, b]⟩ φ) h = mat X := rfl
theorem mat_trunc (h : ψ.bits < φ.bits) : truncf ψ (mat X : FVec Ideal ⟨2, ![a, b]⟩ φ) h = mat X := rfl
theorem mat_add : addf (mat X : FVec Ideal ⟨2, ![a, b]⟩ φ) (mat Y) = mat fun i j => X i j + Y i j := rfl

/-- The transpose of a matrix. -/
theorem mat_swap (h : (⟨2, ![a, b]⟩ : Shape).Transposes [1, 0] ⟨2, ![b, a]⟩) :
    transpose ⟨2, ![b, a]⟩ [1, 0] (mat X : FVec Ideal ⟨2, ![a, b]⟩ φ) h = mat fun i j => X j i := by
  funext y
  exact transpose_apply _ _ h y (ix2 (y 1) (y 0)) fun d => by fin_cases d <;> rfl
/-- The derivative of a product in its second factor, as it comes out of the derivative's rules: a transposed product. -/
theorem mat_dw (D : DotDims ⟨2, ![K, b]⟩ ⟨2, ![K, a]⟩ ⟨2, ![b, a]⟩) (hr : D.contr.rank = 1) (hs : D.contr.size ⟨0, by omega⟩ = K)
    (hL : ∀ j k, D.lhsIdx j ((contrEquiv1 D K hr hs).symm k) = ix2 k (j 0)) (hR : ∀ j k, D.rhsIdx j ((contrEquiv1 D K hr hs).symm k) = ix2 k (j 1))
    (h : (⟨2, ![b, a]⟩ : Shape).Transposes [1, 0] ⟨2, ![a, b]⟩) :
    transpose ⟨2, ![a, b]⟩ [1, 0] (Host.dotGeneral D none (mat Y : FVec Ideal _ φ₁) (mat X : FVec Ideal _ φ₂)) h
      = mat fun i j => ∑ k ∈ Finset.range K, X k i * Y k j := by
  rw [mat_tn _ _ D hr hs hL hR, mat_swap]
  funext y
  exact Finset.sum_congr rfl fun k _ => mul_comm _ _
/-- The first two axes of a stack exchanged. -/
theorem stack_swap {d : ℕ} (W : ℕ → ℕ → ℕ → EReal) (h : (⟨3, ![d, a, b]⟩ : Shape).Transposes [1, 0, 2] ⟨3, ![a, d, b]⟩) :
    transpose ⟨3, ![a, d, b]⟩ [1, 0, 2] (stack W : FVec Ideal ⟨3, ![d, a, b]⟩ φ) h = stack fun i p j => W p i j := by
  funext y
  exact transpose_apply _ _ h y (ix3 (y 1) (y 0) (y 2)) fun d => by fin_cases d <;> rfl
/-- The matrices of a stack side by side: of row `i`, the entries of all of them after each other. -/
theorem stack_flat {d n : ℕ} (W : ℕ → ℕ → ℕ → EReal) (hn : n = d * b) (h : (⟨3, ![a, d, b]⟩ : Shape).ShapeCasts ⟨2, ![a, n]⟩) :
    shapeCast ⟨2, ![a, n]⟩ (stack W : FVec Ideal ⟨3, ![a, d, b]⟩ φ) h = mat fun i j => W i (j / b) (j % b) := by
  subst hn
  funext y
  have hy : (y 1).val < d * b := (y 1).isLt
  have hb : 0 < b := Nat.pos_of_ne_zero fun e => by simp [e] at hy
  refine shapeCast_apply _ h y (ix3 (y 0 : Fin a) (⟨(y 1).val / b, Nat.div_lt_of_lt_mul (Nat.mul_comm d b ▸ hy)⟩ : Fin d)
    (⟨(y 1).val % b, Nat.mod_lt _ hb⟩ : Fin b)) ?_
  rw [Shape.rowMajor_val_two, Shape.rowMajor_val_three]
  show ((y 0).val * d + (y 1).val / b) * b + (y 1).val % b = (y 0).val * (d * b) + (y 1).val
  rw [Nat.add_mul, Nat.mul_assoc, Nat.add_assoc, Nat.div_add_mod']
/-- The columns of a matrix cut into a stack. -/
theorem mat_cut {d n : ℕ} (hn : n = d * b) (h : (⟨2, ![a, n]⟩ : Shape).ShapeCasts ⟨3, ![a, d, b]⟩) :
    shapeCast ⟨3, ![a, d, b]⟩ (mat X : FVec Ideal ⟨2, ![a, n]⟩ φ) h = stack fun i p j => X i (p * b + j) := by
  subst hn
  funext y
  have h1 : (y 1).val < d := (y 1).isLt
  have h2 : (y 2).val < b := (y 2).isLt
  have hb : (y 1).val * b + (y 2).val < d * b := by nlinarith
  refine shapeCast_apply _ h y (ix2 (y 0 : Fin a) (⟨(y 1).val * b + (y 2).val, hb⟩ : Fin (d * b))) ?_
  rw [Shape.rowMajor_val_two, Shape.rowMajor_val_three]
  show (y 0).val * (d * b) + ((y 1).val * b + (y 2).val) = ((y 0).val * d + (y 1).val) * b + (y 2).val
  ring

/-- One matrix of a stack. -/
theorem stack_pick {d : ℕ} (n : ℕ) (W : ℕ → ℕ → ℕ → EReal) (h : (⟨3, ![d, a, b]⟩ : Shape).Slices ![n, 0, 0] ⟨3, ![1, a, b]⟩)
    (h' : (⟨3, ![1, a, b]⟩ : Shape).ShapeCasts ⟨2, ![a, b]⟩) :
    shapeCast ⟨2, ![a, b]⟩ (extractStridedSlice ⟨3, ![1, a, b]⟩ ![n, 0, 0] (stack W : FVec Ideal ⟨3, ![d, a, b]⟩ φ) h) h'
      = (mat (W n) : FVec Ideal ⟨2, ![a, b]⟩ φ) := by
  have e : extractStridedSlice ⟨3, ![1, a, b]⟩ ![n, 0, 0] (stack W : FVec Ideal ⟨3, ![d, a, b]⟩ φ) h = (slab 0 0 (W n) : FVec Ideal _ φ) := by
    funext y
    have hy : (y 0).val = 0 := by have := (y 0).isLt; change _ < 1 at this; omega
    show W (n + (y 0).val) (0 + (y 1).val) (0 + (y 2).val) = W n (0 + (y 1).val) (0 + (y 2).val)
    rw [hy, Nat.add_zero]
  rw [e, part_drop]
  funext y
  exact congrArg₂ (W n) (Nat.zero_add _) (Nat.zero_add _)

/-- Two matrices side by side. -/
theorem mat_beside {n : ℕ} (hn : n = b + b) (h : Shape.Concatenates [⟨2, ![a, b]⟩, ⟨2, ![a, b]⟩] ⟨2, ![a, n]⟩ 1) :
    concatenate ⟨2, ![a, n]⟩ 1 [⟨⟨2, ![a, b]⟩, (mat X : FVec Ideal ⟨2, ![a, b]⟩ φ)⟩, ⟨⟨2, ![a, b]⟩, (mat Y : FVec Ideal ⟨2, ![a, b]⟩ φ)⟩] h
      = (mat fun i j => if j < b then X i j else Y i (j - b) : FVec Ideal ⟨2, ![a, n]⟩ φ) := by
  subst hn
  funext y
  have hy : (y 1).val < b + b := (y 1).isLt
  by_cases hj : (y 1).val < b
  · refine (concatenate_pair_apply_left 1 _ _ h y rfl (ix2 (y 0 : Fin a) (⟨(y 1).val, hj⟩ : Fin b)) fun d => by fin_cases d <;> rfl).trans ?_
    exact (if_pos hj).symm
  · refine (concatenate_pair_apply_right 1 _ _ h y rfl rfl (ix2 (y 0 : Fin a) (⟨(y 1).val - b, by omega⟩ : Fin b)) ?_ ?_).trans ?_
    · intro d hd
      fin_cases d
      · rfl
      · exact absurd rfl hd
    · exact Nat.sub_add_cancel (Nat.le_of_not_lt hj)
    exact (if_neg hj).symm

/-- The matrix of a stack of one. -/
theorem stack_only (W : ℕ → ℕ → ℕ → EReal) (h : (⟨3, ![1, a, b]⟩ : Shape).ShapeCasts ⟨2, ![a, b]⟩) :
    shapeCast ⟨2, ![a, b]⟩ (stack W : FVec Ideal ⟨3, ![1, a, b]⟩ φ) h = (mat (W 0) : FVec Ideal ⟨2, ![a, b]⟩ φ) := by
  have e : (stack W : FVec Ideal ⟨3, ![1, a, b]⟩ φ) = slab 0 0 (W 0) := by
    funext y
    have hy : (y 0).val = 0 := by have := (y 0).isLt; change _ < 1 at this; omega
    show W (y 0).val (y 1).val (y 2).val = W 0 (0 + (y 1).val) (0 + (y 2).val)
    rw [hy, Nat.zero_add, Nat.zero_add]
  rw [e, part_drop]
  funext y
  exact congrArg₂ (W 0) (Nat.zero_add _) (Nat.zero_add _)
/-- One matrix, given a first axis of extent one. -/
theorem mat_lift (hb : b ≠ 1) (ha : a ≠ 1) (h : (⟨2, ![a, b]⟩ : Shape).BroadcastsInDim ⟨3, ![1, a, b]⟩ ![1, 2]) :
    broadcastInDim ⟨3, ![1, a, b]⟩ ![1, 2] h (mat X : FVec Ideal ⟨2, ![a, b]⟩ φ) = (stack fun _ => X : FVec Ideal ⟨3, ![1, a, b]⟩ φ) := by
  funext y
  refine broadcastInDim_apply _ _ _ y (ix2 (y 1 : Fin a) (y 2 : Fin b)) fun d => ?_
  fin_cases d
  · exact (if_neg ha).symm
  · exact (if_neg hb).symm

end whole

/-! ## Blocks of arrays, and products accumulated over them

What the kernels share: reading a block of an array, or placing one in it, at coordinates; the product accumulated from zero over
one block or over two. -/

section tiles

variable {m n d : ℕ} {A : FVec Ideal ⟨2, ![m, n]⟩ φ} {B : FVec Ideal ⟨3, ![d, m, n]⟩ φ}

/-- The entry `z` of an array is the entry `y` of the block that begins at `(p, q)`. -/
theorem at_part {X : ℕ → ℕ → EReal} {p q : ℕ} (h : A = mat X) (z : (⟨2, ![m, n]⟩ : Shape).Idx) (y : (⟨2, ![a, b]⟩ : Shape).Idx)
    (h0 : (z 0).val = p + (y 0).val) (h1 : (z 1).val = q + (y 1).val) : A z = (part p q X : FVec Ideal ⟨2, ![a, b]⟩ φ) y :=
  (congrFun h z).trans (congrArg₂ X h0 h1)
theorem at_slab {W : ℕ → ℕ → ℕ → EReal} {p q s : ℕ} (h : B = stack W) (z : (⟨3, ![d, m, n]⟩ : Shape).Idx) (y : (⟨3, ![1, a, b]⟩ : Shape).Idx)
    (h0 : (z 0).val = s) (h1 : (z 1).val = p + (y 1).val) (h2 : (z 2).val = q + (y 2).val) :
    B z = (slab p q (W s) : FVec Ideal ⟨3, ![1, a, b]⟩ φ) y := by
  refine (congrFun h z).trans ?_
  show W (z 0).val (z 1).val (z 2).val = W s (p + (y 1).val) (q + (y 2).val)
  rw [h0, h1, h2]
theorem slab_at {X : ℕ → ℕ → EReal} {p q : ℕ} (z : (⟨3, ![d, m, n]⟩ : Shape).Idx) (y : (⟨3, ![1, a, b]⟩ : Shape).Idx)
    (h1 : (z 1).val = p + (y 1).val) (h2 : (z 2).val = q + (y 2).val) :
    (slab p q X : FVec Ideal ⟨3, ![1, a, b]⟩ φ) y = (stack fun _ => X : FVec Ideal ⟨3, ![d, m, n]⟩ φ) z :=
  (congrArg₂ X h1 h2).symm
/-- The same where the array's columns are those of several matrices side by side, and the block lies in matrix `s`. -/
theorem at_shard {F : ℕ → ℕ → ℕ → EReal} {p s : ℕ} (h : A = mat fun r j => F (j / b) r (j % b)) (z : (⟨2, ![m, n]⟩ : Shape).Idx)
    (y : (⟨2, ![a, b]⟩ : Shape).Idx) (h0 : (z 0).val = p + (y 0).val) (h1 : (z 1).val = s * b + (y 1).val) :
    A z = (part p 0 (F s) : FVec Ideal ⟨2, ![a, b]⟩ φ) y := by
  have hy : (y 1).val < b := (y 1).isLt
  refine (congrFun h z).trans ?_
  show F ((z 1).val / b) (z 0).val ((z 1).val % b) = F s (p + (y 0).val) (0 + (y 1).val)
  rw [h0, h1, Nat.mul_comm, Nat.mul_add_div (by omega), Nat.div_eq_of_lt hy, Nat.mul_add_mod, Nat.mod_eq_of_lt hy, Nat.add_zero, Nat.zero_add]

variable {r c : ℕ} (X Y : ℕ → ℕ → EReal)

theorem one_nn (D : DotDims ⟨2, ![a, K]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 k (j 1)) :
    addf (broadcast ⟨2, ![a, b]⟩ (Scalar.ofBits .f32 0x00000000#32 : Ideal .f32))
        (matmul D none (part r 0 X : FVec Ideal _ φ₁) (part 0 c Y : FVec Ideal _ φ₂) (constant _ .f32 0x00000000#32))
      = part r c fun i j => ∑ k ∈ Finset.range K, X i k * Y k j := by
  rw [part_nn X Y D hr hs hL hR, part_zero r c, part_add]
  exact funext fun y => sum_first (fun k => X (r + (y 0).val) k * Y k (c + (y 1).val)) K

theorem one_nt (D : DotDims ⟨2, ![a, K]⟩ ⟨2, ![b, K]⟩ ⟨2, ![a, b]⟩) (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 (j 1) k) :
    addf (broadcast ⟨2, ![a, b]⟩ (Scalar.ofBits .f32 0x00000000#32 : Ideal .f32))
        (matmul D none (part r 0 X : FVec Ideal _ φ₁) (part c 0 Y : FVec Ideal _ φ₂) (constant _ .f32 0x00000000#32))
      = part r c fun i j => ∑ k ∈ Finset.range K, X i k * Y j k := by
  rw [part_nt X Y D hr hs hL hR, part_zero r c, part_add]
  exact funext fun y => sum_first (fun k => X (r + (y 0).val) k * Y (c + (y 1).val) k) K

/-- Over two blocks of rows, as the weight gradients accumulate. -/
theorem two_tn (D : DotDims ⟨2, ![K, a]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 k (j 0)) (hR : ∀ j k, D.rhsIdx j ((contrEquiv1 D K hr hs).symm k) = ix2 k (j 1)) :
    addf (addf (broadcast ⟨2, ![a, b]⟩ (Scalar.ofBits .f32 0x00000000#32 : Ideal .f32))
        (matmul D none (part 0 r X : FVec Ideal _ φ₁) (part 0 c Y : FVec Ideal _ φ₂) (constant _ .f32 0x00000000#32)))
        (matmul D none (part K r X : FVec Ideal _ φ₁) (part K c Y : FVec Ideal _ φ₂) (constant _ .f32 0x00000000#32))
      = part r c fun i j => ∑ k ∈ Finset.range (K + K), X k i * Y k j := by
  rw [part_tn X Y D hr hs hL hR, part_tn X Y D hr hs hL hR, part_zero r c, part_add, part_add]
  refine funext fun y => (congrArg (· + _) (sum_first (fun k => X k (r + (y 0).val) * Y k (c + (y 1).val)) K)).trans ?_
  exact sum_more (fun k => X k (r + (y 0).val) * Y k (c + (y 1).val)) K K

/-- A matrix by the matrices of a stack side by side. -/
theorem flat_nn {N : ℕ} (hN : N = d * b) (W : ℕ → ℕ → ℕ → EReal) (D : DotDims ⟨2, ![a, K]⟩ ⟨2, ![K, N]⟩ ⟨2, ![a, N]⟩)
    (hr : D.contr.rank = 1) (hs : D.contr.size ⟨0, by omega⟩ = K)
    (hL : ∀ j k, D.lhsIdx j ((contrEquiv1 D K hr hs).symm k) = ix2 (j 0) k) (hR : ∀ j k, D.rhsIdx j ((contrEquiv1 D K hr hs).symm k) = ix2 k (j 1))
    (h : (⟨3, ![d, K, b]⟩ : Shape).Transposes [1, 0, 2] ⟨3, ![K, d, b]⟩) (h' : (⟨3, ![K, d, b]⟩ : Shape).ShapeCasts ⟨2, ![K, N]⟩) (hb : φ.bits < ψ.bits) :
    Host.dotGeneral D none (mat X : FVec Ideal ⟨2, ![a, K]⟩ φ₁)
        (extf ψ (shapeCast ⟨2, ![K, N]⟩ (transpose ⟨3, ![K, d, b]⟩ [1, 0, 2] (stack W : FVec Ideal ⟨3, ![d, K, b]⟩ φ) h) h') hb)
      = mat fun i j => ∑ k ∈ Finset.range K, X i k * W (j / b) k (j % b) := by
  rw [stack_swap, stack_flat _ hN, mat_ext, mat_nn _ _ D hr hs hL hR]

end tiles

end Cert.Product

end
-- ==== Proof.UpKernel.lean ====
/- The up-projection's kernel: each grid point multiplies a block of rows by one shard of the weight, so its result array holds
   the product of the rows by the shards side by side. -/
module

public import proofs.«01_k».proof.Proof.Product
public import proofs.«01_k».proof.Proof.Gen.UpIdeal.Value
public import Idealize.ShloMosaic.Lib.VecWindow
public import Idealize.ShloMosaic.Lib.Pipeline.ValueKit.Geometry

@[expose] public section

set_option maxRecDepth 16384
set_option maxHeartbeats 1000000

noncomputable section

namespace Cert.UpIdeal.Gen

open scoped BigOperators
open Idealize.ShloMosaic Idealize.ShloMosaic.TcCoe Idealize.ShloMosaic.ValueIdx
open Idealize.SL.Sem
open Cert.Product

theorem out_A {F : FTy → Type} [FloatOps F] (c : Dev nD) (i : grid0.Coords) (arg3 harg3 arg4 harg4 arg5 harg5 arg6 harg6) (hc0 hc1)
    (x0 : Vec F S1024x2048 .bf16) (x1 : Vec F S1x2048x1408 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ []).trans ?_
  unfold kernelRun0_A.sl.v15 kernelRun0_A.sl.HS0_2
  refine (congrArg k0_pay3 (View.readCov_full _ _ _ _ _)).trans ?_
  unfold kernelRun0_A.sl.v3 kernelRun0_A.sl.HS0_1
  rw [View.readCov_full, View.readAt_full, View.readAt_full, harg3.read_unread, harg4.read_unread]

theorem pay (n : ℕ) (X Y : ℕ → ℕ → EReal) :
    k0_pay3 (k0_pay2 k0_pay1 (part n 0 X : FVec Ideal S1024x2048 .bf16) (slab 0 0 Y : FVec Ideal S1x2048x1408 .bf16))
      = (part n 0 fun r j => ∑ k ∈ Finset.range 2048, X r k * Y k j : FVec Ideal S1024x1408 .bf16) := by
  unfold k0_pay3 k0_pay2 k0_pay1
  dsimp only
  rw [shapeCast_self, shapeCast_self, part_drop, part_nn X Y dot_S1024x2048_S2048x1408_S1024x1408_1_0_0_1_n_n rfl rfl
    (fun j k => by funext a; fin_cases a <;> rfl) (fun j k => by funext a; fin_cases a <;> rfl), part_zero n 0, part_add]
  funext y
  exact sum_first (fun k => X (n + (y 0).val) k * Y k (0 + (y 1).val)) 2048

variable (m : (ℓ : Loc nD τ sig) → Buf (Elt Ideal) ℓ) (c : Dev nD) (t : Fin cfg0.N)

theorem e0 : ∀ t : Fin cfg0.N, win0_0.index t = ![t.val / 8, 0] := (by decide +kernel : ∀ t : Fin grid0.N, _)
theorem e1 : ∀ t : Fin cfg0.N, win0_1.index t = ![t.val % 8, 0, 0] := (by decide +kernel : ∀ t : Fin grid0.N, _)
theorem e2 : ∀ t : Fin cfg0.N, win0_2.index t = ![t.val / 8, t.val % 8] := (by decide +kernel : ∀ t : Fin grid0.N, _)

theorem blk0 (X : ℕ → ℕ → EReal) (h : (V m c main_arg0 : FVec Ideal S4096x2048 .bf16) = (mat X : FVec Ideal S4096x2048 .bf16)) :
    iblk m c 0 t = (part (1024 * (t.val / 8)) 0 X : FVec Ideal S1024x2048 .bf16) := by
  funext y
  blk_simp [iblk]
  refine (congrFun h _).trans ?_
  refine congrArg₂ X ?_ ?_
  · blk_simp [e0]; show t.val / 8 * 1024 + (y 0).val = 1024 * (t.val / 8) + (y 0).val; omega
  · blk_simp [e0]; try rfl
theorem blk1 (W : ℕ → ℕ → ℕ → EReal) (h : (V m c main_arg1 : FVec Ideal S8x2048x1408 .bf16) = (stack W : FVec Ideal S8x2048x1408 .bf16)) :
    iblk m c 1 t = (slab 0 0 (W (t.val % 8)) : FVec Ideal S1x2048x1408 .bf16) := by
  funext y
  blk_simp [iblk]
  refine (congrFun h _).trans ?_
  refine congr (congrArg₂ W ?_ ?_) ?_
  · blk_simp [e1]
  · blk_simp [e1]; try rfl
  · blk_simp [e1]; try rfl

theorem final (X : ℕ → ℕ → EReal) (W : ℕ → ℕ → ℕ → EReal)
    (h : (V m c main_arg0 : FVec Ideal S4096x2048 .bf16) = (mat X : FVec Ideal S4096x2048 .bf16))
    (h' : (V m c main_arg1 : FVec Ideal S8x2048x1408 .bf16) = (stack W : FVec Ideal S8x2048x1408 .bf16)) :
    ((dats m 0 c).arrAt 2 cfg0.N : FVec Ideal S4096x11264 .bf16)
      = (mat fun r j => ∑ k ∈ Finset.range 2048, X r k * W (j / 1408) k (j % 1408) : FVec Ideal S4096x11264 .bf16) := by
  refine (dats m 0 c).arrAt_eq_of_covers 2 _ (by decide +kernel) fun t hf y => ?_
  blk_simp
  rw [after0_2]
  unfold outsAt0
  rw [out_A, blk0 m c t X h, blk1 m c t W h', pay]
  have hy : (y 1).val < 1408 := (y 1).isLt
  have e : (t.val % 8 * 1408 + (y 1).val) / 1408 = t.val % 8 := by omega
  have e' : (t.val % 8 * 1408 + (y 1).val) % 1408 = (y 1).val := by omega
  show ∑ k ∈ Finset.range 2048, X (1024 * (t.val / 8) + (y 0).val) k * W (t.val % 8) k (0 + (y 1).val) = (_ : EReal)
  refine Finset.sum_congr (M := EReal) rfl fun k _ => ?_
  refine congrArg₂ (α := EReal) (β := EReal) (· * ·) (congrArg (X · k) ?_) (congrArg₂ (W · k ·) ?_ ?_)
  · blk_simp [e2]; show 1024 * (t.val / 8) + (y 0).val = t.val / 8 * 1024 + (y 0).val; omega
  · blk_simp [e2]; exact e.symm
  · blk_simp [e2]; exact e'.symm

end Cert.UpIdeal.Gen

end
-- ==== Proof.UpClaims.lean ====
/- The up-projection's claims: its kernel and its reference both end at the product of the rows by the shards side by side, and
   leave their arguments and every semaphore as they found them. -/
module

public import proofs.«01_k».proof.Defs
public import proofs.«01_k».proof.Proof.UpKernel
public import proofs.«01_k».proof.Proof.Gen.UpReferenceIdeal
public import proofs.«01_k».proof.Proof.Gen.UpReferenceIdeal.Run

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.UpReferenceIdeal

open Facts₀ Facts

theorem value (X : ℕ → ℕ → EReal) (W : ℕ → ℕ → ℕ → EReal) (A : FVec Ideal S4096x2048 .bf16) (B : FVec Ideal S8x2048x1408 .bf16)
    (hA : A = (mat X : FVec Ideal S4096x2048 .bf16)) (hB : B = (stack W : FVec Ideal S8x2048x1408 .bf16)) :
    truncf .bf16 (Host.dotGeneral dot_S4096x2048_S2048x11264_S4096x11264_1_0_0_1_n_n none (extf .f32 A bitsLt_bf16_f32)
      (extf .f32 (shapeCast S2048x11264 (transpose S2048x8x1408 [1, 0, 2] B transposes_S8x2048x1408_S2048x8x1408_1_0_2)
        shapeCasts_S2048x8x1408_S2048x11264) bitsLt_bf16_f32)) bitsLt_bf16_f32
      = (mat fun r j => ∑ k ∈ Finset.range 2048, X r k * W (j / 1408) k (j % 1408) : FVec Ideal S4096x11264 .bf16) := by
  subst hA hB
  rw [stack_swap, stack_flat (d := 8) (b := 1408) (n := 11264) _ rfl, mat_ext, mat_ext, mat_nn _ _ dot_S4096x2048_S2048x11264_S4096x11264_1_0_0_1_n_n rfl rfl
    (fun j k => by funext a; fin_cases a <;> rfl) (fun j k => by funext a; fin_cases a <;> rfl), mat_trunc]

end Cert.UpReferenceIdeal

namespace Cert.Proof

theorem algebraic_up : Cert.algebraic_UpIdeal_UpReferenceIdeal := by
  intro m g m' g' _ hagree
  choose X hX using fun c : Dev Cert.UpIdeal.nD => exists_mat (m ((c.tc : Thread Cert.UpIdeal.nD Cert.UpIdeal.τ).loc Cert.UpIdeal.main_arg0) : FVec Ideal Cert.UpIdeal.S4096x2048 .bf16)
  choose W hW using fun c : Dev Cert.UpIdeal.nD => exists_stack (m ((c.tc : Thread Cert.UpIdeal.nD Cert.UpIdeal.τ).loc Cert.UpIdeal.main_arg1) : FVec Ideal Cert.UpIdeal.S8x2048x1408 .bf16)
  refine ⟨fun c => (mat fun r j => ∑ k ∈ Finset.range 2048, X c r k * W c (j / 1408) k (j % 1408) : FVec Ideal Cert.UpIdeal.S4096x11264 .bf16), ?_, ?_⟩
  · refine (θ_run Cert.UpIdeal.defs _ _).mono (fun r h c => ?_) (Cert.UpIdeal.Value.run_blocks m g)
    obtain ⟨h0, ha⟩ := h c
    exact ⟨h0.trans (Cert.UpIdeal.Gen.final m c _ _ (hX c) (hW c)), ha⟩
  · refine (θ_run Cert.UpReferenceIdeal.defs _ _).mono (fun r h c => ?_) (Cert.UpReferenceIdeal.Value.run m' g')
    obtain ⟨h0, ha⟩ := h c
    exact ⟨h0.trans (Cert.UpReferenceIdeal.value _ _ _ _ ((hagree c).1.trans (hX c)) ((hagree c).2.trans (hW c))), ha⟩

theorem frame_up_reference : Cert.quiescent_UpReferenceIdeal := fun m ρ _ =>
  (θ_run Cert.UpReferenceIdeal.defs _ _).mono
    (fun r h => ⟨fun c => (h c).2, sem_eq_zero_of_no_sems (by decide) r.2⟩) (Cert.UpReferenceIdeal.Value.run m ρ)

end Cert.Proof

end
-- ==== Proof.DownKernel.lean ====
/- The down-projection's kernel: four consecutive grid points add the products over four blocks of the contracted axis, and the
   last adds the block of the residual, so its result array holds the product plus the residual. -/
module

public import proofs.«01_k».proof.Proof.Product
public import proofs.«01_k».proof.Proof.Gen.DownIdeal.Value
public import Idealize.ShloMosaic.Lib.VecWindow
public import Idealize.ShloMosaic.Lib.Pipeline.ValueKit.Geometry

@[expose] public section

set_option maxRecDepth 16384
set_option maxHeartbeats 1000000

noncomputable section

namespace Cert.DownIdeal.Gen

open scoped BigOperators
open Idealize.ShloMosaic Idealize.ShloMosaic.TcCoe Idealize.ShloMosaic.ValueIdx
open Idealize.SL.Sem
open Cert.Product

section terms

variable {F : FTy → Type} [FloatOps F] (c : Dev nD) (i : grid0.Coords)
  (x0 : Vec F S1024x1408 .bf16) (x1 : Vec F S1x1408x1024 .bf16) (x2 : Vec F S1024x1024 .f32) (s : Vec F S1024x1024 .f32)

/-- What the first of four points leaves in the accumulator. -/
theorem acc_A (arg3 harg3 arg4 harg4 arg5 harg5 arg6 harg6 arg7 harg7 hc0 hc1) :
    sout0_A_0 c i arg3 harg3 arg4 harg4 arg5 harg5 arg6 harg6 arg7 harg7 hc0 hc1 x0 x1 x2 = k0_pay2 k0_pay1 x0 x1 := by
  unfold sout0_A_0 kernelRun0_A
  refine (View.read_writes_full _ _ _ _ _).trans ?_
  refine congr (congrArg₂ k0_pay2 ?_ ?_) ?_
  · exact View.readCov_full _ _ _ _ _
  · exact (View.readAt_full _ _ _).trans (harg3.read_unread x0)
  · exact (View.readAt_full _ _ _).trans (harg4.read_unread x1)

/-- What the second and the third leave there. -/
theorem acc_B (arg3 harg3 arg4 harg4 arg5 harg5 arg6 harg6 arg7 harg7 hc0 hc1) :
    sout0_B_0 c i arg3 harg3 arg4 harg4 arg5 harg5 arg6 harg6 arg7 harg7 hc0 hc1 x0 x1 x2 s = k0_pay2 s x0 x1 := by
  unfold sout0_B_0 kernelRun0_B
  refine (View.read_writes_full _ _ _ _ _).trans ?_
  refine congr (congrArg₂ k0_pay2 ?_ ?_) ?_
  · exact (View.readAt_full _ _ _).trans (harg7.read_unread s)
  · exact (View.readAt_full _ _ _).trans (harg3.read_unread x0)
  · exact (View.readAt_full _ _ _).trans (harg4.read_unread x1)

/-- What the last stores. -/
theorem out_C (arg3 harg3 arg4 harg4 arg5 harg5 arg6 harg6 arg7 harg7 hc0 hc1) :
    out0_C_3 c i arg3 harg3 arg4 harg4 arg5 harg5 arg6 harg6 arg7 harg7 hc0 hc1 x0 x1 x2 s = k0_pay3 (k0_pay2 s x0 x1) x2 := by
  unfold out0_C_3 kernelRun0_C
  refine (View.read_writes_full _ _ _ _ _).trans (congrArg₂ k0_pay3 ?_ ?_)
  · refine (View.readCov_full _ _ _ _ _).trans ?_
    refine congr (congrArg₂ k0_pay2 ?_ ?_) ?_
    · exact (View.readAt_full _ _ _).trans (harg7.read_unread s)
    · exact (View.readAt_full _ _ _).trans (harg3.read_unread x0)
    · exact (View.readAt_full _ _ _).trans (harg4.read_unread x1)
  · exact (View.readAt_full _ _ _).trans (harg5.read_unread x2)

end terms

theorem pay2 (p q n : ℕ) (X Y : ℕ → ℕ → EReal) :
    k0_pay2 (part p q fun r j => ∑ k ∈ Finset.range n, X r k * Y k j : FVec Ideal S1024x1024 .f32)
        (part p n X : FVec Ideal S1024x1408 .bf16) (slab n q Y : FVec Ideal S1x1408x1024 .bf16)
      = (part p q fun r j => ∑ k ∈ Finset.range (n + 1408), X r k * Y k j : FVec Ideal S1024x1024 .f32) := by
  unfold k0_pay2
  dsimp only
  rw [shapeCast_self, part_drop, part_nn X Y dot_S1024x1408_S1408x1024_S1024x1024_1_0_0_1_n_n rfl rfl
    (fun j k => by funext a; fin_cases a <;> rfl) (fun j k => by funext a; fin_cases a <;> rfl), part_add]
  funext y
  exact sum_more (fun k => X (p + (y 0).val) k * Y k (q + (y 1).val)) n 1408

theorem pay1 (p q : ℕ) (X Y : ℕ → ℕ → EReal) :
    (k0_pay1 : FVec Ideal S1024x1024 .f32) = part p q fun r j => ∑ k ∈ Finset.range 0, X r k * Y k j :=
  (shapeCast_self _ _).trans (part_zero p q)

variable (m : (ℓ : Loc nD τ sig) → Buf (Elt Ideal) ℓ) (c : Dev nD) (t : Fin cfg0.N)

theorem e0 : ∀ t : Fin cfg0.N, win0_0.index t = ![t.val / 8, t.val % 4] := (by decide +kernel : ∀ t : Fin grid0.N, _)
theorem e1 : ∀ t : Fin cfg0.N, win0_1.index t = ![0, t.val % 4, t.val / 4 % 2] := (by decide +kernel : ∀ t : Fin grid0.N, _)
theorem e2 : ∀ t : Fin cfg0.N, win0_2.index t = ![t.val / 8, t.val / 4 % 2] := (by decide +kernel : ∀ t : Fin grid0.N, _)
theorem e3 : ∀ t : Fin cfg0.N, win0_3.index t = ![t.val / 8, t.val / 4 % 2] := (by decide +kernel : ∀ t : Fin grid0.N, _)
theorem whole3 : ∀ (t : Fin cfg0.N) (a), win0_3.xsize (grid0.coords t) a = win0_3.size a := (by decide +kernel : ∀ t : Fin grid0.N, _)

/-- The blocks of the points that store cover the result. -/
theorem covers : (cfg0.win 3).Covers := by
  refine ⟨(by decide +kernel : ∀ a, 0 < win0_3.size a), fun β => ?_⟩
  obtain ⟨t, hf, hi⟩ := Value.idx_onto3 (β 0) (β 1)
  exact ⟨t, hf, fun a => ⟨(congrFun hi a).trans (by fin_cases a <;> rfl), Or.inl (whole3 t a)⟩⟩

variable (X H : ℕ → ℕ → EReal) (W : ℕ → ℕ → ℕ → EReal)
  (h : (V m c main_arg0 : FVec Ideal S4096x5632 .bf16) = (mat X : FVec Ideal S4096x5632 .bf16))
  (h' : (V m c main_arg1 : FVec Ideal S1x5632x2048 .bf16) = (stack W : FVec Ideal S1x5632x2048 .bf16))
  (h'' : (V m c main_arg2 : FVec Ideal S4096x2048 .f32) = (mat H : FVec Ideal S4096x2048 .f32))

include h in
theorem blk0 : iblk m c 0 t = (part (1024 * (t.val / 8)) (1408 * (t.val % 4)) X : FVec Ideal S1024x1408 .bf16) := by
  funext y
  blk_simp [iblk]
  refine (congrFun h _).trans ?_
  refine congrArg₂ X ?_ ?_
  · blk_simp [e0]; show t.val / 8 * 1024 + (y 0).val = 1024 * (t.val / 8) + (y 0).val; omega
  · blk_simp [e0]; show t.val % 4 * 1408 + (y 1).val = 1408 * (t.val % 4) + (y 1).val; omega
include h' in
theorem blk1 : iblk m c 1 t = (slab (1408 * (t.val % 4)) (1024 * (t.val / 4 % 2)) (W 0) : FVec Ideal S1x1408x1024 .bf16) := by
  funext y
  blk_simp [iblk]
  refine (congrFun h' _).trans ?_
  refine congr (congrArg₂ W ?_ ?_) ?_
  · blk_simp [e1]
  · blk_simp [e1]; show t.val % 4 * 1408 + (y 1).val = 1408 * (t.val % 4) + (y 1).val; omega
  · blk_simp [e1]; show t.val / 4 % 2 * 1024 + (y 2).val = 1024 * (t.val / 4 % 2) + (y 2).val; omega
include h'' in
theorem blk2 : iblk m c 2 t = (part (1024 * (t.val / 8)) (1024 * (t.val / 4 % 2)) H : FVec Ideal S1024x1024 .f32) := by
  funext y
  blk_simp [iblk]
  refine (congrFun h'' _).trans ?_
  refine congrArg₂ H ?_ ?_
  · blk_simp [e2]; show t.val / 8 * 1024 + (y 0).val = 1024 * (t.val / 8) + (y 0).val; omega
  · blk_simp [e2]; show t.val / 4 % 2 * 1024 + (y 1).val = 1024 * (t.val / 4 % 2) + (y 1).val; omega

include h h' in
/-- What the accumulator holds after a point that is not the last of its four. -/
theorem acc_eq : ∀ (n : ℕ) (hn : n < cfg0.N), n % 4 ≠ 3 → (outsAt0 m c n hn).2
    = (part (1024 * (n / 8)) (1024 * (n / 4 % 2)) fun r j => ∑ k ∈ Finset.range (1408 * (n % 4 + 1)), X r k * W 0 k j : FVec Ideal S1024x1024 .f32)
  | n, hn, h3 => by
    by_cases h0 : n % 4 = 0
    · refine (congrArg Prod.snd (outsAt0_A m c ⟨n, hn⟩ h0 h3)).trans ?_
      dsimp only
      rw [acc_A, blk0 m c ⟨n, hn⟩ X h, blk1 m c ⟨n, hn⟩ W h', pay1 (1024 * (n / 8)) (1024 * (n / 4 % 2)) X (W 0)]
      dsimp only
      rw [h0]
      exact pay2 _ _ 0 X (W 0)
    · refine (congrArg Prod.snd (outsAt0_B m c ⟨n, hn⟩ h0 h3)).trans ?_
      dsimp only
      rw [acc_B, acc_eq (n - 1) (Nat.lt_of_le_of_lt (Nat.sub_le _ _) hn) (by omega), blk0 m c ⟨n, hn⟩ X h, blk1 m c ⟨n, hn⟩ W h']
      dsimp only
      rw [show (n - 1) / 8 = n / 8 by omega, show (n - 1) / 4 = n / 4 by omega, show (n - 1) % 4 + 1 = n % 4 by omega]
      exact pay2 _ _ _ X (W 0)
  termination_by n => n
  decreasing_by omega

include h h' h'' in
theorem outs_eq (ht : t.val % 4 = 3) : (outsAt0 m c t.val t.isLt).1
    = (part (1024 * (t.val / 8)) (1024 * (t.val / 4 % 2)) fun r j => (∑ k ∈ Finset.range 5632, X r k * W 0 k j) + H r j : FVec Ideal S1024x1024 .f32) := by
  have hp : t.val - 1 < cfg0.N := Nat.lt_of_le_of_lt (Nat.sub_le _ _) t.isLt
  refine (congrArg Prod.fst (outsAt0_C m c t (by omega) ht)).trans ?_
  dsimp only
  rw [out_C, acc_eq m c X W h h' (t.val - 1) hp (by omega), blk0 m c t X h, blk1 m c t W h', blk2 m c t H h'',
    show (t.val - 1) / 8 = t.val / 8 by omega, show (t.val - 1) / 4 = t.val / 4 by omega, show (t.val - 1) % 4 + 1 = t.val % 4 by omega, pay2, ht]
  rfl

include h h' h'' in
theorem final : ((dats m 0 c).arrAt 3 cfg0.N : FVec Ideal S4096x2048 .f32)
      = (mat fun r j => (∑ k ∈ Finset.range 5632, X r k * W 0 k j) + H r j : FVec Ideal S4096x2048 .f32) := by
  refine (dats m 0 c).arrAt_eq_of_covers 3 _ covers fun t hf y => ?_
  have ht : t.val % 4 = 3 := (flush0_3 t).mp hf
  blk_simp
  rw [after0_3, outs_eq m c t X H W h h' h'' ht]
  show (∑ k ∈ Finset.range 5632, X (1024 * (t.val / 8) + (y 0).val) k * W 0 k (1024 * (t.val / 4 % 2) + (y 1).val))
    + H (1024 * (t.val / 8) + (y 0).val) (1024 * (t.val / 4 % 2) + (y 1).val) = (_ : EReal)
  refine congrArg₂ (fun r j => (∑ k ∈ Finset.range 5632, X r k * W 0 k j) + H r j) ?_ ?_
  · blk_simp [e3]; show 1024 * (t.val / 8) + (y 0).val = t.val / 8 * 1024 + (y 0).val; omega
  · blk_simp [e3]; show 1024 * (t.val / 4 % 2) + (y 1).val = t.val / 4 % 2 * 1024 + (y 1).val; omega

end Cert.DownIdeal.Gen

end
-- ==== Proof.DownClaims.lean ====
/- The down-projection's claims: its kernel and its reference both end at the product plus the residual, and leave their arguments
   and every semaphore as they found them. -/
module

public import proofs.«01_k».proof.Defs
public import proofs.«01_k».proof.Proof.DownKernel
public import proofs.«01_k».proof.Proof.Gen.DownReferenceIdeal
public import proofs.«01_k».proof.Proof.Gen.DownReferenceIdeal.Run

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.DownReferenceIdeal

open Facts₀ Facts

theorem value (X H : ℕ → ℕ → EReal) (W : ℕ → ℕ → ℕ → EReal) (A : FVec Ideal S4096x5632 .bf16) (B : FVec Ideal S1x5632x2048 .bf16)
    (C : FVec Ideal S4096x2048 .f32) (hA : A = (mat X : FVec Ideal S4096x5632 .bf16)) (hB : B = (stack W : FVec Ideal S1x5632x2048 .bf16))
    (hC : C = (mat H : FVec Ideal S4096x2048 .f32)) :
    addf C (Host.dotGeneral dot_S4096x5632_S5632x2048_S4096x2048_1_0_0_1_n_n none (extf .f32 A bitsLt_bf16_f32)
      (extf .f32 (shapeCast S5632x2048 B shapeCasts_S1x5632x2048_S5632x2048) bitsLt_bf16_f32))
      = (mat fun r j => (∑ k ∈ Finset.range 5632, X r k * W 0 k j) + H r j : FVec Ideal S4096x2048 .f32) := by
  subst hA hB hC
  rw [stack_only, mat_ext, mat_ext, mat_nn _ _ dot_S4096x5632_S5632x2048_S4096x2048_1_0_0_1_n_n rfl rfl
    (fun j k => by funext a; fin_cases a <;> rfl) (fun j k => by funext a; fin_cases a <;> rfl), mat_add]
  funext y
  exact add_comm _ _

end Cert.DownReferenceIdeal

namespace Cert.Proof

theorem algebraic_down : Cert.algebraic_DownIdeal_DownReferenceIdeal := by
  intro m g m' g' _ hagree
  choose X hX using fun c : Dev Cert.DownIdeal.nD => exists_mat (m ((c.tc : Thread Cert.DownIdeal.nD Cert.DownIdeal.τ).loc Cert.DownIdeal.main_arg0) : FVec Ideal Cert.DownIdeal.S4096x5632 .bf16)
  choose W hW using fun c : Dev Cert.DownIdeal.nD => exists_stack (m ((c.tc : Thread Cert.DownIdeal.nD Cert.DownIdeal.τ).loc Cert.DownIdeal.main_arg1) : FVec Ideal Cert.DownIdeal.S1x5632x2048 .bf16)
  choose H hH using fun c : Dev Cert.DownIdeal.nD => exists_mat (m ((c.tc : Thread Cert.DownIdeal.nD Cert.DownIdeal.τ).loc Cert.DownIdeal.main_arg2) : FVec Ideal Cert.DownIdeal.S4096x2048 .f32)
  refine ⟨fun c => (mat fun r j => (∑ k ∈ Finset.range 5632, X c r k * W c 0 k j) + H c r j : FVec Ideal Cert.DownIdeal.S4096x2048 .f32), ?_, ?_⟩
  · refine (θ_run Cert.DownIdeal.defs _ _).mono (fun r h c => ?_) (Cert.DownIdeal.Value.run_blocks m g)
    obtain ⟨h0, ha⟩ := h c
    exact ⟨h0.trans (Cert.DownIdeal.Gen.final m c _ _ _ (hX c) (hW c) (hH c)), ha⟩
  · refine (θ_run Cert.DownReferenceIdeal.defs _ _).mono (fun r h c => ?_) (Cert.DownReferenceIdeal.Value.run m' g')
    obtain ⟨h0, ha⟩ := h c
    exact ⟨h0.trans (Cert.DownReferenceIdeal.value _ _ _ _ _ _ ((hagree c).1.trans (hX c)) ((hagree c).2.1.trans (hW c)) ((hagree c).2.2.trans (hH c))), ha⟩

theorem frame_down_reference : Cert.quiescent_DownReferenceIdeal := fun m ρ _ =>
  (θ_run Cert.DownReferenceIdeal.defs _ _).mono
    (fun r h => ⟨fun c => (h c).2, sem_eq_zero_of_no_sems (by decide) r.2⟩) (Cert.DownReferenceIdeal.Value.run m ρ)

end Cert.Proof

end
-- ==== Proof.UpDwKernel.lean ====
/- The kernel of the up-projection's weight gradient: two consecutive grid points add the products of two blocks of rows, so its
   result array holds, of each shard, the sum over all rows. -/
module

public import proofs.«01_k».proof.Proof.Product
public import proofs.«01_k».proof.Proof.Gen.UpDwIdeal.Value
public import Idealize.ShloMosaic.Lib.VecWindow
public import Idealize.ShloMosaic.Lib.Pipeline.ValueKit.Geometry

@[expose] public section

set_option maxRecDepth 16384
set_option maxHeartbeats 1000000

noncomputable section

namespace Cert.UpDwIdeal.Gen

open scoped BigOperators
open Idealize.ShloMosaic Idealize.ShloMosaic.TcCoe Idealize.ShloMosaic.ValueIdx
open Idealize.SL.Sem
open Cert.Product

section terms

variable {F : FTy → Type} [FloatOps F] (c : Dev nD) (i : grid0.Coords)

/-- What the first point of a pair leaves in the accumulator. -/
theorem acc_A (arg3 harg3 arg4 harg4 arg5 harg5 arg6 harg6 hc0 hc1) (x0 : Vec F S2048x1024 .bf16) (x1 : Vec F S1x2048x1408 .bf16) :
    sout0_A_0 c i arg3 harg3 arg4 harg4 arg5 harg5 arg6 harg6 hc0 hc1 x0 x1 = k0_pay2 x0 k0_pay1 x1 := by
  unfold sout0_A_0 kernelRun0_A
  refine (View.read_writes_full _ _ _ _ _).trans ?_
  refine congr (congrArg₂ k0_pay2 ?_ ?_) ?_
  · exact (View.readAt_full _ _ _).trans (harg3.read_unread x0)
  · exact View.readCov_full _ _ _ _ _
  · exact (View.readAt_full _ _ _).trans (harg4.read_unread x1)

/-- What the second point of a pair stores. -/
theorem out_B (arg3 harg3 arg4 harg4 arg5 harg5 arg6 harg6 hc0 hc1) (x0 : Vec F S2048x1024 .bf16) (x1 : Vec F S1x2048x1408 .bf16)
    (s : Vec F S1024x1408 .f32) :
    out0_B_2 c i arg3 harg3 arg4 harg4 arg5 harg5 arg6 harg6 hc0 hc1 x0 x1 s = k0_pay3 (k0_pay2 x0 s x1) := by
  unfold out0_B_2 kernelRun0_B
  refine (View.read_writes_full _ _ _ _ _).trans (congrArg k0_pay3 ?_)
  refine (View.readCov_full _ _ _ _ _).trans ?_
  refine congr (congrArg₂ k0_pay2 ?_ ?_) ?_
  · exact (View.readAt_full _ _ _).trans (harg3.read_unread x0)
  · exact (View.readAt_full _ _ _).trans (harg6.read_unread s)
  · exact (View.readAt_full _ _ _).trans (harg4.read_unread x1)

end terms

theorem pay2 (p q n : ℕ) (X Y S : ℕ → ℕ → EReal) :
    k0_pay2 (part n p X : FVec Ideal S2048x1024 .bf16) (part p q S : FVec Ideal S1024x1408 .f32) (slab n q Y : FVec Ideal S1x2048x1408 .bf16)
      = (part p q fun r j => S r j + ∑ k : Fin 2048, X (n + k) r * Y (n + k) j : FVec Ideal S1024x1408 .f32) := by
  unfold k0_pay2
  dsimp only
  rw [shapeCast_self, part_drop, part_tn X Y dot_S2048x1024_S2048x1408_S1024x1408_0_0_1_1_n_n rfl rfl
    (fun j k => by funext a; fin_cases a <;> rfl) (fun j k => by funext a; fin_cases a <;> rfl), part_add]

theorem pay (p q : ℕ) (X Y : ℕ → ℕ → EReal) :
    k0_pay3 (k0_pay2 (part 2048 p X : FVec Ideal S2048x1024 .bf16)
        (k0_pay2 (part 0 p X : FVec Ideal S2048x1024 .bf16) k0_pay1 (slab 0 q Y : FVec Ideal S1x2048x1408 .bf16))
        (slab 2048 q Y : FVec Ideal S1x2048x1408 .bf16))
      = (slab p q fun r j => ∑ k ∈ Finset.range 4096, X k r * Y k j : FVec Ideal S1x1024x1408 .bf16) := by
  have h1 : (k0_pay1 : FVec Ideal S1024x1408 .f32) = part p q fun _ _ => 0 := (shapeCast_self _ _).trans (part_zero p q)
  rw [h1, pay2, pay2]
  unfold k0_pay3
  dsimp only
  rw [part_trunc, part_stack]
  funext y
  refine (congrArg (· + _) (sum_first (fun k => X k (p + (y 1).val) * Y k (q + (y 2).val)) 2048)).trans ?_
  exact sum_more (fun k => X k (p + (y 1).val) * Y k (q + (y 2).val)) 2048 2048

variable (m : (ℓ : Loc nD τ sig) → Buf (Elt Ideal) ℓ) (c : Dev nD) (t : Fin cfg0.N)

theorem e0 : ∀ t : Fin cfg0.N, win0_0.index t = ![t.val % 2, t.val / 16] := (by decide +kernel : ∀ t : Fin grid0.N, _)
theorem e1 : ∀ t : Fin cfg0.N, win0_1.index t = ![t.val / 8 % 2, t.val % 2, t.val / 2 % 4] := (by decide +kernel : ∀ t : Fin grid0.N, _)
theorem e2 : ∀ t : Fin cfg0.N, win0_2.index t = ![t.val / 2 % 8, t.val / 16, 0] := (by decide +kernel : ∀ t : Fin grid0.N, _)

theorem whole2 : ∀ (t : Fin cfg0.N) (a), win0_2.xsize (grid0.coords t) a = win0_2.size a := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl), Or.inl (whole2 t a)⟩⟩

theorem blk0 (X : ℕ → ℕ → EReal) (h : (V m c main_arg0 : FVec Ideal S4096x2048 .bf16) = (mat X : FVec Ideal S4096x2048 .bf16)) :
    iblk m c 0 t = (part (2048 * (t.val % 2)) (1024 * (t.val / 16)) X : FVec Ideal S2048x1024 .bf16) := by
  funext y
  blk_simp [iblk]
  refine (congrFun h _).trans ?_
  refine congrArg₂ X ?_ ?_
  · blk_simp [e0]; show t.val % 2 * 2048 + (y 0).val = 2048 * (t.val % 2) + (y 0).val; omega
  · blk_simp [e0]; show t.val / 16 * 1024 + (y 1).val = 1024 * (t.val / 16) + (y 1).val; omega
theorem blk1 (W : ℕ → ℕ → ℕ → EReal) (h : (V m c main_arg1 : FVec Ideal S2x4096x5632 .bf16) = (stack W : FVec Ideal S2x4096x5632 .bf16)) :
    iblk m c 1 t = (slab (2048 * (t.val % 2)) (1408 * (t.val / 2 % 4)) (W (t.val / 8 % 2)) : FVec Ideal S1x2048x1408 .bf16) := by
  funext y
  blk_simp [iblk]
  refine (congrFun h _).trans ?_
  refine congr (congrArg₂ W ?_ ?_) ?_
  · blk_simp [e1]
  · blk_simp [e1]; show t.val % 2 * 2048 + (y 1).val = 2048 * (t.val % 2) + (y 1).val; omega
  · blk_simp [e1]; show t.val / 2 % 4 * 1408 + (y 2).val = 1408 * (t.val / 2 % 4) + (y 2).val; omega

variable (X : ℕ → ℕ → EReal) (W : ℕ → ℕ → ℕ → EReal)
  (h : (V m c main_arg0 : FVec Ideal S4096x2048 .bf16) = (mat X : FVec Ideal S4096x2048 .bf16))
  (h' : (V m c main_arg1 : FVec Ideal S2x4096x5632 .bf16) = (stack W : FVec Ideal S2x4096x5632 .bf16))

include h h' in
theorem outs_eq (ht : t.val % 2 = 1) : (outsAt0 m c t.val t.isLt).1
    = (slab (1024 * (t.val / 16)) (1408 * (t.val / 2 % 4)) fun r j => ∑ k ∈ Finset.range 4096, X k r * W (t.val / 8 % 2) k j : FVec Ideal S1x1024x1408 .bf16) := by
  have hp : t.val - 1 < cfg0.N := Nat.lt_of_le_of_lt (Nat.sub_le _ _) t.isLt
  have q1 : (t.val - 1) % 2 = 0 := by omega
  have q2 : (t.val - 1) / 16 = t.val / 16 := by omega
  have q3 : (t.val - 1) / 2 = t.val / 2 := by omega
  have q4 : (t.val - 1) / 8 = t.val / 8 := by omega
  have eA := congrArg Prod.snd (outsAt0_A m c ⟨t.val - 1, hp⟩ q1 (by show ¬ (t.val - 1) % 2 = 1; omega))
  refine (congrArg Prod.fst (outsAt0_B m c t (by omega) ht)).trans ?_
  dsimp only
  rw [out_B, eA, acc_A, blk0 m c t X h, blk1 m c t W h', blk0 m c ⟨t.val - 1, hp⟩ X h, blk1 m c ⟨t.val - 1, hp⟩ W h', ht]
  dsimp only
  rw [q1, q2, q3, q4]
  exact pay _ _ X (W (t.val / 8 % 2))

include h h' in
theorem final : ((dats m 0 c).arrAt 2 cfg0.N : FVec Ideal S8x2048x1408 .bf16)
      = (stack fun p r j => ∑ k ∈ Finset.range 4096, X k r * W (p / 4) k (1408 * (p % 4) + j) : FVec Ideal S8x2048x1408 .bf16) := by
  refine (dats m 0 c).arrAt_eq_of_covers 2 _ covers fun t hf y => ?_
  have ht : t.val % 2 = 1 := (flush0_2 t).mp hf
  blk_simp
  rw [after0_2, outs_eq m c t X W h h' ht]
  have hy : (y 2).val < 1408 := (y 2).isLt
  have hy0 : (y 0).val < 1 := (y 0).isLt
  have hn : t.val < 32 := t.isLt
  show ∑ k ∈ Finset.range 4096, X k (1024 * (t.val / 16) + (y 1).val) * W (t.val / 8 % 2) k (1408 * (t.val / 2 % 4) + (y 2).val) = (_ : EReal)
  refine Finset.sum_congr (M := EReal) rfl fun k _ => ?_
  refine congrArg₂ (α := EReal) (β := EReal) (· * ·) (congrArg (X k ·) ?_) (congrArg₂ (W · k ·) ?_ ?_)
  · blk_simp [e2]; show 1024 * (t.val / 16) + (y 1).val = t.val / 16 * 1024 + (y 1).val; omega
  · blk_simp [e2]; omega
  · blk_simp [e2]; omega

end Cert.UpDwIdeal.Gen

end
-- ==== Proof.UpDwClaims.lean ====
/- The claims of the up-projection's weight gradient: its kernel and its reference both end at the products summed over all rows,
   one shard after another, and leave their arguments and every semaphore as they found them. -/
module

public import proofs.«01_k».proof.Defs
public import proofs.«01_k».proof.Proof.UpDwKernel
public import proofs.«01_k».proof.Proof.Gen.UpDwReferenceIdeal
public import proofs.«01_k».proof.Proof.Gen.UpDwReferenceIdeal.Run

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.UpDwReferenceIdeal

open Facts₀ Facts

theorem value (X : ℕ → ℕ → EReal) (W : ℕ → ℕ → ℕ → EReal) (A : FVec Ideal S4096x2048 .bf16) (B : FVec Ideal S2x4096x5632 .bf16)
    (hA : A = (mat X : FVec Ideal S4096x2048 .bf16)) (hB : B = (stack W : FVec Ideal S2x4096x5632 .bf16)) :
    truncf .bf16 (transpose S8x2048x1408 [1, 0, 2] (shapeCast S2048x8x1408 (transpose S2048x11264 [1, 0]
      (Host.dotGeneral dot_S4096x11264_S4096x2048_S11264x2048_0_0_1_1_n_n none
        (concatenate S4096x11264 1
          [⟨S4096x5632, (extf .f32 (shapeCast S4096x5632 (extractStridedSlice S1x4096x5632 ![0, 0, 0] B slices_S2x4096x5632_S1x4096x5632_0_0_0)
              shapeCasts_S1x4096x5632_S4096x5632) bitsLt_bf16_f32)⟩,
           ⟨S4096x5632, (extf .f32 (shapeCast S4096x5632 (extractStridedSlice S1x4096x5632 ![1, 0, 0] B slices_S2x4096x5632_S1x4096x5632_1_0_0)
              shapeCasts_S1x4096x5632_S4096x5632) bitsLt_bf16_f32)⟩]
          concatenates_S4096x5632_S4096x5632_S4096x11264_d1)
        (extf .f32 A bitsLt_bf16_f32)) transposes_S11264x2048_S2048x11264_1_0) shapeCasts_S2048x11264_S2048x8x1408)
      transposes_S2048x8x1408_S8x2048x1408_1_0_2) bitsLt_bf16_f32
      = (stack fun p r j => ∑ k ∈ Finset.range 4096, X k r * W (p / 4) k (1408 * (p % 4) + j) : FVec Ideal S8x2048x1408 .bf16) := by
  subst hA hB
  rw [stack_pick, stack_pick, mat_ext, mat_ext, mat_ext, mat_beside (b := 5632) _ _ rfl,
    mat_tn _ _ dot_S4096x11264_S4096x2048_S11264x2048_0_0_1_1_n_n rfl rfl
      (fun j k => by funext a; fin_cases a <;> rfl) (fun j k => by funext a; fin_cases a <;> rfl),
    mat_swap, mat_cut (d := 8) (b := 1408) (n := 11264) _ rfl, stack_swap]
  funext y
  have h0 : (y 0).val < 8 := (y 0).isLt
  have h2 : (y 2).val < 1408 := (y 2).isLt
  show ∑ k ∈ Finset.range 4096, (if (y 0).val * 1408 + (y 2).val < 5632 then W 0 k ((y 0).val * 1408 + (y 2).val)
      else W 1 k ((y 0).val * 1408 + (y 2).val - 5632)) * X k (y 1).val
    = (∑ k ∈ Finset.range 4096, X k (y 1).val * W ((y 0).val / 4) k (1408 * ((y 0).val % 4) + (y 2).val) : EReal)
  refine Finset.sum_congr rfl fun k _ => (mul_comm _ _).trans (congrArg (X k (y 1).val * ·) ?_)
  by_cases h : (y 0).val < 4
  · rw [if_pos (by omega)]
    exact congrArg₂ (W · k ·) (by omega) (by omega)
  · rw [if_neg (by omega)]
    exact congrArg₂ (W · k ·) (by omega) (by omega)

end Cert.UpDwReferenceIdeal

namespace Cert.Proof

theorem algebraic_up_dw : Cert.algebraic_UpDwIdeal_UpDwReferenceIdeal := by
  intro m g m' g' _ hagree
  choose X hX using fun c : Dev Cert.UpDwIdeal.nD => exists_mat (m ((c.tc : Thread Cert.UpDwIdeal.nD Cert.UpDwIdeal.τ).loc Cert.UpDwIdeal.main_arg0) : FVec Ideal Cert.UpDwIdeal.S4096x2048 .bf16)
  choose W hW using fun c : Dev Cert.UpDwIdeal.nD => exists_stack (m ((c.tc : Thread Cert.UpDwIdeal.nD Cert.UpDwIdeal.τ).loc Cert.UpDwIdeal.main_arg1) : FVec Ideal Cert.UpDwIdeal.S2x4096x5632 .bf16)
  refine ⟨fun c => (stack fun p r j => ∑ k ∈ Finset.range 4096, X c k r * W c (p / 4) k (1408 * (p % 4) + j) : FVec Ideal Cert.UpDwIdeal.S8x2048x1408 .bf16), ?_, ?_⟩
  · refine (θ_run Cert.UpDwIdeal.defs _ _).mono (fun r h c => ?_) (Cert.UpDwIdeal.Value.run_blocks m g)
    obtain ⟨h0, ha⟩ := h c
    exact ⟨h0.trans (Cert.UpDwIdeal.Gen.final m c _ _ (hX c) (hW c)), ha⟩
  · refine (θ_run Cert.UpDwReferenceIdeal.defs _ _).mono (fun r h c => ?_) (Cert.UpDwReferenceIdeal.Value.run m' g')
    obtain ⟨h0, ha⟩ := h c
    exact ⟨h0.trans (Cert.UpDwReferenceIdeal.value _ _ _ _ ((hagree c).1.trans (hX c)) ((hagree c).2.trans (hW c))), ha⟩

theorem frame_up_dw_reference : Cert.quiescent_UpDwReferenceIdeal := fun m ρ _ =>
  (θ_run Cert.UpDwReferenceIdeal.defs _ _).mono
    (fun r h => ⟨fun c => (h c).2, sem_eq_zero_of_no_sems (by decide) r.2⟩) (Cert.UpDwReferenceIdeal.Value.run m ρ)

end Cert.Proof

end
-- ==== Proof.DownDwKernel.lean ====
/- The kernel of the down-projection's weight gradient: two consecutive grid points add the products of two blocks of rows, so its
   result array holds the sum over all rows. -/
module

public import proofs.«01_k».proof.Proof.Product
public import proofs.«01_k».proof.Proof.Gen.DownDwIdeal.Value
public import Idealize.ShloMosaic.Lib.VecWindow
public import Idealize.ShloMosaic.Lib.Pipeline.ValueKit.Geometry

@[expose] public section

set_option maxRecDepth 16384
set_option maxHeartbeats 1000000

noncomputable section

namespace Cert.DownDwIdeal.Gen

open scoped BigOperators
open Idealize.ShloMosaic Idealize.ShloMosaic.TcCoe Idealize.ShloMosaic.ValueIdx
open Idealize.SL.Sem
open Cert.Product

section terms

variable {F : FTy → Type} [FloatOps F] (c : Dev nD) (i : grid0.Coords)

/-- What the first point of a pair leaves in the accumulator. -/
theorem acc_A (arg3 harg3 arg4 harg4 arg5 harg5 arg6 harg6 hc0 hc1) (x0 : Vec F S2048x1408 .bf16) (x1 : Vec F S2048x1024 .f32) :
    sout0_A_0 c i arg3 harg3 arg4 harg4 arg5 harg5 arg6 harg6 hc0 hc1 x0 x1 = k0_pay2 x0 k0_pay1 x1 := by
  unfold sout0_A_0 kernelRun0_A
  refine (View.read_writes_full _ _ _ _ _).trans ?_
  refine congr (congrArg₂ k0_pay2 ?_ ?_) ?_
  · exact (View.readAt_full _ _ _).trans (harg3.read_unread x0)
  · exact View.readCov_full _ _ _ _ _
  · exact (View.readAt_full _ _ _).trans (harg4.read_unread x1)

/-- What the second point of a pair stores. -/
theorem out_B (arg3 harg3 arg4 harg4 arg5 harg5 arg6 harg6 hc0 hc1) (x0 : Vec F S2048x1408 .bf16) (x1 : Vec F S2048x1024 .f32)
    (s : Vec F S1408x1024 .f32) :
    out0_B_2 c i arg3 harg3 arg4 harg4 arg5 harg5 arg6 harg6 hc0 hc1 x0 x1 s = k0_pay3 (k0_pay2 x0 s x1) := by
  unfold out0_B_2 kernelRun0_B
  refine (View.read_writes_full _ _ _ _ _).trans (congrArg k0_pay3 ?_)
  refine (View.readCov_full _ _ _ _ _).trans ?_
  refine congr (congrArg₂ k0_pay2 ?_ ?_) ?_
  · exact (View.readAt_full _ _ _).trans (harg3.read_unread x0)
  · exact (View.readAt_full _ _ _).trans (harg6.read_unread s)
  · exact (View.readAt_full _ _ _).trans (harg4.read_unread x1)

end terms

theorem pay2 (p q n : ℕ) (X Y S : ℕ → ℕ → EReal) :
    k0_pay2 (part n p X : FVec Ideal S2048x1408 .bf16) (part p q S : FVec Ideal S1408x1024 .f32) (part n q Y : FVec Ideal S2048x1024 .f32)
      = (part p q fun r j => S r j + ∑ k : Fin 2048, X (n + k) r * Y (n + k) j : FVec Ideal S1408x1024 .f32) := by
  unfold k0_pay2
  dsimp only
  rw [shapeCast_self, part_trunc, part_tn X Y dot_S2048x1408_S2048x1024_S1408x1024_0_0_1_1_n_n rfl rfl
    (fun j k => by funext a; fin_cases a <;> rfl) (fun j k => by funext a; fin_cases a <;> rfl), part_add]

theorem pay (p q : ℕ) (X Y : ℕ → ℕ → EReal) :
    k0_pay3 (k0_pay2 (part 2048 p X : FVec Ideal S2048x1408 .bf16)
        (k0_pay2 (part 0 p X : FVec Ideal S2048x1408 .bf16) k0_pay1 (part 0 q Y : FVec Ideal S2048x1024 .f32))
        (part 2048 q Y : FVec Ideal S2048x1024 .f32))
      = (slab p q fun r j => ∑ k ∈ Finset.range 4096, X k r * Y k j : FVec Ideal S1x1408x1024 .bf16) := by
  have h1 : (k0_pay1 : FVec Ideal S1408x1024 .f32) = part p q fun _ _ => 0 := (shapeCast_self _ _).trans (part_zero p q)
  rw [h1, pay2, pay2]
  unfold k0_pay3
  dsimp only
  rw [part_trunc, part_stack]
  funext y
  refine (congrArg (· + _) (sum_first (fun k => X k (p + (y 1).val) * Y k (q + (y 2).val)) 2048)).trans ?_
  exact sum_more (fun k => X k (p + (y 1).val) * Y k (q + (y 2).val)) 2048 2048

variable (m : (ℓ : Loc nD τ sig) → Buf (Elt Ideal) ℓ) (c : Dev nD) (t : Fin cfg0.N)

theorem e0 : ∀ t : Fin cfg0.N, win0_0.index t = ![t.val % 2, t.val / 4] := (by decide +kernel : ∀ t : Fin grid0.N, _)
theorem e1 : ∀ t : Fin cfg0.N, win0_1.index t = ![t.val % 2, t.val / 2 % 2] := (by decide +kernel : ∀ t : Fin grid0.N, _)
theorem e2 : ∀ t : Fin cfg0.N, win0_2.index t = ![0, t.val / 4, t.val / 2 % 2] := (by decide +kernel : ∀ t : Fin grid0.N, _)
theorem whole2 : ∀ (t : Fin cfg0.N) (a), win0_2.xsize (grid0.coords t) a = win0_2.size a := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl), Or.inl (whole2 t a)⟩⟩

variable (X Y : ℕ → ℕ → EReal)
  (h : (V m c main_arg0 : FVec Ideal S4096x5632 .bf16) = (mat X : FVec Ideal S4096x5632 .bf16))
  (h' : (V m c main_arg1 : FVec Ideal S4096x2048 .f32) = (mat Y : FVec Ideal S4096x2048 .f32))

include h in
theorem blk0 : iblk m c 0 t = (part (2048 * (t.val % 2)) (1408 * (t.val / 4)) X : FVec Ideal S2048x1408 .bf16) := by
  funext y
  blk_simp [iblk]
  refine (congrFun h _).trans ?_
  refine congrArg₂ X ?_ ?_
  · blk_simp [e0]; show t.val % 2 * 2048 + (y 0).val = 2048 * (t.val % 2) + (y 0).val; omega
  · blk_simp [e0]; show t.val / 4 * 1408 + (y 1).val = 1408 * (t.val / 4) + (y 1).val; omega
include h' in
theorem blk1 : iblk m c 1 t = (part (2048 * (t.val % 2)) (1024 * (t.val / 2 % 2)) Y : FVec Ideal S2048x1024 .f32) := by
  funext y
  blk_simp [iblk]
  refine (congrFun h' _).trans ?_
  refine congrArg₂ Y ?_ ?_
  · blk_simp [e1]; show t.val % 2 * 2048 + (y 0).val = 2048 * (t.val % 2) + (y 0).val; omega
  · blk_simp [e1]; show t.val / 2 % 2 * 1024 + (y 1).val = 1024 * (t.val / 2 % 2) + (y 1).val; omega

include h h' in
theorem outs_eq (ht : t.val % 2 = 1) : (outsAt0 m c t.val t.isLt).1
    = (slab (1408 * (t.val / 4)) (1024 * (t.val / 2 % 2)) fun r j => ∑ k ∈ Finset.range 4096, X k r * Y k j : FVec Ideal S1x1408x1024 .bf16) := by
  have hp : t.val - 1 < cfg0.N := Nat.lt_of_le_of_lt (Nat.sub_le _ _) t.isLt
  have q1 : (t.val - 1) % 2 = 0 := by omega
  have q2 : (t.val - 1) / 4 = t.val / 4 := by omega
  have q3 : (t.val - 1) / 2 = t.val / 2 := by omega
  have eA := congrArg Prod.snd (outsAt0_A m c ⟨t.val - 1, hp⟩ q1 (by show ¬ (t.val - 1) % 2 = 1; omega))
  refine (congrArg Prod.fst (outsAt0_B m c t (by omega) ht)).trans ?_
  dsimp only
  rw [out_B, eA, acc_A, blk0 m c t X h, blk1 m c t Y h', blk0 m c ⟨t.val - 1, hp⟩ X h, blk1 m c ⟨t.val - 1, hp⟩ Y h', ht]
  dsimp only
  rw [q1, q2, q3]
  exact pay _ _ X Y

include h h' in
theorem final : ((dats m 0 c).arrAt 2 cfg0.N : FVec Ideal S1x5632x2048 .bf16)
      = (stack fun _ r j => ∑ k ∈ Finset.range 4096, X k r * Y k j : FVec Ideal S1x5632x2048 .bf16) := by
  refine (dats m 0 c).arrAt_eq_of_covers 2 _ covers fun t hf y => ?_
  have ht : t.val % 2 = 1 := (flush0_2 t).mp hf
  blk_simp
  rw [after0_2, outs_eq m c t X Y h h' ht]
  show ∑ k ∈ Finset.range 4096, X k (1408 * (t.val / 4) + (y 1).val) * Y k (1024 * (t.val / 2 % 2) + (y 2).val) = (_ : EReal)
  refine Finset.sum_congr (M := EReal) rfl fun k _ => ?_
  refine congrArg₂ (α := EReal) (β := EReal) (· * ·) (congrArg (X k ·) ?_) (congrArg (Y k ·) ?_)
  · blk_simp [e2]; show 1408 * (t.val / 4) + (y 1).val = t.val / 4 * 1408 + (y 1).val; omega
  · blk_simp [e2]; show 1024 * (t.val / 2 % 2) + (y 2).val = t.val / 2 % 2 * 1024 + (y 2).val; omega

end Cert.DownDwIdeal.Gen

end
-- ==== Proof.DownDwClaims.lean ====
/- The claims of the down-projection's weight gradient: its kernel and its reference both end at the products summed over all rows,
   and leave their arguments and every semaphore as they found them. -/
module

public import proofs.«01_k».proof.Defs
public import proofs.«01_k».proof.Proof.DownDwKernel
public import proofs.«01_k».proof.Proof.Gen.DownDwReferenceIdeal
public import proofs.«01_k».proof.Proof.Gen.DownDwReferenceIdeal.Run

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.DownDwReferenceIdeal

open Facts₀ Facts

theorem value (X Y : ℕ → ℕ → EReal) (A : FVec Ideal S4096x5632 .bf16) (B : FVec Ideal S4096x2048 .f32)
    (hA : A = (mat X : FVec Ideal S4096x5632 .bf16)) (hB : B = (mat Y : FVec Ideal S4096x2048 .f32)) :
    broadcastInDim S1x5632x2048 ![1, 2] bcast_S5632x2048_S1x5632x2048_1_2 (truncf .bf16 (transpose S5632x2048 [1, 0]
      (Host.dotGeneral dot_S4096x2048_S4096x5632_S2048x5632_0_0_1_1_n_n none B (extf .f32 A bitsLt_bf16_f32))
      transposes_S2048x5632_S5632x2048_1_0) bitsLt_bf16_f32)
      = (stack fun _ r j => ∑ k ∈ Finset.range 4096, X k r * Y k j : FVec Ideal S1x5632x2048 .bf16) := by
  subst hA hB
  rw [mat_ext, mat_dw _ _ dot_S4096x2048_S4096x5632_S2048x5632_0_0_1_1_n_n rfl rfl
    (fun j k => by funext a; fin_cases a <;> rfl) (fun j k => by funext a; fin_cases a <;> rfl), mat_trunc,
    mat_lift _ (by decide) (by decide)]

end Cert.DownDwReferenceIdeal

namespace Cert.Proof

theorem algebraic_down_dw : Cert.algebraic_DownDwIdeal_DownDwReferenceIdeal := by
  intro m g m' g' _ hagree
  choose X hX using fun c : Dev Cert.DownDwIdeal.nD => exists_mat (m ((c.tc : Thread Cert.DownDwIdeal.nD Cert.DownDwIdeal.τ).loc Cert.DownDwIdeal.main_arg0) : FVec Ideal Cert.DownDwIdeal.S4096x5632 .bf16)
  choose Y hY using fun c : Dev Cert.DownDwIdeal.nD => exists_mat (m ((c.tc : Thread Cert.DownDwIdeal.nD Cert.DownDwIdeal.τ).loc Cert.DownDwIdeal.main_arg1) : FVec Ideal Cert.DownDwIdeal.S4096x2048 .f32)
  refine ⟨fun c => (stack fun _ r j => ∑ k ∈ Finset.range 4096, X c k r * Y c k j : FVec Ideal Cert.DownDwIdeal.S1x5632x2048 .bf16), ?_, ?_⟩
  · refine (θ_run Cert.DownDwIdeal.defs _ _).mono (fun r h c => ?_) (Cert.DownDwIdeal.Value.run_blocks m g)
    obtain ⟨h0, ha⟩ := h c
    exact ⟨h0.trans (Cert.DownDwIdeal.Gen.final m c _ _ (hX c) (hY c)), ha⟩
  · refine (θ_run Cert.DownDwReferenceIdeal.defs _ _).mono (fun r h c => ?_) (Cert.DownDwReferenceIdeal.Value.run m' g')
    obtain ⟨h0, ha⟩ := h c
    exact ⟨h0.trans (Cert.DownDwReferenceIdeal.value _ _ _ _ ((hagree c).1.trans (hX c)) ((hagree c).2.trans (hY c))), ha⟩

theorem frame_down_dw_reference : Cert.quiescent_DownDwReferenceIdeal := fun m ρ _ =>
  (θ_run Cert.DownDwReferenceIdeal.defs _ _).mono
    (fun r h => ⟨fun c => (h c).2, sem_eq_zero_of_no_sems (by decide) r.2⟩) (Cert.DownDwReferenceIdeal.Value.run m ρ)

end Cert.Proof

end
-- ==== Proof.DownDxKernel.lean ====
/- The kernel of the down-projection's input gradient: each grid point multiplies a block of rows of the output's gradient by a
   block of rows of the weight, so its result array holds the product of all rows by all rows. -/
module

public import proofs.«01_k».proof.Proof.Product
public import proofs.«01_k».proof.Proof.Gen.DownDxIdeal.Value
public import Idealize.ShloMosaic.Lib.VecWindow
public import Idealize.ShloMosaic.Lib.Pipeline.ValueKit.Geometry

@[expose] public section

set_option maxRecDepth 16384
set_option maxHeartbeats 1000000

noncomputable section

namespace Cert.DownDxIdeal.Gen

open scoped BigOperators
open Idealize.ShloMosaic Idealize.ShloMosaic.TcCoe Idealize.ShloMosaic.ValueIdx
open Idealize.SL.Sem
open Cert.Product

theorem out_A {F : FTy → Type} [FloatOps F] (c : Dev nD) (i : grid0.Coords) (arg3 harg3 arg4 harg4 arg5 harg5 arg6 harg6) (hc0 hc1)
    (x0 : Vec F S1024x2048 .f32) (x1 : Vec F S1x1408x2048 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ []).trans ?_
  unfold kernelRun0_A.sl.v16 kernelRun0_A.sl.HS0_2
  refine (congrArg k0_pay3 (View.readCov_full _ _ _ _ _)).trans ?_
  unfold kernelRun0_A.sl.v3 kernelRun0_A.sl.HS0_1
  rw [View.readCov_full, View.readAt_full, View.readAt_full, harg3.read_unread, harg4.read_unread]

theorem pay (n p : ℕ) (X Y : ℕ → ℕ → EReal) :
    k0_pay3 (k0_pay2 k0_pay1 (part n 0 X : FVec Ideal S1024x2048 .f32) (slab p 0 Y : FVec Ideal S1x1408x2048 .bf16))
      = (part n p fun r j => ∑ k ∈ Finset.range 2048, X r k * Y j k : FVec Ideal S1024x1408 .bf16) := by
  unfold k0_pay3 k0_pay2 k0_pay1
  dsimp only
  rw [shapeCast_self, shapeCast_self, part_trunc, part_drop, part_nt X Y dot_S1024x2048_S1408x2048_S1024x1408_1_1_0_0_n_n rfl rfl
    (fun j k => by funext a; fin_cases a <;> rfl) (fun j k => by funext a; fin_cases a <;> rfl), part_zero n p, part_add]
  funext y
  exact sum_first (fun k => X (n + (y 0).val) k * Y (p + (y 1).val) k) 2048

variable (m : (ℓ : Loc nD τ sig) → Buf (Elt Ideal) ℓ) (c : Dev nD) (t : Fin cfg0.N)

theorem e0 : ∀ t : Fin cfg0.N, win0_0.index t = ![t.val / 4, 0] := (by decide +kernel : ∀ t : Fin grid0.N, _)
theorem e1 : ∀ t : Fin cfg0.N, win0_1.index t = ![0, t.val % 4, 0] := (by decide +kernel : ∀ t : Fin grid0.N, _)
theorem e2 : ∀ t : Fin cfg0.N, win0_2.index t = ![t.val / 4, t.val % 4] := (by decide +kernel : ∀ t : Fin grid0.N, _)

theorem blk0 (X : ℕ → ℕ → EReal) (h : (V m c main_arg0 : FVec Ideal S4096x2048 .f32) = (mat X : FVec Ideal S4096x2048 .f32)) :
    iblk m c 0 t = (part (1024 * (t.val / 4)) 0 X : FVec Ideal S1024x2048 .f32) := by
  funext y
  blk_simp [iblk]
  refine (congrFun h _).trans ?_
  refine congrArg₂ X ?_ ?_
  · blk_simp [e0]; show t.val / 4 * 1024 + (y 0).val = 1024 * (t.val / 4) + (y 0).val; omega
  · blk_simp [e0]; try rfl
theorem blk1 (W : ℕ → ℕ → ℕ → EReal) (h : (V m c main_arg1 : FVec Ideal S1x5632x2048 .bf16) = (stack W : FVec Ideal S1x5632x2048 .bf16)) :
    iblk m c 1 t = (slab (1408 * (t.val % 4)) 0 (W 0) : FVec Ideal S1x1408x2048 .bf16) := by
  funext y
  blk_simp [iblk]
  refine (congrFun h _).trans ?_
  refine congr (congrArg₂ W ?_ ?_) ?_
  · blk_simp [e1]
  · blk_simp [e1]; show t.val % 4 * 1408 + (y 1).val = 1408 * (t.val % 4) + (y 1).val; omega
  · blk_simp [e1]; try rfl

theorem final (X : ℕ → ℕ → EReal) (W : ℕ → ℕ → ℕ → EReal)
    (h : (V m c main_arg0 : FVec Ideal S4096x2048 .f32) = (mat X : FVec Ideal S4096x2048 .f32))
    (h' : (V m c main_arg1 : FVec Ideal S1x5632x2048 .bf16) = (stack W : FVec Ideal S1x5632x2048 .bf16)) :
    ((dats m 0 c).arrAt 2 cfg0.N : FVec Ideal S4096x5632 .bf16)
      = (mat fun r j => ∑ k ∈ Finset.range 2048, X r k * W 0 j k : FVec Ideal S4096x5632 .bf16) := by
  refine (dats m 0 c).arrAt_eq_of_covers 2 _ (by decide +kernel) fun t hf y => ?_
  blk_simp
  rw [after0_2]
  unfold outsAt0
  rw [out_A, blk0 m c t X h, blk1 m c t W h', pay]
  show ∑ k ∈ Finset.range 2048, X (1024 * (t.val / 4) + (y 0).val) k * W 0 (1408 * (t.val % 4) + (y 1).val) k = (_ : EReal)
  refine Finset.sum_congr (M := EReal) rfl fun k _ => ?_
  refine congrArg₂ (α := EReal) (β := EReal) (· * ·) (congrArg (X · k) ?_) (congrArg (W 0 · k) ?_)
  · blk_simp [e2]; show 1024 * (t.val / 4) + (y 0).val = t.val / 4 * 1024 + (y 0).val; omega
  · blk_simp [e2]; show 1408 * (t.val % 4) + (y 1).val = t.val % 4 * 1408 + (y 1).val; omega

end Cert.DownDxIdeal.Gen

end
-- ==== Proof.DownDxClaims.lean ====
/- The claims of the down-projection's input gradient: its kernel and its reference both end at the product of the rows of the
   output's gradient by the rows of the weight, and leave their arguments and every semaphore as they found them. -/
module

public import proofs.«01_k».proof.Defs
public import proofs.«01_k».proof.Proof.DownDxKernel
public import proofs.«01_k».proof.Proof.Gen.DownDxReferenceIdeal
public import proofs.«01_k».proof.Proof.Gen.DownDxReferenceIdeal.Run

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.DownDxReferenceIdeal

open Facts₀ Facts

theorem value (X : ℕ → ℕ → EReal) (W : ℕ → ℕ → ℕ → EReal) (A : FVec Ideal S4096x2048 .f32) (B : FVec Ideal S1x5632x2048 .bf16)
    (hA : A = (mat X : FVec Ideal S4096x2048 .f32)) (hB : B = (stack W : FVec Ideal S1x5632x2048 .bf16)) :
    truncf .bf16 (Host.dotGeneral dot_S4096x2048_S5632x2048_S4096x5632_1_1_0_0_n_n none A
      (extf .f32 (shapeCast S5632x2048 B shapeCasts_S1x5632x2048_S5632x2048) bitsLt_bf16_f32)) bitsLt_bf16_f32
      = (mat fun r j => ∑ k ∈ Finset.range 2048, X r k * W 0 j k : FVec Ideal S4096x5632 .bf16) := by
  subst hA hB
  rw [stack_only, mat_ext, mat_nt _ _ dot_S4096x2048_S5632x2048_S4096x5632_1_1_0_0_n_n rfl rfl
    (fun j k => by funext a; fin_cases a <;> rfl) (fun j k => by funext a; fin_cases a <;> rfl), mat_trunc]

end Cert.DownDxReferenceIdeal

namespace Cert.Proof

theorem algebraic_down_dx : Cert.algebraic_DownDxIdeal_DownDxReferenceIdeal := by
  intro m g m' g' _ hagree
  choose X hX using fun c : Dev Cert.DownDxIdeal.nD => exists_mat (m ((c.tc : Thread Cert.DownDxIdeal.nD Cert.DownDxIdeal.τ).loc Cert.DownDxIdeal.main_arg0) : FVec Ideal Cert.DownDxIdeal.S4096x2048 .f32)
  choose W hW using fun c : Dev Cert.DownDxIdeal.nD => exists_stack (m ((c.tc : Thread Cert.DownDxIdeal.nD Cert.DownDxIdeal.τ).loc Cert.DownDxIdeal.main_arg1) : FVec Ideal Cert.DownDxIdeal.S1x5632x2048 .bf16)
  refine ⟨fun c => (mat fun r j => ∑ k ∈ Finset.range 2048, X c r k * W c 0 j k : FVec Ideal Cert.DownDxIdeal.S4096x5632 .bf16), ?_, ?_⟩
  · refine (θ_run Cert.DownDxIdeal.defs _ _).mono (fun r h c => ?_) (Cert.DownDxIdeal.Value.run_blocks m g)
    obtain ⟨h0, ha⟩ := h c
    exact ⟨h0.trans (Cert.DownDxIdeal.Gen.final m c _ _ (hX c) (hW c)), ha⟩
  · refine (θ_run Cert.DownDxReferenceIdeal.defs _ _).mono (fun r h c => ?_) (Cert.DownDxReferenceIdeal.Value.run m' g')
    obtain ⟨h0, ha⟩ := h c
    exact ⟨h0.trans (Cert.DownDxReferenceIdeal.value _ _ _ _ ((hagree c).1.trans (hX c)) ((hagree c).2.trans (hW c))), ha⟩

theorem frame_down_dx_reference : Cert.quiescent_DownDxReferenceIdeal := fun m ρ _ =>
  (θ_run Cert.DownDxReferenceIdeal.defs _ _).mono
    (fun r h => ⟨fun c => (h c).2, sem_eq_zero_of_no_sems (by decide) r.2⟩) (Cert.DownDxReferenceIdeal.Value.run m ρ)

end Cert.Proof

end
-- ==== Proof.GlaIn.lean ====
/- The recurrent layer's input projection. Each grid point multiplies a block of rows by a block of the weight's columns; the
   reference multiplies all rows by all columns. Both end at the same products. -/
module

public import proofs.«01_k».proof.Defs
public import proofs.«01_k».proof.Proof.Product
public import proofs.«01_k».proof.Proof.Gen.GlaInIdeal.Value
public import proofs.«01_k».proof.Proof.Gen.GlaInReferenceIdeal
public import proofs.«01_k».proof.Proof.Gen.GlaInReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.GlaInIdeal.Gen

/-- What a grid point stores, from its two blocks. -/
theorem out_A {F : FTy → Type} [FloatOps F] (c : Dev nD) (i : grid0.Coords) (arg3 harg3 arg4 harg4 arg5 harg5 arg6 harg6) (hc0 hc1)
    (x0 : Vec F S1024x2048 .bf16) (x1 : Vec F S1x2048x896 .bf16) :
    out0_A_2 c i arg3 harg3 arg4 harg4 arg5 harg5 arg6 harg6 hc0 hc1 x0 x1 = k0_pay2 k0_pay1 x0 x1 := by
  unfold out0_A_2 kernelRun0_A
  refine (View.read_writes_full _ _ _ _ []).trans ((View.readCov_full _ _ _ _ _).trans (congr (congrArg₂ k0_pay2 ?_ ?_) ?_))
  · exact View.readCov_full _ _ _ _ _
  · exact (View.readAt_full _ _ _).trans (harg3.read_unread x0)
  · exact (View.readAt_full _ _ _).trans (harg4.read_unread x1)

theorem pay (n q : ℕ) (X Y : ℕ → ℕ → EReal) :
    k0_pay2 k0_pay1 (part n 0 X : FVec Ideal S1024x2048 .bf16) (slab 0 q Y : FVec Ideal S1x2048x896 .bf16)
      = (part n q fun r j => ∑ k ∈ Finset.range 2048, X r k * Y k j : FVec Ideal S1024x896 .f32) := by
  unfold k0_pay2 k0_pay1
  dsimp only
  rw [shapeCast_self, shapeCast_self, part_drop, one_nn X Y dot_S1024x2048_S2048x896_S1024x896_1_0_0_1_n_n rfl rfl
    (fun j k => by funext a; fin_cases a <;> rfl) (fun j k => by funext a; fin_cases a <;> rfl)]

theorem e0 : ∀ t : Fin cfg0.N, win0_0.index t = ![t.val / 7, 0] := (by decide +kernel : ∀ t : Fin grid0.N, _)
theorem e1 : ∀ t : Fin cfg0.N, win0_1.index t = ![0, 0, t.val % 7] := (by decide +kernel : ∀ t : Fin grid0.N, _)
theorem e2 : ∀ t : Fin cfg0.N, win0_2.index t = ![t.val / 7, t.val % 7] := (by decide +kernel : ∀ t : Fin grid0.N, _)

variable (m : (ℓ : Loc nD τ sig) → Buf (Elt Ideal) ℓ) (c : Dev nD) (t : Fin cfg0.N) (X : ℕ → ℕ → EReal) (W : ℕ → ℕ → ℕ → EReal)
  (h : (V m c main_arg0 : FVec Ideal S4096x2048 .bf16) = (mat X : FVec Ideal S4096x2048 .bf16))
  (h' : (V m c main_arg1 : FVec Ideal S1x2048x6272 .bf16) = (stack W : FVec Ideal S1x2048x6272 .bf16))

include h in
theorem blk0 : iblk m c 0 t = (part (t.val / 7 * 1024) 0 X : FVec Ideal S1024x2048 .bf16) := by
  funext y
  blk_simp [iblk]
  exact at_part h _ y (by blk_simp [e0]; try rfl) (by blk_simp [e0]; try rfl)
include h' in
theorem blk1 : iblk m c 1 t = (slab 0 (t.val % 7 * 896) (W 0) : FVec Ideal S1x2048x896 .bf16) := by
  funext y
  blk_simp [iblk]
  exact at_slab h' _ y (by blk_simp [e1]; try rfl) (by blk_simp [e1]; try rfl) (by blk_simp [e1]; try rfl)

include h h' in
/-- The kernel's result array. -/
theorem final : ((dats m 0 c).arrAt 2 cfg0.N : FVec Ideal S4096x6272 .f32)
      = (mat fun r j => ∑ k ∈ Finset.range 2048, X r k * W 0 k j : FVec Ideal S4096x6272 .f32) := by
  refine (dats m 0 c).arrAt_eq_of_covers 2 _ (by decide +kernel) fun t hf y => ?_
  blk_simp
  rw [after0_2]
  unfold outsAt0
  rw [out_A, blk0 m c t X h, blk1 m c t W h', pay]
  exact (at_part rfl _ y (by blk_simp [e2]; try rfl) (by blk_simp [e2]; try rfl)).symm

end Cert.GlaInIdeal.Gen

namespace Cert.GlaInReferenceIdeal

open Facts₀ Facts

/-- The reference's result. -/
theorem value (X : ℕ → ℕ → EReal) (W : ℕ → ℕ → ℕ → EReal) (A : FVec Ideal S4096x2048 .bf16) (B : FVec Ideal S1x2048x6272 .bf16)
    (hA : A = (mat X : FVec Ideal S4096x2048 .bf16)) (hB : B = (stack W : FVec Ideal S1x2048x6272 .bf16)) :
    Host.dotGeneral dot_S4096x2048_S2048x6272_S4096x6272_1_0_0_1_n_n none (extf .f32 A bitsLt_bf16_f32)
      (extf .f32 (shapeCast S2048x6272 B shapeCasts_S1x2048x6272_S2048x6272) bitsLt_bf16_f32)
      = (mat fun r j => ∑ k ∈ Finset.range 2048, X r k * W 0 k j : FVec Ideal S4096x6272 .f32) := by
  subst hA hB
  rw [stack_only, mat_ext, mat_ext, mat_nn _ _ dot_S4096x2048_S2048x6272_S4096x6272_1_0_0_1_n_n rfl rfl
    (fun j k => by funext a; fin_cases a <;> rfl) (fun j k => by funext a; fin_cases a <;> rfl)]

end Cert.GlaInReferenceIdeal

namespace Cert.Proof

theorem algebraic_gla_in : Cert.algebraic_GlaInIdeal_GlaInReferenceIdeal := by
  intro m g m' g' _ hagree
  choose X hX using fun c => exists_mat (Cert.GlaInIdeal.Gen.V m c Cert.GlaInIdeal.main_arg0 : FVec Ideal Cert.GlaInIdeal.S4096x2048 .bf16)
  choose W hW using fun c => exists_stack (Cert.GlaInIdeal.Gen.V m c Cert.GlaInIdeal.main_arg1 : FVec Ideal Cert.GlaInIdeal.S1x2048x6272 .bf16)
  exact ⟨fun c => (mat fun r j => ∑ k ∈ Finset.range 2048, X c r k * W c 0 k j : FVec Ideal Cert.GlaInIdeal.S4096x6272 .f32),
    (θ_run Cert.GlaInIdeal.defs _ _).mono (fun r h c => ⟨(h c).1.trans (Cert.GlaInIdeal.Gen.final m c _ _ (hX c) (hW c)), (h c).2⟩)
      (Cert.GlaInIdeal.Value.run_blocks m g),
    (θ_run Cert.GlaInReferenceIdeal.defs _ _).mono (fun r h c => ⟨(h c).1.trans (Cert.GlaInReferenceIdeal.value _ _ _ _
      ((hagree c).1.trans (hX c)) ((hagree c).2.trans (hW c))), (h c).2⟩) (Cert.GlaInReferenceIdeal.Value.run m' g')⟩

theorem frame_gla_in_reference : Cert.quiescent_GlaInReferenceIdeal := fun m ρ _ =>
  (θ_run Cert.GlaInReferenceIdeal.defs _ _).mono
    (fun r h => ⟨fun c => (h c).2, sem_eq_zero_of_no_sems (by decide) r.2⟩) (Cert.GlaInReferenceIdeal.Value.run m ρ)

end Cert.Proof

end
-- ==== Proof.GlaOut.lean ====
/- The recurrent layer's output projection, added to the residual. Each grid point multiplies a block of rows by the weight and adds
   the residual's block; the reference does so with all rows. Both end at the same sums. -/
module

public import proofs.«01_k».proof.Defs
public import proofs.«01_k».proof.Proof.Product
public import proofs.«01_k».proof.Proof.Gen.GlaOutIdeal.Value
public import proofs.«01_k».proof.Proof.Gen.GlaOutReferenceIdeal
public import proofs.«01_k».proof.Proof.Gen.GlaOutReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.GlaOutIdeal.Gen

/-- What a grid point stores, from its three blocks. -/
theorem out_A {F : FTy → Type} [FloatOps F] (c : Dev nD) (i : grid0.Coords) (arg3 harg3 arg4 harg4 arg5 harg5 arg6 harg6 arg7 harg7) (hc0 hc1)
    (x0 : Vec F S512x2048 .bf16) (x1 : Vec F S1x2048x2048 .bf16) (x2 : Vec F S512x2048 .f32) :
    out0_A_3 c i arg3 harg3 arg4 harg4 arg5 harg5 arg6 harg6 arg7 harg7 hc0 hc1 x0 x1 x2 = k0_pay3 (k0_pay2 k0_pay1 x0 x1) x2 := by
  unfold out0_A_3 kernelRun0_A
  refine (View.read_writes_full _ _ _ _ _).trans (congrArg₂ k0_pay3 ((View.readCov_full _ _ _ _ _).trans (congr (congrArg₂ k0_pay2 ?_ ?_) ?_)) ?_)
  · exact View.readCov_full _ _ _ _ _
  · exact (View.readAt_full _ _ _).trans (harg3.read_unread x0)
  · exact (View.readAt_full _ _ _).trans (harg4.read_unread x1)
  · exact (View.readAt_full _ _ _).trans (harg5.read_unread x2)

theorem pay (n : ℕ) (X Y H : ℕ → ℕ → EReal) :
    k0_pay3 (k0_pay2 k0_pay1 (part n 0 X : FVec Ideal S512x2048 .bf16) (slab 0 0 Y : FVec Ideal S1x2048x2048 .bf16))
        (part n 0 H : FVec Ideal S512x2048 .f32)
      = (part n 0 fun r j => (∑ k ∈ Finset.range 2048, X r k * Y k j) + H r j : FVec Ideal S512x2048 .f32) := by
  unfold k0_pay3 k0_pay2 k0_pay1
  dsimp only
  rw [shapeCast_self, shapeCast_self, part_drop, one_nn X Y dot_S512x2048_S2048x2048_S512x2048_1_0_0_1_n_n rfl rfl
    (fun j k => by funext a; fin_cases a <;> rfl) (fun j k => by funext a; fin_cases a <;> rfl), part_add]

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

variable (m : (ℓ : Loc nD τ sig) → Buf (Elt Ideal) ℓ) (c : Dev nD) (t : Fin cfg0.N) (X H : ℕ → ℕ → EReal) (W : ℕ → ℕ → ℕ → EReal)
  (h : (V m c main_arg0 : FVec Ideal S4096x2048 .bf16) = (mat X : FVec Ideal S4096x2048 .bf16))
  (h' : (V m c main_arg1 : FVec Ideal S1x2048x2048 .bf16) = (stack W : FVec Ideal S1x2048x2048 .bf16))
  (h'' : (V m c main_arg2 : FVec Ideal S4096x2048 .f32) = (mat H : FVec Ideal S4096x2048 .f32))

include h in
theorem blk0 : iblk m c 0 t = (part (t.val * 512) 0 X : FVec Ideal S512x2048 .bf16) := by
  funext y
  blk_simp [iblk]
  exact at_part h _ y (by blk_simp [e0]; try rfl) (by blk_simp [e0]; try rfl)
include h' in
theorem blk1 : iblk m c 1 t = (slab 0 0 (W 0) : FVec Ideal S1x2048x2048 .bf16) := by
  funext y
  blk_simp [iblk]
  exact at_slab h' _ y (by blk_simp [e1]; try rfl) (by blk_simp [e1]; try rfl) (by blk_simp [e1]; try rfl)
include h'' in
theorem blk2 : iblk m c 2 t = (part (t.val * 512) 0 H : FVec Ideal S512x2048 .f32) := by
  funext y
  blk_simp [iblk]
  exact at_part h'' _ y (by blk_simp [e2]; try rfl) (by blk_simp [e2]; try rfl)

include h h' h'' in
/-- The kernel's result array. -/
theorem final : ((dats m 0 c).arrAt 3 cfg0.N : FVec Ideal S4096x2048 .f32)
      = (mat fun r j => (∑ k ∈ Finset.range 2048, X r k * W 0 k j) + H r j : FVec Ideal S4096x2048 .f32) := by
  refine (dats m 0 c).arrAt_eq_of_covers 3 _ (by decide +kernel) fun t hf y => ?_
  blk_simp
  rw [after0_3]
  unfold outsAt0
  rw [out_A, blk0 m c t X h, blk1 m c t W h', blk2 m c t H h'', pay]
  exact (at_part rfl _ y (by blk_simp [e3]; try rfl) (by blk_simp [e3]; try rfl)).symm

end Cert.GlaOutIdeal.Gen

namespace Cert.GlaOutReferenceIdeal

open Facts₀ Facts

/-- The reference's result. -/
theorem value (X H : ℕ → ℕ → EReal) (W : ℕ → ℕ → ℕ → EReal) (A : FVec Ideal S4096x2048 .bf16) (B : FVec Ideal S1x2048x2048 .bf16)
    (C : FVec Ideal S4096x2048 .f32) (hA : A = (mat X : FVec Ideal S4096x2048 .bf16)) (hB : B = (stack W : FVec Ideal S1x2048x2048 .bf16))
    (hC : C = (mat H : FVec Ideal S4096x2048 .f32)) :
    addf C (Host.dotGeneral dot_S4096x2048_S2048x2048_S4096x2048_1_0_0_1_n_n none (extf .f32 A bitsLt_bf16_f32)
      (extf .f32 (shapeCast S2048x2048 B shapeCasts_S1x2048x2048_S2048x2048) bitsLt_bf16_f32))
      = (mat fun r j => (∑ k ∈ Finset.range 2048, X r k * W 0 k j) + H r j : FVec Ideal S4096x2048 .f32) := by
  subst hA hB hC
  rw [stack_only, mat_ext, mat_ext, mat_nn _ _ dot_S4096x2048_S2048x2048_S4096x2048_1_0_0_1_n_n rfl rfl
    (fun j k => by funext a; fin_cases a <;> rfl) (fun j k => by funext a; fin_cases a <;> rfl), mat_add]
  exact funext fun y => add_comm _ _

end Cert.GlaOutReferenceIdeal

namespace Cert.Proof

theorem algebraic_gla_out : Cert.algebraic_GlaOutIdeal_GlaOutReferenceIdeal := by
  intro m g m' g' _ hagree
  choose X hX using fun c => exists_mat (Cert.GlaOutIdeal.Gen.V m c Cert.GlaOutIdeal.main_arg0 : FVec Ideal Cert.GlaOutIdeal.S4096x2048 .bf16)
  choose W hW using fun c => exists_stack (Cert.GlaOutIdeal.Gen.V m c Cert.GlaOutIdeal.main_arg1 : FVec Ideal Cert.GlaOutIdeal.S1x2048x2048 .bf16)
  choose H hH using fun c => exists_mat (Cert.GlaOutIdeal.Gen.V m c Cert.GlaOutIdeal.main_arg2 : FVec Ideal Cert.GlaOutIdeal.S4096x2048 .f32)
  exact ⟨fun c => (mat fun r j => (∑ k ∈ Finset.range 2048, X c r k * W c 0 k j) + H c r j : FVec Ideal Cert.GlaOutIdeal.S4096x2048 .f32),
    (θ_run Cert.GlaOutIdeal.defs _ _).mono (fun r h c => ⟨(h c).1.trans (Cert.GlaOutIdeal.Gen.final m c _ _ _ (hX c) (hW c) (hH c)), (h c).2⟩)
      (Cert.GlaOutIdeal.Value.run_blocks m g),
    (θ_run Cert.GlaOutReferenceIdeal.defs _ _).mono (fun r h c => ⟨(h c).1.trans (Cert.GlaOutReferenceIdeal.value _ _ _ _ _ _
      ((hagree c).1.trans (hX c)) ((hagree c).2.1.trans (hW c)) ((hagree c).2.2.trans (hH c))), (h c).2⟩) (Cert.GlaOutReferenceIdeal.Value.run m' g')⟩

theorem frame_gla_out_reference : Cert.quiescent_GlaOutReferenceIdeal := fun m ρ _ =>
  (θ_run Cert.GlaOutReferenceIdeal.defs _ _).mono
    (fun r h => ⟨fun c => (h c).2, sem_eq_zero_of_no_sems (by decide) r.2⟩) (Cert.GlaOutReferenceIdeal.Value.run m ρ)

end Cert.Proof

end
-- ==== Proof.QProj.lean ====
/- The attention's query projection. Each grid point multiplies a block of rows by one shard of the weight; the reference puts the
   shards side by side first. Both end at the same products. -/
module

public import proofs.«01_k».proof.Defs
public import proofs.«01_k».proof.Proof.Product
public import proofs.«01_k».proof.Proof.Gen.QProjIdeal.Value
public import proofs.«01_k».proof.Proof.Gen.QProjReferenceIdeal
public import proofs.«01_k».proof.Proof.Gen.QProjReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.QProjIdeal.Gen

/-- What a grid point stores, from its two blocks. -/
theorem out_A {F : FTy → Type} [FloatOps F] (c : Dev nD) (i : grid0.Coords) (arg3 harg3 arg4 harg4 arg5 harg5 arg6 harg6) (hc0 hc1)
    (x0 : Vec F S1024x2048 .bf16) (x1 : Vec F S1x2048x768 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ []).trans (congrArg k0_pay3 ((View.readCov_full _ _ _ _ _).trans (congr (congrArg₂ k0_pay2 ?_ ?_) ?_)))
  · exact View.readCov_full _ _ _ _ _
  · exact (View.readAt_full _ _ _).trans (harg3.read_unread x0)
  · exact (View.readAt_full _ _ _).trans (harg4.read_unread x1)

theorem pay (n : ℕ) (X Y : ℕ → ℕ → EReal) :
    k0_pay3 (k0_pay2 k0_pay1 (part n 0 X : FVec Ideal S1024x2048 .bf16) (slab 0 0 Y : FVec Ideal S1x2048x768 .bf16))
      = (part n 0 fun r j => ∑ k ∈ Finset.range 2048, X r k * Y k j : FVec Ideal S1024x768 .bf16) := by
  unfold k0_pay3 k0_pay2 k0_pay1
  dsimp only
  rw [shapeCast_self, shapeCast_self, part_drop, one_nn X Y dot_S1024x2048_S2048x768_S1024x768_1_0_0_1_n_n rfl rfl
    (fun j k => by funext a; fin_cases a <;> rfl) (fun j k => by funext a; fin_cases a <;> rfl), part_trunc]

theorem e0 : ∀ t : Fin cfg0.N, win0_0.index t = ![t.val / 8, 0] := (by decide +kernel : ∀ t : Fin grid0.N, _)
theorem e1 : ∀ t : Fin cfg0.N, win0_1.index t = ![t.val % 8, 0, 0] := (by decide +kernel : ∀ t : Fin grid0.N, _)
theorem e2 : ∀ t : Fin cfg0.N, win0_2.index t = ![t.val / 8, t.val % 8] := (by decide +kernel : ∀ t : Fin grid0.N, _)

variable (m : (ℓ : Loc nD τ sig) → Buf (Elt Ideal) ℓ) (c : Dev nD) (t : Fin cfg0.N) (X : ℕ → ℕ → EReal) (W : ℕ → ℕ → ℕ → EReal)
  (h : (V m c main_arg0 : FVec Ideal S4096x2048 .bf16) = (mat X : FVec Ideal S4096x2048 .bf16))
  (h' : (V m c main_arg1 : FVec Ideal S8x2048x768 .bf16) = (stack W : FVec Ideal S8x2048x768 .bf16))

include h in
theorem blk0 : iblk m c 0 t = (part (t.val / 8 * 1024) 0 X : FVec Ideal S1024x2048 .bf16) := by
  funext y
  blk_simp [iblk]
  exact at_part h _ y (by blk_simp [e0]; try rfl) (by blk_simp [e0]; try rfl)
include h' in
theorem blk1 : iblk m c 1 t = (slab 0 0 (W (t.val % 8)) : FVec Ideal S1x2048x768 .bf16) := by
  funext y
  blk_simp [iblk]
  exact at_slab h' _ y (by blk_simp [e1]; try rfl) (by blk_simp [e1]; try rfl) (by blk_simp [e1]; try rfl)

include h h' in
/-- The kernel's result array. -/
theorem final : ((dats m 0 c).arrAt 2 cfg0.N : FVec Ideal S4096x6144 .bf16)
      = (mat fun r j => ∑ k ∈ Finset.range 2048, X r k * W (j / 768) k (j % 768) : FVec Ideal S4096x6144 .bf16) := by
  refine (dats m 0 c).arrAt_eq_of_covers 2 _ (by decide +kernel) fun t hf y => ?_
  blk_simp
  rw [after0_2]
  unfold outsAt0
  rw [out_A, blk0 m c t X h, blk1 m c t W h', pay]
  exact (at_shard (F := fun s r j => ∑ k ∈ Finset.range 2048, X r k * W s k j) rfl _ y (by blk_simp [e2]; try rfl) (by blk_simp [e2]; try rfl)).symm

end Cert.QProjIdeal.Gen

namespace Cert.QProjReferenceIdeal

open Facts₀ Facts

/-- The reference's result. -/
theorem value (X : ℕ → ℕ → EReal) (W : ℕ → ℕ → ℕ → EReal) (A : FVec Ideal S4096x2048 .bf16) (B : FVec Ideal S8x2048x768 .bf16)
    (hA : A = (mat X : FVec Ideal S4096x2048 .bf16)) (hB : B = (stack W : FVec Ideal S8x2048x768 .bf16)) :
    truncf .bf16 (Host.dotGeneral dot_S4096x2048_S2048x6144_S4096x6144_1_0_0_1_n_n none (extf .f32 A bitsLt_bf16_f32)
      (extf .f32 (shapeCast S2048x6144 (transpose S2048x8x768 [1, 0, 2] B transposes_S8x2048x768_S2048x8x768_1_0_2)
        shapeCasts_S2048x8x768_S2048x6144) bitsLt_bf16_f32)) bitsLt_bf16_f32
      = (mat fun r j => ∑ k ∈ Finset.range 2048, X r k * W (j / 768) k (j % 768) : FVec Ideal S4096x6144 .bf16) := by
  subst hA hB
  rw [mat_ext, flat_nn (d := 8) (b := 768) X rfl W dot_S4096x2048_S2048x6144_S4096x6144_1_0_0_1_n_n rfl rfl
    (fun j k => by funext a; fin_cases a <;> rfl) (fun j k => by funext a; fin_cases a <;> rfl), mat_trunc]

end Cert.QProjReferenceIdeal

namespace Cert.Proof

theorem algebraic_q_proj : Cert.algebraic_QProjIdeal_QProjReferenceIdeal := by
  intro m g m' g' _ hagree
  choose X hX using fun c => exists_mat (Cert.QProjIdeal.Gen.V m c Cert.QProjIdeal.main_arg0 : FVec Ideal Cert.QProjIdeal.S4096x2048 .bf16)
  choose W hW using fun c => exists_stack (Cert.QProjIdeal.Gen.V m c Cert.QProjIdeal.main_arg1 : FVec Ideal Cert.QProjIdeal.S8x2048x768 .bf16)
  exact ⟨fun c => (mat fun r j => ∑ k ∈ Finset.range 2048, X c r k * W c (j / 768) k (j % 768) : FVec Ideal Cert.QProjIdeal.S4096x6144 .bf16),
    (θ_run Cert.QProjIdeal.defs _ _).mono (fun r h c => ⟨(h c).1.trans (Cert.QProjIdeal.Gen.final m c _ _ (hX c) (hW c)), (h c).2⟩)
      (Cert.QProjIdeal.Value.run_blocks m g),
    (θ_run Cert.QProjReferenceIdeal.defs _ _).mono (fun r h c => ⟨(h c).1.trans (Cert.QProjReferenceIdeal.value _ _ _ _
      ((hagree c).1.trans (hX c)) ((hagree c).2.trans (hW c))), (h c).2⟩) (Cert.QProjReferenceIdeal.Value.run m' g')⟩

theorem frame_q_proj_reference : Cert.quiescent_QProjReferenceIdeal := fun m ρ _ =>
  (θ_run Cert.QProjReferenceIdeal.defs _ _).mono
    (fun r h => ⟨fun c => (h c).2, sem_eq_zero_of_no_sems (by decide) r.2⟩) (Cert.QProjReferenceIdeal.Value.run m ρ)

end Cert.Proof

end
-- ==== Proof.KvProj.lean ====
/- The attention's key and value projection, with the shards of the weight side by side. Kernel and reference end at the same
   products of the rows by the shards' columns. -/
module

public import proofs.«01_k».proof.Defs
public import proofs.«01_k».proof.Proof.Product
public import proofs.«01_k».proof.Proof.Gen.KvProjIdeal.Value
public import proofs.«01_k».proof.Proof.Gen.KvProjReferenceIdeal
public import proofs.«01_k».proof.Proof.Gen.KvProjReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.KvProjIdeal.Gen

/-- What a grid point stores, from its two blocks. -/
theorem out_A {F : FTy → Type} [FloatOps F] (c : Dev nD) (i : grid0.Coords) (arg3 harg3 arg4 harg4 arg5 harg5 arg6 harg6) (hc0 hc1)
    (x0 : Vec F S1024x2048 .bf16) (x1 : Vec F S1x2048x512 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ []).trans (congrArg k0_pay3 ((View.readCov_full _ _ _ _ _).trans (congr (congrArg₂ k0_pay2 ?_ ?_) ?_)))
  · exact View.readCov_full _ _ _ _ _
  · exact (View.readAt_full _ _ _).trans (harg3.read_unread x0)
  · exact (View.readAt_full _ _ _).trans (harg4.read_unread x1)

theorem pay (n : ℕ) (X Y : ℕ → ℕ → EReal) :
    k0_pay3 (k0_pay2 k0_pay1 (part n 0 X : FVec Ideal S1024x2048 .bf16) (slab 0 0 Y : FVec Ideal S1x2048x512 .bf16))
      = (part n 0 fun r j => ∑ k ∈ Finset.range 2048, X r k * Y k j : FVec Ideal S1024x512 .bf16) := by
  unfold k0_pay3 k0_pay2 k0_pay1
  dsimp only
  rw [shapeCast_self, shapeCast_self, part_drop, one_nn X Y dot_S1024x2048_S2048x512_S1024x512_1_0_0_1_n_n rfl rfl
    (fun j k => by funext a; fin_cases a <;> rfl) (fun j k => by funext a; fin_cases a <;> rfl), part_trunc]

theorem e0 : ∀ t : Fin cfg0.N, win0_0.index t = ![t.val / 8, 0] := (by decide +kernel : ∀ t : Fin grid0.N, _)
theorem e1 : ∀ t : Fin cfg0.N, win0_1.index t = ![t.val % 8, 0, 0] := (by decide +kernel : ∀ t : Fin grid0.N, _)
theorem e2 : ∀ t : Fin cfg0.N, win0_2.index t = ![t.val / 8, t.val % 8] := (by decide +kernel : ∀ t : Fin grid0.N, _)

/-- The kernel's result array: every grid point's block, read at its place. -/
theorem final (m : (ℓ : Loc nD τ sig) → Buf (Elt Ideal) ℓ) (c : Dev nD) (X : ℕ → ℕ → EReal) (W : ℕ → ℕ → ℕ → EReal)
    (h : (V m c main_arg0 : FVec Ideal S4096x2048 .bf16) = (mat X : FVec Ideal S4096x2048 .bf16))
    (h' : (V m c main_arg1 : FVec Ideal S8x2048x512 .bf16) = (stack W : FVec Ideal S8x2048x512 .bf16)) :
    ((dats m 0 c).arrAt 2 cfg0.N : FVec Ideal S4096x4096 .bf16)
      = (mat fun r j => ∑ k ∈ Finset.range 2048, X r k * W (j / 512) k (j % 512) : FVec Ideal S4096x4096 .bf16) := by
  refine (dats m 0 c).arrAt_eq_of_covers 2 _ (by decide +kernel) fun t hf y => ?_
  have b0 : iblk m c 0 t = (part (t.val / 8 * 1024) 0 X : FVec Ideal S1024x2048 .bf16) := funext fun y => by
    blk_simp [iblk]
    exact at_part h _ y (by blk_simp [e0]; try rfl) (by blk_simp [e0]; try rfl)
  have b1 : iblk m c 1 t = (slab 0 0 (W (t.val % 8)) : FVec Ideal S1x2048x512 .bf16) := funext fun y => by
    blk_simp [iblk]
    exact at_slab h' _ y (by blk_simp [e1]; try rfl) (by blk_simp [e1]; try rfl) (by blk_simp [e1]; try rfl)
  blk_simp
  rw [after0_2]
  unfold outsAt0
  rw [out_A, b0, b1, pay]
  exact (at_shard (F := fun s r j => ∑ k ∈ Finset.range 2048, X r k * W s k j) rfl _ y (by blk_simp [e2]; try rfl) (by blk_simp [e2]; try rfl)).symm

end Cert.KvProjIdeal.Gen

namespace Cert.KvProjReferenceIdeal

open Facts₀ Facts

/-- The reference's result. -/
theorem value (X : ℕ → ℕ → EReal) (W : ℕ → ℕ → ℕ → EReal) (A : FVec Ideal S4096x2048 .bf16) (B : FVec Ideal S8x2048x512 .bf16)
    (hA : A = (mat X : FVec Ideal S4096x2048 .bf16)) (hB : B = (stack W : FVec Ideal S8x2048x512 .bf16)) :
    truncf .bf16 (Host.dotGeneral dot_S4096x2048_S2048x4096_S4096x4096_1_0_0_1_n_n none (extf .f32 A bitsLt_bf16_f32)
      (extf .f32 (shapeCast S2048x4096 (transpose S2048x8x512 [1, 0, 2] B transposes_S8x2048x512_S2048x8x512_1_0_2)
        shapeCasts_S2048x8x512_S2048x4096) bitsLt_bf16_f32)) bitsLt_bf16_f32
      = (mat fun r j => ∑ k ∈ Finset.range 2048, X r k * W (j / 512) k (j % 512) : FVec Ideal S4096x4096 .bf16) := by
  subst hA hB
  rw [mat_ext, flat_nn (d := 8) (b := 512) X rfl W dot_S4096x2048_S2048x4096_S4096x4096_1_0_0_1_n_n rfl rfl
    (fun j k => by funext a; fin_cases a <;> rfl) (fun j k => by funext a; fin_cases a <;> rfl), mat_trunc]

end Cert.KvProjReferenceIdeal

namespace Cert.Proof

theorem algebraic_kv_proj : Cert.algebraic_KvProjIdeal_KvProjReferenceIdeal := by
  intro m g m' g' _ hagree
  choose X hX using fun c => exists_mat (Cert.KvProjIdeal.Gen.V m c Cert.KvProjIdeal.main_arg0 : FVec Ideal Cert.KvProjIdeal.S4096x2048 .bf16)
  choose W hW using fun c => exists_stack (Cert.KvProjIdeal.Gen.V m c Cert.KvProjIdeal.main_arg1 : FVec Ideal Cert.KvProjIdeal.S8x2048x512 .bf16)
  exact ⟨fun c => (mat fun r j => ∑ k ∈ Finset.range 2048, X c r k * W c (j / 512) k (j % 512) : FVec Ideal Cert.KvProjIdeal.S4096x4096 .bf16),
    (θ_run Cert.KvProjIdeal.defs _ _).mono (fun r h c => ⟨(h c).1.trans (Cert.KvProjIdeal.Gen.final m c _ _ (hX c) (hW c)), (h c).2⟩)
      (Cert.KvProjIdeal.Value.run_blocks m g),
    (θ_run Cert.KvProjReferenceIdeal.defs _ _).mono (fun r h c => ⟨(h c).1.trans (Cert.KvProjReferenceIdeal.value _ _ _ _
      ((hagree c).1.trans (hX c)) ((hagree c).2.trans (hW c))), (h c).2⟩) (Cert.KvProjReferenceIdeal.Value.run m' g')⟩

theorem frame_kv_proj_reference : Cert.quiescent_KvProjReferenceIdeal := fun m ρ _ =>
  (θ_run Cert.KvProjReferenceIdeal.defs _ _).mono
    (fun r h => ⟨fun c => (h c).2, sem_eq_zero_of_no_sems (by decide) r.2⟩) (Cert.KvProjReferenceIdeal.Value.run m ρ)

end Cert.Proof

end
-- ==== Proof.DsaOut.lean ====
/- The attention's output projection, added to the residual. The attention's result arrives unrounded and is rounded before the
   product, which leaves the ideal values as they are; kernel and reference end at the same sums. -/
module

public import proofs.«01_k».proof.Defs
public import proofs.«01_k».proof.Proof.Product
public import proofs.«01_k».proof.Proof.Gen.DsaOutIdeal.Value
public import proofs.«01_k».proof.Proof.Gen.DsaOutReferenceIdeal
public import proofs.«01_k».proof.Proof.Gen.DsaOutReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.DsaOutIdeal.Gen

/-- What a grid point stores, from its three blocks. -/
theorem out_A {F : FTy → Type} [FloatOps F] (c : Dev nD) (i : grid0.Coords) (arg3 harg3 arg4 harg4 arg5 harg5 arg6 harg6 arg7 harg7) (hc0 hc1)
    (x0 : Vec F S512x2048 .f32) (x1 : Vec F S1x2048x2048 .bf16) (x2 : Vec F S512x2048 .f32) :
    out0_A_3 c i arg3 harg3 arg4 harg4 arg5 harg5 arg6 harg6 arg7 harg7 hc0 hc1 x0 x1 x2 = k0_pay3 (k0_pay2 k0_pay1 x0 x1) x2 := by
  unfold out0_A_3 kernelRun0_A
  refine (View.read_writes_full _ _ _ _ _).trans (congrArg₂ k0_pay3 ((View.readCov_full _ _ _ _ _).trans (congr (congrArg₂ k0_pay2 ?_ ?_) ?_)) ?_)
  · exact View.readCov_full _ _ _ _ _
  · exact (View.readAt_full _ _ _).trans (harg3.read_unread x0)
  · exact (View.readAt_full _ _ _).trans (harg4.read_unread x1)
  · exact (View.readAt_full _ _ _).trans (harg5.read_unread x2)

theorem pay (n : ℕ) (X Y H : ℕ → ℕ → EReal) :
    k0_pay3 (k0_pay2 k0_pay1 (part n 0 X : FVec Ideal S512x2048 .f32) (slab 0 0 Y : FVec Ideal S1x2048x2048 .bf16))
        (part n 0 H : FVec Ideal S512x2048 .f32)
      = (part n 0 fun r j => (∑ k ∈ Finset.range 2048, X r k * Y k j) + H r j : FVec Ideal S512x2048 .f32) := by
  unfold k0_pay3 k0_pay2 k0_pay1
  dsimp only
  rw [shapeCast_self, shapeCast_self, part_drop, part_trunc, one_nn X Y dot_S512x2048_S2048x2048_S512x2048_1_0_0_1_n_n rfl rfl
    (fun j k => by funext a; fin_cases a <;> rfl) (fun j k => by funext a; fin_cases a <;> rfl), part_add]

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- The kernel's result array: every grid point's block, read at its place. -/
theorem final (m : (ℓ : Loc nD τ sig) → Buf (Elt Ideal) ℓ) (c : Dev nD) (X H : ℕ → ℕ → EReal) (W : ℕ → ℕ → ℕ → EReal)
    (h : (V m c main_arg0 : FVec Ideal S4096x2048 .f32) = (mat X : FVec Ideal S4096x2048 .f32))
    (h' : (V m c main_arg1 : FVec Ideal S1x2048x2048 .bf16) = (stack W : FVec Ideal S1x2048x2048 .bf16))
    (h'' : (V m c main_arg2 : FVec Ideal S4096x2048 .f32) = (mat H : FVec Ideal S4096x2048 .f32)) :
    ((dats m 0 c).arrAt 3 cfg0.N : FVec Ideal S4096x2048 .f32)
      = (mat fun r j => (∑ k ∈ Finset.range 2048, X r k * W 0 k j) + H r j : FVec Ideal S4096x2048 .f32) := by
  refine (dats m 0 c).arrAt_eq_of_covers 3 _ (by decide +kernel) fun t hf y => ?_
  have b0 : iblk m c 0 t = (part (t.val * 512) 0 X : FVec Ideal S512x2048 .f32) := funext fun y => by
    blk_simp [iblk]
    exact at_part h _ y (by blk_simp [e0]; try rfl) (by blk_simp [e0]; try rfl)
  have b1 : iblk m c 1 t = (slab 0 0 (W 0) : FVec Ideal S1x2048x2048 .bf16) := funext fun y => by
    blk_simp [iblk]
    exact at_slab h' _ y (by blk_simp [e1]; try rfl) (by blk_simp [e1]; try rfl) (by blk_simp [e1]; try rfl)
  have b2 : iblk m c 2 t = (part (t.val * 512) 0 H : FVec Ideal S512x2048 .f32) := funext fun y => by
    blk_simp [iblk]
    exact at_part h'' _ y (by blk_simp [e2]; try rfl) (by blk_simp [e2]; try rfl)
  blk_simp
  rw [after0_3]
  unfold outsAt0
  rw [out_A, b0, b1, b2, pay]
  exact (at_part rfl _ y (by blk_simp [e3]; try rfl) (by blk_simp [e3]; try rfl)).symm

end Cert.DsaOutIdeal.Gen

namespace Cert.DsaOutReferenceIdeal

open Facts₀ Facts

/-- The reference's result. -/
theorem value (X H : ℕ → ℕ → EReal) (W : ℕ → ℕ → ℕ → EReal) (A C : FVec Ideal S4096x2048 .f32) (B : FVec Ideal S1x2048x2048 .bf16)
    (hA : A = (mat X : FVec Ideal S4096x2048 .f32)) (hB : B = (stack W : FVec Ideal S1x2048x2048 .bf16))
    (hC : C = (mat H : FVec Ideal S4096x2048 .f32)) :
    addf C (Host.dotGeneral dot_S4096x2048_S2048x2048_S4096x2048_1_0_0_1_n_n none A
      (extf .f32 (shapeCast S2048x2048 B shapeCasts_S1x2048x2048_S2048x2048) bitsLt_bf16_f32))
      = (mat fun r j => (∑ k ∈ Finset.range 2048, X r k * W 0 k j) + H r j : FVec Ideal S4096x2048 .f32) := by
  subst hA hB hC
  rw [stack_only, mat_ext, mat_nn _ _ dot_S4096x2048_S2048x2048_S4096x2048_1_0_0_1_n_n rfl rfl
    (fun j k => by funext a; fin_cases a <;> rfl) (fun j k => by funext a; fin_cases a <;> rfl), mat_add]
  exact funext fun y => add_comm _ _

end Cert.DsaOutReferenceIdeal

namespace Cert.Proof

theorem algebraic_dsa_out : Cert.algebraic_DsaOutIdeal_DsaOutReferenceIdeal := by
  intro m g m' g' _ hagree
  choose X hX using fun c => exists_mat (Cert.DsaOutIdeal.Gen.V m c Cert.DsaOutIdeal.main_arg0 : FVec Ideal Cert.DsaOutIdeal.S4096x2048 .f32)
  choose W hW using fun c => exists_stack (Cert.DsaOutIdeal.Gen.V m c Cert.DsaOutIdeal.main_arg1 : FVec Ideal Cert.DsaOutIdeal.S1x2048x2048 .bf16)
  choose H hH using fun c => exists_mat (Cert.DsaOutIdeal.Gen.V m c Cert.DsaOutIdeal.main_arg2 : FVec Ideal Cert.DsaOutIdeal.S4096x2048 .f32)
  exact ⟨fun c => (mat fun r j => (∑ k ∈ Finset.range 2048, X c r k * W c 0 k j) + H c r j : FVec Ideal Cert.DsaOutIdeal.S4096x2048 .f32),
    (θ_run Cert.DsaOutIdeal.defs _ _).mono (fun r h c => ⟨(h c).1.trans (Cert.DsaOutIdeal.Gen.final m c _ _ _ (hX c) (hW c) (hH c)), (h c).2⟩)
      (Cert.DsaOutIdeal.Value.run_blocks m g),
    (θ_run Cert.DsaOutReferenceIdeal.defs _ _).mono (fun r h c => ⟨(h c).1.trans (Cert.DsaOutReferenceIdeal.value _ _ _ _ _ _
      ((hagree c).1.trans (hX c)) ((hagree c).2.1.trans (hW c)) ((hagree c).2.2.trans (hH c))), (h c).2⟩) (Cert.DsaOutReferenceIdeal.Value.run m' g')⟩

theorem frame_dsa_out_reference : Cert.quiescent_DsaOutReferenceIdeal := fun m ρ _ =>
  (θ_run Cert.DsaOutReferenceIdeal.defs _ _).mono
    (fun r h => ⟨fun c => (h c).2, sem_eq_zero_of_no_sems (by decide) r.2⟩) (Cert.DsaOutReferenceIdeal.Value.run m ρ)

end Cert.Proof

end
-- ==== Proof.GlaInDw.lean ====
/- The weight gradient of the recurrent layer's input projection. Two consecutive grid points add the products of two blocks of
   rows; the reference transposes the derivative's product. Both end at the products summed over all rows. -/
module

public import proofs.«01_k».proof.Defs
public import proofs.«01_k».proof.Proof.Product
public import proofs.«01_k».proof.Proof.Gen.GlaInDwIdeal.Value
public import proofs.«01_k».proof.Proof.Gen.GlaInDwReferenceIdeal
public import proofs.«01_k».proof.Proof.Gen.GlaInDwReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.GlaInDwIdeal.Gen

/-- What the first point of a pair leaves in the accumulator. -/
theorem acc_A {F : FTy → Type} [FloatOps F] (c : Dev nD) (i : grid0.Coords) (arg3 harg3 arg4 harg4 arg5 harg5 arg6 harg6 hc0 hc1)
    (x0 : Vec F S2048x1024 .bf16) (x1 : Vec F S2048x896 .bf16) :
    sout0_A_0 c i arg3 harg3 arg4 harg4 arg5 harg5 arg6 harg6 hc0 hc1 x0 x1 = k0_pay2 x0 k0_pay1 x1 := by
  unfold sout0_A_0 kernelRun0_A
  refine (View.read_writes_full _ _ _ _ _).trans (congr (congrArg₂ k0_pay2 ?_ ?_) ?_)
  · exact (View.readAt_full _ _ _).trans (harg3.read_unread x0)
  · exact View.readCov_full _ _ _ _ _
  · exact (View.readAt_full _ _ _).trans (harg4.read_unread x1)

/-- What the second point stores. -/
theorem out_B {F : FTy → Type} [FloatOps F] (c : Dev nD) (i : grid0.Coords) (arg3 harg3 arg4 harg4 arg5 harg5 arg6 harg6 hc0 hc1)
    (x0 : Vec F S2048x1024 .bf16) (x1 : Vec F S2048x896 .bf16) (s : Vec F S1024x896 .f32) :
    out0_B_2 c i arg3 harg3 arg4 harg4 arg5 harg5 arg6 harg6 hc0 hc1 x0 x1 s = k0_pay3 (k0_pay2 x0 s x1) := by
  unfold out0_B_2 kernelRun0_B
  refine (View.read_writes_full _ _ _ _ _).trans (congrArg k0_pay3 ((View.readCov_full _ _ _ _ _).trans (congr (congrArg₂ k0_pay2 ?_ ?_) ?_)))
  · exact (View.readAt_full _ _ _).trans (harg3.read_unread x0)
  · exact (View.readAt_full _ _ _).trans (harg6.read_unread s)
  · exact (View.readAt_full _ _ _).trans (harg4.read_unread x1)

theorem pay (p q : ℕ) (X Y : ℕ → ℕ → EReal) :
    k0_pay3 (k0_pay2 (part 2048 p X : FVec Ideal S2048x1024 .bf16)
        (k0_pay2 (part 0 p X : FVec Ideal S2048x1024 .bf16) k0_pay1 (part 0 q Y : FVec Ideal S2048x896 .bf16))
        (part 2048 q Y : FVec Ideal S2048x896 .bf16))
      = (slab p q fun r j => ∑ k ∈ Finset.range 4096, X k r * Y k j : FVec Ideal S1x1024x896 .bf16) := by
  unfold k0_pay3 k0_pay2 k0_pay1
  dsimp only
  rw [shapeCast_self, shapeCast_self, shapeCast_self, two_tn X Y dot_S2048x1024_S2048x896_S1024x896_0_0_1_1_n_n rfl rfl
    (fun j k => by funext a; fin_cases a <;> rfl) (fun j k => by funext a; fin_cases a <;> rfl), part_trunc, part_stack]

theorem e0 : ∀ t : Fin cfg0.N, win0_0.index t = ![t.val % 2, t.val / 14] := (by decide +kernel : ∀ t : Fin grid0.N, _)
theorem e1 : ∀ t : Fin cfg0.N, win0_1.index t = ![t.val % 2, t.val / 2 % 7] := (by decide +kernel : ∀ t : Fin grid0.N, _)
theorem e2 : ∀ t : Fin cfg0.N, win0_2.index t = ![0, t.val / 14, t.val / 2 % 7] := (by decide +kernel : ∀ t : Fin grid0.N, _)
theorem whole2 : ∀ (t : Fin cfg0.N) (a), win0_2.xsize (grid0.coords t) a = win0_2.size a := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl), Or.inl (whole2 t a)⟩⟩

variable (m : (ℓ : Loc nD τ sig) → Buf (Elt Ideal) ℓ) (c : Dev nD) (t : Fin cfg0.N) (X Y : ℕ → ℕ → EReal)
  (h : (V m c main_arg0 : FVec Ideal S4096x2048 .bf16) = (mat X : FVec Ideal S4096x2048 .bf16))
  (h' : (V m c main_arg1 : FVec Ideal S4096x6272 .bf16) = (mat Y : FVec Ideal S4096x6272 .bf16))

include h in
theorem blk0 : iblk m c 0 t = (part (t.val % 2 * 2048) (t.val / 14 * 1024) X : FVec Ideal S2048x1024 .bf16) := by
  funext y
  blk_simp [iblk]
  exact at_part h _ y (by blk_simp [e0]; try rfl) (by blk_simp [e0]; try rfl)
include h' in
theorem blk1 : iblk m c 1 t = (part (t.val % 2 * 2048) (t.val / 2 % 7 * 896) Y : FVec Ideal S2048x896 .bf16) := by
  funext y
  blk_simp [iblk]
  exact at_part h' _ y (by blk_simp [e1]; try rfl) (by blk_simp [e1]; try rfl)

include h h' in
/-- What the second point of a pair stores, from the arrays. -/
theorem outs_eq (ht : t.val % 2 = 1) : (outsAt0 m c t.val t.isLt).1
    = (slab (t.val / 14 * 1024) (t.val / 2 % 7 * 896) fun r j => ∑ k ∈ Finset.range 4096, X k r * Y k j : FVec Ideal S1x1024x896 .bf16) := by
  have hp : t.val - 1 < cfg0.N := Nat.lt_of_le_of_lt (Nat.sub_le _ _) t.isLt
  have q1 : (t.val - 1) % 2 = 0 := by omega
  have eA := congrArg Prod.snd (outsAt0_A m c ⟨t.val - 1, hp⟩ q1 (by show ¬ (t.val - 1) % 2 = 1; omega))
  refine (congrArg Prod.fst (outsAt0_B m c t (by omega) ht)).trans ?_
  dsimp only
  rw [out_B, eA, acc_A, blk0 m c t X h, blk1 m c t Y h', blk0 m c ⟨t.val - 1, hp⟩ X h, blk1 m c ⟨t.val - 1, hp⟩ Y h', ht]
  dsimp only
  rw [q1, show (t.val - 1) / 14 = t.val / 14 by omega, show (t.val - 1) / 2 = t.val / 2 by omega]
  exact pay _ _ X Y

include h h' in
/-- The kernel's result array. -/
theorem final : ((dats m 0 c).arrAt 2 cfg0.N : FVec Ideal S1x2048x6272 .bf16)
      = (stack fun _ r j => ∑ k ∈ Finset.range 4096, X k r * Y k j : FVec Ideal S1x2048x6272 .bf16) := by
  refine (dats m 0 c).arrAt_eq_of_covers 2 _ covers fun t hf y => ?_
  blk_simp
  rw [after0_2, outs_eq m c t X Y h h' ((flush0_2 t).mp hf)]
  exact slab_at _ y (by blk_simp [e2]; try rfl) (by blk_simp [e2]; try rfl)

end Cert.GlaInDwIdeal.Gen

namespace Cert.GlaInDwReferenceIdeal

open Facts₀ Facts

/-- The reference's result. -/
theorem value (X Y : ℕ → ℕ → EReal) (A : FVec Ideal S4096x2048 .bf16) (B : FVec Ideal S4096x6272 .bf16)
    (hA : A = (mat X : FVec Ideal S4096x2048 .bf16)) (hB : B = (mat Y : FVec Ideal S4096x6272 .bf16)) :
    broadcastInDim S1x2048x6272 ![1, 2] bcast_S2048x6272_S1x2048x6272_1_2 (truncf .bf16 (transpose S2048x6272 [1, 0]
      (Host.dotGeneral dot_S4096x6272_S4096x2048_S6272x2048_0_0_1_1_n_n none (extf .f32 B bitsLt_bf16_f32) (extf .f32 A bitsLt_bf16_f32))
      transposes_S6272x2048_S2048x6272_1_0) bitsLt_bf16_f32)
      = (stack fun _ r j => ∑ k ∈ Finset.range 4096, X k r * Y k j : FVec Ideal S1x2048x6272 .bf16) := by
  subst hA hB
  rw [mat_ext, mat_ext, mat_dw _ _ dot_S4096x6272_S4096x2048_S6272x2048_0_0_1_1_n_n rfl rfl (fun j k => by funext a; fin_cases a <;> rfl)
    (fun j k => by funext a; fin_cases a <;> rfl), mat_trunc, mat_lift _ (by decide) (by decide)]

end Cert.GlaInDwReferenceIdeal

namespace Cert.Proof

theorem algebraic_gla_in_dw : Cert.algebraic_GlaInDwIdeal_GlaInDwReferenceIdeal := by
  intro m g m' g' _ hagree
  choose X hX using fun c => exists_mat (Cert.GlaInDwIdeal.Gen.V m c Cert.GlaInDwIdeal.main_arg0 : FVec Ideal Cert.GlaInDwIdeal.S4096x2048 .bf16)
  choose Y hY using fun c => exists_mat (Cert.GlaInDwIdeal.Gen.V m c Cert.GlaInDwIdeal.main_arg1 : FVec Ideal Cert.GlaInDwIdeal.S4096x6272 .bf16)
  exact ⟨fun c => (stack fun _ r j => ∑ k ∈ Finset.range 4096, X c k r * Y c k j : FVec Ideal Cert.GlaInDwIdeal.S1x2048x6272 .bf16),
    (θ_run Cert.GlaInDwIdeal.defs _ _).mono (fun r h c => ⟨(h c).1.trans (Cert.GlaInDwIdeal.Gen.final m c _ _ (hX c) (hY c)), (h c).2⟩)
      (Cert.GlaInDwIdeal.Value.run_blocks m g),
    (θ_run Cert.GlaInDwReferenceIdeal.defs _ _).mono (fun r h c => ⟨(h c).1.trans (Cert.GlaInDwReferenceIdeal.value _ _ _ _
      ((hagree c).1.trans (hX c)) ((hagree c).2.trans (hY c))), (h c).2⟩) (Cert.GlaInDwReferenceIdeal.Value.run m' g')⟩

theorem frame_gla_in_dw_reference : Cert.quiescent_GlaInDwReferenceIdeal := fun m ρ _ =>
  (θ_run Cert.GlaInDwReferenceIdeal.defs _ _).mono
    (fun r h => ⟨fun c => (h c).2, sem_eq_zero_of_no_sems (by decide) r.2⟩) (Cert.GlaInDwReferenceIdeal.Value.run m ρ)

end Cert.Proof

end
-- ==== Proof.GlaOutDw.lean ====
/- The weight gradient of the recurrent layer's output projection. Two consecutive grid points add the products of two blocks of
   rows; the reference transposes the derivative's product. Both end at the products summed over all rows. -/
module

public import proofs.«01_k».proof.Defs
public import proofs.«01_k».proof.Proof.Product
public import proofs.«01_k».proof.Proof.Gen.GlaOutDwIdeal.Value
public import proofs.«01_k».proof.Proof.Gen.GlaOutDwReferenceIdeal
public import proofs.«01_k».proof.Proof.Gen.GlaOutDwReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.GlaOutDwIdeal.Gen

/-- What the first point of a pair leaves in the accumulator, and what the second stores. -/
theorem acc_A {F : FTy → Type} [FloatOps F] (c : Dev nD) (i : grid0.Coords) (arg3 harg3 arg4 harg4 arg5 harg5 arg6 harg6 hc0 hc1)
    (x0 : Vec F S2048x1024 .bf16) (x1 : Vec F S2048x1024 .f32) :
    sout0_A_0 c i arg3 harg3 arg4 harg4 arg5 harg5 arg6 harg6 hc0 hc1 x0 x1 = k0_pay2 x0 k0_pay1 x1 := by
  unfold sout0_A_0 kernelRun0_A
  refine (View.read_writes_full _ _ _ _ _).trans (congr (congrArg₂ k0_pay2 ?_ ?_) ?_)
  · exact (View.readAt_full _ _ _).trans (harg3.read_unread x0)
  · exact View.readCov_full _ _ _ _ _
  · exact (View.readAt_full _ _ _).trans (harg4.read_unread x1)
theorem out_B {F : FTy → Type} [FloatOps F] (c : Dev nD) (i : grid0.Coords) (arg3 harg3 arg4 harg4 arg5 harg5 arg6 harg6 hc0 hc1)
    (x0 : Vec F S2048x1024 .bf16) (x1 : Vec F S2048x1024 .f32) (s : Vec F S1024x1024 .f32) :
    out0_B_2 c i arg3 harg3 arg4 harg4 arg5 harg5 arg6 harg6 hc0 hc1 x0 x1 s = k0_pay3 (k0_pay2 x0 s x1) := by
  unfold out0_B_2 kernelRun0_B
  refine (View.read_writes_full _ _ _ _ _).trans (congrArg k0_pay3 ((View.readCov_full _ _ _ _ _).trans (congr (congrArg₂ k0_pay2 ?_ ?_) ?_)))
  · exact (View.readAt_full _ _ _).trans (harg3.read_unread x0)
  · exact (View.readAt_full _ _ _).trans (harg6.read_unread s)
  · exact (View.readAt_full _ _ _).trans (harg4.read_unread x1)

/-- The output's gradient is rounded before its product, which leaves the ideal values as they are. -/
theorem pay (p q : ℕ) (X Y : ℕ → ℕ → EReal) :
    k0_pay3 (k0_pay2 (part 2048 p X : FVec Ideal S2048x1024 .bf16)
        (k0_pay2 (part 0 p X : FVec Ideal S2048x1024 .bf16) k0_pay1 (part 0 q Y : FVec Ideal S2048x1024 .f32))
        (part 2048 q Y : FVec Ideal S2048x1024 .f32))
      = (slab p q fun r j => ∑ k ∈ Finset.range 4096, X k r * Y k j : FVec Ideal S1x1024x1024 .bf16) := by
  unfold k0_pay3 k0_pay2 k0_pay1
  dsimp only
  simp only [shapeCast_self, part_trunc]
  rw [two_tn X Y dot_S2048x1024_S2048x1024_S1024x1024_0_0_1_1_n_n rfl rfl
    (fun j k => by funext a; fin_cases a <;> rfl) (fun j k => by funext a; fin_cases a <;> rfl), part_trunc, part_stack]

theorem e0 : ∀ t : Fin cfg0.N, win0_0.index t = ![t.val % 2, t.val / 4] := (by decide +kernel : ∀ t : Fin grid0.N, _)
theorem e1 : ∀ t : Fin cfg0.N, win0_1.index t = ![t.val % 2, t.val / 2 % 2] := (by decide +kernel : ∀ t : Fin grid0.N, _)
theorem e2 : ∀ t : Fin cfg0.N, win0_2.index t = ![0, t.val / 4, t.val / 2 % 2] := (by decide +kernel : ∀ t : Fin grid0.N, _)

variable (m : (ℓ : Loc nD τ sig) → Buf (Elt Ideal) ℓ) (c : Dev nD) (t : Fin cfg0.N) (X Y : ℕ → ℕ → EReal)
  (h : (V m c main_arg0 : FVec Ideal S4096x2048 .bf16) = (mat X : FVec Ideal S4096x2048 .bf16))
  (h' : (V m c main_arg1 : FVec Ideal S4096x2048 .f32) = (mat Y : FVec Ideal S4096x2048 .f32))

include h in
theorem blk0 : iblk m c 0 t = (part (t.val % 2 * 2048) (t.val / 4 * 1024) X : FVec Ideal S2048x1024 .bf16) := by
  funext y
  blk_simp [iblk]
  exact at_part h _ y (by blk_simp [e0]; try rfl) (by blk_simp [e0]; try rfl)
include h' in
theorem blk1 : iblk m c 1 t = (part (t.val % 2 * 2048) (t.val / 2 % 2 * 1024) Y : FVec Ideal S2048x1024 .f32) := by
  funext y
  blk_simp [iblk]
  exact at_part h' _ y (by blk_simp [e1]; try rfl) (by blk_simp [e1]; try rfl)

include h h' in
theorem outs_eq (ht : t.val % 2 = 1) : (outsAt0 m c t.val t.isLt).1
    = (slab (t.val / 4 * 1024) (t.val / 2 % 2 * 1024) fun r j => ∑ k ∈ Finset.range 4096, X k r * Y k j : FVec Ideal S1x1024x1024 .bf16) := by
  have hp : t.val - 1 < cfg0.N := Nat.lt_of_le_of_lt (Nat.sub_le _ _) t.isLt
  have q1 : (t.val - 1) % 2 = 0 := by omega
  refine (congrArg Prod.fst (outsAt0_B m c t (by omega) ht)).trans ?_
  dsimp only
  rw [out_B, congrArg Prod.snd (outsAt0_A m c ⟨t.val - 1, hp⟩ q1 (by show ¬ (t.val - 1) % 2 = 1; omega)), acc_A, blk0 m c t X h,
    blk1 m c t Y h', blk0 m c ⟨t.val - 1, hp⟩ X h, blk1 m c ⟨t.val - 1, hp⟩ Y h', ht]
  dsimp only
  rw [q1, show (t.val - 1) / 4 = t.val / 4 by omega, show (t.val - 1) / 2 = t.val / 2 by omega]
  exact pay _ _ X Y

include h h' in
/-- The kernel's result array. -/
theorem final (hc : (cfg0.win 2).Covers) : ((dats m 0 c).arrAt 2 cfg0.N : FVec Ideal S1x2048x2048 .bf16)
      = (stack fun _ r j => ∑ k ∈ Finset.range 4096, X k r * Y k j : FVec Ideal S1x2048x2048 .bf16) := by
  refine (dats m 0 c).arrAt_eq_of_covers 2 _ hc fun t hf y => ?_
  blk_simp
  rw [after0_2, outs_eq m c t X Y h h' ((flush0_2 t).mp hf)]
  exact slab_at _ y (by blk_simp [e2]; try rfl) (by blk_simp [e2]; try rfl)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl),
    Or.inl ((by decide +kernel : ∀ (t : Fin grid0.N) (a), win0_2.xsize (grid0.coords t) a = win0_2.size a) t a)⟩⟩

end Cert.GlaOutDwIdeal.Gen

namespace Cert.GlaOutDwReferenceIdeal

open Facts₀ Facts

/-- The reference's result. -/
theorem value (X Y : ℕ → ℕ → EReal) (A : FVec Ideal S4096x2048 .bf16) (B : FVec Ideal S4096x2048 .f32)
    (hA : A = (mat X : FVec Ideal S4096x2048 .bf16)) (hB : B = (mat Y : FVec Ideal S4096x2048 .f32)) :
    broadcastInDim S1x2048x2048 ![1, 2] bcast_S2048x2048_S1x2048x2048_1_2 (truncf .bf16 (transpose S2048x2048 [1, 0]
      (Host.dotGeneral dot_S4096x2048_S4096x2048_S2048x2048_0_0_1_1_n_n none B (extf .f32 A bitsLt_bf16_f32))
      transposes_S2048x2048_S2048x2048_1_0) bitsLt_bf16_f32)
      = (stack fun _ r j => ∑ k ∈ Finset.range 4096, X k r * Y k j : FVec Ideal S1x2048x2048 .bf16) := by
  subst hA hB
  rw [mat_ext, mat_dw _ _ dot_S4096x2048_S4096x2048_S2048x2048_0_0_1_1_n_n rfl rfl (fun j k => by funext a; fin_cases a <;> rfl)
    (fun j k => by funext a; fin_cases a <;> rfl), mat_trunc, mat_lift _ (by decide) (by decide)]

end Cert.GlaOutDwReferenceIdeal

namespace Cert.Proof

theorem algebraic_gla_out_dw : Cert.algebraic_GlaOutDwIdeal_GlaOutDwReferenceIdeal := by
  intro m g m' g' _ hagree
  choose X hX using fun c => exists_mat (Cert.GlaOutDwIdeal.Gen.V m c Cert.GlaOutDwIdeal.main_arg0 : FVec Ideal Cert.GlaOutDwIdeal.S4096x2048 .bf16)
  choose Y hY using fun c => exists_mat (Cert.GlaOutDwIdeal.Gen.V m c Cert.GlaOutDwIdeal.main_arg1 : FVec Ideal Cert.GlaOutDwIdeal.S4096x2048 .f32)
  exact ⟨fun c => (stack fun _ r j => ∑ k ∈ Finset.range 4096, X c k r * Y c k j : FVec Ideal Cert.GlaOutDwIdeal.S1x2048x2048 .bf16),
    (θ_run Cert.GlaOutDwIdeal.defs _ _).mono (fun r h c => ⟨(h c).1.trans (Cert.GlaOutDwIdeal.Gen.final m c _ _ (hX c) (hY c)
      Cert.GlaOutDwIdeal.Gen.covers), (h c).2⟩) (Cert.GlaOutDwIdeal.Value.run_blocks m g),
    (θ_run Cert.GlaOutDwReferenceIdeal.defs _ _).mono (fun r h c => ⟨(h c).1.trans (Cert.GlaOutDwReferenceIdeal.value _ _ _ _
      ((hagree c).1.trans (hX c)) ((hagree c).2.trans (hY c))), (h c).2⟩) (Cert.GlaOutDwReferenceIdeal.Value.run m' g')⟩

theorem frame_gla_out_dw_reference : Cert.quiescent_GlaOutDwReferenceIdeal := fun m ρ _ =>
  (θ_run Cert.GlaOutDwReferenceIdeal.defs _ _).mono
    (fun r h => ⟨fun c => (h c).2, sem_eq_zero_of_no_sems (by decide) r.2⟩) (Cert.GlaOutDwReferenceIdeal.Value.run m ρ)

end Cert.Proof

end
-- ==== Proof.DsaOutDw.lean ====
/- The weight gradient of the attention's output projection. Both factors arrive unrounded and are rounded before the products; two
   consecutive grid points add the products of two blocks of rows, and kernel and reference end at the sums over all rows. -/
module

public import proofs.«01_k».proof.Defs
public import proofs.«01_k».proof.Proof.Product
public import proofs.«01_k».proof.Proof.Gen.DsaOutDwIdeal.Value
public import proofs.«01_k».proof.Proof.Gen.DsaOutDwReferenceIdeal
public import proofs.«01_k».proof.Proof.Gen.DsaOutDwReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.DsaOutDwIdeal.Gen

/-- What the first point of a pair leaves in the accumulator, and what the second stores. -/
theorem acc_A {F : FTy → Type} [FloatOps F] (c : Dev nD) (i : grid0.Coords) (arg3 harg3 arg4 harg4 arg5 harg5 arg6 harg6 hc0 hc1)
    (x0 x1 : Vec F S2048x1024 .f32) :
    sout0_A_0 c i arg3 harg3 arg4 harg4 arg5 harg5 arg6 harg6 hc0 hc1 x0 x1 = k0_pay2 x0 k0_pay1 x1 := by
  unfold sout0_A_0 kernelRun0_A
  refine (View.read_writes_full _ _ _ _ _).trans (congr (congrArg₂ k0_pay2 ?_ ?_) ?_)
  · exact (View.readAt_full _ _ _).trans (harg3.read_unread x0)
  · exact View.readCov_full _ _ _ _ _
  · exact (View.readAt_full _ _ _).trans (harg4.read_unread x1)
theorem out_B {F : FTy → Type} [FloatOps F] (c : Dev nD) (i : grid0.Coords) (arg3 harg3 arg4 harg4 arg5 harg5 arg6 harg6 hc0 hc1)
    (x0 x1 : Vec F S2048x1024 .f32) (s : Vec F S1024x1024 .f32) :
    out0_B_2 c i arg3 harg3 arg4 harg4 arg5 harg5 arg6 harg6 hc0 hc1 x0 x1 s = k0_pay3 (k0_pay2 x0 s x1) := by
  unfold out0_B_2 kernelRun0_B
  refine (View.read_writes_full _ _ _ _ _).trans (congrArg k0_pay3 ((View.readCov_full _ _ _ _ _).trans (congr (congrArg₂ k0_pay2 ?_ ?_) ?_)))
  · exact (View.readAt_full _ _ _).trans (harg3.read_unread x0)
  · exact (View.readAt_full _ _ _).trans (harg6.read_unread s)
  · exact (View.readAt_full _ _ _).trans (harg4.read_unread x1)

theorem pay (p q : ℕ) (X Y : ℕ → ℕ → EReal) :
    k0_pay3 (k0_pay2 (part 2048 p X : FVec Ideal S2048x1024 .f32)
        (k0_pay2 (part 0 p X : FVec Ideal S2048x1024 .f32) k0_pay1 (part 0 q Y : FVec Ideal S2048x1024 .f32))
        (part 2048 q Y : FVec Ideal S2048x1024 .f32))
      = (slab p q fun r j => ∑ k ∈ Finset.range 4096, X k r * Y k j : FVec Ideal S1x1024x1024 .bf16) := by
  unfold k0_pay3 k0_pay2 k0_pay1
  dsimp only
  simp only [shapeCast_self, part_trunc]
  rw [two_tn X Y dot_S2048x1024_S2048x1024_S1024x1024_0_0_1_1_n_n rfl rfl
    (fun j k => by funext a; fin_cases a <;> rfl) (fun j k => by funext a; fin_cases a <;> rfl), part_trunc, part_stack]

theorem e0 : ∀ t : Fin cfg0.N, win0_0.index t = ![t.val % 2, t.val / 4] := (by decide +kernel : ∀ t : Fin grid0.N, _)
theorem e1 : ∀ t : Fin cfg0.N, win0_1.index t = ![t.val % 2, t.val / 2 % 2] := (by decide +kernel : ∀ t : Fin grid0.N, _)
theorem e2 : ∀ t : Fin cfg0.N, win0_2.index t = ![0, t.val / 4, t.val / 2 % 2] := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl),
    Or.inl ((by decide +kernel : ∀ (t : Fin grid0.N) (a), win0_2.xsize (grid0.coords t) a = win0_2.size a) t a)⟩⟩

/-- The kernel's result array: the second point of every pair stores its block of the sums. -/
theorem final (m : (ℓ : Loc nD τ sig) → Buf (Elt Ideal) ℓ) (c : Dev nD) (X Y : ℕ → ℕ → EReal)
    (h : (V m c main_arg0 : FVec Ideal S4096x2048 .f32) = (mat X : FVec Ideal S4096x2048 .f32))
    (h' : (V m c main_arg1 : FVec Ideal S4096x2048 .f32) = (mat Y : FVec Ideal S4096x2048 .f32)) :
    ((dats m 0 c).arrAt 2 cfg0.N : FVec Ideal S1x2048x2048 .bf16)
      = (stack fun _ r j => ∑ k ∈ Finset.range 4096, X k r * Y k j : FVec Ideal S1x2048x2048 .bf16) := by
  have b0 : ∀ t, iblk m c 0 t = (part (t.val % 2 * 2048) (t.val / 4 * 1024) X : FVec Ideal S2048x1024 .f32) := fun t => funext fun y => by
    blk_simp [iblk]
    exact at_part h _ y (by blk_simp [e0]; try rfl) (by blk_simp [e0]; try rfl)
  have b1 : ∀ t, iblk m c 1 t = (part (t.val % 2 * 2048) (t.val / 2 % 2 * 1024) Y : FVec Ideal S2048x1024 .f32) := fun t => funext fun y => by
    blk_simp [iblk]
    exact at_part h' _ y (by blk_simp [e1]; try rfl) (by blk_simp [e1]; try rfl)
  refine (dats m 0 c).arrAt_eq_of_covers 2 _ covers fun t hf y => ?_
  have ht : t.val % 2 = 1 := (flush0_2 t).mp hf
  have hp : t.val - 1 < cfg0.N := Nat.lt_of_le_of_lt (Nat.sub_le _ _) t.isLt
  have q1 : (t.val - 1) % 2 = 0 := by omega
  have hs : (outsAt0 m c t.val t.isLt).1 = (slab (t.val / 4 * 1024) (t.val / 2 % 2 * 1024)
      fun r j => ∑ k ∈ Finset.range 4096, X k r * Y k j : FVec Ideal S1x1024x1024 .bf16) := by
    refine (congrArg Prod.fst (outsAt0_B m c t (by omega) ht)).trans ?_
    dsimp only
    rw [out_B, congrArg Prod.snd (outsAt0_A m c ⟨t.val - 1, hp⟩ q1 (by show ¬ (t.val - 1) % 2 = 1; omega)), acc_A, b0, b1, b0, b1, ht]
    dsimp only
    rw [q1, show (t.val - 1) / 4 = t.val / 4 by omega, show (t.val - 1) / 2 = t.val / 2 by omega]
    exact pay _ _ X Y
  blk_simp
  rw [after0_2, hs]
  exact slab_at _ y (by blk_simp [e2]; try rfl) (by blk_simp [e2]; try rfl)

end Cert.DsaOutDwIdeal.Gen

namespace Cert.DsaOutDwReferenceIdeal

open Facts₀ Facts

/-- The reference's result. -/
theorem value (X Y : ℕ → ℕ → EReal) (A B : FVec Ideal S4096x2048 .f32)
    (hA : A = (mat X : FVec Ideal S4096x2048 .f32)) (hB : B = (mat Y : FVec Ideal S4096x2048 .f32)) :
    broadcastInDim S1x2048x2048 ![1, 2] bcast_S2048x2048_S1x2048x2048_1_2 (truncf .bf16 (transpose S2048x2048 [1, 0]
      (Host.dotGeneral dot_S4096x2048_S4096x2048_S2048x2048_0_0_1_1_n_n none B A) transposes_S2048x2048_S2048x2048_1_0) bitsLt_bf16_f32)
      = (stack fun _ r j => ∑ k ∈ Finset.range 4096, X k r * Y k j : FVec Ideal S1x2048x2048 .bf16) := by
  subst hA hB
  rw [mat_dw _ _ dot_S4096x2048_S4096x2048_S2048x2048_0_0_1_1_n_n rfl rfl (fun j k => by funext a; fin_cases a <;> rfl)
    (fun j k => by funext a; fin_cases a <;> rfl), mat_trunc, mat_lift _ (by decide) (by decide)]

end Cert.DsaOutDwReferenceIdeal

namespace Cert.Proof

theorem algebraic_dsa_out_dw : Cert.algebraic_DsaOutDwIdeal_DsaOutDwReferenceIdeal := by
  intro m g m' g' _ hagree
  choose X hX using fun c => exists_mat (Cert.DsaOutDwIdeal.Gen.V m c Cert.DsaOutDwIdeal.main_arg0 : FVec Ideal Cert.DsaOutDwIdeal.S4096x2048 .f32)
  choose Y hY using fun c => exists_mat (Cert.DsaOutDwIdeal.Gen.V m c Cert.DsaOutDwIdeal.main_arg1 : FVec Ideal Cert.DsaOutDwIdeal.S4096x2048 .f32)
  exact ⟨fun c => (stack fun _ r j => ∑ k ∈ Finset.range 4096, X c k r * Y c k j : FVec Ideal Cert.DsaOutDwIdeal.S1x2048x2048 .bf16),
    (θ_run Cert.DsaOutDwIdeal.defs _ _).mono (fun r h c => ⟨(h c).1.trans (Cert.DsaOutDwIdeal.Gen.final m c _ _ (hX c) (hY c)), (h c).2⟩)
      (Cert.DsaOutDwIdeal.Value.run_blocks m g),
    (θ_run Cert.DsaOutDwReferenceIdeal.defs _ _).mono (fun r h c => ⟨(h c).1.trans (Cert.DsaOutDwReferenceIdeal.value _ _ _ _
      ((hagree c).1.trans (hX c)) ((hagree c).2.trans (hY c))), (h c).2⟩) (Cert.DsaOutDwReferenceIdeal.Value.run m' g')⟩

theorem frame_dsa_out_dw_reference : Cert.quiescent_DsaOutDwReferenceIdeal := fun m ρ _ =>
  (θ_run Cert.DsaOutDwReferenceIdeal.defs _ _).mono
    (fun r h => ⟨fun c => (h c).2, sem_eq_zero_of_no_sems (by decide) r.2⟩) (Cert.DsaOutDwReferenceIdeal.Value.run m ρ)

end Cert.Proof

end
-- ==== Proof.OutDx.lean ====
/- The input gradient of an output projection. Each grid point multiplies a block of rows of the output's gradient by a block of
   rows of the weight; the reference multiplies all rows by all rows. Both end at the same products. -/
module

public import proofs.«01_k».proof.Defs
public import proofs.«01_k».proof.Proof.Product
public import proofs.«01_k».proof.Proof.Gen.OutDxIdeal.Value
public import proofs.«01_k».proof.Proof.Gen.OutDxReferenceIdeal
public import proofs.«01_k».proof.Proof.Gen.OutDxReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product

namespace Cert.OutDxIdeal.Gen

/-- What a grid point stores, from its two blocks. -/
theorem out_A {F : FTy → Type} [FloatOps F] (c : Dev nD) (i : grid0.Coords) (arg3 harg3 arg4 harg4 arg5 harg5 arg6 harg6) (hc0 hc1)
    (x0 : Vec F S1024x2048 .f32) (x1 : Vec F S1x1024x2048 .bf16) :
    out0_A_2 c i arg3 harg3 arg4 harg4 arg5 harg5 arg6 harg6 hc0 hc1 x0 x1 = k0_pay2 k0_pay1 x0 x1 := by
  unfold out0_A_2 kernelRun0_A
  refine (View.read_writes_full _ _ _ _ []).trans ((View.readCov_full _ _ _ _ _).trans (congr (congrArg₂ k0_pay2 ?_ ?_) ?_))
  · exact View.readCov_full _ _ _ _ _
  · exact (View.readAt_full _ _ _).trans (harg3.read_unread x0)
  · exact (View.readAt_full _ _ _).trans (harg4.read_unread x1)

theorem pay (n p : ℕ) (X Y : ℕ → ℕ → EReal) :
    k0_pay2 k0_pay1 (part n 0 X : FVec Ideal S1024x2048 .f32) (slab p 0 Y : FVec Ideal S1x1024x2048 .bf16)
      = (part n p fun r j => ∑ k ∈ Finset.range 2048, X r k * Y j k : FVec Ideal S1024x1024 .f32) := by
  unfold k0_pay2 k0_pay1
  dsimp only
  rw [shapeCast_self, shapeCast_self, part_drop, part_trunc, one_nt X Y dot_S1024x2048_S1024x2048_S1024x1024_1_1_0_0_n_n rfl rfl
    (fun j k => by funext a; fin_cases a <;> rfl) (fun j k => by funext a; fin_cases a <;> rfl)]

theorem e0 : ∀ t : Fin cfg0.N, win0_0.index t = ![t.val / 2, 0] := (by decide +kernel : ∀ t : Fin grid0.N, _)
theorem e1 : ∀ t : Fin cfg0.N, win0_1.index t = ![0, t.val % 2, 0] := (by decide +kernel : ∀ t : Fin grid0.N, _)
theorem e2 : ∀ t : Fin cfg0.N, win0_2.index t = ![t.val / 2, t.val % 2] := (by decide +kernel : ∀ t : Fin grid0.N, _)

variable (m : (ℓ : Loc nD τ sig) → Buf (Elt Ideal) ℓ) (c : Dev nD) (t : Fin cfg0.N) (X : ℕ → ℕ → EReal) (W : ℕ → ℕ → ℕ → EReal)
  (h : (V m c main_arg0 : FVec Ideal S4096x2048 .f32) = (mat X : FVec Ideal S4096x2048 .f32))
  (h' : (V m c main_arg1 : FVec Ideal S1x2048x2048 .bf16) = (stack W : FVec Ideal S1x2048x2048 .bf16))

include h in
theorem blk0 : iblk m c 0 t = (part (t.val / 2 * 1024) 0 X : FVec Ideal S1024x2048 .f32) := by
  funext y
  blk_simp [iblk]
  exact at_part h _ y (by blk_simp [e0]; try rfl) (by blk_simp [e0]; try rfl)
include h' in
theorem blk1 : iblk m c 1 t = (slab (t.val % 2 * 1024) 0 (W 0) : FVec Ideal S1x1024x2048 .bf16) := by
  funext y
  blk_simp [iblk]
  exact at_slab h' _ y (by blk_simp [e1]; try rfl) (by blk_simp [e1]; try rfl) (by blk_simp [e1]; try rfl)

include h h' in
/-- The kernel's result array. -/
theorem final : ((dats m 0 c).arrAt 2 cfg0.N : FVec Ideal S4096x2048 .f32)
      = (mat fun r j => ∑ k ∈ Finset.range 2048, X r k * W 0 j k : FVec Ideal S4096x2048 .f32) := by
  refine (dats m 0 c).arrAt_eq_of_covers 2 _ (by decide +kernel) fun t hf y => ?_
  blk_simp
  rw [after0_2]
  unfold outsAt0
  rw [out_A, blk0 m c t X h, blk1 m c t W h', pay]
  exact (at_part rfl _ y (by blk_simp [e2]; try rfl) (by blk_simp [e2]; try rfl)).symm

end Cert.OutDxIdeal.Gen

namespace Cert.OutDxReferenceIdeal

open Facts₀ Facts

/-- The reference's result. -/
theorem value (X : ℕ → ℕ → EReal) (W : ℕ → ℕ → ℕ → EReal) (A : FVec Ideal S4096x2048 .f32) (B : FVec Ideal S1x2048x2048 .bf16)
    (hA : A = (mat X : FVec Ideal S4096x2048 .f32)) (hB : B = (stack W : FVec Ideal S1x2048x2048 .bf16)) :
    Host.dotGeneral dot_S4096x2048_S2048x2048_S4096x2048_1_1_0_0_n_n none A
      (extf .f32 (shapeCast S2048x2048 B shapeCasts_S1x2048x2048_S2048x2048) bitsLt_bf16_f32)
      = (mat fun r j => ∑ k ∈ Finset.range 2048, X r k * W 0 j k : FVec Ideal S4096x2048 .f32) := by
  subst hA hB
  rw [stack_only, mat_ext, mat_nt _ _ dot_S4096x2048_S2048x2048_S4096x2048_1_1_0_0_n_n rfl rfl
    (fun j k => by funext a; fin_cases a <;> rfl) (fun j k => by funext a; fin_cases a <;> rfl)]

end Cert.OutDxReferenceIdeal

namespace Cert.Proof

theorem algebraic_out_dx : Cert.algebraic_OutDxIdeal_OutDxReferenceIdeal := by
  intro m g m' g' _ hagree
  choose X hX using fun c => exists_mat (Cert.OutDxIdeal.Gen.V m c Cert.OutDxIdeal.main_arg0 : FVec Ideal Cert.OutDxIdeal.S4096x2048 .f32)
  choose W hW using fun c => exists_stack (Cert.OutDxIdeal.Gen.V m c Cert.OutDxIdeal.main_arg1 : FVec Ideal Cert.OutDxIdeal.S1x2048x2048 .bf16)
  exact ⟨fun c => (mat fun r j => ∑ k ∈ Finset.range 2048, X c r k * W c 0 j k : FVec Ideal Cert.OutDxIdeal.S4096x2048 .f32),
    (θ_run Cert.OutDxIdeal.defs _ _).mono (fun r h c => ⟨(h c).1.trans (Cert.OutDxIdeal.Gen.final m c _ _ (hX c) (hW c)), (h c).2⟩)
      (Cert.OutDxIdeal.Value.run_blocks m g),
    (θ_run Cert.OutDxReferenceIdeal.defs _ _).mono (fun r h c => ⟨(h c).1.trans (Cert.OutDxReferenceIdeal.value _ _ _ _
      ((hagree c).1.trans (hX c)) ((hagree c).2.trans (hW c))), (h c).2⟩) (Cert.OutDxReferenceIdeal.Value.run m' g')⟩

theorem frame_out_dx_reference : Cert.quiescent_OutDxReferenceIdeal := fun m ρ _ =>
  (θ_run Cert.OutDxReferenceIdeal.defs _ _).mono
    (fun r h => ⟨fun c => (h c).2, sem_eq_zero_of_no_sems (by decide) r.2⟩) (Cert.OutDxReferenceIdeal.Value.run m ρ)

end Cert.Proof

end
-- ==== Proof.Shards.lean ====
/- Kernels that accumulate two shards of a result at one grid point. Their scratch is a stack of two matrices, of which each is loaded
   and stored by itself; a shard's factor is half of the columns of the block that the point has. -/
module

public import proofs.«01_k».proof.Proof.Product
public import Idealize.ShloMosaic.Lib.VecWindow
public import Idealize.ShloMosaic.Lib.Pipeline.ReadBack

@[expose] public section

noncomputable section

open scoped BigOperators

namespace Cert.Shards

open Idealize.ShloMosaic Idealize.ShloMosaic.ValueIdx Cert.Product Cert.RealOps

variable {α : Type} {a b : ℕ}

/-- Two matrices, each given as a stack of one, as a stack of two. -/
def both (w w' : (⟨3, ![1, a, b]⟩ : Shape).Idx → α) : (⟨3, ![2, a, b]⟩ : Shape).Idx → α :=
  fun y => if (y 0).val = 0 then w (ix3 (0 : Fin 1) (y 1 : Fin a) (y 2 : Fin b)) else w' (ix3 (0 : Fin 1) (y 1 : Fin a) (y 2 : Fin b))

section stores

variable {sig : RefSig} {κ : Kind} {sp : Space} {e : EltTy} {Val : EltTy → Type} (v : View sig κ sp ⟨3, ![2, a, b]⟩ e)
  (inb : ∀ x, (![1, 0, 0] : Fin 3 → ℕ) x + (![1, a, b] : Fin 3 → ℕ) x ≤ (⟨3, ![2, a, b]⟩ : Shape).size x)
  (inb' : ∀ x, (![0, 0, 0] : Fin 3 → ℕ) x + (![1, a, b] : Fin 3 → ℕ) x ≤ (⟨3, ![2, a, b]⟩ : Shape).size x)
  (w w' : (⟨3, ![1, a, b]⟩ : Shape).Idx → Val e) (L : List (View.Piece Val ⟨3, ![2, a, b]⟩ e))

/-- A store of the one matrix and then of the other leave the stack of the two. -/
theorem read_both (f : v.ty.Contents Val) : v.read Val (v.writes Val f
      (⟨Rect.unit (s := ⟨3, ![2, a, b]⟩) ![1, 0, 0] ![1, a, b] inb, w'⟩ :: ⟨Rect.unit (s := ⟨3, ![2, a, b]⟩) ![0, 0, 0] ![1, a, b] inb', w⟩ :: L))
    = both w w' := by
  funext y
  have h2 : (y 0).val < 2 := (y 0).isLt
  unfold both
  by_cases h : (y 0).val = 0
  · rw [if_pos h]
    refine (View.read_writes_cons_unit_of_not_mem v f inb w' _ y rfl (0 : Fin 3) (Or.inl (by show (y 0).val < 1; omega))).trans ?_
    refine View.read_writes_cons_unit_of_mem v f inb' w L y _ rfl fun x => ?_
    fin_cases x
    · exact h
    · exact (Nat.zero_add _).symm
    · exact (Nat.zero_add _).symm
  · rw [if_neg h]
    refine View.read_writes_cons_unit_of_mem v f inb w' _ y _ rfl fun x => ?_
    fin_cases x
    · show (y 0).val = 1 + 0; omega
    · exact (Nat.zero_add _).symm
    · exact (Nat.zero_add _).symm

/-- The load of the whole stack after the two stores. -/
theorem load_both [∀ e, Nonempty (Val e)] {off : Fin 3 → ℕ} (inbw : ∀ x, off x + (⟨3, ![2, a, b]⟩ : Shape).size x ≤ (⟨3, ![2, a, b]⟩ : Shape).size x) :
    v.readCov (⟨Rect.unit (s := ⟨3, ![2, a, b]⟩) ![1, 0, 0] ![1, a, b] inb, w'⟩ :: ⟨Rect.unit (s := ⟨3, ![2, a, b]⟩) ![0, 0, 0] ![1, a, b] inb', w⟩ :: L)
        (Rect.unit (s := ⟨3, ![2, a, b]⟩) off (⟨3, ![2, a, b]⟩ : Shape).size inbw).toLoadRect
      = both w w' :=
  (View.readAt_full v _ inbw).trans (read_both v inb inb' w w' L v.junk)

end stores

/-- A load of a part of what a view reads. -/
theorem load_window {sig : RefSig} {κ : Kind} {sp : Space} {s : Shape} {e : EltTy} {Val : EltTy → Type} (v : View sig κ sp s e) {f : v.ty.Contents Val}
    {x : s.Idx → Val e} (h : v.read Val f = x) {off size : Fin s.rank → ℕ} (inb : ∀ i, off i + size i ≤ s.size i) :
    v.readAt Val (Rect.unit off size inb).toLoadRect f = VecWindow.window x off size inb := by
  subst h
  rfl

/-- The matrices of the stack, loaded one by one. -/
theorem window_first (w w' : (⟨3, ![1, a, b]⟩ : Shape).Idx → α) (inb) :
    VecWindow.window (both w w') ![0, 0, 0] ![1, a, b] inb = w := by
  funext y
  have hy : (y 0).val = 0 := by have := (y 0).isLt; change _ < 1 at this; omega
  refine (if_pos (show 0 + 1 * (y 0).val = 0 by omega)).trans (congrArg w (funext fun x => Fin.ext ?_))
  fin_cases x
  · exact hy.symm
  · show 0 + 1 * (y 1).val = (y 1).val; omega
  · show 0 + 1 * (y 2).val = (y 2).val; omega
theorem window_second (w w' : (⟨3, ![1, a, b]⟩ : Shape).Idx → α) (inb) :
    VecWindow.window (both w w') ![1, 0, 0] ![1, a, b] inb = w' := by
  funext y
  have hy : (y 0).val = 0 := by have := (y 0).isLt; change _ < 1 at this; omega
  refine (if_neg (show ¬ 1 + 1 * (y 0).val = 0 by omega)).trans (congrArg w' (funext fun x => Fin.ext ?_))
  fin_cases x
  · exact hy.symm
  · show 0 + 1 * (y 1).val = (y 1).val; omega
  · show 0 + 1 * (y 2).val = (y 2).val; omega

variable {φ φ₁ φ₂ : FTy} {n d K p q k0 : ℕ} {X Y : ℕ → ℕ → EReal}

/-- A window of a block of columns is a block, of a matrix and of a stack of one. -/
theorem window_part (o : ℕ) (inb) : VecWindow.window (part k0 q Y : FVec Ideal ⟨2, ![a, b]⟩ φ) ![0, o] ![a, d] inb
    = (part k0 (q + o) Y : FVec Ideal ⟨2, ![a, d]⟩ φ) := by
  funext y
  exact congrArg₂ Y (show k0 + (0 + 1 * (y 0).val) = k0 + (y 0).val by omega) (show q + (o + 1 * (y 1).val) = q + o + (y 1).val by omega)
theorem window_slab (o : ℕ) (inb) : VecWindow.window (slab k0 q Y : FVec Ideal ⟨3, ![1, a, b]⟩ φ) ![0, 0, o] ![1, a, d] inb
    = (slab k0 (q + o) Y : FVec Ideal ⟨3, ![1, a, d]⟩ φ) := by
  funext y
  exact congrArg₂ Y (show k0 + (0 + 1 * (y 1).val) = k0 + (y 1).val by omega) (show q + (o + 1 * (y 2).val) = q + o + (y 2).val by omega)

/-- A step of a shard's accumulation. -/
theorem step_tn (Z : ℕ → ℕ → EReal) (D : DotDims ⟨2, ![K, a]⟩ ⟨2, ![K, b]⟩ ⟨2, ![a, b]⟩) (hr : D.contr.rank = 1) (hs : D.contr.size ⟨0, by omega⟩ = K)
    (hL : ∀ j k, D.lhsIdx j ((contrEquiv1 D K hr hs).symm k) = ix2 k (j 0)) (hR : ∀ j k, D.rhsIdx j ((contrEquiv1 D K hr hs).symm k) = ix2 k (j 1))
    (h : (⟨3, ![1, a, b]⟩ : Shape).ShapeCasts ⟨2, ![a, b]⟩) (h' : (⟨2, ![a, b]⟩ : Shape).ShapeCasts ⟨3, ![1, a, b]⟩) :
    shapeCast ⟨3, ![1, a, b]⟩ (addf (shapeCast ⟨2, ![a, b]⟩ (slab p q Z : FVec Ideal ⟨3, ![1, a, b]⟩ .f32) h)
        (matmul D none (part k0 p X : FVec Ideal _ φ₁) (part k0 q Y : FVec Ideal _ φ₂) (constant _ .f32 0x00000000#32))) h'
      = slab p q fun i j => Z i j + ∑ k : Fin K, X (k0 + k) i * Y (k0 + k) j := by
  rw [part_drop, part_tn X Y D hr hs hL hR, part_add, part_stack]

/-- Two steps from zero, over two blocks of rows. -/
theorem two_steps : (slab p q fun i j => (0 + ∑ k : Fin K, X (0 + k) i * Y (0 + k) j) + ∑ k : Fin K, X (K + k) i * Y (K + k) j : FVec Ideal ⟨3, ![1, a, b]⟩ φ)
    = slab p q fun i j => ∑ k ∈ Finset.range (K + K), X k i * Y k j := by
  funext y
  refine (congrArg (· + _) (sum_first (fun k => X k (p + (y 1).val) * Y k (q + (y 2).val)) K)).trans ?_
  exact sum_more (fun k => X k (p + (y 1).val) * Y k (q + (y 2).val)) K K

/-- An entry of two shards beside each other, from the matrix that the shards are the columns of. -/
theorem both_entry {W : ℕ → ℕ → ℕ → EReal} (h : ∀ s r j, j < b → W s r j = X r (s * b + j)) (B : FVec Ideal ⟨3, ![n, K, b]⟩ φ) (hB : B = stack W)
    (s : ℕ) (z : (⟨3, ![n, K, b]⟩ : Shape).Idx) (y : (⟨3, ![2, a, b]⟩ : Shape).Idx)
    (h0 : (z 0).val = s * 2 + (y 0).val) (h1 : (z 1).val = p + (y 1).val) (h2 : (z 2).val = (y 2).val) :
    both (slab p (s * (2 * b)) X : FVec Ideal ⟨3, ![1, a, b]⟩ φ) (slab p (s * (2 * b) + b) X : FVec Ideal ⟨3, ![1, a, b]⟩ φ) y = B z := by
  have hy : (y 2).val < b := (y 2).isLt
  have hy0 : (y 0).val < 2 := (y 0).isLt
  have e : B z = X (p + (y 1).val) ((s * 2 + (y 0).val) * b + (y 2).val) := by
    refine (congrFun hB z).trans ((h _ _ _ (h2 ▸ hy)).trans ?_)
    rw [h0, h1, h2]
  rw [e]
  by_cases hz : (y 0).val = 0
  · refine (if_pos hz).trans (congrArg (X _) ?_)
    show s * (2 * b) + (y 2).val = _
    rw [hz]; ring
  · refine (if_neg hz).trans (congrArg (X _) ?_)
    show s * (2 * b) + b + (y 2).val = _
    rw [show (y 0).val = 1 by omega]; ring

end Cert.Shards

end
-- ==== Proof.QProjDw.lean ====
/- The weight gradient of the query projection. A grid point adds the products of a block of rows to two shards; two consecutive points
   sum over all rows, and the second stores. The reference transposes the derivative's product and cuts its columns into the shards. -/
module

public import proofs.«01_k».proof.Defs
public import proofs.«01_k».proof.Proof.Shards
public import proofs.«01_k».proof.Proof.Gen.QProjDwIdeal.Value
public import proofs.«01_k».proof.Proof.Gen.QProjDwReferenceIdeal
public import proofs.«01_k».proof.Proof.Gen.QProjDwReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product Cert.Shards

namespace Cert.QProjDwIdeal.Gen

/-- The two halves of a block's columns. -/
abbrev cols {F : FTy → Type} (x : Vec F S2048x1536 .f32) : Vec F S2048x768 .f32 :=
  VecWindow.window x ![0, 0] ![2048, 768] inb_S2048x1536_S2048x768_0_0
abbrev cols' {F : FTy → Type} (x : Vec F S2048x1536 .f32) : Vec F S2048x768 .f32 :=
  VecWindow.window x ![0, 768] ![2048, 768] inb_S2048x1536_S2048x768_0_768
/-- The two matrices of the scratch. -/
abbrev fst {F : FTy → Type} (s : Vec F S2x1024x768 .f32) : Vec F S1x1024x768 .f32 :=
  VecWindow.window s ![0, 0, 0] ![1, 1024, 768] inb_S2x1024x768_S1x1024x768_0_0_0
abbrev snd {F : FTy → Type} (s : Vec F S2x1024x768 .f32) : Vec F S1x1024x768 .f32 :=
  VecWindow.window s ![1, 0, 0] ![1, 1024, 768] inb_S2x1024x768_S1x1024x768_1_0_0
/-- What a point makes of the scratch. -/
abbrev step {F : FTy → Type} [FloatOps F] (x0 : Vec F S2048x1024 .bf16) (x1 : Vec F S2048x1536 .f32) (s : Vec F S2x1024x768 .f32) :
    Vec F S2x1024x768 .f32 :=
  both (k0_pay2 x0 (fst s) (cols x1)) (k0_pay3 x0 (snd s) (cols' x1))

/-- What the first point of a pair leaves in the scratch. -/
theorem acc_A {F : FTy → Type} [FloatOps F] (c : Dev nD) (i : grid0.Coords) (arg3 harg3 arg4 harg4 arg5 harg5 arg6 harg6 hc0 hc1)
    (x0 : Vec F S2048x1024 .bf16) (x1 : Vec F S2048x1536 .f32) :
    sout0_A_0 c i arg3 harg3 arg4 harg4 arg5 harg5 arg6 harg6 hc0 hc1 x0 x1 = step x0 x1 k0_pay1 := by
  unfold sout0_A_0 kernelRun0_A
  refine (read_both _ _ _ _ _ _ _).trans (congrArg₂ both (congr (congrArg₂ k0_pay2 ?_ ?_) ?_) (congr (congrArg₂ k0_pay3 ?_ ?_) ?_))
  · exact (View.readAt_full _ _ _).trans (harg3.read_unread x0)
  · exact View.readCov_fill _ _ _ _ _ (by decide)
  · exact load_window _ (harg4.read_unread x1) _
  · exact (View.readAt_full _ _ _).trans (harg3.read_unread x0)
  · exact (View.readCov_skip _ _ _ _ _ (by decide)).trans (View.readCov_fill _ _ _ _ _ (by decide))
  · exact load_window _ (harg4.read_unread x1) _

/-- What the second point stores. -/
theorem out_B {F : FTy → Type} [FloatOps F] (c : Dev nD) (i : grid0.Coords) (arg3 harg3 arg4 harg4 arg5 harg5 arg6 harg6 hc0 hc1)
    (x0 : Vec F S2048x1024 .bf16) (x1 : Vec F S2048x1536 .f32) (s : Vec F S2x1024x768 .f32) :
    out0_B_2 c i arg3 harg3 arg4 harg4 arg5 harg5 arg6 harg6 hc0 hc1 x0 x1 s = k0_pay4 (step x0 x1 s) := by
  unfold out0_B_2 kernelRun0_B
  refine (View.read_writes_full _ _ _ _ _).trans (congrArg k0_pay4 ((load_both _ _ _ _ _ _ _).trans
    (congrArg₂ both (congr (congrArg₂ k0_pay2 ?_ ?_) ?_) (congr (congrArg₂ k0_pay3 ?_ ?_) ?_))))
  · exact (View.readAt_full _ _ _).trans (harg3.read_unread x0)
  · exact load_window _ (harg6.read_unread s) _
  · exact load_window _ (harg4.read_unread x1) _
  · exact (View.readAt_full _ _ _).trans (harg3.read_unread x0)
  · exact load_window _ (harg6.read_unread s) _
  · exact load_window _ (harg4.read_unread x1) _

variable (p q k0 : ℕ) (X Y Z : ℕ → ℕ → EReal)

theorem start : (k0_pay1 : FVec Ideal S2x1024x768 .f32)
    = both (slab p q fun _ _ => 0 : FVec Ideal S1x1024x768 .f32) (slab p (q + 768) fun _ _ => 0 : FVec Ideal S1x1024x768 .f32) := by
  unfold k0_pay1
  dsimp only
  rw [shapeCast_self]
  exact funext fun y => zero32.trans (ite_self (c := (y 0).val = 0) (0 : EReal)).symm

/-- A point's step, on blocks. -/
theorem step_eq : step (F := Ideal) (part k0 p X : FVec Ideal S2048x1024 .bf16) (part k0 q Y : FVec Ideal S2048x1536 .f32)
      (both (slab p q Z : FVec Ideal S1x1024x768 .f32) (slab p (q + 768) Z : FVec Ideal S1x1024x768 .f32))
    = both (slab p q fun i j => Z i j + ∑ k : Fin 2048, X (k0 + k) i * Y (k0 + k) j : FVec Ideal S1x1024x768 .f32)
        (slab p (q + 768) fun i j => Z i j + ∑ k : Fin 2048, X (k0 + k) i * Y (k0 + k) j : FVec Ideal S1x1024x768 .f32) := by
  unfold step fst snd cols cols' k0_pay2 k0_pay3
  rw [window_first, window_second, window_part, window_part]
  exact congrArg₂ both
    (step_tn Z dot_S2048x1024_S2048x768_S1024x768_0_0_1_1_n_n rfl rfl (fun j k => by funext a; fin_cases a <;> rfl) (fun j k => by funext a; fin_cases a <;> rfl) _ _)
    (step_tn Z dot_S2048x1024_S2048x768_S1024x768_0_0_1_1_n_n rfl rfl (fun j k => by funext a; fin_cases a <;> rfl) (fun j k => by funext a; fin_cases a <;> rfl) _ _)

theorem pay : k0_pay4 (step (F := Ideal) (part 2048 p X : FVec Ideal S2048x1024 .bf16) (part 2048 q Y : FVec Ideal S2048x1536 .f32)
      (step (F := Ideal) (part 0 p X : FVec Ideal S2048x1024 .bf16) (part 0 q Y : FVec Ideal S2048x1536 .f32) (k0_pay1 (F := Ideal))))
    = both (slab p q fun r j => ∑ k ∈ Finset.range 4096, X k r * Y k j : FVec Ideal S1x1024x768 .bf16)
        (slab p (q + 768) fun r j => ∑ k ∈ Finset.range 4096, X k r * Y k j : FVec Ideal S1x1024x768 .bf16) := by
  rw [start p q, step_eq, step_eq]
  exact congrArg₂ both two_steps two_steps

theorem e0 : ∀ t : Fin cfg0.N, win0_0.index t = ![t.val % 2, t.val / 8] := (by decide +kernel : ∀ t : Fin grid0.N, _)
theorem e1 : ∀ t : Fin cfg0.N, win0_1.index t = ![t.val % 2, t.val / 2 % 4] := (by decide +kernel : ∀ t : Fin grid0.N, _)
theorem e2 : ∀ t : Fin cfg0.N, win0_2.index t = ![t.val / 2 % 4, t.val / 8, 0] := (by decide +kernel : ∀ t : Fin grid0.N, _)
theorem whole2 : ∀ (t : Fin cfg0.N) (a), win0_2.xsize (grid0.coords t) a = win0_2.size a := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl), Or.inl (whole2 t a)⟩⟩

variable (m : (ℓ : Loc nD τ sig) → Buf (Elt Ideal) ℓ) (c : Dev nD) (t : Fin cfg0.N)
  (h : (V m c main_arg0 : FVec Ideal S4096x2048 .bf16) = (mat X : FVec Ideal S4096x2048 .bf16))
  (h' : (V m c main_arg1 : FVec Ideal S4096x6144 .f32) = (mat Y : FVec Ideal S4096x6144 .f32))

include h in
theorem blk0 : iblk m c 0 t = (part (t.val % 2 * 2048) (t.val / 8 * 1024) X : FVec Ideal S2048x1024 .bf16) := by
  funext y
  blk_simp [iblk]
  exact at_part h _ y (by blk_simp [e0]; try rfl) (by blk_simp [e0]; try rfl)
include h' in
theorem blk1 : iblk m c 1 t = (part (t.val % 2 * 2048) (t.val / 2 % 4 * 1536) Y : FVec Ideal S2048x1536 .f32) := by
  funext y
  blk_simp [iblk]
  exact at_part h' _ y (by blk_simp [e1]; try rfl) (by blk_simp [e1]; try rfl)

include h h' in
/-- What the second point of a pair stores, from the arrays. -/
theorem outs_eq (ht : t.val % 2 = 1) : (outsAt0 m c t.val t.isLt).1
    = both (slab (t.val / 8 * 1024) (t.val / 2 % 4 * 1536) fun r j => ∑ k ∈ Finset.range 4096, X k r * Y k j : FVec Ideal S1x1024x768 .bf16)
        (slab (t.val / 8 * 1024) (t.val / 2 % 4 * 1536 + 768) fun r j => ∑ k ∈ Finset.range 4096, X k r * Y k j : FVec Ideal S1x1024x768 .bf16) := by
  have hp : t.val - 1 < cfg0.N := Nat.lt_of_le_of_lt (Nat.sub_le _ _) t.isLt
  have q1 : (t.val - 1) % 2 = 0 := by omega
  have eA := congrArg Prod.snd (outsAt0_A m c ⟨t.val - 1, hp⟩ q1 (by show ¬ (t.val - 1) % 2 = 1; omega))
  refine (congrArg Prod.fst (outsAt0_B m c t (by omega) ht)).trans ?_
  dsimp only
  rw [out_B, eA, acc_A, blk0 X m c t h, blk1 Y m c t h', blk0 X m c ⟨t.val - 1, hp⟩ h, blk1 Y m c ⟨t.val - 1, hp⟩ h', ht]
  dsimp only
  rw [q1, show (t.val - 1) / 8 = t.val / 8 by omega, show (t.val - 1) / 2 = t.val / 2 by omega]
  exact pay _ _ X Y

include h h' in
/-- The kernel's result array. -/
theorem final : ((dats m 0 c).arrAt 2 cfg0.N : FVec Ideal S8x2048x768 .bf16)
      = (stack fun s r j => ∑ k ∈ Finset.range 4096, X k r * Y k (s * 768 + j) : FVec Ideal S8x2048x768 .bf16) := by
  refine (dats m 0 c).arrAt_eq_of_covers 2 _ covers fun t hf y => ?_
  blk_simp
  rw [after0_2, outs_eq X Y m c t h h' ((flush0_2 t).mp hf)]
  exact both_entry (fun _ _ _ _ => rfl) _ rfl _ _ y (by blk_simp [e2]; try rfl) (by blk_simp [e2]; try rfl) (by blk_simp [e2]; try rfl)

end Cert.QProjDwIdeal.Gen

namespace Cert.QProjDwReferenceIdeal

open Facts₀ Facts

/-- The reference's result. -/
theorem value (X Y : ℕ → ℕ → EReal) (A : FVec Ideal S4096x2048 .bf16) (B : FVec Ideal S4096x6144 .f32)
    (hA : A = (mat X : FVec Ideal S4096x2048 .bf16)) (hB : B = (mat Y : FVec Ideal S4096x6144 .f32)) :
    truncf .bf16 (transpose S8x2048x768 [1, 0, 2] (shapeCast S2048x8x768 (transpose S2048x6144 [1, 0]
      (Host.dotGeneral dot_S4096x6144_S4096x2048_S6144x2048_0_0_1_1_n_n none B (extf .f32 A bitsLt_bf16_f32))
      transposes_S6144x2048_S2048x6144_1_0) shapeCasts_S2048x6144_S2048x8x768) transposes_S2048x8x768_S8x2048x768_1_0_2) bitsLt_bf16_f32
      = (stack fun s r j => ∑ k ∈ Finset.range 4096, X k r * Y k (s * 768 + j) : FVec Ideal S8x2048x768 .bf16) := by
  subst hA hB
  rw [mat_ext, mat_dw _ _ dot_S4096x6144_S4096x2048_S6144x2048_0_0_1_1_n_n rfl rfl (fun j k => by funext a; fin_cases a <;> rfl)
    (fun j k => by funext a; fin_cases a <;> rfl), mat_cut (d := 8) (b := 768) (n := 6144) _ rfl, stack_swap]
  rfl

end Cert.QProjDwReferenceIdeal

namespace Cert.Proof

theorem algebraic_q_proj_dw : Cert.algebraic_QProjDwIdeal_QProjDwReferenceIdeal := by
  intro m g m' g' _ hagree
  choose X hX using fun c => exists_mat (Cert.QProjDwIdeal.Gen.V m c Cert.QProjDwIdeal.main_arg0 : FVec Ideal Cert.QProjDwIdeal.S4096x2048 .bf16)
  choose Y hY using fun c => exists_mat (Cert.QProjDwIdeal.Gen.V m c Cert.QProjDwIdeal.main_arg1 : FVec Ideal Cert.QProjDwIdeal.S4096x6144 .f32)
  exact ⟨fun c => (stack fun s r j => ∑ k ∈ Finset.range 4096, X c k r * Y c k (s * 768 + j) : FVec Ideal Cert.QProjDwIdeal.S8x2048x768 .bf16),
    (θ_run Cert.QProjDwIdeal.defs _ _).mono (fun r h c => ⟨(h c).1.trans (Cert.QProjDwIdeal.Gen.final _ _ m c (hX c) (hY c)), (h c).2⟩)
      (Cert.QProjDwIdeal.Value.run_blocks m g),
    (θ_run Cert.QProjDwReferenceIdeal.defs _ _).mono (fun r h c => ⟨(h c).1.trans (Cert.QProjDwReferenceIdeal.value _ _ _ _
      ((hagree c).1.trans (hX c)) ((hagree c).2.trans (hY c))), (h c).2⟩) (Cert.QProjDwReferenceIdeal.Value.run m' g')⟩

theorem frame_q_proj_dw_reference : Cert.quiescent_QProjDwReferenceIdeal := fun m ρ _ =>
  (θ_run Cert.QProjDwReferenceIdeal.defs _ _).mono
    (fun r h => ⟨fun c => (h c).2, sem_eq_zero_of_no_sems (by decide) r.2⟩) (Cert.QProjDwReferenceIdeal.Value.run m ρ)

end Cert.Proof

end
-- ==== Proof.KvProjDw.lean ====
/- The weight gradient of the key and value projection, whose shards are those of the keys and then those of the values. A grid point
   adds the products of a block of rows to two shards; two consecutive points sum over all rows, and the second stores. The reference
   puts the two cotangents beside each other, transposes the derivative's product and cuts its columns into the shards. -/
module

public import proofs.«01_k».proof.Defs
public import proofs.«01_k».proof.Proof.Shards
public import proofs.«01_k».proof.Proof.Gen.KvProjDwIdeal.Value
public import proofs.«01_k».proof.Proof.Gen.KvProjDwReferenceIdeal
public import proofs.«01_k».proof.Proof.Gen.KvProjDwReferenceIdeal.Run
public import Idealize.ShloMosaic.Lib.VecWindow
public import Idealize.ShloMosaic.Lib.Pipeline.ValueKit.Geometry

@[expose] public section

set_option maxRecDepth 16384
set_option maxHeartbeats 1000000

noncomputable section

open scoped BigOperators
open Idealize.ShloMosaic Idealize.ShloMosaic.TcCoe Idealize.ShloMosaic.ValueIdx
open Idealize.SL.Sem
open Cert.Product Cert.Shards

namespace Cert.KvProjDwIdeal.Gen

/-- What a point makes of the scratch, from the halves of its block's columns. -/
abbrev step {F : FTy → Type} [FloatOps F] (x0 : Vec F S2048x1024 .bf16) (x1 : Vec F S1x2048x1024 .f32) (s : Vec F S2x1024x512 .f32) :
    Vec F S2x1024x512 .f32 :=
  both (k0_pay2 x0 (VecWindow.window s ![0, 0, 0] ![1, 1024, 512] inb_S2x1024x512_S1x1024x512_0_0_0)
      (VecWindow.window x1 ![0, 0, 0] ![1, 2048, 512] inb_S1x2048x1024_S1x2048x512_0_0_0))
    (k0_pay3 x0 (VecWindow.window s ![1, 0, 0] ![1, 1024, 512] inb_S2x1024x512_S1x1024x512_1_0_0)
      (VecWindow.window x1 ![0, 0, 512] ![1, 2048, 512] inb_S1x2048x1024_S1x2048x512_0_0_512))

section points

variable {F : FTy → Type} [FloatOps F] (c : Dev nD) (i : grid0.Coords) (x0 : Vec F S2048x1024 .bf16) (x1 : Vec F S1x2048x1024 .f32)

/-- What the first point of a pair leaves in the scratch, and what the second stores. -/
theorem acc_A (arg3 harg3 arg4 harg4 arg5 harg5 arg6 harg6 hc0 hc1) :
    sout0_A_0 c i arg3 harg3 arg4 harg4 arg5 harg5 arg6 harg6 hc0 hc1 x0 x1 = step x0 x1 k0_pay1 := by
  unfold sout0_A_0 kernelRun0_A
  refine (read_both _ _ _ _ _ _ _).trans (congrArg₂ both (congr (congrArg₂ k0_pay2 ?_ ?_) ?_) (congr (congrArg₂ k0_pay3 ?_ ?_) ?_))
  · exact (View.readAt_full _ _ _).trans (harg3.read_unread x0)
  · exact View.readCov_fill _ _ _ _ _ (by decide)
  · exact load_window _ (harg4.read_unread x1) _
  · exact (View.readAt_full _ _ _).trans (harg3.read_unread x0)
  · exact (View.readCov_skip _ _ _ _ _ (by decide)).trans (View.readCov_fill _ _ _ _ _ (by decide))
  · exact load_window _ (harg4.read_unread x1) _
theorem out_B (arg3 harg3 arg4 harg4 arg5 harg5 arg6 harg6 hc0 hc1) (s : Vec F S2x1024x512 .f32) :
    out0_B_2 c i arg3 harg3 arg4 harg4 arg5 harg5 arg6 harg6 hc0 hc1 x0 x1 s = k0_pay4 (step x0 x1 s) := by
  unfold out0_B_2 kernelRun0_B
  refine (View.read_writes_full _ _ _ _ _).trans (congrArg k0_pay4 ((load_both _ _ _ _ _ _ _).trans
    (congrArg₂ both (congr (congrArg₂ k0_pay2 ?_ ?_) ?_) (congr (congrArg₂ k0_pay3 ?_ ?_) ?_))))
  · exact (View.readAt_full _ _ _).trans (harg3.read_unread x0)
  · exact load_window _ (harg6.read_unread s) _
  · exact load_window _ (harg4.read_unread x1) _
  · exact (View.readAt_full _ _ _).trans (harg3.read_unread x0)
  · exact load_window _ (harg6.read_unread s) _
  · exact load_window _ (harg4.read_unread x1) _

end points

variable (p q k0 : ℕ) (X Y Z : ℕ → ℕ → EReal) (W : ℕ → ℕ → ℕ → EReal)

theorem start : (k0_pay1 : FVec Ideal S2x1024x512 .f32)
    = both (slab p q fun _ _ => 0 : FVec Ideal S1x1024x512 .f32) (slab p (q + 512) fun _ _ => 0 : FVec Ideal S1x1024x512 .f32) := by
  unfold k0_pay1
  dsimp only
  rw [shapeCast_self]
  exact funext fun y => zero32.trans (ite_self (c := (y 0).val = 0) (0 : EReal)).symm

/-- A point's step, on blocks. -/
theorem step_eq : step (F := Ideal) (part k0 p X : FVec Ideal S2048x1024 .bf16) (slab k0 q Y : FVec Ideal S1x2048x1024 .f32)
      (both (slab p q Z : FVec Ideal S1x1024x512 .f32) (slab p (q + 512) Z : FVec Ideal S1x1024x512 .f32))
    = both (slab p q fun i j => Z i j + ∑ k : Fin 2048, X (k0 + k) i * Y (k0 + k) j : FVec Ideal S1x1024x512 .f32)
        (slab p (q + 512) fun i j => Z i j + ∑ k : Fin 2048, X (k0 + k) i * Y (k0 + k) j : FVec Ideal S1x1024x512 .f32) := by
  unfold step k0_pay2 k0_pay3
  rw [window_first, window_second, window_slab, window_slab]
  dsimp only
  rw [part_drop k0 (q + 0), part_drop k0 (q + 512)]
  exact congrArg₂ both
    (step_tn Z dot_S2048x1024_S2048x512_S1024x512_0_0_1_1_n_n rfl rfl (fun j k => by funext a; fin_cases a <;> rfl) (fun j k => by funext a; fin_cases a <;> rfl) _ _)
    (step_tn Z dot_S2048x1024_S2048x512_S1024x512_0_0_1_1_n_n rfl rfl (fun j k => by funext a; fin_cases a <;> rfl) (fun j k => by funext a; fin_cases a <;> rfl) _ _)

theorem pay : k0_pay4 (step (F := Ideal) (part 2048 p X : FVec Ideal S2048x1024 .bf16) (slab 2048 q Y : FVec Ideal S1x2048x1024 .f32)
      (step (F := Ideal) (part 0 p X : FVec Ideal S2048x1024 .bf16) (slab 0 q Y : FVec Ideal S1x2048x1024 .f32) (k0_pay1 (F := Ideal))))
    = both (slab p q fun r j => ∑ k ∈ Finset.range 4096, X k r * Y k j : FVec Ideal S1x1024x512 .bf16)
        (slab p (q + 512) fun r j => ∑ k ∈ Finset.range 4096, X k r * Y k j : FVec Ideal S1x1024x512 .bf16) := by
  rw [start p q, step_eq, step_eq]
  exact congrArg₂ both two_steps two_steps

theorem e0 : ∀ t : Fin cfg0.N, win0_0.index t = ![t.val % 2, t.val / 8] := (by decide +kernel : ∀ t : Fin grid0.N, _)
theorem e1 : ∀ t : Fin cfg0.N, win0_1.index t = ![t.val / 4 % 2, t.val % 2, t.val / 2 % 2] := (by decide +kernel : ∀ t : Fin grid0.N, _)
theorem e2 : ∀ t : Fin cfg0.N, win0_2.index t = ![t.val / 2 % 4, t.val / 8, 0] := (by decide +kernel : ∀ t : Fin grid0.N, _)
theorem whole2 : ∀ (t : Fin cfg0.N) (a), win0_2.xsize (grid0.coords t) a = win0_2.size a := (by decide +kernel : ∀ t : Fin grid0.N, _)

/-- The blocks of the points that store cover the result. -/
theorem covers : (cfg0.win 2).Covers := by
  refine ⟨(by decide +kernel : ∀ a, 0 < win0_2.size a), fun β => ?_⟩
  obtain ⟨t, hf, hi⟩ := Value.idx_onto2 (β 0) (β 1) (β 2)
  exact ⟨t, hf, fun a => ⟨(congrFun hi a).trans (by fin_cases a <;> rfl), Or.inl (whole2 t a)⟩⟩

/-- The two cotangents beside each other. -/
abbrev beside (k j : ℕ) : EReal := W (j / 2048) k (j % 2048)

variable (m : (ℓ : Loc nD τ sig) → Buf (Elt Ideal) ℓ) (c : Dev nD) (t : Fin cfg0.N)
  (h : (V m c main_arg0 : FVec Ideal S4096x2048 .bf16) = (mat X : FVec Ideal S4096x2048 .bf16))
  (h' : (V m c main_arg1 : FVec Ideal S2x4096x2048 .f32) = (stack W : FVec Ideal S2x4096x2048 .f32))

include h in
theorem blk0 : iblk m c 0 t = (part (t.val % 2 * 2048) (t.val / 8 * 1024) X : FVec Ideal S2048x1024 .bf16) := by
  funext y
  blk_simp [iblk]
  exact at_part h _ y (by blk_simp [e0]; try rfl) (by blk_simp [e0]; try rfl)
include h' in
theorem blk1 : iblk m c 1 t = (slab (t.val % 2 * 2048) (t.val / 2 % 4 * 1024) (beside W) : FVec Ideal S1x2048x1024 .f32) := by
  funext y
  have h2 : (y 2).val < 1024 := (y 2).isLt
  have hy : (y 0).val = 0 := by have := (y 0).isLt; change _ < 1 at this; omega
  blk_simp [iblk]
  refine (at_slab (p := t.val % 2 * 2048) (q := t.val / 2 % 2 * 1024) (s := t.val / 4 % 2) h' _ y (by blk_simp [e1]; try omega)
    (by blk_simp [e1]; try rfl) (by blk_simp [e1]; try rfl)).trans ?_
  show W (t.val / 4 % 2) _ (t.val / 2 % 2 * 1024 + (y 2).val)
    = W ((t.val / 2 % 4 * 1024 + (y 2).val) / 2048) _ ((t.val / 2 % 4 * 1024 + (y 2).val) % 2048)
  exact congrArg₂ (W · _ ·) (by omega) (by omega)

include h h' in
/-- What the second point of a pair stores, from the arrays. -/
theorem outs_eq (ht : t.val % 2 = 1) : (outsAt0 m c t.val t.isLt).1
    = both (slab (t.val / 8 * 1024) (t.val / 2 % 4 * 1024) fun r j => ∑ k ∈ Finset.range 4096, X k r * beside W k j : FVec Ideal S1x1024x512 .bf16)
        (slab (t.val / 8 * 1024) (t.val / 2 % 4 * 1024 + 512) fun r j => ∑ k ∈ Finset.range 4096, X k r * beside W k j : FVec Ideal S1x1024x512 .bf16) := by
  have hp : t.val - 1 < cfg0.N := Nat.lt_of_le_of_lt (Nat.sub_le _ _) t.isLt
  have q1 : (t.val - 1) % 2 = 0 := by omega
  have eA := congrArg Prod.snd (outsAt0_A m c ⟨t.val - 1, hp⟩ q1 (by show ¬ (t.val - 1) % 2 = 1; omega))
  refine (congrArg Prod.fst (outsAt0_B m c t (by omega) ht)).trans ?_
  dsimp only
  rw [out_B, eA, acc_A, blk0 X m c t h, blk1 W m c t h', blk0 X m c ⟨t.val - 1, hp⟩ h, blk1 W m c ⟨t.val - 1, hp⟩ h', ht]
  dsimp only
  rw [q1, show (t.val - 1) / 8 = t.val / 8 by omega, show (t.val - 1) / 2 = t.val / 2 by omega]
  exact pay _ _ X (beside W)

include h h' in
/-- The kernel's result array. -/
theorem final : ((dats m 0 c).arrAt 2 cfg0.N : FVec Ideal S8x2048x512 .bf16)
      = (stack fun s r j => ∑ k ∈ Finset.range 4096, X k r * beside W k (s * 512 + j) : FVec Ideal S8x2048x512 .bf16) := by
  refine (dats m 0 c).arrAt_eq_of_covers 2 _ covers fun t hf y => ?_
  blk_simp
  rw [after0_2, outs_eq X W m c t h h' ((flush0_2 t).mp hf)]
  exact both_entry (fun _ _ _ _ => rfl) _ rfl _ _ y (by blk_simp [e2]; try rfl) (by blk_simp [e2]; try rfl) (by blk_simp [e2]; try rfl)

end Cert.KvProjDwIdeal.Gen

namespace Cert.KvProjDwReferenceIdeal

open Facts₀ Facts

/-- The reference's result. -/
theorem value (X : ℕ → ℕ → EReal) (W : ℕ → ℕ → ℕ → EReal) (A : FVec Ideal S4096x2048 .bf16) (B : FVec Ideal S2x4096x2048 .f32)
    (hA : A = (mat X : FVec Ideal S4096x2048 .bf16)) (hB : B = (stack W : FVec Ideal S2x4096x2048 .f32)) :
    truncf .bf16 (transpose S8x2048x512 [1, 0, 2] (shapeCast S2048x8x512 (transpose S2048x4096 [1, 0]
      (Host.dotGeneral dot_S4096x4096_S4096x2048_S4096x2048_0_0_1_1_n_n none
        (concatenate S4096x4096 1
          [⟨S4096x2048, shapeCast S4096x2048 (extractStridedSlice S1x4096x2048 ![0, 0, 0] B slices_S2x4096x2048_S1x4096x2048_0_0_0)
              shapeCasts_S1x4096x2048_S4096x2048⟩,
           ⟨S4096x2048, shapeCast S4096x2048 (extractStridedSlice S1x4096x2048 ![1, 0, 0] B slices_S2x4096x2048_S1x4096x2048_1_0_0)
              shapeCasts_S1x4096x2048_S4096x2048⟩]
          concatenates_S4096x2048_S4096x2048_S4096x4096_d1)
        (extf .f32 A bitsLt_bf16_f32)) transposes_S4096x2048_S2048x4096_1_0) shapeCasts_S2048x4096_S2048x8x512)
      transposes_S2048x8x512_S8x2048x512_1_0_2) bitsLt_bf16_f32
      = (stack fun s r j => ∑ k ∈ Finset.range 4096, X k r * W ((s * 512 + j) / 2048) k ((s * 512 + j) % 2048) : FVec Ideal S8x2048x512 .bf16) := by
  subst hA hB
  rw [stack_pick, stack_pick, mat_ext, mat_beside (b := 2048) _ _ rfl,
    mat_dw _ _ dot_S4096x4096_S4096x2048_S4096x2048_0_0_1_1_n_n rfl rfl (fun j k => by funext a; fin_cases a <;> rfl)
      (fun j k => by funext a; fin_cases a <;> rfl), mat_cut (d := 8) (b := 512) (n := 4096) _ rfl, stack_swap]
  funext y
  have h0 : (y 0).val < 8 := (y 0).isLt
  have h2 : (y 2).val < 512 := (y 2).isLt
  show ∑ k ∈ Finset.range 4096, X k (y 1).val * (if (y 0).val * 512 + (y 2).val < 2048 then W 0 k ((y 0).val * 512 + (y 2).val)
      else W 1 k ((y 0).val * 512 + (y 2).val - 2048))
    = (∑ k ∈ Finset.range 4096, X k (y 1).val * W (((y 0).val * 512 + (y 2).val) / 2048) k (((y 0).val * 512 + (y 2).val) % 2048) : EReal)
  refine Finset.sum_congr rfl fun k _ => congrArg (X k (y 1).val * ·) ?_
  by_cases h : (y 0).val * 512 + (y 2).val < 2048
  · exact (if_pos h).trans (congrArg₂ (W · k ·) (by omega) (by omega))
  · exact (if_neg h).trans (congrArg₂ (W · k ·) (by omega) (by omega))

end Cert.KvProjDwReferenceIdeal

namespace Cert.Proof

theorem algebraic_kv_proj_dw : Cert.algebraic_KvProjDwIdeal_KvProjDwReferenceIdeal := by
  intro m g m' g' _ hagree
  choose X hX using fun c => exists_mat (Cert.KvProjDwIdeal.Gen.V m c Cert.KvProjDwIdeal.main_arg0 : FVec Ideal Cert.KvProjDwIdeal.S4096x2048 .bf16)
  choose W hW using fun c => exists_stack (Cert.KvProjDwIdeal.Gen.V m c Cert.KvProjDwIdeal.main_arg1 : FVec Ideal Cert.KvProjDwIdeal.S2x4096x2048 .f32)
  exact ⟨fun c => (stack fun s r j => ∑ k ∈ Finset.range 4096, X c k r * W c ((s * 512 + j) / 2048) k ((s * 512 + j) % 2048) : FVec Ideal Cert.KvProjDwIdeal.S8x2048x512 .bf16),
    (θ_run Cert.KvProjDwIdeal.defs _ _).mono (fun r h c => ⟨(h c).1.trans (Cert.KvProjDwIdeal.Gen.final _ _ m c (hX c) (hW c)), (h c).2⟩)
      (Cert.KvProjDwIdeal.Value.run_blocks m g),
    (θ_run Cert.KvProjDwReferenceIdeal.defs _ _).mono (fun r h c => ⟨(h c).1.trans (Cert.KvProjDwReferenceIdeal.value _ _ _ _
      ((hagree c).1.trans (hX c)) ((hagree c).2.trans (hW c))), (h c).2⟩) (Cert.KvProjDwReferenceIdeal.Value.run m' g')⟩

theorem frame_kv_proj_dw_reference : Cert.quiescent_KvProjDwReferenceIdeal := fun m ρ _ =>
  (θ_run Cert.KvProjDwReferenceIdeal.defs _ _).mono
    (fun r h => ⟨fun c => (h c).2, sem_eq_zero_of_no_sems (by decide) r.2⟩) (Cert.KvProjDwReferenceIdeal.Value.run m ρ)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Finite
public import proofs.«01_k».proof.Proof.KernelArrays
public import proofs.«01_k».proof.Proof.RefOuts
public import Idealize.ShloMosaic.Lib.Quiescent
public import Idealize.ShloMosaic.Adequacy
public import Idealize.ShloMosaic.Init
public import proofs.«01_k».proof.Proof.UpClaims
public import proofs.«01_k».proof.Proof.DownClaims
public import proofs.«01_k».proof.Proof.UpDwClaims
public import proofs.«01_k».proof.Proof.DownDwClaims
public import proofs.«01_k».proof.Proof.DownDxClaims
public import proofs.«01_k».proof.Proof.Gen.GlaIn
public import proofs.«01_k».proof.Proof.Gen.GlaIn.Frame
public import proofs.«01_k».proof.Proof.Gen.GlaInIdeal
public import proofs.«01_k».proof.Proof.Gen.GlaInIdeal.Frame
public import proofs.«01_k».proof.Proof.GlaIn
public import proofs.«01_k».proof.Proof.Gen.GlaOut
public import proofs.«01_k».proof.Proof.Gen.GlaOut.Frame
public import proofs.«01_k».proof.Proof.Gen.GlaOutIdeal
public import proofs.«01_k».proof.Proof.Gen.GlaOutIdeal.Frame
public import proofs.«01_k».proof.Proof.GlaOut
public import proofs.«01_k».proof.Proof.Gen.QProj
public import proofs.«01_k».proof.Proof.Gen.QProj.Frame
public import proofs.«01_k».proof.Proof.Gen.QProjIdeal
public import proofs.«01_k».proof.Proof.Gen.QProjIdeal.Frame
public import proofs.«01_k».proof.Proof.QProj
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.KvProj
public import proofs.«01_k».proof.Proof.Gen.DsaOut
public import proofs.«01_k».proof.Proof.Gen.DsaOut.Frame
public import proofs.«01_k».proof.Proof.Gen.DsaOutIdeal
public import proofs.«01_k».proof.Proof.Gen.DsaOutIdeal.Frame
public import proofs.«01_k».proof.Proof.DsaOut
public import proofs.«01_k».proof.Proof.Gen.GlaInDw
public import proofs.«01_k».proof.Proof.Gen.GlaInDw.Frame
public import proofs.«01_k».proof.Proof.Gen.GlaInDwIdeal
public import proofs.«01_k».proof.Proof.Gen.GlaInDwIdeal.Frame
public import proofs.«01_k».proof.Proof.GlaInDw
public import proofs.«01_k».proof.Proof.Gen.GlaOutDw
public import proofs.«01_k».proof.Proof.Gen.GlaOutDw.Frame
public import proofs.«01_k».proof.Proof.Gen.GlaOutDwIdeal
public import proofs.«01_k».proof.Proof.Gen.GlaOutDwIdeal.Frame
public import proofs.«01_k».proof.Proof.GlaOutDw
public import proofs.«01_k».proof.Proof.Gen.DsaOutDw
public import proofs.«01_k».proof.Proof.Gen.DsaOutDw.Frame
public import proofs.«01_k».proof.Proof.Gen.DsaOutDwIdeal
public import proofs.«01_k».proof.Proof.Gen.DsaOutDwIdeal.Frame
public import proofs.«01_k».proof.Proof.DsaOutDw
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.OutDx
public import proofs.«01_k».proof.Proof.Gen.QProjDw
public import proofs.«01_k».proof.Proof.Gen.QProjDw.Frame
public import proofs.«01_k».proof.Proof.Gen.QProjDwIdeal
public import proofs.«01_k».proof.Proof.Gen.QProjDwIdeal.Frame
public import proofs.«01_k».proof.Proof.QProjDw
public import proofs.«01_k».proof.Proof.Gen.KvProjDw
public import proofs.«01_k».proof.Proof.Gen.KvProjDw.Frame
public import proofs.«01_k».proof.Proof.Gen.KvProjDwIdeal
public import proofs.«01_k».proof.Proof.Gen.KvProjDwIdeal.Frame
public import proofs.«01_k».proof.Proof.KvProjDw

@[expose] public section

noncomputable section

namespace Cert.Proof

open Idealize.ShloMosaic Idealize.ShloMosaic.TcCoe Idealize.SL.Sem Cert.RealOps Cert.Spec

instance finite_facts : Cert.Pre_finite.Facts where
  bcast_S_S4096x6272 := by decide
  bcast_S_S4096x1024 := by decide
  bcast_S_S4x64x512x256 := by decide
  bcast_S_S4096x2048 := by decide
  bcast_S_S1x512 := by decide

/-- The arguments' arrays are arrays of real numbers. -/
theorem args_real (m : (ℓ : Loc Cert.KernelIdeal.nD Cert.KernelIdeal.τ Cert.KernelIdeal.sig) → Buf (Elt Ideal) ℓ) (hm : Cert.Pre_KernelIdeal_finite m)
    (c : Dev Cert.KernelIdeal.nD) : ∃ (P L : ℕ → ℕ → ℝ) (S : ℕ → ℕ → ℕ → ℕ → ℝ) (O : ℕ → ℕ → ℝ) (N : ℕ → ℝ) (Y : ℕ → ℕ → ℝ),
      Cert.KernelIdeal.Gen.Holds m c P L S O N Y := by
  obtain ⟨h0, h1, h2, h3, h4, h5⟩ := hm c
  obtain ⟨P, hP⟩ := Finite.real2 _ (Finite.real_of_finite _ Cert.Pre_finite.Facts.bcast_S_S4096x6272 h0)
  obtain ⟨L, hL⟩ := Finite.real2 _ (Finite.real_of_finite _ Cert.Pre_finite.Facts.bcast_S_S4096x1024 h1)
  obtain ⟨S, hS⟩ := Finite.real4 _ (Finite.real_of_finite _ Cert.Pre_finite.Facts.bcast_S_S4x64x512x256 h2)
  obtain ⟨O, hO⟩ := Finite.real2 _ (Finite.real_of_finite _ Cert.Pre_finite.Facts.bcast_S_S4096x2048 h3)
  obtain ⟨N, hN⟩ := Finite.real1 _ (Finite.real_of_finite _ Cert.Pre_finite.Facts.bcast_S_S1x512 h4)
  obtain ⟨Y, hY⟩ := Finite.real2 _ (Finite.real_of_finite _ Cert.Pre_finite.Facts.bcast_S_S4096x2048 h5)
  exact ⟨P, L, S, O, N, Y, ⟨hP, hL, hS, hO, hN, hY⟩⟩

theorem algebraic : Cert.algebraic_KernelIdeal_ReferenceIdeal_pre_finite := by
  intro m g m' g' hm hagree
  choose P L S O N Y H using args_real m hm
  have R : ∀ c, Cert.ReferenceIdeal.Trip.Args m' c (P c) (L c) (S c) (O c) (N c) (Y c) := fun c =>
    { e0 := (hagree c).1.trans (H c).a0
      e1 := (hagree c).2.1.trans (H c).a1
      e2 := (hagree c).2.2.1.trans (H c).a2
      e3 := (hagree c).2.2.2.1.trans (H c).a3
      e4 := (hagree c).2.2.2.2.1.trans (H c).a4
      e5 := (hagree c).2.2.2.2.2.trans (H c).a5 }
  refine ⟨fun c => (up fun y => glue256 (argsOf (P c) (L c) (S c) (O c) (N c) (Y c)).dq (y 0) (y 1) : FVec Ideal Cert.KernelIdeal.S4096x1024 .bf16),
    fun c => (up fun y => glue256 (argsOf (P c) (L c) (S c) (O c) (N c) (Y c)).dk (y 0) (y 1) : FVec Ideal Cert.KernelIdeal.S4096x1024 .bf16),
    fun c => (up fun y => glue512 (argsOf (P c) (L c) (S c) (O c) (N c) (Y c)).dv (y 0) (y 1) : FVec Ideal Cert.KernelIdeal.S4096x2048 .bf16),
    fun c => (up fun y => glue512 (argsOf (P c) (L c) (S c) (O c) (N c) (Y c)).dgate (y 0) (y 1) : FVec Ideal Cert.KernelIdeal.S4096x2048 .bf16),
    fun c => (up fun y => glue256 (argsOf (P c) (L c) (S c) (O c) (N c) (Y c)).dla (y 0) (y 1) : FVec Ideal Cert.KernelIdeal.S4096x1024 .f32),
    fun c => (up fun y => (argsOf (P c) (L c) (S c) (O c) (N c) (Y c)).G (y 1) 16 : FVec Ideal Cert.KernelIdeal.S1x512 .f32), ?_, ?_⟩
  · refine (θ_run Cert.KernelIdeal.defs _ _).mono (fun r h c => ?_) (Cert.KernelIdeal.Value.run_blocks m g)
    obtain ⟨h0, h1, h2, h3, h4, h5, ha⟩ := h c
    exact ⟨h0.trans (Cert.KernelIdeal.Gen.final9 m c (H c)), h1.trans (Cert.KernelIdeal.Gen.final10 m c (H c)),
      h2.trans (Cert.KernelIdeal.Gen.final11 m c (H c)), h3.trans (Cert.KernelIdeal.Gen.final12 m c (H c)),
      h4.trans (Cert.KernelIdeal.Gen.final13 m c (H c)), h5.trans (Cert.KernelIdeal.Gen.final14 m c (H c)), ha⟩
  · refine (θ_run Cert.ReferenceIdeal.defs _ _).mono (fun r h c => ?_) (Cert.ReferenceIdeal.Value.run m' g')
    obtain ⟨h0, h1, h2, h3, h4, h5, ha⟩ := h c
    exact ⟨h0.trans (Cert.ReferenceIdeal.Trip.out_dq (R c)), h1.trans (Cert.ReferenceIdeal.Trip.out_dk (R c)),
      h2.trans (Cert.ReferenceIdeal.Trip.out_dv (R c)), h3.trans (Cert.ReferenceIdeal.Trip.out_dr (R c)),
      h4.trans (Cert.ReferenceIdeal.Trip.out_dla (R c)), h5.trans (Cert.ReferenceIdeal.Trip.out_dhn (R c)), ha⟩

/-- The reference declares no semaphore. -/
theorem reference_frame : Cert.quiescent_ReferenceIdeal := fun m ρ _ =>
  (θ_run Cert.ReferenceIdeal.defs _ _).mono
    (fun r h => ⟨fun c => (h c).2.2.2.2.2.2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.UpDw.Gen.facts, Cert.UpDwIdeal.Gen.facts, Cert.UpDwReferenceIdeal.Gen.facts,
  Cert.DownDw.Gen.facts, Cert.DownDwIdeal.Gen.facts, Cert.DownDwReferenceIdeal.Gen.facts,
  Cert.DownDx.Gen.facts, Cert.DownDxIdeal.Gen.facts, Cert.DownDxReferenceIdeal.Gen.facts,
  Cert.GlaIn.Gen.facts, Cert.GlaInIdeal.Gen.facts, Cert.GlaInReferenceIdeal.Gen.facts,
  Cert.GlaOut.Gen.facts, Cert.GlaOutIdeal.Gen.facts, Cert.GlaOutReferenceIdeal.Gen.facts,
  Cert.QProj.Gen.facts, Cert.QProjIdeal.Gen.facts, Cert.QProjReferenceIdeal.Gen.facts,
  Cert.KvProj.Gen.facts, Cert.KvProjIdeal.Gen.facts, Cert.KvProjReferenceIdeal.Gen.facts,
  Cert.DsaOut.Gen.facts, Cert.DsaOutIdeal.Gen.facts, Cert.DsaOutReferenceIdeal.Gen.facts,
  Cert.GlaInDw.Gen.facts, Cert.GlaInDwIdeal.Gen.facts, Cert.GlaInDwReferenceIdeal.Gen.facts,
  Cert.GlaOutDw.Gen.facts, Cert.GlaOutDwIdeal.Gen.facts, Cert.GlaOutDwReferenceIdeal.Gen.facts,
  Cert.DsaOutDw.Gen.facts, Cert.DsaOutDwIdeal.Gen.facts, Cert.DsaOutDwReferenceIdeal.Gen.facts,
  Cert.OutDx.Gen.facts, Cert.OutDxIdeal.Gen.facts, Cert.OutDxReferenceIdeal.Gen.facts,
  Cert.QProjDw.Gen.facts, Cert.QProjDwIdeal.Gen.facts, Cert.QProjDwReferenceIdeal.Gen.facts,
  Cert.KvProjDw.Gen.facts, Cert.KvProjDwIdeal.Gen.facts, Cert.KvProjDwReferenceIdeal.Gen.facts,
  finite_facts,
  fun m ρ _ => Cert.Kernel.Gen.frame m ρ, fun m ρ _ => Cert.KernelIdeal.Gen.frame m ρ, fun m ρ _ => Cert.KernelIdeal.Gen.frame m ρ,
  fun m ρ h => reference_frame m ρ h, fun m ρ _ => reference_frame m ρ trivial,
  fun m ρ _ => Cert.Up.Gen.frame m ρ, fun m ρ _ => Cert.UpIdeal.Gen.frame m ρ, frame_up_reference,
  fun m ρ _ => Cert.Down.Gen.frame m ρ, fun m ρ _ => Cert.DownIdeal.Gen.frame m ρ, frame_down_reference,
  fun m ρ _ => Cert.UpDw.Gen.frame m ρ, fun m ρ _ => Cert.UpDwIdeal.Gen.frame m ρ, frame_up_dw_reference,
  fun m ρ _ => Cert.DownDw.Gen.frame m ρ, fun m ρ _ => Cert.DownDwIdeal.Gen.frame m ρ, frame_down_dw_reference,
  fun m ρ _ => Cert.DownDx.Gen.frame m ρ, fun m ρ _ => Cert.DownDxIdeal.Gen.frame m ρ, frame_down_dx_reference,
  fun m ρ _ => Cert.GlaIn.Gen.frame m ρ, fun m ρ _ => Cert.GlaInIdeal.Gen.frame m ρ, frame_gla_in_reference,
  fun m ρ _ => Cert.GlaOut.Gen.frame m ρ, fun m ρ _ => Cert.GlaOutIdeal.Gen.frame m ρ, frame_gla_out_reference,
  fun m ρ _ => Cert.QProj.Gen.frame m ρ, fun m ρ _ => Cert.QProjIdeal.Gen.frame m ρ, frame_q_proj_reference,
  fun m ρ _ => Cert.KvProj.Gen.frame m ρ, fun m ρ _ => Cert.KvProjIdeal.Gen.frame m ρ, frame_kv_proj_reference,
  fun m ρ _ => Cert.DsaOut.Gen.frame m ρ, fun m ρ _ => Cert.DsaOutIdeal.Gen.frame m ρ, frame_dsa_out_reference,
  fun m ρ _ => Cert.GlaInDw.Gen.frame m ρ, fun m ρ _ => Cert.GlaInDwIdeal.Gen.frame m ρ, frame_gla_in_dw_reference,
  fun m ρ _ => Cert.GlaOutDw.Gen.frame m ρ, fun m ρ _ => Cert.GlaOutDwIdeal.Gen.frame m ρ, frame_gla_out_dw_reference,
  fun m ρ _ => Cert.DsaOutDw.Gen.frame m ρ, fun m ρ _ => Cert.DsaOutDwIdeal.Gen.frame m ρ, frame_dsa_out_dw_reference,
  fun m ρ _ => Cert.OutDx.Gen.frame m ρ, fun m ρ _ => Cert.OutDxIdeal.Gen.frame m ρ, frame_out_dx_reference,
  fun m ρ _ => Cert.QProjDw.Gen.frame m ρ, fun m ρ _ => Cert.QProjDwIdeal.Gen.frame m ρ, frame_q_proj_dw_reference,
  fun m ρ _ => Cert.KvProjDw.Gen.frame m ρ, fun m ρ _ => Cert.KvProjDwIdeal.Gen.frame m ρ, frame_kv_proj_dw_reference,
  trivial, algebraic, trivial, algebraic_up, trivial, algebraic_down, trivial, algebraic_up_dw, trivial, algebraic_down_dw, trivial, algebraic_down_dx,
  trivial, algebraic_gla_in, trivial, algebraic_gla_out, trivial, algebraic_q_proj, trivial, algebraic_kv_proj, trivial, algebraic_dsa_out,
  trivial, algebraic_gla_in_dw, trivial, algebraic_gla_out_dw, trivial, algebraic_dsa_out_dw, trivial, algebraic_out_dx,
  trivial, algebraic_q_proj_dw, trivial, algebraic_kv_proj_dw⟩

end Cert.Proof

end
